-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10)
      ∧ r.2.mem ((c.tc : Thread Cert.Kernel12.nD Cert.Kernel12.τ).loc Cert.Kernel12.main_arg11) = m ((c.tc : Thread Cert.Kernel12.nD Cert.Kernel12.τ).loc Cert.Kernel12.main_arg11))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
      ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10)
      ∧ r.2.mem ((c.tc : Thread Cert.Reference12Ideal.nD Cert.Reference12Ideal.τ).loc Cert.Reference12Ideal.main_arg11) = m ((c.tc : Thread Cert.Reference12Ideal.nD Cert.Reference12Ideal.τ).loc Cert.Reference12Ideal.main_arg11))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_v22) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v3) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v39) = v0 c
          ∧ r.2.mem ((c.tc : Thread Cert.Reference9Ideal.nD Cert.Reference9Ideal.τ).loc Cert.Reference9Ideal.main_v40) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)) →
    ∃ (v0 : (c : Dev Cert.Kernel11Ideal.nD) → Buf (Elt Ideal) ((c.tc : Thread Cert.Kernel11Ideal.nD Cert.Kernel11Ideal.τ).loc Cert.Kernel11Ideal.main_v18_0)) (v1 : (c : Dev Cert.Kernel11Ideal.nD) → Buf (Elt Ideal) ((c.tc : Thread Cert.Kernel11Ideal.nD Cert.Kernel11Ideal.τ).loc Cert.Kernel11Ideal.main_v18_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v18_0) = v0 c
          ∧ r.2.mem ((c.tc : Thread Cert.Kernel11Ideal.nD Cert.Kernel11Ideal.τ).loc Cert.Kernel11Ideal.main_v18_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v18) = v0 c
          ∧ r.2.mem ((c.tc : Thread Cert.Reference11Ideal.nD Cert.Reference11Ideal.τ).loc Cert.Reference11Ideal.main_v20) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)
      ∧ m' ((c.tc : Thread Cert.Reference12Ideal.nD Cert.Reference12Ideal.τ).loc Cert.Reference12Ideal.main_arg11) = m ((c.tc : Thread Cert.Kernel12Ideal.nD Cert.Kernel12Ideal.τ).loc Cert.Kernel12Ideal.main_arg11)) →
    ∃ (v0 : (c : Dev Cert.Kernel12Ideal.nD) → Buf (Elt Ideal) ((c.tc : Thread Cert.Kernel12Ideal.nD Cert.Kernel12Ideal.τ).loc Cert.Kernel12Ideal.main_v14_0)) (v1 : (c : Dev Cert.Kernel12Ideal.nD) → Buf (Elt Ideal) ((c.tc : Thread Cert.Kernel12Ideal.nD Cert.Kernel12Ideal.τ).loc Cert.Kernel12Ideal.main_v14_1)) (v2 : (c : Dev Cert.Kernel12Ideal.nD) → Buf (Elt Ideal) ((c.tc : Thread Cert.Kernel12Ideal.nD Cert.Kernel12Ideal.τ).loc Cert.Kernel12Ideal.main_v14_2)) (v3 : (c : Dev Cert.Kernel12Ideal.nD) → Buf (Elt Ideal) ((c.tc : Thread Cert.Kernel12Ideal.nD Cert.Kernel12Ideal.τ).loc Cert.Kernel12Ideal.main_v14_3)) (v4 : (c : Dev Cert.Kernel12Ideal.nD) → Buf (Elt Ideal) ((c.tc : Thread Cert.Kernel12Ideal.nD Cert.Kernel12Ideal.τ).loc Cert.Kernel12Ideal.main_v14_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v14_0) = v0 c
          ∧ r.2.mem ((c.tc : Thread Cert.Kernel12Ideal.nD Cert.Kernel12Ideal.τ).loc Cert.Kernel12Ideal.main_v14_1) = v1 c
          ∧ r.2.mem ((c.tc : Thread Cert.Kernel12Ideal.nD Cert.Kernel12Ideal.τ).loc Cert.Kernel12Ideal.main_v14_2) = v2 c
          ∧ r.2.mem ((c.tc : Thread Cert.Kernel12Ideal.nD Cert.Kernel12Ideal.τ).loc Cert.Kernel12Ideal.main_v14_3) = v3 c
          ∧ r.2.mem ((c.tc : Thread Cert.Kernel12Ideal.nD Cert.Kernel12Ideal.τ).loc Cert.Kernel12Ideal.main_v14_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
          ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v70) = v0 c
          ∧ r.2.mem ((c.tc : Thread Cert.Reference12Ideal.nD Cert.Reference12Ideal.τ).loc Cert.Reference12Ideal.main_v38) = v1 c
          ∧ r.2.mem ((c.tc : Thread Cert.Reference12Ideal.nD Cert.Reference12Ideal.τ).loc Cert.Reference12Ideal.main_v55) = v2 c
          ∧ r.2.mem ((c.tc : Thread Cert.Reference12Ideal.nD Cert.Reference12Ideal.τ).loc Cert.Reference12Ideal.main_v69) = v3 c
          ∧ r.2.mem ((c.tc : Thread Cert.Reference12Ideal.nD Cert.Reference12Ideal.τ).loc Cert.Reference12Ideal.main_v74) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10)
          ∧ r.2.mem ((c.tc : Thread Cert.Reference12Ideal.nD Cert.Reference12Ideal.τ).loc Cert.Reference12Ideal.main_arg11) = m' ((c.tc : Thread Cert.Reference12Ideal.nD Cert.Reference12Ideal.τ).loc Cert.Reference12Ideal.main_arg11))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Kernel.lean ====
abbrev S128x32x128x128 : Shape := ⟨4, ![128, 32, 128, 128]⟩
abbrev S16384x128 : Shape := ⟨2, ![16384, 128]⟩
abbrev S2x8192x1152 : Shape := ⟨3, ![2, 8192, 1152]⟩
abbrev S2x8192x512 : Shape := ⟨3, ![2, 8192, 512]⟩
abbrev S2x512x8192 : Shape := ⟨3, ![2, 512, 8192]⟩
abbrev S16384x2048 : Shape := ⟨2, ![16384, 2048]⟩
abbrev S1x16x128x128 : Shape := ⟨4, ![1, 16, 128, 128]⟩
abbrev S128x128 : Shape := ⟨2, ![128, 128]⟩
abbrev S1x8192x512 : Shape := ⟨3, ![1, 8192, 512]⟩
abbrev S1x8192x128 : Shape := ⟨3, ![1, 8192, 128]⟩
abbrev S1x512x8192 : Shape := ⟨3, ![1, 512, 8192]⟩
abbrev S128x2048 : Shape := ⟨2, ![128, 2048]⟩
abbrev S32x256x128 : Shape := ⟨3, ![32, 256, 128]⟩
abbrev S256x128 : Shape := ⟨2, ![256, 128]⟩
abbrev S8192x128 : Shape := ⟨2, ![8192, 128]⟩
abbrev S4x8x512 : Shape := ⟨3, ![4, 8, 512]⟩
abbrev S4x144x512 : Shape := ⟨3, ![4, 144, 512]⟩
abbrev S4x512x512 : Shape := ⟨3, ![4, 512, 512]⟩
abbrev S16x128x128 : Shape := ⟨3, ![16, 128, 128]⟩
abbrev S2048x128 : Shape := ⟨2, ![2048, 128]⟩
abbrev S512x128 : Shape := ⟨2, ![512, 128]⟩
abbrev S1x512x128 : Shape := ⟨3, ![1, 512, 128]⟩
abbrev S512x2048 : Shape := ⟨2, ![512, 2048]⟩
abbrev S1x128 : Shape := ⟨2, ![1, 128]⟩
abbrev S8x128 : Shape := ⟨2, ![8, 128]⟩
abbrev S1x8x128 : Shape := ⟨3, ![1, 8, 128]⟩
abbrev S1x256x128 : Shape := ⟨3, ![1, 256, 128]⟩
abbrev S32x8x128 : Shape := ⟨3, ![32, 8, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S16x512 : Shape := ⟨2, ![16, 512]⟩
abbrev S512x512 : Shape := ⟨2, ![512, 512]⟩
abbrev S1x512x512 : Shape := ⟨3, ![1, 512, 512]⟩
abbrev S1x128x512 : Shape := ⟨3, ![1, 128, 512]⟩
abbrev S128x512 : Shape := ⟨2, ![128, 512]⟩
abbrev S144x512 : Shape := ⟨2, ![144, 512]⟩
abbrev S1x1x512 : Shape := ⟨3, ![1, 1, 512]⟩
abbrev S1x512 : Shape := ⟨2, ![1, 512]⟩
abbrev S1x144x512 : Shape := ⟨3, ![1, 144, 512]⟩

abbrev nBuf : Space → Nat
  | .hbm => 6
  | .vmem => 19
  | .smem => 0
  | _ => 0

abbrev bufTy : (tb : Table) → Fin (tcTables nBuf tb) → BufTy
  | .hbm, ⟨0, _⟩ => ⟨S128x32x128x128, .bf16⟩
  | .hbm, ⟨1, _⟩ => ⟨S16384x128, .f32⟩
  | .hbm, ⟨2, _⟩ => ⟨S2x8192x1152, .bf16⟩
  | .hbm, ⟨3, _⟩ => ⟨S2x8192x512, .bf16⟩
  | .hbm, ⟨4, _⟩ => ⟨S2x512x8192, .bf16⟩
  | .hbm, ⟨5, _⟩ => ⟨S16384x2048, .bf16⟩
  | .local _ .vmem, ⟨0, _⟩ => ⟨S1x16x128x128, .bf16⟩
  | .local _ .vmem, ⟨1, _⟩ => ⟨S1x16x128x128, .bf16⟩
  | .local _ .vmem, ⟨2, _⟩ => ⟨S1x16x128x128, .bf16⟩
  | .local _ .vmem, ⟨3, _⟩ => ⟨S1x16x128x128, .bf16⟩
  | .local _ .vmem, ⟨4, _⟩ => ⟨S128x128, .f32⟩
  | .local _ .vmem, ⟨5, _⟩ => ⟨S128x128, .f32⟩
  | .local _ .vmem, ⟨6, _⟩ => ⟨S1x8192x512, .bf16⟩
  | .local _ .vmem, ⟨7, _⟩ => ⟨S1x8192x128, .bf16⟩
  | .local _ .vmem, ⟨8, _⟩ => ⟨S1x512x8192, .bf16⟩
  | .local _ .vmem, ⟨9, _⟩ => ⟨S128x2048, .bf16⟩
  | .local _ .vmem, ⟨10, _⟩ => ⟨S128x2048, .bf16⟩
  | .local _ .vmem, ⟨11, _⟩ => ⟨S32x256x128, .i32⟩
  | .local _ .vmem, ⟨12, _⟩ => ⟨S256x128, .i32⟩
  | .local _ .vmem, ⟨13, _⟩ => ⟨S8192x128, .f32⟩
  | .local _ .vmem, ⟨14, _⟩ => ⟨S4x8x512, .f32⟩
  | .local _ .vmem, ⟨15, _⟩ => ⟨S4x144x512, .f32⟩
  | .local _ .vmem, ⟨16, _⟩ => ⟨S4x8x512, .f32⟩
  | .local _ .vmem, ⟨17, _⟩ => ⟨S4x512x512, .f32⟩
  | .local _ .vmem, ⟨18, _⟩ => ⟨S4x512x512, .bf16⟩
  | _, _ => ⟨S128x32x128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨2, ![2, 64], ![false, false]⟩

@[reducible] def k0_t1_loop (i : grid0.Coords) : Scf.Loop 32 :=
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_24 : BitVec 32 := 1#32
  ⟨c0_i32_22, v57, c1_i32_24⟩
def k0_mult1 (i : grid0.Coords) (k0_t1 : Fin (k0_t1_loop i).trips) : BitVec 32 :=
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c512_i32_303 : BitVec 32 := 512#32
  let v1005 : BitVec 32 := Scalar.muli v998 c512_i32_303
  v1005
def k0_off1 (i : grid0.Coords) (k0_t1 : Fin (k0_t1_loop i).trips) : Fin 3 → Nat :=
  let c0_304 : Index := 0#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c512_i32_303 : BitVec 32 := 512#32
  let v1005 : BitVec 32 := Scalar.muli v998 c512_i32_303
  let v1006 : BitVec 32 := v1005
  let v1007 : Index := Scalar.indexCast v1006
  let c0_305 : Index := 0#32
  ![0, v1007.toNat, 0]
def k0_mult2 (i : grid0.Coords) (k0_t1 : Fin (k0_t1_loop i).trips) : BitVec 32 :=
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let c1_i32_298 : BitVec 32 := 1#32
  let v1000 : BitVec 32 := Scalar.addi v999 c1_i32_298
  let c512_i32_307 : BitVec 32 := 512#32
  let v1011 : BitVec 32 := Scalar.muli v1000 c512_i32_307
  v1011
def k0_off2 (i : grid0.Coords) (k0_t1 : Fin (k0_t1_loop i).trips) (c1_i32_298 : BitVec 32) : Fin 3 → Nat :=
  let c0_308 : Index := 0#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c512_i32_307 : BitVec 32 := 512#32
  let v1011 : BitVec 32 := Scalar.muli v1000 c512_i32_307
  let v1012 : BitVec 32 := v1011
  let v1013 : Index := Scalar.indexCast v1012
  let c0_309 : Index := 0#32
  ![0, v1013.toNat, 0]
def k0_mult3 (i : grid0.Coords) (k0_t1 : Fin (k0_t1_loop i).trips) : BitVec 32 :=
  let c4_i32_299 : BitVec 32 := 4#32
  let c0_i32_22 : BitVec 32 := 0#32
  let c1_i32_24 : BitVec 32 := 1#32
  let arg17 : BitVec 32 := Scf.iv c0_i32_22 c1_i32_24 k0_t1
  let v1001 : BitVec 32 := Scalar.muli c4_i32_299 arg17
  let c2_i32_300 : BitVec 32 := 2#32
  let v1002 : BitVec 32 := Scalar.addi v1001 c2_i32_300
  let c512_i32_311 : BitVec 32 := 512#32
  let v1017 : BitVec 32 := Scalar.muli v1002 c512_i32_311
  v1017
def k0_mult4 (i : grid0.Coords) (k0_t1 : Fin (k0_t1_loop i).trips) : BitVec 32 :=
  let c4_i32_301 : BitVec 32 := 4#32
  let c0_i32_22 : BitVec 32 := 0#32
  let c1_i32_24 : BitVec 32 := 1#32
  let arg17 : BitVec 32 := Scf.iv c0_i32_22 c1_i32_24 k0_t1
  let v1003 : BitVec 32 := Scalar.muli c4_i32_301 arg17
  let c3_i32_302 : BitVec 32 := 3#32
  let v1004 : BitVec 32 := Scalar.addi v1003 c3_i32_302
  let c512_i32_315 : BitVec 32 := 512#32
  let v1023 : BitVec 32 := Scalar.muli v1004 c512_i32_315
  v1023
def k0_mult5 (i : grid0.Coords) (k0_t1 : Fin (k0_t1_loop i).trips) : BitVec 32 :=
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let c0_i32_625 : BitVec 32 := 0#32
  let v2251 : BitVec 32 := Scalar.addi v2250 c0_i32_625
  let c8_i32_626 : BitVec 32 := 8#32
  let v2252 : BitVec 32 := Scalar.muli v2251 c8_i32_626
  v2252
def k0_off3 (i : grid0.Coords) (k0_t1 : Fin (k0_t1_loop i).trips) (c0_i32_625 : BitVec 32) : Fin 3 → Nat :=
  let c0_627 : Index := 0#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2254 : Index := Scalar.indexCast v2253
  let c0_628 : Index := 0#32
  ![0, v2254.toNat, 0]
def k0_off4 (i : grid0.Coords) (k0_t1 : Fin (k0_t1_loop i).trips) (c0_i32_625 : BitVec 32) : Fin 3 → Nat :=
  let c1_629 : Index := 1#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2258 : Index := Scalar.indexCast v2253
  let c0_630 : Index := 0#32
  ![1, v2258.toNat, 0]
def k0_off5 (i : grid0.Coords) (k0_t1 : Fin (k0_t1_loop i).trips) (c0_i32_625 : BitVec 32) : Fin 3 → Nat :=
  let c2_631 : Index := 2#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2262 : Index := Scalar.indexCast v2253
  let c0_632 : Index := 0#32
  ![2, v2262.toNat, 0]
def k0_off6 (i : grid0.Coords) (k0_t1 : Fin (k0_t1_loop i).trips) (c0_i32_625 : BitVec 32) : Fin 3 → Nat :=
  let c3_633 : Index := 3#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2266 : Index := Scalar.indexCast v2253
  let c0_634 : Index := 0#32
  ![3, v2266.toNat, 0]
def k0_off7 (i : grid0.Coords) (k0_t1 : Fin (k0_t1_loop i).trips) (c0_i32_625 : BitVec 32) : Fin 3 → Nat :=
  let c4_635 : Index := 4#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2270 : Index := Scalar.indexCast v2253
  let c0_636 : Index := 0#32
  ![4, v2270.toNat, 0]
def k0_off8 (i : grid0.Coords) (k0_t1 : Fin (k0_t1_loop i).trips) (c0_i32_625 : BitVec 32) : Fin 3 → Nat :=
  let c5_637 : Index := 5#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2274 : Index := Scalar.indexCast v2253
  let c0_638 : Index := 0#32
  ![5, v2274.toNat, 0]
def k0_off9 (i : grid0.Coords) (k0_t1 : Fin (k0_t1_loop i).trips) (c0_i32_625 : BitVec 32) : Fin 3 → Nat :=
  let c6_639 : Index := 6#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2278 : Index := Scalar.indexCast v2253
  let c0_640 : Index := 0#32
  ![6, v2278.toNat, 0]
def k0_off10 (i : grid0.Coords) (k0_t1 : Fin (k0_t1_loop i).trips) (c0_i32_625 : BitVec 32) : Fin 3 → Nat :=
  let c7_641 : Index := 7#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2282 : Index := Scalar.indexCast v2253
  let c0_642 : Index := 0#32
  ![7, v2282.toNat, 0]
def k0_off11 (i : grid0.Coords) (k0_t1 : Fin (k0_t1_loop i).trips) (c0_i32_625 : BitVec 32) : Fin 3 → Nat :=
  let c8_643 : Index := 8#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2286 : Index := Scalar.indexCast v2253
  let c0_644 : Index := 0#32
  ![8, v2286.toNat, 0]
def k0_off12 (i : grid0.Coords) (k0_t1 : Fin (k0_t1_loop i).trips) (c0_i32_625 : BitVec 32) : Fin 3 → Nat :=
  let c9_645 : Index := 9#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2290 : Index := Scalar.indexCast v2253
  let c0_646 : Index := 0#32
  ![9, v2290.toNat, 0]
def k0_off13 (i : grid0.Coords) (k0_t1 : Fin (k0_t1_loop i).trips) (c0_i32_625 : BitVec 32) : Fin 3 → Nat :=
  let c10_647 : Index := 10#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2294 : Index := Scalar.indexCast v2253
  let c0_648 : Index := 0#32
  ![10, v2294.toNat, 0]
def k0_off14 (i : grid0.Coords) (k0_t1 : Fin (k0_t1_loop i).trips) (c0_i32_625 : BitVec 32) : Fin 3 → Nat :=
  let c11_649 : Index := 11#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2298 : Index := Scalar.indexCast v2253
  let c0_650 : Index := 0#32
  ![11, v2298.toNat, 0]
def k0_off15 (i : grid0.Coords) (k0_t1 : Fin (k0_t1_loop i).trips) (c0_i32_625 : BitVec 32) : Fin 3 → Nat :=
  let c12_651 : Index := 12#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2302 : Index := Scalar.indexCast v2253
  let c0_652 : Index := 0#32
  ![12, v2302.toNat, 0]
def k0_off16 (i : grid0.Coords) (k0_t1 : Fin (k0_t1_loop i).trips) (c0_i32_625 : BitVec 32) : Fin 3 → Nat :=
  let c13_653 : Index := 13#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2306 : Index := Scalar.indexCast v2253
  let c0_654 : Index := 0#32
  ![13, v2306.toNat, 0]
def k0_off17 (i : grid0.Coords) (k0_t1 : Fin (k0_t1_loop i).trips) (c0_i32_625 : BitVec 32) : Fin 3 → Nat :=
  let c14_655 : Index := 14#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2310 : Index := Scalar.indexCast v2253
  let c0_656 : Index := 0#32
  ![14, v2310.toNat, 0]
def k0_off18 (i : grid0.Coords) (k0_t1 : Fin (k0_t1_loop i).trips) (c0_i32_625 : BitVec 32) : Fin 3 → Nat :=
  let c15_657 : Index := 15#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2314 : Index := Scalar.indexCast v2253
  let c0_658 : Index := 0#32
  ![15, v2314.toNat, 0]
def k0_off19 (i : grid0.Coords) (k0_t1 : Fin (k0_t1_loop i).trips) (c0_i32_625 : BitVec 32) : Fin 3 → Nat :=
  let c16_659 : Index := 16#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2318 : Index := Scalar.indexCast v2253
  let c0_660 : Index := 0#32
  ![16, v2318.toNat, 0]
def k0_off20 (i : grid0.Coords) (k0_t1 : Fin (k0_t1_loop i).trips) (c0_i32_625 : BitVec 32) : Fin 3 → Nat :=
  let c17_661 : Index := 17#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2322 : Index := Scalar.indexCast v2253
  let c0_662 : Index := 0#32
  ![17, v2322.toNat, 0]
def k0_off21 (i : grid0.Coords) (k0_t1 : Fin (k0_t1_loop i).trips) (c0_i32_625 : BitVec 32) : Fin 3 → Nat :=
  let c18_663 : Index := 18#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2326 : Index := Scalar.indexCast v2253
  let c0_664 : Index := 0#32
  ![18, v2326.toNat, 0]
def k0_off22 (i : grid0.Coords) (k0_t1 : Fin (k0_t1_loop i).trips) (c0_i32_625 : BitVec 32) : Fin 3 → Nat :=
  let c19_665 : Index := 19#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2330 : Index := Scalar.indexCast v2253
  let c0_666 : Index := 0#32
  ![19, v2330.toNat, 0]
def k0_off23 (i : grid0.Coords) (k0_t1 : Fin (k0_t1_loop i).trips) (c0_i32_625 : BitVec 32) : Fin 3 → Nat :=
  let c20_667 : Index := 20#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2334 : Index := Scalar.indexCast v2253
  let c0_668 : Index := 0#32
  ![20, v2334.toNat, 0]
def k0_off24 (i : grid0.Coords) (k0_t1 : Fin (k0_t1_loop i).trips) (c0_i32_625 : BitVec 32) : Fin 3 → Nat :=
  let c21_669 : Index := 21#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2338 : Index := Scalar.indexCast v2253
  let c0_670 : Index := 0#32
  ![21, v2338.toNat, 0]
def k0_off25 (i : grid0.Coords) (k0_t1 : Fin (k0_t1_loop i).trips) (c0_i32_625 : BitVec 32) : Fin 3 → Nat :=
  let c22_671 : Index := 22#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2342 : Index := Scalar.indexCast v2253
  let c0_672 : Index := 0#32
  ![22, v2342.toNat, 0]
def k0_off26 (i : grid0.Coords) (k0_t1 : Fin (k0_t1_loop i).trips) (c0_i32_625 : BitVec 32) : Fin 3 → Nat :=
  let c23_673 : Index := 23#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2346 : Index := Scalar.indexCast v2253
  let c0_674 : Index := 0#32
  ![23, v2346.toNat, 0]
def k0_off27 (i : grid0.Coords) (k0_t1 : Fin (k0_t1_loop i).trips) (c0_i32_625 : BitVec 32) : Fin 3 → Nat :=
  let c24_675 : Index := 24#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2350 : Index := Scalar.indexCast v2253
  let c0_676 : Index := 0#32
  ![24, v2350.toNat, 0]
def k0_off28 (i : grid0.Coords) (k0_t1 : Fin (k0_t1_loop i).trips) (c0_i32_625 : BitVec 32) : Fin 3 → Nat :=
  let c25_677 : Index := 25#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2354 : Index := Scalar.indexCast v2253
  let c0_678 : Index := 0#32
  ![25, v2354.toNat, 0]
def k0_off29 (i : grid0.Coords) (k0_t1 : Fin (k0_t1_loop i).trips) (c0_i32_625 : BitVec 32) : Fin 3 → Nat :=
  let c26_679 : Index := 26#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2358 : Index := Scalar.indexCast v2253
  let c0_680 : Index := 0#32
  ![26, v2358.toNat, 0]
def k0_off30 (i : grid0.Coords) (k0_t1 : Fin (k0_t1_loop i).trips) (c0_i32_625 : BitVec 32) : Fin 3 → Nat :=
  let c27_681 : Index := 27#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2362 : Index := Scalar.indexCast v2253
  let c0_682 : Index := 0#32
  ![27, v2362.toNat, 0]
def k0_off31 (i : grid0.Coords) (k0_t1 : Fin (k0_t1_loop i).trips) (c0_i32_625 : BitVec 32) : Fin 3 → Nat :=
  let c28_683 : Index := 28#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2366 : Index := Scalar.indexCast v2253
  let c0_684 : Index := 0#32
  ![28, v2366.toNat, 0]
def k0_off32 (i : grid0.Coords) (k0_t1 : Fin (k0_t1_loop i).trips) (c0_i32_625 : BitVec 32) : Fin 3 → Nat :=
  let c29_685 : Index := 29#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2370 : Index := Scalar.indexCast v2253
  let c0_686 : Index := 0#32
  ![29, v2370.toNat, 0]
def k0_off33 (i : grid0.Coords) (k0_t1 : Fin (k0_t1_loop i).trips) (c0_i32_625 : BitVec 32) : Fin 3 → Nat :=
  let c30_687 : Index := 30#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2374 : Index := Scalar.indexCast v2253
  let c0_688 : Index := 0#32
  ![30, v2374.toNat, 0]
def k0_off34 (i : grid0.Coords) (k0_t1 : Fin (k0_t1_loop i).trips) (c0_i32_625 : BitVec 32) : Fin 3 → Nat :=
  let c31_689 : Index := 31#32
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2378 : Index := Scalar.indexCast v2253
  let c0_690 : Index := 0#32
  ![31, v2378.toNat, 0]
def k0_mult6 (i : grid0.Coords) (k0_t1 : Fin (k0_t1_loop i).trips) : BitVec 32 :=
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let c1_i32_298 : BitVec 32 := 1#32
  let v1000 : BitVec 32 := Scalar.addi v999 c1_i32_298
  let c2_i32_937 : BitVec 32 := 2#32
  let v3151 : BitVec 32 := Scalar.muli v1000 c2_i32_937
  let c0_i32_938 : BitVec 32 := 0#32
  let v3152 : BitVec 32 := Scalar.addi v3151 c0_i32_938
  let c8_i32_939 : BitVec 32 := 8#32
  let v3153 : BitVec 32 := Scalar.muli v3152 c8_i32_939
  v3153
def k0_off35 (i : grid0.Coords) (k0_t1 : Fin (k0_t1_loop i).trips) (c1_i32_298 : BitVec 32) (c0_i32_938 : BitVec 32) : Fin 3 → Nat :=
  let c0_940 : Index := 0#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3155 : Index := Scalar.indexCast v3154
  let c0_941 : Index := 0#32
  ![0, v3155.toNat, 0]
def k0_off36 (i : grid0.Coords) (k0_t1 : Fin (k0_t1_loop i).trips) (c1_i32_298 : BitVec 32) (c0_i32_938 : BitVec 32) : Fin 3 → Nat :=
  let c1_942 : Index := 1#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3159 : Index := Scalar.indexCast v3154
  let c0_943 : Index := 0#32
  ![1, v3159.toNat, 0]
def k0_off37 (i : grid0.Coords) (k0_t1 : Fin (k0_t1_loop i).trips) (c1_i32_298 : BitVec 32) (c0_i32_938 : BitVec 32) : Fin 3 → Nat :=
  let c2_944 : Index := 2#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3163 : Index := Scalar.indexCast v3154
  let c0_945 : Index := 0#32
  ![2, v3163.toNat, 0]
def k0_off38 (i : grid0.Coords) (k0_t1 : Fin (k0_t1_loop i).trips) (c1_i32_298 : BitVec 32) (c0_i32_938 : BitVec 32) : Fin 3 → Nat :=
  let c3_946 : Index := 3#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3167 : Index := Scalar.indexCast v3154
  let c0_947 : Index := 0#32
  ![3, v3167.toNat, 0]
def k0_off39 (i : grid0.Coords) (k0_t1 : Fin (k0_t1_loop i).trips) (c1_i32_298 : BitVec 32) (c0_i32_938 : BitVec 32) : Fin 3 → Nat :=
  let c4_948 : Index := 4#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3171 : Index := Scalar.indexCast v3154
  let c0_949 : Index := 0#32
  ![4, v3171.toNat, 0]
def k0_off40 (i : grid0.Coords) (k0_t1 : Fin (k0_t1_loop i).trips) (c1_i32_298 : BitVec 32) (c0_i32_938 : BitVec 32) : Fin 3 → Nat :=
  let c5_950 : Index := 5#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3175 : Index := Scalar.indexCast v3154
  let c0_951 : Index := 0#32
  ![5, v3175.toNat, 0]
def k0_off41 (i : grid0.Coords) (k0_t1 : Fin (k0_t1_loop i).trips) (c1_i32_298 : BitVec 32) (c0_i32_938 : BitVec 32) : Fin 3 → Nat :=
  let c6_952 : Index := 6#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3179 : Index := Scalar.indexCast v3154
  let c0_953 : Index := 0#32
  ![6, v3179.toNat, 0]
def k0_off42 (i : grid0.Coords) (k0_t1 : Fin (k0_t1_loop i).trips) (c1_i32_298 : BitVec 32) (c0_i32_938 : BitVec 32) : Fin 3 → Nat :=
  let c7_954 : Index := 7#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3183 : Index := Scalar.indexCast v3154
  let c0_955 : Index := 0#32
  ![7, v3183.toNat, 0]
def k0_off43 (i : grid0.Coords) (k0_t1 : Fin (k0_t1_loop i).trips) (c1_i32_298 : BitVec 32) (c0_i32_938 : BitVec 32) : Fin 3 → Nat :=
  let c8_956 : Index := 8#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3187 : Index := Scalar.indexCast v3154
  let c0_957 : Index := 0#32
  ![8, v3187.toNat, 0]
def k0_off44 (i : grid0.Coords) (k0_t1 : Fin (k0_t1_loop i).trips) (c1_i32_298 : BitVec 32) (c0_i32_938 : BitVec 32) : Fin 3 → Nat :=
  let c9_958 : Index := 9#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3191 : Index := Scalar.indexCast v3154
  let c0_959 : Index := 0#32
  ![9, v3191.toNat, 0]
def k0_off45 (i : grid0.Coords) (k0_t1 : Fin (k0_t1_loop i).trips) (c1_i32_298 : BitVec 32) (c0_i32_938 : BitVec 32) : Fin 3 → Nat :=
  let c10_960 : Index := 10#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3195 : Index := Scalar.indexCast v3154
  let c0_961 : Index := 0#32
  ![10, v3195.toNat, 0]
def k0_off46 (i : grid0.Coords) (k0_t1 : Fin (k0_t1_loop i).trips) (c1_i32_298 : BitVec 32) (c0_i32_938 : BitVec 32) : Fin 3 → Nat :=
  let c11_962 : Index := 11#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3199 : Index := Scalar.indexCast v3154
  let c0_963 : Index := 0#32
  ![11, v3199.toNat, 0]
def k0_off47 (i : grid0.Coords) (k0_t1 : Fin (k0_t1_loop i).trips) (c1_i32_298 : BitVec 32) (c0_i32_938 : BitVec 32) : Fin 3 → Nat :=
  let c12_964 : Index := 12#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3203 : Index := Scalar.indexCast v3154
  let c0_965 : Index := 0#32
  ![12, v3203.toNat, 0]
def k0_off48 (i : grid0.Coords) (k0_t1 : Fin (k0_t1_loop i).trips) (c1_i32_298 : BitVec 32) (c0_i32_938 : BitVec 32) : Fin 3 → Nat :=
  let c13_966 : Index := 13#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3207 : Index := Scalar.indexCast v3154
  let c0_967 : Index := 0#32
  ![13, v3207.toNat, 0]
def k0_off49 (i : grid0.Coords) (k0_t1 : Fin (k0_t1_loop i).trips) (c1_i32_298 : BitVec 32) (c0_i32_938 : BitVec 32) : Fin 3 → Nat :=
  let c14_968 : Index := 14#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3211 : Index := Scalar.indexCast v3154
  let c0_969 : Index := 0#32
  ![14, v3211.toNat, 0]
def k0_off50 (i : grid0.Coords) (k0_t1 : Fin (k0_t1_loop i).trips) (c1_i32_298 : BitVec 32) (c0_i32_938 : BitVec 32) : Fin 3 → Nat :=
  let c15_970 : Index := 15#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3215 : Index := Scalar.indexCast v3154
  let c0_971 : Index := 0#32
  ![15, v3215.toNat, 0]
def k0_off51 (i : grid0.Coords) (k0_t1 : Fin (k0_t1_loop i).trips) (c1_i32_298 : BitVec 32) (c0_i32_938 : BitVec 32) : Fin 3 → Nat :=
  let c16_972 : Index := 16#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3219 : Index := Scalar.indexCast v3154
  let c0_973 : Index := 0#32
  ![16, v3219.toNat, 0]
def k0_off52 (i : grid0.Coords) (k0_t1 : Fin (k0_t1_loop i).trips) (c1_i32_298 : BitVec 32) (c0_i32_938 : BitVec 32) : Fin 3 → Nat :=
  let c17_974 : Index := 17#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3223 : Index := Scalar.indexCast v3154
  let c0_975 : Index := 0#32
  ![17, v3223.toNat, 0]
def k0_off53 (i : grid0.Coords) (k0_t1 : Fin (k0_t1_loop i).trips) (c1_i32_298 : BitVec 32) (c0_i32_938 : BitVec 32) : Fin 3 → Nat :=
  let c18_976 : Index := 18#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3227 : Index := Scalar.indexCast v3154
  let c0_977 : Index := 0#32
  ![18, v3227.toNat, 0]
def k0_off54 (i : grid0.Coords) (k0_t1 : Fin (k0_t1_loop i).trips) (c1_i32_298 : BitVec 32) (c0_i32_938 : BitVec 32) : Fin 3 → Nat :=
  let c19_978 : Index := 19#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3231 : Index := Scalar.indexCast v3154
  let c0_979 : Index := 0#32
  ![19, v3231.toNat, 0]
def k0_off55 (i : grid0.Coords) (k0_t1 : Fin (k0_t1_loop i).trips) (c1_i32_298 : BitVec 32) (c0_i32_938 : BitVec 32) : Fin 3 → Nat :=
  let c20_980 : Index := 20#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3235 : Index := Scalar.indexCast v3154
  let c0_981 : Index := 0#32
  ![20, v3235.toNat, 0]
def k0_off56 (i : grid0.Coords) (k0_t1 : Fin (k0_t1_loop i).trips) (c1_i32_298 : BitVec 32) (c0_i32_938 : BitVec 32) : Fin 3 → Nat :=
  let c21_982 : Index := 21#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3239 : Index := Scalar.indexCast v3154
  let c0_983 : Index := 0#32
  ![21, v3239.toNat, 0]
def k0_off57 (i : grid0.Coords) (k0_t1 : Fin (k0_t1_loop i).trips) (c1_i32_298 : BitVec 32) (c0_i32_938 : BitVec 32) : Fin 3 → Nat :=
  let c22_984 : Index := 22#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3243 : Index := Scalar.indexCast v3154
  let c0_985 : Index := 0#32
  ![22, v3243.toNat, 0]
def k0_off58 (i : grid0.Coords) (k0_t1 : Fin (k0_t1_loop i).trips) (c1_i32_298 : BitVec 32) (c0_i32_938 : BitVec 32) : Fin 3 → Nat :=
  let c23_986 : Index := 23#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3247 : Index := Scalar.indexCast v3154
  let c0_987 : Index := 0#32
  ![23, v3247.toNat, 0]
def k0_off59 (i : grid0.Coords) (k0_t1 : Fin (k0_t1_loop i).trips) (c1_i32_298 : BitVec 32) (c0_i32_938 : BitVec 32) : Fin 3 → Nat :=
  let c24_988 : Index := 24#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3251 : Index := Scalar.indexCast v3154
  let c0_989 : Index := 0#32
  ![24, v3251.toNat, 0]
def k0_off60 (i : grid0.Coords) (k0_t1 : Fin (k0_t1_loop i).trips) (c1_i32_298 : BitVec 32) (c0_i32_938 : BitVec 32) : Fin 3 → Nat :=
  let c25_990 : Index := 25#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3255 : Index := Scalar.indexCast v3154
  let c0_991 : Index := 0#32
  ![25, v3255.toNat, 0]
def k0_off61 (i : grid0.Coords) (k0_t1 : Fin (k0_t1_loop i).trips) (c1_i32_298 : BitVec 32) (c0_i32_938 : BitVec 32) : Fin 3 → Nat :=
  let c26_992 : Index := 26#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3259 : Index := Scalar.indexCast v3154
  let c0_993 : Index := 0#32
  ![26, v3259.toNat, 0]
def k0_off62 (i : grid0.Coords) (k0_t1 : Fin (k0_t1_loop i).trips) (c1_i32_298 : BitVec 32) (c0_i32_938 : BitVec 32) : Fin 3 → Nat :=
  let c27_994 : Index := 27#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3263 : Index := Scalar.indexCast v3154
  let c0_995 : Index := 0#32
  ![27, v3263.toNat, 0]
def k0_off63 (i : grid0.Coords) (k0_t1 : Fin (k0_t1_loop i).trips) (c1_i32_298 : BitVec 32) (c0_i32_938 : BitVec 32) : Fin 3 → Nat :=
  let c28_996 : Index := 28#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3267 : Index := Scalar.indexCast v3154
  let c0_997 : Index := 0#32
  ![28, v3267.toNat, 0]
def k0_off64 (i : grid0.Coords) (k0_t1 : Fin (k0_t1_loop i).trips) (c1_i32_298 : BitVec 32) (c0_i32_938 : BitVec 32) : Fin 3 → Nat :=
  let c29_998 : Index := 29#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3271 : Index := Scalar.indexCast v3154
  let c0_999 : Index := 0#32
  ![29, v3271.toNat, 0]
def k0_off65 (i : grid0.Coords) (k0_t1 : Fin (k0_t1_loop i).trips) (c1_i32_298 : BitVec 32) (c0_i32_938 : BitVec 32) : Fin 3 → Nat :=
  let c30_1000 : Index := 30#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3275 : Index := Scalar.indexCast v3154
  let c0_1001 : Index := 0#32
  ![30, v3275.toNat, 0]
def k0_off66 (i : grid0.Coords) (k0_t1 : Fin (k0_t1_loop i).trips) (c1_i32_298 : BitVec 32) (c0_i32_938 : BitVec 32) : Fin 3 → Nat :=
  let c31_1002 : Index := 31#32
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3279 : Index := Scalar.indexCast v3154
  let c0_1003 : Index := 0#32
  ![31, v3279.toNat, 0]
def k0_mult7 (i : grid0.Coords) (k0_t1 : Fin (k0_t1_loop i).trips) : BitVec 32 :=
  let c4_i32_299 : BitVec 32 := 4#32
  let c0_i32_22 : BitVec 32 := 0#32
  let c1_i32_24 : BitVec 32 := 1#32
  let arg17 : BitVec 32 := Scf.iv c0_i32_22 c1_i32_24 k0_t1
  let v1001 : BitVec 32 := Scalar.muli c4_i32_299 arg17
  let c2_i32_300 : BitVec 32 := 2#32
  let v1002 : BitVec 32 := Scalar.addi v1001 c2_i32_300
  let c2_i32_1250 : BitVec 32 := 2#32
  let v4052 : BitVec 32 := Scalar.muli v1002 c2_i32_1250
  let c0_i32_1251 : BitVec 32 := 0#32
  let v4053 : BitVec 32 := Scalar.addi v4052 c0_i32_1251
  let c8_i32_1252 : BitVec 32 := 8#32
  let v4054 : BitVec 32 := Scalar.muli v4053 c8_i32_1252
  v4054
def k0_mult8 (i : grid0.Coords) (k0_t1 : Fin (k0_t1_loop i).trips) : BitVec 32 :=
  let c4_i32_301 : BitVec 32 := 4#32
  let c0_i32_22 : BitVec 32 := 0#32
  let c1_i32_24 : BitVec 32 := 1#32
  let arg17 : BitVec 32 := Scf.iv c0_i32_22 c1_i32_24 k0_t1
  let v1003 : BitVec 32 := Scalar.muli c4_i32_301 arg17
  let c3_i32_302 : BitVec 32 := 3#32
  let v1004 : BitVec 32 := Scalar.addi v1003 c3_i32_302
  let c2_i32_1563 : BitVec 32 := 2#32
  let v4953 : BitVec 32 := Scalar.muli v1004 c2_i32_1563
  let c0_i32_1564 : BitVec 32 := 0#32
  let v4954 : BitVec 32 := Scalar.addi v4953 c0_i32_1564
  let c8_i32_1565 : BitVec 32 := 8#32
  let v4955 : BitVec 32 := Scalar.muli v4954 c8_i32_1565
  v4955
def k0_mult9 (i : grid0.Coords) (k0_t1 : Fin (k0_t1_loop i).trips) : BitVec 32 :=
  let c4_i32_296 : BitVec 32 := 4#32
  let c0_i32_22 : BitVec 32 := 0#32
  let c1_i32_24 : BitVec 32 := 1#32
  let arg17 : BitVec 32 := Scf.iv c0_i32_22 c1_i32_24 k0_t1
  let v998 : BitVec 32 := Scalar.muli c4_i32_296 arg17
  let c2_i32_1870 : BitVec 32 := 2#32
  let v5837 : BitVec 32 := Scalar.muli v998 c2_i32_1870
  let c1_i32_1871 : BitVec 32 := 1#32
  let v5838 : BitVec 32 := Scalar.addi v5837 c1_i32_1871
  let c8_i32_1872 : BitVec 32 := 8#32
  let v5839 : BitVec 32 := Scalar.muli v5838 c8_i32_1872
  v5839
def k0_mult10 (i : grid0.Coords) (k0_t1 : Fin (k0_t1_loop i).trips) : BitVec 32 :=
  let c4_i32_297 : BitVec 32 := 4#32
  let c0_i32_22 : BitVec 32 := 0#32
  let c1_i32_24 : BitVec 32 := 1#32
  let arg17 : BitVec 32 := Scf.iv c0_i32_22 c1_i32_24 k0_t1
  let v999 : BitVec 32 := Scalar.muli c4_i32_297 arg17
  let c1_i32_298 : BitVec 32 := 1#32
  let v1000 : BitVec 32 := Scalar.addi v999 c1_i32_298
  let c2_i32_2177 : BitVec 32 := 2#32
  let v6721 : BitVec 32 := Scalar.muli v1000 c2_i32_2177
  let c1_i32_2178 : BitVec 32 := 1#32
  let v6722 : BitVec 32 := Scalar.addi v6721 c1_i32_2178
  let c8_i32_2179 : BitVec 32 := 8#32
  let v6723 : BitVec 32 := Scalar.muli v6722 c8_i32_2179
  v6723
def k0_mult11 (i : grid0.Coords) (k0_t1 : Fin (k0_t1_loop i).trips) : BitVec 32 :=
  let c4_i32_299 : BitVec 32 := 4#32
  let c0_i32_22 : BitVec 32 := 0#32
  let c1_i32_24 : BitVec 32 := 1#32
  let arg17 : BitVec 32 := Scf.iv c0_i32_22 c1_i32_24 k0_t1
  let v1001 : BitVec 32 := Scalar.muli c4_i32_299 arg17
  let c2_i32_300 : BitVec 32 := 2#32
  let v1002 : BitVec 32 := Scalar.addi v1001 c2_i32_300
  let c2_i32_2484 : BitVec 32 := 2#32
  let v7605 : BitVec 32 := Scalar.muli v1002 c2_i32_2484
  let c1_i32_2485 : BitVec 32 := 1#32
  let v7606 : BitVec 32 := Scalar.addi v7605 c1_i32_2485
  let c8_i32_2486 : BitVec 32 := 8#32
  let v7607 : BitVec 32 := Scalar.muli v7606 c8_i32_2486
  v7607
def k0_mult12 (i : grid0.Coords) (k0_t1 : Fin (k0_t1_loop i).trips) : BitVec 32 :=
  let c4_i32_301 : BitVec 32 := 4#32
  let c0_i32_22 : BitVec 32 := 0#32
  let c1_i32_24 : BitVec 32 := 1#32
  let arg17 : BitVec 32 := Scf.iv c0_i32_22 c1_i32_24 k0_t1
  let v1003 : BitVec 32 := Scalar.muli c4_i32_301 arg17
  let c3_i32_302 : BitVec 32 := 3#32
  let v1004 : BitVec 32 := Scalar.addi v1003 c3_i32_302
  let c2_i32_2791 : BitVec 32 := 2#32
  let v8489 : BitVec 32 := Scalar.muli v1004 c2_i32_2791
  let c1_i32_2792 : BitVec 32 := 1#32
  let v8490 : BitVec 32 := Scalar.addi v8489 c1_i32_2792
  let c8_i32_2793 : BitVec 32 := 8#32
  let v8491 : BitVec 32 := Scalar.muli v8490 c8_i32_2793
  v8491
@[reducible] def k0_t2_loop (i : grid0.Coords) : Scf.Loop 32 :=
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let v54 : BitVec 32 := Scalar.addi c0_i32_22 v53
  let c1_i32_25 : BitVec 32 := 1#32
  ⟨v57, v54, c1_i32_25⟩
def k0_mult13 (i : grid0.Coords) (k0_t2 : Fin (k0_t2_loop i).trips) : BitVec 32 :=
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c512_i32_303 : BitVec 32 := 512#32
  let v1005 : BitVec 32 := Scalar.muli v998 c512_i32_303
  v1005
def k0_off67 (i : grid0.Coords) (k0_t2 : Fin (k0_t2_loop i).trips) : Fin 3 → Nat :=
  let c0_304 : Index := 0#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c512_i32_303 : BitVec 32 := 512#32
  let v1005 : BitVec 32 := Scalar.muli v998 c512_i32_303
  let v1006 : BitVec 32 := v1005
  let v1007 : Index := Scalar.indexCast v1006
  let c0_305 : Index := 0#32
  ![0, v1007.toNat, 0]
def k0_mult14 (i : grid0.Coords) (k0_t2 : Fin (k0_t2_loop i).trips) : BitVec 32 :=
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let c1_i32_298 : BitVec 32 := 1#32
  let v1000 : BitVec 32 := Scalar.addi v999 c1_i32_298
  let c512_i32_307 : BitVec 32 := 512#32
  let v1011 : BitVec 32 := Scalar.muli v1000 c512_i32_307
  v1011
def k0_off68 (i : grid0.Coords) (k0_t2 : Fin (k0_t2_loop i).trips) (c1_i32_298 : BitVec 32) : Fin 3 → Nat :=
  let c0_308 : Index := 0#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c512_i32_307 : BitVec 32 := 512#32
  let v1011 : BitVec 32 := Scalar.muli v1000 c512_i32_307
  let v1012 : BitVec 32 := v1011
  let v1013 : Index := Scalar.indexCast v1012
  let c0_309 : Index := 0#32
  ![0, v1013.toNat, 0]
def k0_mult15 (i : grid0.Coords) (k0_t2 : Fin (k0_t2_loop i).trips) : BitVec 32 :=
  let c4_i32_299 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v1001 : BitVec 32 := Scalar.muli c4_i32_299 arg17
  let c2_i32_300 : BitVec 32 := 2#32
  let v1002 : BitVec 32 := Scalar.addi v1001 c2_i32_300
  let c512_i32_311 : BitVec 32 := 512#32
  let v1017 : BitVec 32 := Scalar.muli v1002 c512_i32_311
  v1017
def k0_mult16 (i : grid0.Coords) (k0_t2 : Fin (k0_t2_loop i).trips) : BitVec 32 :=
  let c4_i32_301 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v1003 : BitVec 32 := Scalar.muli c4_i32_301 arg17
  let c3_i32_302 : BitVec 32 := 3#32
  let v1004 : BitVec 32 := Scalar.addi v1003 c3_i32_302
  let c512_i32_315 : BitVec 32 := 512#32
  let v1023 : BitVec 32 := Scalar.muli v1004 c512_i32_315
  v1023
def k0_mult17 (i : grid0.Coords) (k0_t2 : Fin (k0_t2_loop i).trips) : BitVec 32 :=
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let c0_i32_625 : BitVec 32 := 0#32
  let v2251 : BitVec 32 := Scalar.addi v2250 c0_i32_625
  let c8_i32_626 : BitVec 32 := 8#32
  let v2252 : BitVec 32 := Scalar.muli v2251 c8_i32_626
  v2252
def k0_off69 (i : grid0.Coords) (k0_t2 : Fin (k0_t2_loop i).trips) (c0_i32_625 : BitVec 32) : Fin 3 → Nat :=
  let c0_627 : Index := 0#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2254 : Index := Scalar.indexCast v2253
  let c0_628 : Index := 0#32
  ![0, v2254.toNat, 0]
def k0_off70 (i : grid0.Coords) (k0_t2 : Fin (k0_t2_loop i).trips) (c0_i32_625 : BitVec 32) : Fin 3 → Nat :=
  let c1_629 : Index := 1#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2258 : Index := Scalar.indexCast v2253
  let c0_630 : Index := 0#32
  ![1, v2258.toNat, 0]
def k0_off71 (i : grid0.Coords) (k0_t2 : Fin (k0_t2_loop i).trips) (c0_i32_625 : BitVec 32) : Fin 3 → Nat :=
  let c2_631 : Index := 2#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2262 : Index := Scalar.indexCast v2253
  let c0_632 : Index := 0#32
  ![2, v2262.toNat, 0]
def k0_off72 (i : grid0.Coords) (k0_t2 : Fin (k0_t2_loop i).trips) (c0_i32_625 : BitVec 32) : Fin 3 → Nat :=
  let c3_633 : Index := 3#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2266 : Index := Scalar.indexCast v2253
  let c0_634 : Index := 0#32
  ![3, v2266.toNat, 0]
def k0_off73 (i : grid0.Coords) (k0_t2 : Fin (k0_t2_loop i).trips) (c0_i32_625 : BitVec 32) : Fin 3 → Nat :=
  let c4_635 : Index := 4#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2270 : Index := Scalar.indexCast v2253
  let c0_636 : Index := 0#32
  ![4, v2270.toNat, 0]
def k0_off74 (i : grid0.Coords) (k0_t2 : Fin (k0_t2_loop i).trips) (c0_i32_625 : BitVec 32) : Fin 3 → Nat :=
  let c5_637 : Index := 5#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2274 : Index := Scalar.indexCast v2253
  let c0_638 : Index := 0#32
  ![5, v2274.toNat, 0]
def k0_off75 (i : grid0.Coords) (k0_t2 : Fin (k0_t2_loop i).trips) (c0_i32_625 : BitVec 32) : Fin 3 → Nat :=
  let c6_639 : Index := 6#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2278 : Index := Scalar.indexCast v2253
  let c0_640 : Index := 0#32
  ![6, v2278.toNat, 0]
def k0_off76 (i : grid0.Coords) (k0_t2 : Fin (k0_t2_loop i).trips) (c0_i32_625 : BitVec 32) : Fin 3 → Nat :=
  let c7_641 : Index := 7#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2282 : Index := Scalar.indexCast v2253
  let c0_642 : Index := 0#32
  ![7, v2282.toNat, 0]
def k0_off77 (i : grid0.Coords) (k0_t2 : Fin (k0_t2_loop i).trips) (c0_i32_625 : BitVec 32) : Fin 3 → Nat :=
  let c8_643 : Index := 8#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2286 : Index := Scalar.indexCast v2253
  let c0_644 : Index := 0#32
  ![8, v2286.toNat, 0]
def k0_off78 (i : grid0.Coords) (k0_t2 : Fin (k0_t2_loop i).trips) (c0_i32_625 : BitVec 32) : Fin 3 → Nat :=
  let c9_645 : Index := 9#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2290 : Index := Scalar.indexCast v2253
  let c0_646 : Index := 0#32
  ![9, v2290.toNat, 0]
def k0_off79 (i : grid0.Coords) (k0_t2 : Fin (k0_t2_loop i).trips) (c0_i32_625 : BitVec 32) : Fin 3 → Nat :=
  let c10_647 : Index := 10#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2294 : Index := Scalar.indexCast v2253
  let c0_648 : Index := 0#32
  ![10, v2294.toNat, 0]
def k0_off80 (i : grid0.Coords) (k0_t2 : Fin (k0_t2_loop i).trips) (c0_i32_625 : BitVec 32) : Fin 3 → Nat :=
  let c11_649 : Index := 11#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2298 : Index := Scalar.indexCast v2253
  let c0_650 : Index := 0#32
  ![11, v2298.toNat, 0]
def k0_off81 (i : grid0.Coords) (k0_t2 : Fin (k0_t2_loop i).trips) (c0_i32_625 : BitVec 32) : Fin 3 → Nat :=
  let c12_651 : Index := 12#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2302 : Index := Scalar.indexCast v2253
  let c0_652 : Index := 0#32
  ![12, v2302.toNat, 0]
def k0_off82 (i : grid0.Coords) (k0_t2 : Fin (k0_t2_loop i).trips) (c0_i32_625 : BitVec 32) : Fin 3 → Nat :=
  let c13_653 : Index := 13#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2306 : Index := Scalar.indexCast v2253
  let c0_654 : Index := 0#32
  ![13, v2306.toNat, 0]
def k0_off83 (i : grid0.Coords) (k0_t2 : Fin (k0_t2_loop i).trips) (c0_i32_625 : BitVec 32) : Fin 3 → Nat :=
  let c14_655 : Index := 14#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2310 : Index := Scalar.indexCast v2253
  let c0_656 : Index := 0#32
  ![14, v2310.toNat, 0]
def k0_off84 (i : grid0.Coords) (k0_t2 : Fin (k0_t2_loop i).trips) (c0_i32_625 : BitVec 32) : Fin 3 → Nat :=
  let c15_657 : Index := 15#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2314 : Index := Scalar.indexCast v2253
  let c0_658 : Index := 0#32
  ![15, v2314.toNat, 0]
def k0_off85 (i : grid0.Coords) (k0_t2 : Fin (k0_t2_loop i).trips) (c0_i32_625 : BitVec 32) : Fin 3 → Nat :=
  let c16_659 : Index := 16#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2318 : Index := Scalar.indexCast v2253
  let c0_660 : Index := 0#32
  ![16, v2318.toNat, 0]
def k0_off86 (i : grid0.Coords) (k0_t2 : Fin (k0_t2_loop i).trips) (c0_i32_625 : BitVec 32) : Fin 3 → Nat :=
  let c17_661 : Index := 17#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2322 : Index := Scalar.indexCast v2253
  let c0_662 : Index := 0#32
  ![17, v2322.toNat, 0]
def k0_off87 (i : grid0.Coords) (k0_t2 : Fin (k0_t2_loop i).trips) (c0_i32_625 : BitVec 32) : Fin 3 → Nat :=
  let c18_663 : Index := 18#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2326 : Index := Scalar.indexCast v2253
  let c0_664 : Index := 0#32
  ![18, v2326.toNat, 0]
def k0_off88 (i : grid0.Coords) (k0_t2 : Fin (k0_t2_loop i).trips) (c0_i32_625 : BitVec 32) : Fin 3 → Nat :=
  let c19_665 : Index := 19#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2330 : Index := Scalar.indexCast v2253
  let c0_666 : Index := 0#32
  ![19, v2330.toNat, 0]
def k0_off89 (i : grid0.Coords) (k0_t2 : Fin (k0_t2_loop i).trips) (c0_i32_625 : BitVec 32) : Fin 3 → Nat :=
  let c20_667 : Index := 20#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2334 : Index := Scalar.indexCast v2253
  let c0_668 : Index := 0#32
  ![20, v2334.toNat, 0]
def k0_off90 (i : grid0.Coords) (k0_t2 : Fin (k0_t2_loop i).trips) (c0_i32_625 : BitVec 32) : Fin 3 → Nat :=
  let c21_669 : Index := 21#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2338 : Index := Scalar.indexCast v2253
  let c0_670 : Index := 0#32
  ![21, v2338.toNat, 0]
def k0_off91 (i : grid0.Coords) (k0_t2 : Fin (k0_t2_loop i).trips) (c0_i32_625 : BitVec 32) : Fin 3 → Nat :=
  let c22_671 : Index := 22#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2342 : Index := Scalar.indexCast v2253
  let c0_672 : Index := 0#32
  ![22, v2342.toNat, 0]
def k0_off92 (i : grid0.Coords) (k0_t2 : Fin (k0_t2_loop i).trips) (c0_i32_625 : BitVec 32) : Fin 3 → Nat :=
  let c23_673 : Index := 23#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2346 : Index := Scalar.indexCast v2253
  let c0_674 : Index := 0#32
  ![23, v2346.toNat, 0]
def k0_off93 (i : grid0.Coords) (k0_t2 : Fin (k0_t2_loop i).trips) (c0_i32_625 : BitVec 32) : Fin 3 → Nat :=
  let c24_675 : Index := 24#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2350 : Index := Scalar.indexCast v2253
  let c0_676 : Index := 0#32
  ![24, v2350.toNat, 0]
def k0_off94 (i : grid0.Coords) (k0_t2 : Fin (k0_t2_loop i).trips) (c0_i32_625 : BitVec 32) : Fin 3 → Nat :=
  let c25_677 : Index := 25#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2354 : Index := Scalar.indexCast v2253
  let c0_678 : Index := 0#32
  ![25, v2354.toNat, 0]
def k0_off95 (i : grid0.Coords) (k0_t2 : Fin (k0_t2_loop i).trips) (c0_i32_625 : BitVec 32) : Fin 3 → Nat :=
  let c26_679 : Index := 26#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2358 : Index := Scalar.indexCast v2253
  let c0_680 : Index := 0#32
  ![26, v2358.toNat, 0]
def k0_off96 (i : grid0.Coords) (k0_t2 : Fin (k0_t2_loop i).trips) (c0_i32_625 : BitVec 32) : Fin 3 → Nat :=
  let c27_681 : Index := 27#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2362 : Index := Scalar.indexCast v2253
  let c0_682 : Index := 0#32
  ![27, v2362.toNat, 0]
def k0_off97 (i : grid0.Coords) (k0_t2 : Fin (k0_t2_loop i).trips) (c0_i32_625 : BitVec 32) : Fin 3 → Nat :=
  let c28_683 : Index := 28#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2366 : Index := Scalar.indexCast v2253
  let c0_684 : Index := 0#32
  ![28, v2366.toNat, 0]
def k0_off98 (i : grid0.Coords) (k0_t2 : Fin (k0_t2_loop i).trips) (c0_i32_625 : BitVec 32) : Fin 3 → Nat :=
  let c29_685 : Index := 29#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2370 : Index := Scalar.indexCast v2253
  let c0_686 : Index := 0#32
  ![29, v2370.toNat, 0]
def k0_off99 (i : grid0.Coords) (k0_t2 : Fin (k0_t2_loop i).trips) (c0_i32_625 : BitVec 32) : Fin 3 → Nat :=
  let c30_687 : Index := 30#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2374 : Index := Scalar.indexCast v2253
  let c0_688 : Index := 0#32
  ![30, v2374.toNat, 0]
def k0_off100 (i : grid0.Coords) (k0_t2 : Fin (k0_t2_loop i).trips) (c0_i32_625 : BitVec 32) : Fin 3 → Nat :=
  let c31_689 : Index := 31#32
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_624 : BitVec 32 := 2#32
  let v2250 : BitVec 32 := Scalar.muli v998 c2_i32_624
  let v2251 : BitVec 32 := Scalar.addi v2250 c0_i32_625
  let c8_i32_626 : BitVec 32 := 8#32
  let v2252 : BitVec 32 := Scalar.muli v2251 c8_i32_626
  let v2253 : BitVec 32 := v2252
  let v2378 : Index := Scalar.indexCast v2253
  let c0_690 : Index := 0#32
  ![31, v2378.toNat, 0]
def k0_mult18 (i : grid0.Coords) (k0_t2 : Fin (k0_t2_loop i).trips) : BitVec 32 :=
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let c1_i32_298 : BitVec 32 := 1#32
  let v1000 : BitVec 32 := Scalar.addi v999 c1_i32_298
  let c2_i32_937 : BitVec 32 := 2#32
  let v3151 : BitVec 32 := Scalar.muli v1000 c2_i32_937
  let c0_i32_938 : BitVec 32 := 0#32
  let v3152 : BitVec 32 := Scalar.addi v3151 c0_i32_938
  let c8_i32_939 : BitVec 32 := 8#32
  let v3153 : BitVec 32 := Scalar.muli v3152 c8_i32_939
  v3153
def k0_off101 (i : grid0.Coords) (k0_t2 : Fin (k0_t2_loop i).trips) (c1_i32_298 : BitVec 32) (c0_i32_938 : BitVec 32) : Fin 3 → Nat :=
  let c0_940 : Index := 0#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3155 : Index := Scalar.indexCast v3154
  let c0_941 : Index := 0#32
  ![0, v3155.toNat, 0]
def k0_off102 (i : grid0.Coords) (k0_t2 : Fin (k0_t2_loop i).trips) (c1_i32_298 : BitVec 32) (c0_i32_938 : BitVec 32) : Fin 3 → Nat :=
  let c1_942 : Index := 1#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3159 : Index := Scalar.indexCast v3154
  let c0_943 : Index := 0#32
  ![1, v3159.toNat, 0]
def k0_off103 (i : grid0.Coords) (k0_t2 : Fin (k0_t2_loop i).trips) (c1_i32_298 : BitVec 32) (c0_i32_938 : BitVec 32) : Fin 3 → Nat :=
  let c2_944 : Index := 2#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3163 : Index := Scalar.indexCast v3154
  let c0_945 : Index := 0#32
  ![2, v3163.toNat, 0]
def k0_off104 (i : grid0.Coords) (k0_t2 : Fin (k0_t2_loop i).trips) (c1_i32_298 : BitVec 32) (c0_i32_938 : BitVec 32) : Fin 3 → Nat :=
  let c3_946 : Index := 3#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3167 : Index := Scalar.indexCast v3154
  let c0_947 : Index := 0#32
  ![3, v3167.toNat, 0]
def k0_off105 (i : grid0.Coords) (k0_t2 : Fin (k0_t2_loop i).trips) (c1_i32_298 : BitVec 32) (c0_i32_938 : BitVec 32) : Fin 3 → Nat :=
  let c4_948 : Index := 4#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3171 : Index := Scalar.indexCast v3154
  let c0_949 : Index := 0#32
  ![4, v3171.toNat, 0]
def k0_off106 (i : grid0.Coords) (k0_t2 : Fin (k0_t2_loop i).trips) (c1_i32_298 : BitVec 32) (c0_i32_938 : BitVec 32) : Fin 3 → Nat :=
  let c5_950 : Index := 5#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3175 : Index := Scalar.indexCast v3154
  let c0_951 : Index := 0#32
  ![5, v3175.toNat, 0]
def k0_off107 (i : grid0.Coords) (k0_t2 : Fin (k0_t2_loop i).trips) (c1_i32_298 : BitVec 32) (c0_i32_938 : BitVec 32) : Fin 3 → Nat :=
  let c6_952 : Index := 6#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3179 : Index := Scalar.indexCast v3154
  let c0_953 : Index := 0#32
  ![6, v3179.toNat, 0]
def k0_off108 (i : grid0.Coords) (k0_t2 : Fin (k0_t2_loop i).trips) (c1_i32_298 : BitVec 32) (c0_i32_938 : BitVec 32) : Fin 3 → Nat :=
  let c7_954 : Index := 7#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3183 : Index := Scalar.indexCast v3154
  let c0_955 : Index := 0#32
  ![7, v3183.toNat, 0]
def k0_off109 (i : grid0.Coords) (k0_t2 : Fin (k0_t2_loop i).trips) (c1_i32_298 : BitVec 32) (c0_i32_938 : BitVec 32) : Fin 3 → Nat :=
  let c8_956 : Index := 8#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3187 : Index := Scalar.indexCast v3154
  let c0_957 : Index := 0#32
  ![8, v3187.toNat, 0]
def k0_off110 (i : grid0.Coords) (k0_t2 : Fin (k0_t2_loop i).trips) (c1_i32_298 : BitVec 32) (c0_i32_938 : BitVec 32) : Fin 3 → Nat :=
  let c9_958 : Index := 9#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3191 : Index := Scalar.indexCast v3154
  let c0_959 : Index := 0#32
  ![9, v3191.toNat, 0]
def k0_off111 (i : grid0.Coords) (k0_t2 : Fin (k0_t2_loop i).trips) (c1_i32_298 : BitVec 32) (c0_i32_938 : BitVec 32) : Fin 3 → Nat :=
  let c10_960 : Index := 10#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3195 : Index := Scalar.indexCast v3154
  let c0_961 : Index := 0#32
  ![10, v3195.toNat, 0]
def k0_off112 (i : grid0.Coords) (k0_t2 : Fin (k0_t2_loop i).trips) (c1_i32_298 : BitVec 32) (c0_i32_938 : BitVec 32) : Fin 3 → Nat :=
  let c11_962 : Index := 11#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3199 : Index := Scalar.indexCast v3154
  let c0_963 : Index := 0#32
  ![11, v3199.toNat, 0]
def k0_off113 (i : grid0.Coords) (k0_t2 : Fin (k0_t2_loop i).trips) (c1_i32_298 : BitVec 32) (c0_i32_938 : BitVec 32) : Fin 3 → Nat :=
  let c12_964 : Index := 12#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3203 : Index := Scalar.indexCast v3154
  let c0_965 : Index := 0#32
  ![12, v3203.toNat, 0]
def k0_off114 (i : grid0.Coords) (k0_t2 : Fin (k0_t2_loop i).trips) (c1_i32_298 : BitVec 32) (c0_i32_938 : BitVec 32) : Fin 3 → Nat :=
  let c13_966 : Index := 13#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3207 : Index := Scalar.indexCast v3154
  let c0_967 : Index := 0#32
  ![13, v3207.toNat, 0]
def k0_off115 (i : grid0.Coords) (k0_t2 : Fin (k0_t2_loop i).trips) (c1_i32_298 : BitVec 32) (c0_i32_938 : BitVec 32) : Fin 3 → Nat :=
  let c14_968 : Index := 14#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3211 : Index := Scalar.indexCast v3154
  let c0_969 : Index := 0#32
  ![14, v3211.toNat, 0]
def k0_off116 (i : grid0.Coords) (k0_t2 : Fin (k0_t2_loop i).trips) (c1_i32_298 : BitVec 32) (c0_i32_938 : BitVec 32) : Fin 3 → Nat :=
  let c15_970 : Index := 15#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3215 : Index := Scalar.indexCast v3154
  let c0_971 : Index := 0#32
  ![15, v3215.toNat, 0]
def k0_off117 (i : grid0.Coords) (k0_t2 : Fin (k0_t2_loop i).trips) (c1_i32_298 : BitVec 32) (c0_i32_938 : BitVec 32) : Fin 3 → Nat :=
  let c16_972 : Index := 16#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3219 : Index := Scalar.indexCast v3154
  let c0_973 : Index := 0#32
  ![16, v3219.toNat, 0]
def k0_off118 (i : grid0.Coords) (k0_t2 : Fin (k0_t2_loop i).trips) (c1_i32_298 : BitVec 32) (c0_i32_938 : BitVec 32) : Fin 3 → Nat :=
  let c17_974 : Index := 17#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3223 : Index := Scalar.indexCast v3154
  let c0_975 : Index := 0#32
  ![17, v3223.toNat, 0]
def k0_off119 (i : grid0.Coords) (k0_t2 : Fin (k0_t2_loop i).trips) (c1_i32_298 : BitVec 32) (c0_i32_938 : BitVec 32) : Fin 3 → Nat :=
  let c18_976 : Index := 18#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3227 : Index := Scalar.indexCast v3154
  let c0_977 : Index := 0#32
  ![18, v3227.toNat, 0]
def k0_off120 (i : grid0.Coords) (k0_t2 : Fin (k0_t2_loop i).trips) (c1_i32_298 : BitVec 32) (c0_i32_938 : BitVec 32) : Fin 3 → Nat :=
  let c19_978 : Index := 19#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3231 : Index := Scalar.indexCast v3154
  let c0_979 : Index := 0#32
  ![19, v3231.toNat, 0]
def k0_off121 (i : grid0.Coords) (k0_t2 : Fin (k0_t2_loop i).trips) (c1_i32_298 : BitVec 32) (c0_i32_938 : BitVec 32) : Fin 3 → Nat :=
  let c20_980 : Index := 20#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3235 : Index := Scalar.indexCast v3154
  let c0_981 : Index := 0#32
  ![20, v3235.toNat, 0]
def k0_off122 (i : grid0.Coords) (k0_t2 : Fin (k0_t2_loop i).trips) (c1_i32_298 : BitVec 32) (c0_i32_938 : BitVec 32) : Fin 3 → Nat :=
  let c21_982 : Index := 21#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3239 : Index := Scalar.indexCast v3154
  let c0_983 : Index := 0#32
  ![21, v3239.toNat, 0]
def k0_off123 (i : grid0.Coords) (k0_t2 : Fin (k0_t2_loop i).trips) (c1_i32_298 : BitVec 32) (c0_i32_938 : BitVec 32) : Fin 3 → Nat :=
  let c22_984 : Index := 22#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3243 : Index := Scalar.indexCast v3154
  let c0_985 : Index := 0#32
  ![22, v3243.toNat, 0]
def k0_off124 (i : grid0.Coords) (k0_t2 : Fin (k0_t2_loop i).trips) (c1_i32_298 : BitVec 32) (c0_i32_938 : BitVec 32) : Fin 3 → Nat :=
  let c23_986 : Index := 23#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3247 : Index := Scalar.indexCast v3154
  let c0_987 : Index := 0#32
  ![23, v3247.toNat, 0]
def k0_off125 (i : grid0.Coords) (k0_t2 : Fin (k0_t2_loop i).trips) (c1_i32_298 : BitVec 32) (c0_i32_938 : BitVec 32) : Fin 3 → Nat :=
  let c24_988 : Index := 24#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3251 : Index := Scalar.indexCast v3154
  let c0_989 : Index := 0#32
  ![24, v3251.toNat, 0]
def k0_off126 (i : grid0.Coords) (k0_t2 : Fin (k0_t2_loop i).trips) (c1_i32_298 : BitVec 32) (c0_i32_938 : BitVec 32) : Fin 3 → Nat :=
  let c25_990 : Index := 25#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3255 : Index := Scalar.indexCast v3154
  let c0_991 : Index := 0#32
  ![25, v3255.toNat, 0]
def k0_off127 (i : grid0.Coords) (k0_t2 : Fin (k0_t2_loop i).trips) (c1_i32_298 : BitVec 32) (c0_i32_938 : BitVec 32) : Fin 3 → Nat :=
  let c26_992 : Index := 26#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3259 : Index := Scalar.indexCast v3154
  let c0_993 : Index := 0#32
  ![26, v3259.toNat, 0]
def k0_off128 (i : grid0.Coords) (k0_t2 : Fin (k0_t2_loop i).trips) (c1_i32_298 : BitVec 32) (c0_i32_938 : BitVec 32) : Fin 3 → Nat :=
  let c27_994 : Index := 27#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3263 : Index := Scalar.indexCast v3154
  let c0_995 : Index := 0#32
  ![27, v3263.toNat, 0]
def k0_off129 (i : grid0.Coords) (k0_t2 : Fin (k0_t2_loop i).trips) (c1_i32_298 : BitVec 32) (c0_i32_938 : BitVec 32) : Fin 3 → Nat :=
  let c28_996 : Index := 28#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3267 : Index := Scalar.indexCast v3154
  let c0_997 : Index := 0#32
  ![28, v3267.toNat, 0]
def k0_off130 (i : grid0.Coords) (k0_t2 : Fin (k0_t2_loop i).trips) (c1_i32_298 : BitVec 32) (c0_i32_938 : BitVec 32) : Fin 3 → Nat :=
  let c29_998 : Index := 29#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3271 : Index := Scalar.indexCast v3154
  let c0_999 : Index := 0#32
  ![29, v3271.toNat, 0]
def k0_off131 (i : grid0.Coords) (k0_t2 : Fin (k0_t2_loop i).trips) (c1_i32_298 : BitVec 32) (c0_i32_938 : BitVec 32) : Fin 3 → Nat :=
  let c30_1000 : Index := 30#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3275 : Index := Scalar.indexCast v3154
  let c0_1001 : Index := 0#32
  ![30, v3275.toNat, 0]
def k0_off132 (i : grid0.Coords) (k0_t2 : Fin (k0_t2_loop i).trips) (c1_i32_298 : BitVec 32) (c0_i32_938 : BitVec 32) : Fin 3 → Nat :=
  let c31_1002 : Index := 31#32
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let v1000 : BitVec 32 := Scalar.addi v999 c1_i32_298
  let c2_i32_937 : BitVec 32 := 2#32
  let v3151 : BitVec 32 := Scalar.muli v1000 c2_i32_937
  let v3152 : BitVec 32 := Scalar.addi v3151 c0_i32_938
  let c8_i32_939 : BitVec 32 := 8#32
  let v3153 : BitVec 32 := Scalar.muli v3152 c8_i32_939
  let v3154 : BitVec 32 := v3153
  let v3279 : Index := Scalar.indexCast v3154
  let c0_1003 : Index := 0#32
  ![31, v3279.toNat, 0]
def k0_mult19 (i : grid0.Coords) (k0_t2 : Fin (k0_t2_loop i).trips) : BitVec 32 :=
  let c4_i32_299 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v1001 : BitVec 32 := Scalar.muli c4_i32_299 arg17
  let c2_i32_300 : BitVec 32 := 2#32
  let v1002 : BitVec 32 := Scalar.addi v1001 c2_i32_300
  let c2_i32_1250 : BitVec 32 := 2#32
  let v4052 : BitVec 32 := Scalar.muli v1002 c2_i32_1250
  let c0_i32_1251 : BitVec 32 := 0#32
  let v4053 : BitVec 32 := Scalar.addi v4052 c0_i32_1251
  let c8_i32_1252 : BitVec 32 := 8#32
  let v4054 : BitVec 32 := Scalar.muli v4053 c8_i32_1252
  v4054
def k0_mult20 (i : grid0.Coords) (k0_t2 : Fin (k0_t2_loop i).trips) : BitVec 32 :=
  let c4_i32_301 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v1003 : BitVec 32 := Scalar.muli c4_i32_301 arg17
  let c3_i32_302 : BitVec 32 := 3#32
  let v1004 : BitVec 32 := Scalar.addi v1003 c3_i32_302
  let c2_i32_1563 : BitVec 32 := 2#32
  let v4953 : BitVec 32 := Scalar.muli v1004 c2_i32_1563
  let c0_i32_1564 : BitVec 32 := 0#32
  let v4954 : BitVec 32 := Scalar.addi v4953 c0_i32_1564
  let c8_i32_1565 : BitVec 32 := 8#32
  let v4955 : BitVec 32 := Scalar.muli v4954 c8_i32_1565
  v4955
def k0_mult21 (i : grid0.Coords) (k0_t2 : Fin (k0_t2_loop i).trips) : BitVec 32 :=
  let c4_i32_296 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v998 : BitVec 32 := Scalar.muli c4_i32_296 arg17
  let c2_i32_1870 : BitVec 32 := 2#32
  let v5837 : BitVec 32 := Scalar.muli v998 c2_i32_1870
  let c1_i32_1871 : BitVec 32 := 1#32
  let v5838 : BitVec 32 := Scalar.addi v5837 c1_i32_1871
  let c8_i32_1872 : BitVec 32 := 8#32
  let v5839 : BitVec 32 := Scalar.muli v5838 c8_i32_1872
  v5839
def k0_mult22 (i : grid0.Coords) (k0_t2 : Fin (k0_t2_loop i).trips) : BitVec 32 :=
  let c4_i32_297 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v999 : BitVec 32 := Scalar.muli c4_i32_297 arg17
  let c1_i32_298 : BitVec 32 := 1#32
  let v1000 : BitVec 32 := Scalar.addi v999 c1_i32_298
  let c2_i32_2177 : BitVec 32 := 2#32
  let v6721 : BitVec 32 := Scalar.muli v1000 c2_i32_2177
  let c1_i32_2178 : BitVec 32 := 1#32
  let v6722 : BitVec 32 := Scalar.addi v6721 c1_i32_2178
  let c8_i32_2179 : BitVec 32 := 8#32
  let v6723 : BitVec 32 := Scalar.muli v6722 c8_i32_2179
  v6723
def k0_mult23 (i : grid0.Coords) (k0_t2 : Fin (k0_t2_loop i).trips) : BitVec 32 :=
  let c4_i32_299 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v1001 : BitVec 32 := Scalar.muli c4_i32_299 arg17
  let c2_i32_300 : BitVec 32 := 2#32
  let v1002 : BitVec 32 := Scalar.addi v1001 c2_i32_300
  let c2_i32_2484 : BitVec 32 := 2#32
  let v7605 : BitVec 32 := Scalar.muli v1002 c2_i32_2484
  let c1_i32_2485 : BitVec 32 := 1#32
  let v7606 : BitVec 32 := Scalar.addi v7605 c1_i32_2485
  let c8_i32_2486 : BitVec 32 := 8#32
  let v7607 : BitVec 32 := Scalar.muli v7606 c8_i32_2486
  v7607
def k0_mult24 (i : grid0.Coords) (k0_t2 : Fin (k0_t2_loop i).trips) : BitVec 32 :=
  let c4_i32_301 : BitVec 32 := 4#32
  let c0_i32_22 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_15 : BitVec 32 := 0#32
  let v37 : BitVec 1 := Scalar.cmpi .sgt v20 c0_i32_15
  let v38 : BitVec 32 := Scalar.extui v37
  let c0_i32_16 : BitVec 32 := 0#32
  let v39 : BitVec 1 := Scalar.cmpi .slt v20 c0_i32_16
  let v40 : BitVec 32 := Scalar.extui v39
  let v41 : BitVec 32 := Scalar.subi v38 v40
  let c4_i32 : BitVec 32 := 4#32
  let c0_i32_17 : BitVec 32 := 0#32
  let v42 : BitVec 1 := Scalar.cmpi .sgt c4_i32 c0_i32_17
  let v43 : BitVec 32 := Scalar.extui v42
  let c0_i32_18 : BitVec 32 := 0#32
  let v44 : BitVec 1 := Scalar.cmpi .slt c4_i32 c0_i32_18
  let v45 : BitVec 32 := Scalar.extui v44
  let v46 : BitVec 32 := Scalar.subi v43 v45
  let v47 : BitVec 1 := Scalar.cmpi .ne v41 v46
  let v48 : BitVec 32 := Scalar.remsi v20 c4_i32
  let c0_i32_19 : BitVec 32 := 0#32
  let v49 : BitVec 1 := Scalar.cmpi .ne v48 c0_i32_19
  let v50 : BitVec 1 := Scalar.andi v47 v49
  let v36 : BitVec 32 := Scalar.divsi v20 c4_i32
  let c1_i32_20 : BitVec 32 := 1#32
  let v51 : BitVec 32 := Scalar.subi v36 c1_i32_20
  let v52 : BitVec 32 := Scalar.select v50 v51 v36
  let v53 : BitVec 32 := Scalar.subi v52 c0_i32_22
  let c1_i32_23 : BitVec 32 := 1#32
  let v55 : BitVec 32 := Scalar.divsi v53 c1_i32_23
  let v56 : BitVec 32 := Scalar.muli v55 c1_i32_23
  let v57 : BitVec 32 := Scalar.addi c0_i32_22 v56
  let c1_i32_25 : BitVec 32 := 1#32
  let arg17 : BitVec 32 := Scf.iv v57 c1_i32_25 k0_t2
  let v1003 : BitVec 32 := Scalar.muli c4_i32_301 arg17
  let c3_i32_302 : BitVec 32 := 3#32
  let v1004 : BitVec 32 := Scalar.addi v1003 c3_i32_302
  let c2_i32_2791 : BitVec 32 := 2#32
  let v8489 : BitVec 32 := Scalar.muli v1004 c2_i32_2791
  let c1_i32_2792 : BitVec 32 := 1#32
  let v8490 : BitVec 32 := Scalar.addi v8489 c1_i32_2792
  let c8_i32_2793 : BitVec 32 := 8#32
  let v8491 : BitVec 32 := Scalar.muli v8490 c8_i32_2793
  v8491
def k0_cond2 (i : grid0.Coords) : BitVec 1 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c4_i32_26 : BitVec 32 := 4#32
  let c0_i32_27 : BitVec 32 := 0#32
  let v58 : BitVec 1 := Scalar.cmpi .eq c4_i32_26 c0_i32_27
  let c1_i32_28 : BitVec 32 := 1#32
  let v59 : BitVec 32 := Scalar.select v58 c1_i32_28 c4_i32_26
  let v60 : BitVec 32 := Scalar.remsi v20 v59
  let c0_i32_30 : BitVec 32 := 0#32
  let v62 : BitVec 1 := Scalar.cmpi .slt v60 c0_i32_30
  let c0_i32_31 : BitVec 32 := 0#32
  let v63 : BitVec 1 := Scalar.cmpi .slt v59 c0_i32_31
  let v64 : BitVec 1 := Scalar.xori v62 v63
  let c0_i32_29 : BitVec 32 := 0#32
  let v61 : BitVec 1 := Scalar.cmpi .ne v60 c0_i32_29
  let v65 : BitVec 1 := Scalar.andi v64 v61
  let v66 : BitVec 32 := Scalar.addi v60 v59
  let v67 : BitVec 32 := Scalar.select v65 v66 v60
  let c2_i32 : BitVec 32 := 2#32
  let v68 : BitVec 1 := Scalar.cmpi .sge v67 c2_i32
  let v69 : BitVec 32 := Scalar.extui v68
  let c0_i32_32 : BitVec 32 := 0#32
  let v70 : BitVec 1 := Scalar.cmpi .ne v69 c0_i32_32
  v70

def k0_mult25 (i : grid0.Coords) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c512_i32_305 : BitVec 32 := 512#32
  let v1017 : BitVec 32 := Scalar.muli v1015 c512_i32_305
  v1017
def k0_off133 (i : grid0.Coords) : Fin 3 → Nat :=
  let c0_306 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c512_i32_305 : BitVec 32 := 512#32
  let v1017 : BitVec 32 := Scalar.muli v1015 c512_i32_305
  let v1018 : BitVec 32 := v1017
  let v1019 : Index := Scalar.indexCast v1018
  let c0_307 : Index := 0#32
  ![0, v1019.toNat, 0]
def k0_mult26 (i : grid0.Coords) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c512_i32_309 : BitVec 32 := 512#32
  let v1023 : BitVec 32 := Scalar.muli v1016 c512_i32_309
  v1023
def k0_off134 (i : grid0.Coords) : Fin 3 → Nat :=
  let c0_310 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c512_i32_309 : BitVec 32 := 512#32
  let v1023 : BitVec 32 := Scalar.muli v1016 c512_i32_309
  let v1024 : BitVec 32 := v1023
  let v1025 : Index := Scalar.indexCast v1024
  let c0_311 : Index := 0#32
  ![0, v1025.toNat, 0]
def k0_mult27 (i : grid0.Coords) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let c0_i32_585 : BitVec 32 := 0#32
  let v2025 : BitVec 32 := Scalar.addi v2024 c0_i32_585
  let c8_i32_586 : BitVec 32 := 8#32
  let v2026 : BitVec 32 := Scalar.muli v2025 c8_i32_586
  v2026
def k0_off135 (i : grid0.Coords) (c0_i32_585 : BitVec 32) : Fin 3 → Nat :=
  let c0_587 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2028 : Index := Scalar.indexCast v2027
  let c0_588 : Index := 0#32
  ![0, v2028.toNat, 0]
def k0_off136 (i : grid0.Coords) (c0_i32_585 : BitVec 32) : Fin 3 → Nat :=
  let c1_589 : Index := 1#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2032 : Index := Scalar.indexCast v2027
  let c0_590 : Index := 0#32
  ![1, v2032.toNat, 0]
def k0_off137 (i : grid0.Coords) (c0_i32_585 : BitVec 32) : Fin 3 → Nat :=
  let c2_591 : Index := 2#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2036 : Index := Scalar.indexCast v2027
  let c0_592 : Index := 0#32
  ![2, v2036.toNat, 0]
def k0_off138 (i : grid0.Coords) (c0_i32_585 : BitVec 32) : Fin 3 → Nat :=
  let c3_593 : Index := 3#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2040 : Index := Scalar.indexCast v2027
  let c0_594 : Index := 0#32
  ![3, v2040.toNat, 0]
def k0_off139 (i : grid0.Coords) (c0_i32_585 : BitVec 32) : Fin 3 → Nat :=
  let c4_595 : Index := 4#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2044 : Index := Scalar.indexCast v2027
  let c0_596 : Index := 0#32
  ![4, v2044.toNat, 0]
def k0_off140 (i : grid0.Coords) (c0_i32_585 : BitVec 32) : Fin 3 → Nat :=
  let c5_597 : Index := 5#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2048 : Index := Scalar.indexCast v2027
  let c0_598 : Index := 0#32
  ![5, v2048.toNat, 0]
def k0_off141 (i : grid0.Coords) (c0_i32_585 : BitVec 32) : Fin 3 → Nat :=
  let c6_599 : Index := 6#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2052 : Index := Scalar.indexCast v2027
  let c0_600 : Index := 0#32
  ![6, v2052.toNat, 0]
def k0_off142 (i : grid0.Coords) (c0_i32_585 : BitVec 32) : Fin 3 → Nat :=
  let c7_601 : Index := 7#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2056 : Index := Scalar.indexCast v2027
  let c0_602 : Index := 0#32
  ![7, v2056.toNat, 0]
def k0_off143 (i : grid0.Coords) (c0_i32_585 : BitVec 32) : Fin 3 → Nat :=
  let c8_603 : Index := 8#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2060 : Index := Scalar.indexCast v2027
  let c0_604 : Index := 0#32
  ![8, v2060.toNat, 0]
def k0_off144 (i : grid0.Coords) (c0_i32_585 : BitVec 32) : Fin 3 → Nat :=
  let c9_605 : Index := 9#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2064 : Index := Scalar.indexCast v2027
  let c0_606 : Index := 0#32
  ![9, v2064.toNat, 0]
def k0_off145 (i : grid0.Coords) (c0_i32_585 : BitVec 32) : Fin 3 → Nat :=
  let c10_607 : Index := 10#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2068 : Index := Scalar.indexCast v2027
  let c0_608 : Index := 0#32
  ![10, v2068.toNat, 0]
def k0_off146 (i : grid0.Coords) (c0_i32_585 : BitVec 32) : Fin 3 → Nat :=
  let c11_609 : Index := 11#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2072 : Index := Scalar.indexCast v2027
  let c0_610 : Index := 0#32
  ![11, v2072.toNat, 0]
def k0_off147 (i : grid0.Coords) (c0_i32_585 : BitVec 32) : Fin 3 → Nat :=
  let c12_611 : Index := 12#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2076 : Index := Scalar.indexCast v2027
  let c0_612 : Index := 0#32
  ![12, v2076.toNat, 0]
def k0_off148 (i : grid0.Coords) (c0_i32_585 : BitVec 32) : Fin 3 → Nat :=
  let c13_613 : Index := 13#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2080 : Index := Scalar.indexCast v2027
  let c0_614 : Index := 0#32
  ![13, v2080.toNat, 0]
def k0_off149 (i : grid0.Coords) (c0_i32_585 : BitVec 32) : Fin 3 → Nat :=
  let c14_615 : Index := 14#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2084 : Index := Scalar.indexCast v2027
  let c0_616 : Index := 0#32
  ![14, v2084.toNat, 0]
def k0_off150 (i : grid0.Coords) (c0_i32_585 : BitVec 32) : Fin 3 → Nat :=
  let c15_617 : Index := 15#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2088 : Index := Scalar.indexCast v2027
  let c0_618 : Index := 0#32
  ![15, v2088.toNat, 0]
def k0_off151 (i : grid0.Coords) (c0_i32_585 : BitVec 32) : Fin 3 → Nat :=
  let c16_619 : Index := 16#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2092 : Index := Scalar.indexCast v2027
  let c0_620 : Index := 0#32
  ![16, v2092.toNat, 0]
def k0_off152 (i : grid0.Coords) (c0_i32_585 : BitVec 32) : Fin 3 → Nat :=
  let c17_621 : Index := 17#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2096 : Index := Scalar.indexCast v2027
  let c0_622 : Index := 0#32
  ![17, v2096.toNat, 0]
def k0_off153 (i : grid0.Coords) (c0_i32_585 : BitVec 32) : Fin 3 → Nat :=
  let c18_623 : Index := 18#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2100 : Index := Scalar.indexCast v2027
  let c0_624 : Index := 0#32
  ![18, v2100.toNat, 0]
def k0_off154 (i : grid0.Coords) (c0_i32_585 : BitVec 32) : Fin 3 → Nat :=
  let c19_625 : Index := 19#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2104 : Index := Scalar.indexCast v2027
  let c0_626 : Index := 0#32
  ![19, v2104.toNat, 0]
def k0_off155 (i : grid0.Coords) (c0_i32_585 : BitVec 32) : Fin 3 → Nat :=
  let c20_627 : Index := 20#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2108 : Index := Scalar.indexCast v2027
  let c0_628 : Index := 0#32
  ![20, v2108.toNat, 0]
def k0_off156 (i : grid0.Coords) (c0_i32_585 : BitVec 32) : Fin 3 → Nat :=
  let c21_629 : Index := 21#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2112 : Index := Scalar.indexCast v2027
  let c0_630 : Index := 0#32
  ![21, v2112.toNat, 0]
def k0_off157 (i : grid0.Coords) (c0_i32_585 : BitVec 32) : Fin 3 → Nat :=
  let c22_631 : Index := 22#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2116 : Index := Scalar.indexCast v2027
  let c0_632 : Index := 0#32
  ![22, v2116.toNat, 0]
def k0_off158 (i : grid0.Coords) (c0_i32_585 : BitVec 32) : Fin 3 → Nat :=
  let c23_633 : Index := 23#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2120 : Index := Scalar.indexCast v2027
  let c0_634 : Index := 0#32
  ![23, v2120.toNat, 0]
def k0_off159 (i : grid0.Coords) (c0_i32_585 : BitVec 32) : Fin 3 → Nat :=
  let c24_635 : Index := 24#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2124 : Index := Scalar.indexCast v2027
  let c0_636 : Index := 0#32
  ![24, v2124.toNat, 0]
def k0_off160 (i : grid0.Coords) (c0_i32_585 : BitVec 32) : Fin 3 → Nat :=
  let c25_637 : Index := 25#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2128 : Index := Scalar.indexCast v2027
  let c0_638 : Index := 0#32
  ![25, v2128.toNat, 0]
def k0_off161 (i : grid0.Coords) (c0_i32_585 : BitVec 32) : Fin 3 → Nat :=
  let c26_639 : Index := 26#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2132 : Index := Scalar.indexCast v2027
  let c0_640 : Index := 0#32
  ![26, v2132.toNat, 0]
def k0_off162 (i : grid0.Coords) (c0_i32_585 : BitVec 32) : Fin 3 → Nat :=
  let c27_641 : Index := 27#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2136 : Index := Scalar.indexCast v2027
  let c0_642 : Index := 0#32
  ![27, v2136.toNat, 0]
def k0_off163 (i : grid0.Coords) (c0_i32_585 : BitVec 32) : Fin 3 → Nat :=
  let c28_643 : Index := 28#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2140 : Index := Scalar.indexCast v2027
  let c0_644 : Index := 0#32
  ![28, v2140.toNat, 0]
def k0_off164 (i : grid0.Coords) (c0_i32_585 : BitVec 32) : Fin 3 → Nat :=
  let c29_645 : Index := 29#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2144 : Index := Scalar.indexCast v2027
  let c0_646 : Index := 0#32
  ![29, v2144.toNat, 0]
def k0_off165 (i : grid0.Coords) (c0_i32_585 : BitVec 32) : Fin 3 → Nat :=
  let c30_647 : Index := 30#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2148 : Index := Scalar.indexCast v2027
  let c0_648 : Index := 0#32
  ![30, v2148.toNat, 0]
def k0_off166 (i : grid0.Coords) (c0_i32_585 : BitVec 32) : Fin 3 → Nat :=
  let c31_649 : Index := 31#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_584 : BitVec 32 := 2#32
  let v2024 : BitVec 32 := Scalar.muli v1015 c2_i32_584
  let v2025 : BitVec 32 := Scalar.addi v2024 c0_i32_585
  let c8_i32_586 : BitVec 32 := 8#32
  let v2026 : BitVec 32 := Scalar.muli v2025 c8_i32_586
  let v2027 : BitVec 32 := v2026
  let v2152 : Index := Scalar.indexCast v2027
  let c0_650 : Index := 0#32
  ![31, v2152.toNat, 0]
def k0_mult28 (i : grid0.Coords) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let c0_i32_898 : BitVec 32 := 0#32
  let v2926 : BitVec 32 := Scalar.addi v2925 c0_i32_898
  let c8_i32_899 : BitVec 32 := 8#32
  let v2927 : BitVec 32 := Scalar.muli v2926 c8_i32_899
  v2927
def k0_off167 (i : grid0.Coords) (c0_i32_898 : BitVec 32) : Fin 3 → Nat :=
  let c0_900 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v2929 : Index := Scalar.indexCast v2928
  let c0_901 : Index := 0#32
  ![0, v2929.toNat, 0]
def k0_off168 (i : grid0.Coords) (c0_i32_898 : BitVec 32) : Fin 3 → Nat :=
  let c1_902 : Index := 1#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v2933 : Index := Scalar.indexCast v2928
  let c0_903 : Index := 0#32
  ![1, v2933.toNat, 0]
def k0_off169 (i : grid0.Coords) (c0_i32_898 : BitVec 32) : Fin 3 → Nat :=
  let c2_904 : Index := 2#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v2937 : Index := Scalar.indexCast v2928
  let c0_905 : Index := 0#32
  ![2, v2937.toNat, 0]
def k0_off170 (i : grid0.Coords) (c0_i32_898 : BitVec 32) : Fin 3 → Nat :=
  let c3_906 : Index := 3#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v2941 : Index := Scalar.indexCast v2928
  let c0_907 : Index := 0#32
  ![3, v2941.toNat, 0]
def k0_off171 (i : grid0.Coords) (c0_i32_898 : BitVec 32) : Fin 3 → Nat :=
  let c4_908 : Index := 4#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v2945 : Index := Scalar.indexCast v2928
  let c0_909 : Index := 0#32
  ![4, v2945.toNat, 0]
def k0_off172 (i : grid0.Coords) (c0_i32_898 : BitVec 32) : Fin 3 → Nat :=
  let c5_910 : Index := 5#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v2949 : Index := Scalar.indexCast v2928
  let c0_911 : Index := 0#32
  ![5, v2949.toNat, 0]
def k0_off173 (i : grid0.Coords) (c0_i32_898 : BitVec 32) : Fin 3 → Nat :=
  let c6_912 : Index := 6#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v2953 : Index := Scalar.indexCast v2928
  let c0_913 : Index := 0#32
  ![6, v2953.toNat, 0]
def k0_off174 (i : grid0.Coords) (c0_i32_898 : BitVec 32) : Fin 3 → Nat :=
  let c7_914 : Index := 7#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v2957 : Index := Scalar.indexCast v2928
  let c0_915 : Index := 0#32
  ![7, v2957.toNat, 0]
def k0_off175 (i : grid0.Coords) (c0_i32_898 : BitVec 32) : Fin 3 → Nat :=
  let c8_916 : Index := 8#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v2961 : Index := Scalar.indexCast v2928
  let c0_917 : Index := 0#32
  ![8, v2961.toNat, 0]
def k0_off176 (i : grid0.Coords) (c0_i32_898 : BitVec 32) : Fin 3 → Nat :=
  let c9_918 : Index := 9#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v2965 : Index := Scalar.indexCast v2928
  let c0_919 : Index := 0#32
  ![9, v2965.toNat, 0]
def k0_off177 (i : grid0.Coords) (c0_i32_898 : BitVec 32) : Fin 3 → Nat :=
  let c10_920 : Index := 10#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v2969 : Index := Scalar.indexCast v2928
  let c0_921 : Index := 0#32
  ![10, v2969.toNat, 0]
def k0_off178 (i : grid0.Coords) (c0_i32_898 : BitVec 32) : Fin 3 → Nat :=
  let c11_922 : Index := 11#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v2973 : Index := Scalar.indexCast v2928
  let c0_923 : Index := 0#32
  ![11, v2973.toNat, 0]
def k0_off179 (i : grid0.Coords) (c0_i32_898 : BitVec 32) : Fin 3 → Nat :=
  let c12_924 : Index := 12#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v2977 : Index := Scalar.indexCast v2928
  let c0_925 : Index := 0#32
  ![12, v2977.toNat, 0]
def k0_off180 (i : grid0.Coords) (c0_i32_898 : BitVec 32) : Fin 3 → Nat :=
  let c13_926 : Index := 13#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v2981 : Index := Scalar.indexCast v2928
  let c0_927 : Index := 0#32
  ![13, v2981.toNat, 0]
def k0_off181 (i : grid0.Coords) (c0_i32_898 : BitVec 32) : Fin 3 → Nat :=
  let c14_928 : Index := 14#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v2985 : Index := Scalar.indexCast v2928
  let c0_929 : Index := 0#32
  ![14, v2985.toNat, 0]
def k0_off182 (i : grid0.Coords) (c0_i32_898 : BitVec 32) : Fin 3 → Nat :=
  let c15_930 : Index := 15#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v2989 : Index := Scalar.indexCast v2928
  let c0_931 : Index := 0#32
  ![15, v2989.toNat, 0]
def k0_off183 (i : grid0.Coords) (c0_i32_898 : BitVec 32) : Fin 3 → Nat :=
  let c16_932 : Index := 16#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v2993 : Index := Scalar.indexCast v2928
  let c0_933 : Index := 0#32
  ![16, v2993.toNat, 0]
def k0_off184 (i : grid0.Coords) (c0_i32_898 : BitVec 32) : Fin 3 → Nat :=
  let c17_934 : Index := 17#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v2997 : Index := Scalar.indexCast v2928
  let c0_935 : Index := 0#32
  ![17, v2997.toNat, 0]
def k0_off185 (i : grid0.Coords) (c0_i32_898 : BitVec 32) : Fin 3 → Nat :=
  let c18_936 : Index := 18#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v3001 : Index := Scalar.indexCast v2928
  let c0_937 : Index := 0#32
  ![18, v3001.toNat, 0]
def k0_off186 (i : grid0.Coords) (c0_i32_898 : BitVec 32) : Fin 3 → Nat :=
  let c19_938 : Index := 19#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v3005 : Index := Scalar.indexCast v2928
  let c0_939 : Index := 0#32
  ![19, v3005.toNat, 0]
def k0_off187 (i : grid0.Coords) (c0_i32_898 : BitVec 32) : Fin 3 → Nat :=
  let c20_940 : Index := 20#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v3009 : Index := Scalar.indexCast v2928
  let c0_941 : Index := 0#32
  ![20, v3009.toNat, 0]
def k0_off188 (i : grid0.Coords) (c0_i32_898 : BitVec 32) : Fin 3 → Nat :=
  let c21_942 : Index := 21#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v3013 : Index := Scalar.indexCast v2928
  let c0_943 : Index := 0#32
  ![21, v3013.toNat, 0]
def k0_off189 (i : grid0.Coords) (c0_i32_898 : BitVec 32) : Fin 3 → Nat :=
  let c22_944 : Index := 22#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v3017 : Index := Scalar.indexCast v2928
  let c0_945 : Index := 0#32
  ![22, v3017.toNat, 0]
def k0_off190 (i : grid0.Coords) (c0_i32_898 : BitVec 32) : Fin 3 → Nat :=
  let c23_946 : Index := 23#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v3021 : Index := Scalar.indexCast v2928
  let c0_947 : Index := 0#32
  ![23, v3021.toNat, 0]
def k0_off191 (i : grid0.Coords) (c0_i32_898 : BitVec 32) : Fin 3 → Nat :=
  let c24_948 : Index := 24#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v3025 : Index := Scalar.indexCast v2928
  let c0_949 : Index := 0#32
  ![24, v3025.toNat, 0]
def k0_off192 (i : grid0.Coords) (c0_i32_898 : BitVec 32) : Fin 3 → Nat :=
  let c25_950 : Index := 25#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v3029 : Index := Scalar.indexCast v2928
  let c0_951 : Index := 0#32
  ![25, v3029.toNat, 0]
def k0_off193 (i : grid0.Coords) (c0_i32_898 : BitVec 32) : Fin 3 → Nat :=
  let c26_952 : Index := 26#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v3033 : Index := Scalar.indexCast v2928
  let c0_953 : Index := 0#32
  ![26, v3033.toNat, 0]
def k0_off194 (i : grid0.Coords) (c0_i32_898 : BitVec 32) : Fin 3 → Nat :=
  let c27_954 : Index := 27#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v3037 : Index := Scalar.indexCast v2928
  let c0_955 : Index := 0#32
  ![27, v3037.toNat, 0]
def k0_off195 (i : grid0.Coords) (c0_i32_898 : BitVec 32) : Fin 3 → Nat :=
  let c28_956 : Index := 28#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v3041 : Index := Scalar.indexCast v2928
  let c0_957 : Index := 0#32
  ![28, v3041.toNat, 0]
def k0_off196 (i : grid0.Coords) (c0_i32_898 : BitVec 32) : Fin 3 → Nat :=
  let c29_958 : Index := 29#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v3045 : Index := Scalar.indexCast v2928
  let c0_959 : Index := 0#32
  ![29, v3045.toNat, 0]
def k0_off197 (i : grid0.Coords) (c0_i32_898 : BitVec 32) : Fin 3 → Nat :=
  let c30_960 : Index := 30#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v3049 : Index := Scalar.indexCast v2928
  let c0_961 : Index := 0#32
  ![30, v3049.toNat, 0]
def k0_off198 (i : grid0.Coords) (c0_i32_898 : BitVec 32) : Fin 3 → Nat :=
  let c31_962 : Index := 31#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_897 : BitVec 32 := 2#32
  let v2925 : BitVec 32 := Scalar.muli v1016 c2_i32_897
  let v2926 : BitVec 32 := Scalar.addi v2925 c0_i32_898
  let c8_i32_899 : BitVec 32 := 8#32
  let v2927 : BitVec 32 := Scalar.muli v2926 c8_i32_899
  let v2928 : BitVec 32 := v2927
  let v3053 : Index := Scalar.indexCast v2928
  let c0_963 : Index := 0#32
  ![31, v3053.toNat, 0]
def k0_mult29 (i : grid0.Coords) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c2_i32_1204 : BitVec 32 := 2#32
  let v3809 : BitVec 32 := Scalar.muli v1015 c2_i32_1204
  let c1_i32_1205 : BitVec 32 := 1#32
  let v3810 : BitVec 32 := Scalar.addi v3809 c1_i32_1205
  let c8_i32_1206 : BitVec 32 := 8#32
  let v3811 : BitVec 32 := Scalar.muli v3810 c8_i32_1206
  v3811
def k0_mult30 (i : grid0.Coords) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c2_i32_1511 : BitVec 32 := 2#32
  let v4693 : BitVec 32 := Scalar.muli v1016 c2_i32_1511
  let c1_i32_1512 : BitVec 32 := 1#32
  let v4694 : BitVec 32 := Scalar.addi v4693 c1_i32_1512
  let c8_i32_1513 : BitVec 32 := 8#32
  let v4695 : BitVec 32 := Scalar.muli v4694 c8_i32_1513
  v4695
def k0_cond3 (i : grid0.Coords) : BitVec 1 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32_33 : BitVec 32 := 2#32
  let c0_i32_34 : BitVec 32 := 0#32
  let v71 : BitVec 1 := Scalar.cmpi .eq c2_i32_33 c0_i32_34
  let c1_i32_35 : BitVec 32 := 1#32
  let v72 : BitVec 32 := Scalar.select v71 c1_i32_35 c2_i32_33
  let v73 : BitVec 32 := Scalar.remsi v20 v72
  let c0_i32_37 : BitVec 32 := 0#32
  let v75 : BitVec 1 := Scalar.cmpi .slt v73 c0_i32_37
  let c0_i32_38 : BitVec 32 := 0#32
  let v76 : BitVec 1 := Scalar.cmpi .slt v72 c0_i32_38
  let v77 : BitVec 1 := Scalar.xori v75 v76
  let c0_i32_36 : BitVec 32 := 0#32
  let v74 : BitVec 1 := Scalar.cmpi .ne v73 c0_i32_36
  let v78 : BitVec 1 := Scalar.andi v77 v74
  let v79 : BitVec 32 := Scalar.addi v73 v72
  let v80 : BitVec 32 := Scalar.select v78 v79 v73
  let c1_i32_39 : BitVec 32 := 1#32
  let v81 : BitVec 1 := Scalar.cmpi .eq v80 c1_i32_39
  let v82 : BitVec 32 := Scalar.extui v81
  let c0_i32_40 : BitVec 32 := 0#32
  let v83 : BitVec 1 := Scalar.cmpi .ne v82 c0_i32_40
  v83

def k0_mult31 (i : grid0.Coords) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c512_i32_297 : BitVec 32 := 512#32
  let v999 : BitVec 32 := Scalar.muli v998 c512_i32_297
  v999
def k0_off199 (i : grid0.Coords) : Fin 3 → Nat :=
  let c0_298 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c512_i32_297 : BitVec 32 := 512#32
  let v999 : BitVec 32 := Scalar.muli v998 c512_i32_297
  let v1000 : BitVec 32 := v999
  let v1001 : Index := Scalar.indexCast v1000
  let c0_299 : Index := 0#32
  ![0, v1001.toNat, 0]
def k0_mult32 (i : grid0.Coords) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let c0_i32_556 : BitVec 32 := 0#32
  let v1888 : BitVec 32 := Scalar.addi v1887 c0_i32_556
  let c8_i32_557 : BitVec 32 := 8#32
  let v1889 : BitVec 32 := Scalar.muli v1888 c8_i32_557
  v1889
def k0_off200 (i : grid0.Coords) (c0_i32_556 : BitVec 32) : Fin 3 → Nat :=
  let c0_558 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1891 : Index := Scalar.indexCast v1890
  let c0_559 : Index := 0#32
  ![0, v1891.toNat, 0]
def k0_off201 (i : grid0.Coords) (c0_i32_556 : BitVec 32) : Fin 3 → Nat :=
  let c1_560 : Index := 1#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1895 : Index := Scalar.indexCast v1890
  let c0_561 : Index := 0#32
  ![1, v1895.toNat, 0]
def k0_off202 (i : grid0.Coords) (c0_i32_556 : BitVec 32) : Fin 3 → Nat :=
  let c2_562 : Index := 2#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1899 : Index := Scalar.indexCast v1890
  let c0_563 : Index := 0#32
  ![2, v1899.toNat, 0]
def k0_off203 (i : grid0.Coords) (c0_i32_556 : BitVec 32) : Fin 3 → Nat :=
  let c3_564 : Index := 3#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1903 : Index := Scalar.indexCast v1890
  let c0_565 : Index := 0#32
  ![3, v1903.toNat, 0]
def k0_off204 (i : grid0.Coords) (c0_i32_556 : BitVec 32) : Fin 3 → Nat :=
  let c4_566 : Index := 4#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1907 : Index := Scalar.indexCast v1890
  let c0_567 : Index := 0#32
  ![4, v1907.toNat, 0]
def k0_off205 (i : grid0.Coords) (c0_i32_556 : BitVec 32) : Fin 3 → Nat :=
  let c5_568 : Index := 5#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1911 : Index := Scalar.indexCast v1890
  let c0_569 : Index := 0#32
  ![5, v1911.toNat, 0]
def k0_off206 (i : grid0.Coords) (c0_i32_556 : BitVec 32) : Fin 3 → Nat :=
  let c6_570 : Index := 6#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1915 : Index := Scalar.indexCast v1890
  let c0_571 : Index := 0#32
  ![6, v1915.toNat, 0]
def k0_off207 (i : grid0.Coords) (c0_i32_556 : BitVec 32) : Fin 3 → Nat :=
  let c7_572 : Index := 7#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1919 : Index := Scalar.indexCast v1890
  let c0_573 : Index := 0#32
  ![7, v1919.toNat, 0]
def k0_off208 (i : grid0.Coords) (c0_i32_556 : BitVec 32) : Fin 3 → Nat :=
  let c8_574 : Index := 8#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1923 : Index := Scalar.indexCast v1890
  let c0_575 : Index := 0#32
  ![8, v1923.toNat, 0]
def k0_off209 (i : grid0.Coords) (c0_i32_556 : BitVec 32) : Fin 3 → Nat :=
  let c9_576 : Index := 9#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1927 : Index := Scalar.indexCast v1890
  let c0_577 : Index := 0#32
  ![9, v1927.toNat, 0]
def k0_off210 (i : grid0.Coords) (c0_i32_556 : BitVec 32) : Fin 3 → Nat :=
  let c10_578 : Index := 10#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1931 : Index := Scalar.indexCast v1890
  let c0_579 : Index := 0#32
  ![10, v1931.toNat, 0]
def k0_off211 (i : grid0.Coords) (c0_i32_556 : BitVec 32) : Fin 3 → Nat :=
  let c11_580 : Index := 11#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1935 : Index := Scalar.indexCast v1890
  let c0_581 : Index := 0#32
  ![11, v1935.toNat, 0]
def k0_off212 (i : grid0.Coords) (c0_i32_556 : BitVec 32) : Fin 3 → Nat :=
  let c12_582 : Index := 12#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1939 : Index := Scalar.indexCast v1890
  let c0_583 : Index := 0#32
  ![12, v1939.toNat, 0]
def k0_off213 (i : grid0.Coords) (c0_i32_556 : BitVec 32) : Fin 3 → Nat :=
  let c13_584 : Index := 13#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1943 : Index := Scalar.indexCast v1890
  let c0_585 : Index := 0#32
  ![13, v1943.toNat, 0]
def k0_off214 (i : grid0.Coords) (c0_i32_556 : BitVec 32) : Fin 3 → Nat :=
  let c14_586 : Index := 14#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1947 : Index := Scalar.indexCast v1890
  let c0_587 : Index := 0#32
  ![14, v1947.toNat, 0]
def k0_off215 (i : grid0.Coords) (c0_i32_556 : BitVec 32) : Fin 3 → Nat :=
  let c15_588 : Index := 15#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1951 : Index := Scalar.indexCast v1890
  let c0_589 : Index := 0#32
  ![15, v1951.toNat, 0]
def k0_off216 (i : grid0.Coords) (c0_i32_556 : BitVec 32) : Fin 3 → Nat :=
  let c16_590 : Index := 16#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1955 : Index := Scalar.indexCast v1890
  let c0_591 : Index := 0#32
  ![16, v1955.toNat, 0]
def k0_off217 (i : grid0.Coords) (c0_i32_556 : BitVec 32) : Fin 3 → Nat :=
  let c17_592 : Index := 17#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1959 : Index := Scalar.indexCast v1890
  let c0_593 : Index := 0#32
  ![17, v1959.toNat, 0]
def k0_off218 (i : grid0.Coords) (c0_i32_556 : BitVec 32) : Fin 3 → Nat :=
  let c18_594 : Index := 18#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1963 : Index := Scalar.indexCast v1890
  let c0_595 : Index := 0#32
  ![18, v1963.toNat, 0]
def k0_off219 (i : grid0.Coords) (c0_i32_556 : BitVec 32) : Fin 3 → Nat :=
  let c19_596 : Index := 19#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1967 : Index := Scalar.indexCast v1890
  let c0_597 : Index := 0#32
  ![19, v1967.toNat, 0]
def k0_off220 (i : grid0.Coords) (c0_i32_556 : BitVec 32) : Fin 3 → Nat :=
  let c20_598 : Index := 20#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1971 : Index := Scalar.indexCast v1890
  let c0_599 : Index := 0#32
  ![20, v1971.toNat, 0]
def k0_off221 (i : grid0.Coords) (c0_i32_556 : BitVec 32) : Fin 3 → Nat :=
  let c21_600 : Index := 21#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1975 : Index := Scalar.indexCast v1890
  let c0_601 : Index := 0#32
  ![21, v1975.toNat, 0]
def k0_off222 (i : grid0.Coords) (c0_i32_556 : BitVec 32) : Fin 3 → Nat :=
  let c22_602 : Index := 22#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1979 : Index := Scalar.indexCast v1890
  let c0_603 : Index := 0#32
  ![22, v1979.toNat, 0]
def k0_off223 (i : grid0.Coords) (c0_i32_556 : BitVec 32) : Fin 3 → Nat :=
  let c23_604 : Index := 23#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1983 : Index := Scalar.indexCast v1890
  let c0_605 : Index := 0#32
  ![23, v1983.toNat, 0]
def k0_off224 (i : grid0.Coords) (c0_i32_556 : BitVec 32) : Fin 3 → Nat :=
  let c24_606 : Index := 24#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1987 : Index := Scalar.indexCast v1890
  let c0_607 : Index := 0#32
  ![24, v1987.toNat, 0]
def k0_off225 (i : grid0.Coords) (c0_i32_556 : BitVec 32) : Fin 3 → Nat :=
  let c25_608 : Index := 25#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1991 : Index := Scalar.indexCast v1890
  let c0_609 : Index := 0#32
  ![25, v1991.toNat, 0]
def k0_off226 (i : grid0.Coords) (c0_i32_556 : BitVec 32) : Fin 3 → Nat :=
  let c26_610 : Index := 26#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1995 : Index := Scalar.indexCast v1890
  let c0_611 : Index := 0#32
  ![26, v1995.toNat, 0]
def k0_off227 (i : grid0.Coords) (c0_i32_556 : BitVec 32) : Fin 3 → Nat :=
  let c27_612 : Index := 27#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v1999 : Index := Scalar.indexCast v1890
  let c0_613 : Index := 0#32
  ![27, v1999.toNat, 0]
def k0_off228 (i : grid0.Coords) (c0_i32_556 : BitVec 32) : Fin 3 → Nat :=
  let c28_614 : Index := 28#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v2003 : Index := Scalar.indexCast v1890
  let c0_615 : Index := 0#32
  ![28, v2003.toNat, 0]
def k0_off229 (i : grid0.Coords) (c0_i32_556 : BitVec 32) : Fin 3 → Nat :=
  let c29_616 : Index := 29#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v2007 : Index := Scalar.indexCast v1890
  let c0_617 : Index := 0#32
  ![29, v2007.toNat, 0]
def k0_off230 (i : grid0.Coords) (c0_i32_556 : BitVec 32) : Fin 3 → Nat :=
  let c30_618 : Index := 30#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v2011 : Index := Scalar.indexCast v1890
  let c0_619 : Index := 0#32
  ![30, v2011.toNat, 0]
def k0_off231 (i : grid0.Coords) (c0_i32_556 : BitVec 32) : Fin 3 → Nat :=
  let c31_620 : Index := 31#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_555 : BitVec 32 := 2#32
  let v1887 : BitVec 32 := Scalar.muli v998 c2_i32_555
  let v1888 : BitVec 32 := Scalar.addi v1887 c0_i32_556
  let c8_i32_557 : BitVec 32 := 8#32
  let v1889 : BitVec 32 := Scalar.muli v1888 c8_i32_557
  let v1890 : BitVec 32 := v1889
  let v2015 : Index := Scalar.indexCast v1890
  let c0_621 : Index := 0#32
  ![31, v2015.toNat, 0]
def k0_mult33 (i : grid0.Coords) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c2_i32_862 : BitVec 32 := 2#32
  let v2771 : BitVec 32 := Scalar.muli v998 c2_i32_862
  let c1_i32_863 : BitVec 32 := 1#32
  let v2772 : BitVec 32 := Scalar.addi v2771 c1_i32_863
  let c8_i32_864 : BitVec 32 := 8#32
  let v2773 : BitVec 32 := Scalar.muli v2772 c8_i32_864
  v2773
@[reducible] def k0_t3_loop : Scf.Loop 32 :=
  let c0_i32_297 : BitVec 32 := 0#32
  let c14_i32 : BitVec 32 := 14#32
  let v999 : BitVec 32 := Scalar.addi c0_i32_297 c14_i32
  let c1_i32_298 : BitVec 32 := 1#32
  ⟨c0_i32_297, v999, c1_i32_298⟩
@[reducible] def k0_t4_loop (i : grid0.Coords) : Scf.Loop 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_224 : BitVec 32 := 1#32
  ⟨c0_i32_222, v849, c1_i32_224⟩
def k0_mult34 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  v998
def k0_mult35 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c2_i32_297 : BitVec 32 := 2#32
  let v1000 : BitVec 32 := Scalar.muli arg17 c2_i32_297
  let c0_i32_298 : BitVec 32 := 0#32
  let v1001 : BitVec 32 := Scalar.addi v1000 c0_i32_298
  let c8_i32 : BitVec 32 := 8#32
  let v1002 : BitVec 32 := Scalar.muli v1001 c8_i32
  v1002
def k0_off232 (i : grid0.Coords) (k0_t4 : Fin (k0_t4_loop i).trips) (c0_i32_298 : BitVec 32) : Fin 2 → Nat :=
  let c0_i32_222 : BitVec 32 := 0#32
  let c1_i32_224 : BitVec 32 := 1#32
  let arg17 : BitVec 32 := Scf.iv c0_i32_222 c1_i32_224 k0_t4
  let c2_i32_297 : BitVec 32 := 2#32
  let v1000 : BitVec 32 := Scalar.muli arg17 c2_i32_297
  let v1001 : BitVec 32 := Scalar.addi v1000 c0_i32_298
  let c8_i32 : BitVec 32 := 8#32
  let v1002 : BitVec 32 := Scalar.muli v1001 c8_i32
  let v1003 : BitVec 32 := v1002
  let v1004 : Index := Scalar.indexCast v1003
  let c0_299 : Index := 0#32
  ![v1004.toNat, 0]
def k0_mult36 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_300 : BitVec 32 := 0#32
  let v1006 : BitVec 32 := Scalar.addi v999 c0_i32_300
  let c0_i32_301 : BitVec 32 := 0#32
  let v1007 : BitVec 32 := Scalar.addi v1006 c0_i32_301
  v1007
def k0_off233 (i : grid0.Coords) (k0_t4 : Fin (k0_t4_loop i).trips) (c0_i32_300 : BitVec 32) (c0_i32_301 : BitVec 32) : Fin 2 → Nat :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let v1006 : BitVec 32 := Scalar.addi v999 c0_i32_300
  let v1007 : BitVec 32 := Scalar.addi v1006 c0_i32_301
  let v1008 : BitVec 32 := v1007
  let v1016 : Index := Scalar.indexCast v1008
  let c0_306 : Index := 0#32
  ![v1016.toNat, 0]
def k0_mult37 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_307 : BitVec 32 := 0#32
  let v1020 : BitVec 32 := Scalar.addi v999 c0_i32_307
  let c8_i32_308 : BitVec 32 := 8#32
  let v1021 : BitVec 32 := Scalar.addi v1020 c8_i32_308
  v1021
def k0_mult38 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_314 : BitVec 32 := 0#32
  let v1034 : BitVec 32 := Scalar.addi v999 c0_i32_314
  let c16_i32 : BitVec 32 := 16#32
  let v1035 : BitVec 32 := Scalar.addi v1034 c16_i32
  v1035
def k0_mult39 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_320 : BitVec 32 := 0#32
  let v1048 : BitVec 32 := Scalar.addi v999 c0_i32_320
  let c24_i32 : BitVec 32 := 24#32
  let v1049 : BitVec 32 := Scalar.addi v1048 c24_i32
  v1049
def k0_mult40 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_326 : BitVec 32 := 0#32
  let v1062 : BitVec 32 := Scalar.addi v999 c0_i32_326
  let c32_i32_327 : BitVec 32 := 32#32
  let v1063 : BitVec 32 := Scalar.addi v1062 c32_i32_327
  v1063
def k0_mult41 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_333 : BitVec 32 := 0#32
  let v1076 : BitVec 32 := Scalar.addi v999 c0_i32_333
  let c40_i32 : BitVec 32 := 40#32
  let v1077 : BitVec 32 := Scalar.addi v1076 c40_i32
  v1077
def k0_mult42 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_338 : BitVec 32 := 0#32
  let v1090 : BitVec 32 := Scalar.addi v999 c0_i32_338
  let c48_i32 : BitVec 32 := 48#32
  let v1091 : BitVec 32 := Scalar.addi v1090 c48_i32
  v1091
def k0_mult43 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_343 : BitVec 32 := 0#32
  let v1104 : BitVec 32 := Scalar.addi v999 c0_i32_343
  let c56_i32 : BitVec 32 := 56#32
  let v1105 : BitVec 32 := Scalar.addi v1104 c56_i32
  v1105
def k0_mult44 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_349 : BitVec 32 := 0#32
  let v1118 : BitVec 32 := Scalar.addi v999 c0_i32_349
  let c64_i32 : BitVec 32 := 64#32
  let v1119 : BitVec 32 := Scalar.addi v1118 c64_i32
  v1119
def k0_mult45 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_355 : BitVec 32 := 0#32
  let v1132 : BitVec 32 := Scalar.addi v999 c0_i32_355
  let c72_i32 : BitVec 32 := 72#32
  let v1133 : BitVec 32 := Scalar.addi v1132 c72_i32
  v1133
def k0_mult46 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_360 : BitVec 32 := 0#32
  let v1146 : BitVec 32 := Scalar.addi v999 c0_i32_360
  let c80_i32 : BitVec 32 := 80#32
  let v1147 : BitVec 32 := Scalar.addi v1146 c80_i32
  v1147
def k0_mult47 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_365 : BitVec 32 := 0#32
  let v1160 : BitVec 32 := Scalar.addi v999 c0_i32_365
  let c88_i32 : BitVec 32 := 88#32
  let v1161 : BitVec 32 := Scalar.addi v1160 c88_i32
  v1161
def k0_mult48 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_370 : BitVec 32 := 0#32
  let v1174 : BitVec 32 := Scalar.addi v999 c0_i32_370
  let c96_i32 : BitVec 32 := 96#32
  let v1175 : BitVec 32 := Scalar.addi v1174 c96_i32
  v1175
def k0_mult49 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_375 : BitVec 32 := 0#32
  let v1188 : BitVec 32 := Scalar.addi v999 c0_i32_375
  let c104_i32 : BitVec 32 := 104#32
  let v1189 : BitVec 32 := Scalar.addi v1188 c104_i32
  v1189
def k0_mult50 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_380 : BitVec 32 := 0#32
  let v1202 : BitVec 32 := Scalar.addi v999 c0_i32_380
  let c112_i32 : BitVec 32 := 112#32
  let v1203 : BitVec 32 := Scalar.addi v1202 c112_i32
  v1203
def k0_mult51 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_385 : BitVec 32 := 0#32
  let v1216 : BitVec 32 := Scalar.addi v999 c0_i32_385
  let c120_i32 : BitVec 32 := 120#32
  let v1217 : BitVec 32 := Scalar.addi v1216 c120_i32
  v1217
def k0_mult52 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_390 : BitVec 32 := 0#32
  let v1230 : BitVec 32 := Scalar.addi v999 c0_i32_390
  let c128_i32_391 : BitVec 32 := 128#32
  let v1231 : BitVec 32 := Scalar.addi v1230 c128_i32_391
  v1231
def k0_mult53 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_397 : BitVec 32 := 0#32
  let v1244 : BitVec 32 := Scalar.addi v999 c0_i32_397
  let c136_i32 : BitVec 32 := 136#32
  let v1245 : BitVec 32 := Scalar.addi v1244 c136_i32
  v1245
def k0_mult54 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_402 : BitVec 32 := 0#32
  let v1258 : BitVec 32 := Scalar.addi v999 c0_i32_402
  let c144_i32 : BitVec 32 := 144#32
  let v1259 : BitVec 32 := Scalar.addi v1258 c144_i32
  v1259
def k0_mult55 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_407 : BitVec 32 := 0#32
  let v1272 : BitVec 32 := Scalar.addi v999 c0_i32_407
  let c152_i32 : BitVec 32 := 152#32
  let v1273 : BitVec 32 := Scalar.addi v1272 c152_i32
  v1273
def k0_mult56 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_412 : BitVec 32 := 0#32
  let v1286 : BitVec 32 := Scalar.addi v999 c0_i32_412
  let c160_i32 : BitVec 32 := 160#32
  let v1287 : BitVec 32 := Scalar.addi v1286 c160_i32
  v1287
def k0_mult57 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_417 : BitVec 32 := 0#32
  let v1300 : BitVec 32 := Scalar.addi v999 c0_i32_417
  let c168_i32 : BitVec 32 := 168#32
  let v1301 : BitVec 32 := Scalar.addi v1300 c168_i32
  v1301
def k0_mult58 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_422 : BitVec 32 := 0#32
  let v1314 : BitVec 32 := Scalar.addi v999 c0_i32_422
  let c176_i32 : BitVec 32 := 176#32
  let v1315 : BitVec 32 := Scalar.addi v1314 c176_i32
  v1315
def k0_mult59 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_427 : BitVec 32 := 0#32
  let v1328 : BitVec 32 := Scalar.addi v999 c0_i32_427
  let c184_i32 : BitVec 32 := 184#32
  let v1329 : BitVec 32 := Scalar.addi v1328 c184_i32
  v1329
def k0_mult60 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_432 : BitVec 32 := 0#32
  let v1342 : BitVec 32 := Scalar.addi v999 c0_i32_432
  let c192_i32 : BitVec 32 := 192#32
  let v1343 : BitVec 32 := Scalar.addi v1342 c192_i32
  v1343
def k0_mult61 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_438 : BitVec 32 := 0#32
  let v1356 : BitVec 32 := Scalar.addi v999 c0_i32_438
  let c200_i32 : BitVec 32 := 200#32
  let v1357 : BitVec 32 := Scalar.addi v1356 c200_i32
  v1357
def k0_mult62 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_443 : BitVec 32 := 0#32
  let v1370 : BitVec 32 := Scalar.addi v999 c0_i32_443
  let c208_i32 : BitVec 32 := 208#32
  let v1371 : BitVec 32 := Scalar.addi v1370 c208_i32
  v1371
def k0_mult63 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_448 : BitVec 32 := 0#32
  let v1384 : BitVec 32 := Scalar.addi v999 c0_i32_448
  let c216_i32 : BitVec 32 := 216#32
  let v1385 : BitVec 32 := Scalar.addi v1384 c216_i32
  v1385
def k0_mult64 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_453 : BitVec 32 := 0#32
  let v1398 : BitVec 32 := Scalar.addi v999 c0_i32_453
  let c224_i32 : BitVec 32 := 224#32
  let v1399 : BitVec 32 := Scalar.addi v1398 c224_i32
  v1399
def k0_mult65 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_458 : BitVec 32 := 0#32
  let v1412 : BitVec 32 := Scalar.addi v999 c0_i32_458
  let c232_i32 : BitVec 32 := 232#32
  let v1413 : BitVec 32 := Scalar.addi v1412 c232_i32
  v1413
def k0_mult66 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_463 : BitVec 32 := 0#32
  let v1426 : BitVec 32 := Scalar.addi v999 c0_i32_463
  let c240_i32 : BitVec 32 := 240#32
  let v1427 : BitVec 32 := Scalar.addi v1426 c240_i32
  v1427
def k0_mult67 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c0_i32_468 : BitVec 32 := 0#32
  let v1440 : BitVec 32 := Scalar.addi v999 c0_i32_468
  let c248_i32 : BitVec 32 := 248#32
  let v1441 : BitVec 32 := Scalar.addi v1440 c248_i32
  v1441
def k0_mult68 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c2_i32_473 : BitVec 32 := 2#32
  let v1454 : BitVec 32 := Scalar.muli arg17 c2_i32_473
  let c1_i32_474 : BitVec 32 := 1#32
  let v1455 : BitVec 32 := Scalar.addi v1454 c1_i32_474
  let c8_i32_475 : BitVec 32 := 8#32
  let v1456 : BitVec 32 := Scalar.muli v1455 c8_i32_475
  v1456
def k0_mult69 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_477 : BitVec 32 := 256#32
  let v1460 : BitVec 32 := Scalar.addi v999 c256_i32_477
  let c0_i32_478 : BitVec 32 := 0#32
  let v1461 : BitVec 32 := Scalar.addi v1460 c0_i32_478
  v1461
def k0_mult70 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_484 : BitVec 32 := 256#32
  let v1474 : BitVec 32 := Scalar.addi v999 c256_i32_484
  let c8_i32_485 : BitVec 32 := 8#32
  let v1475 : BitVec 32 := Scalar.addi v1474 c8_i32_485
  v1475
def k0_mult71 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_491 : BitVec 32 := 256#32
  let v1488 : BitVec 32 := Scalar.addi v999 c256_i32_491
  let c16_i32_492 : BitVec 32 := 16#32
  let v1489 : BitVec 32 := Scalar.addi v1488 c16_i32_492
  v1489
def k0_mult72 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_498 : BitVec 32 := 256#32
  let v1502 : BitVec 32 := Scalar.addi v999 c256_i32_498
  let c24_i32_499 : BitVec 32 := 24#32
  let v1503 : BitVec 32 := Scalar.addi v1502 c24_i32_499
  v1503
def k0_mult73 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_505 : BitVec 32 := 256#32
  let v1516 : BitVec 32 := Scalar.addi v999 c256_i32_505
  let c32_i32_506 : BitVec 32 := 32#32
  let v1517 : BitVec 32 := Scalar.addi v1516 c32_i32_506
  v1517
def k0_mult74 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_512 : BitVec 32 := 256#32
  let v1530 : BitVec 32 := Scalar.addi v999 c256_i32_512
  let c40_i32_513 : BitVec 32 := 40#32
  let v1531 : BitVec 32 := Scalar.addi v1530 c40_i32_513
  v1531
def k0_mult75 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_519 : BitVec 32 := 256#32
  let v1544 : BitVec 32 := Scalar.addi v999 c256_i32_519
  let c48_i32_520 : BitVec 32 := 48#32
  let v1545 : BitVec 32 := Scalar.addi v1544 c48_i32_520
  v1545
def k0_mult76 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_526 : BitVec 32 := 256#32
  let v1558 : BitVec 32 := Scalar.addi v999 c256_i32_526
  let c56_i32_527 : BitVec 32 := 56#32
  let v1559 : BitVec 32 := Scalar.addi v1558 c56_i32_527
  v1559
def k0_mult77 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_533 : BitVec 32 := 256#32
  let v1572 : BitVec 32 := Scalar.addi v999 c256_i32_533
  let c64_i32_534 : BitVec 32 := 64#32
  let v1573 : BitVec 32 := Scalar.addi v1572 c64_i32_534
  v1573
def k0_mult78 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_540 : BitVec 32 := 256#32
  let v1586 : BitVec 32 := Scalar.addi v999 c256_i32_540
  let c72_i32_541 : BitVec 32 := 72#32
  let v1587 : BitVec 32 := Scalar.addi v1586 c72_i32_541
  v1587
def k0_mult79 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_547 : BitVec 32 := 256#32
  let v1600 : BitVec 32 := Scalar.addi v999 c256_i32_547
  let c80_i32_548 : BitVec 32 := 80#32
  let v1601 : BitVec 32 := Scalar.addi v1600 c80_i32_548
  v1601
def k0_mult80 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_554 : BitVec 32 := 256#32
  let v1614 : BitVec 32 := Scalar.addi v999 c256_i32_554
  let c88_i32_555 : BitVec 32 := 88#32
  let v1615 : BitVec 32 := Scalar.addi v1614 c88_i32_555
  v1615
def k0_mult81 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_561 : BitVec 32 := 256#32
  let v1628 : BitVec 32 := Scalar.addi v999 c256_i32_561
  let c96_i32_562 : BitVec 32 := 96#32
  let v1629 : BitVec 32 := Scalar.addi v1628 c96_i32_562
  v1629
def k0_mult82 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_568 : BitVec 32 := 256#32
  let v1642 : BitVec 32 := Scalar.addi v999 c256_i32_568
  let c104_i32_569 : BitVec 32 := 104#32
  let v1643 : BitVec 32 := Scalar.addi v1642 c104_i32_569
  v1643
def k0_mult83 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_575 : BitVec 32 := 256#32
  let v1656 : BitVec 32 := Scalar.addi v999 c256_i32_575
  let c112_i32_576 : BitVec 32 := 112#32
  let v1657 : BitVec 32 := Scalar.addi v1656 c112_i32_576
  v1657
def k0_mult84 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_582 : BitVec 32 := 256#32
  let v1670 : BitVec 32 := Scalar.addi v999 c256_i32_582
  let c120_i32_583 : BitVec 32 := 120#32
  let v1671 : BitVec 32 := Scalar.addi v1670 c120_i32_583
  v1671
def k0_mult85 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_589 : BitVec 32 := 256#32
  let v1684 : BitVec 32 := Scalar.addi v999 c256_i32_589
  let c128_i32_590 : BitVec 32 := 128#32
  let v1685 : BitVec 32 := Scalar.addi v1684 c128_i32_590
  v1685
def k0_mult86 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_596 : BitVec 32 := 256#32
  let v1698 : BitVec 32 := Scalar.addi v999 c256_i32_596
  let c136_i32_597 : BitVec 32 := 136#32
  let v1699 : BitVec 32 := Scalar.addi v1698 c136_i32_597
  v1699
def k0_mult87 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_603 : BitVec 32 := 256#32
  let v1712 : BitVec 32 := Scalar.addi v999 c256_i32_603
  let c144_i32_604 : BitVec 32 := 144#32
  let v1713 : BitVec 32 := Scalar.addi v1712 c144_i32_604
  v1713
def k0_mult88 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_610 : BitVec 32 := 256#32
  let v1726 : BitVec 32 := Scalar.addi v999 c256_i32_610
  let c152_i32_611 : BitVec 32 := 152#32
  let v1727 : BitVec 32 := Scalar.addi v1726 c152_i32_611
  v1727
def k0_mult89 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_617 : BitVec 32 := 256#32
  let v1740 : BitVec 32 := Scalar.addi v999 c256_i32_617
  let c160_i32_618 : BitVec 32 := 160#32
  let v1741 : BitVec 32 := Scalar.addi v1740 c160_i32_618
  v1741
def k0_mult90 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_624 : BitVec 32 := 256#32
  let v1754 : BitVec 32 := Scalar.addi v999 c256_i32_624
  let c168_i32_625 : BitVec 32 := 168#32
  let v1755 : BitVec 32 := Scalar.addi v1754 c168_i32_625
  v1755
def k0_mult91 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_631 : BitVec 32 := 256#32
  let v1768 : BitVec 32 := Scalar.addi v999 c256_i32_631
  let c176_i32_632 : BitVec 32 := 176#32
  let v1769 : BitVec 32 := Scalar.addi v1768 c176_i32_632
  v1769
def k0_mult92 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_638 : BitVec 32 := 256#32
  let v1782 : BitVec 32 := Scalar.addi v999 c256_i32_638
  let c184_i32_639 : BitVec 32 := 184#32
  let v1783 : BitVec 32 := Scalar.addi v1782 c184_i32_639
  v1783
def k0_mult93 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_645 : BitVec 32 := 256#32
  let v1796 : BitVec 32 := Scalar.addi v999 c256_i32_645
  let c192_i32_646 : BitVec 32 := 192#32
  let v1797 : BitVec 32 := Scalar.addi v1796 c192_i32_646
  v1797
def k0_mult94 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_652 : BitVec 32 := 256#32
  let v1810 : BitVec 32 := Scalar.addi v999 c256_i32_652
  let c200_i32_653 : BitVec 32 := 200#32
  let v1811 : BitVec 32 := Scalar.addi v1810 c200_i32_653
  v1811
def k0_mult95 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_659 : BitVec 32 := 256#32
  let v1824 : BitVec 32 := Scalar.addi v999 c256_i32_659
  let c208_i32_660 : BitVec 32 := 208#32
  let v1825 : BitVec 32 := Scalar.addi v1824 c208_i32_660
  v1825
def k0_mult96 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_666 : BitVec 32 := 256#32
  let v1838 : BitVec 32 := Scalar.addi v999 c256_i32_666
  let c216_i32_667 : BitVec 32 := 216#32
  let v1839 : BitVec 32 := Scalar.addi v1838 c216_i32_667
  v1839
def k0_mult97 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_673 : BitVec 32 := 256#32
  let v1852 : BitVec 32 := Scalar.addi v999 c256_i32_673
  let c224_i32_674 : BitVec 32 := 224#32
  let v1853 : BitVec 32 := Scalar.addi v1852 c224_i32_674
  v1853
def k0_mult98 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_680 : BitVec 32 := 256#32
  let v1866 : BitVec 32 := Scalar.addi v999 c256_i32_680
  let c232_i32_681 : BitVec 32 := 232#32
  let v1867 : BitVec 32 := Scalar.addi v1866 c232_i32_681
  v1867
def k0_mult99 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_687 : BitVec 32 := 256#32
  let v1880 : BitVec 32 := Scalar.addi v999 c256_i32_687
  let c240_i32_688 : BitVec 32 := 240#32
  let v1881 : BitVec 32 := Scalar.addi v1880 c240_i32_688
  v1881
def k0_mult100 (i : grid0.Coords) (k0_t4 : Fin (k0_t4_loop i).trips) : BitVec 32 :=
  let c0_i32_222 : BitVec 32 := 0#32
  let c1_i32_224 : BitVec 32 := 1#32
  let arg17 : BitVec 32 := Scf.iv c0_i32_222 c1_i32_224 k0_t4
  let c512_i32_296 : BitVec 32 := 512#32
  let v998 : BitVec 32 := Scalar.muli arg17 c512_i32_296
  let v999 : BitVec 32 := v998
  let c256_i32_694 : BitVec 32 := 256#32
  let v1894 : BitVec 32 := Scalar.addi v999 c256_i32_694
  let c248_i32_695 : BitVec 32 := 248#32
  let v1895 : BitVec 32 := Scalar.addi v1894 c248_i32_695
  v1895
@[reducible] def k0_t5_loop (i : grid0.Coords) : Scf.Loop 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let v846 : BitVec 32 := Scalar.addi c0_i32_222 v845
  let c1_i32_225 : BitVec 32 := 1#32
  ⟨v849, v846, c1_i32_225⟩
def k0_mult101 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  v998
def k0_mult102 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c2_i32_297 : BitVec 32 := 2#32
  let v1000 : BitVec 32 := Scalar.muli arg17 c2_i32_297
  let c0_i32_298 : BitVec 32 := 0#32
  let v1001 : BitVec 32 := Scalar.addi v1000 c0_i32_298
  let c8_i32 : BitVec 32 := 8#32
  let v1002 : BitVec 32 := Scalar.muli v1001 c8_i32
  v1002
def k0_off234 (i : grid0.Coords) (k0_t5 : Fin (k0_t5_loop i).trips) (c0_i32_298 : BitVec 32) : Fin 2 → Nat :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c2_i32_297 : BitVec 32 := 2#32
  let v1000 : BitVec 32 := Scalar.muli arg17 c2_i32_297
  let v1001 : BitVec 32 := Scalar.addi v1000 c0_i32_298
  let c8_i32 : BitVec 32 := 8#32
  let v1002 : BitVec 32 := Scalar.muli v1001 c8_i32
  let v1003 : BitVec 32 := v1002
  let v1004 : Index := Scalar.indexCast v1003
  let c0_299 : Index := 0#32
  ![v1004.toNat, 0]
def k0_mult103 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_300 : BitVec 32 := 0#32
  let v1006 : BitVec 32 := Scalar.addi v999 c0_i32_300
  let c0_i32_301 : BitVec 32 := 0#32
  let v1007 : BitVec 32 := Scalar.addi v1006 c0_i32_301
  v1007
def k0_off235 (i : grid0.Coords) (k0_t5 : Fin (k0_t5_loop i).trips) (c0_i32_300 : BitVec 32) (c0_i32_301 : BitVec 32) : Fin 2 → Nat :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let v1006 : BitVec 32 := Scalar.addi v999 c0_i32_300
  let v1007 : BitVec 32 := Scalar.addi v1006 c0_i32_301
  let v1008 : BitVec 32 := v1007
  let v1016 : Index := Scalar.indexCast v1008
  let c0_306 : Index := 0#32
  ![v1016.toNat, 0]
def k0_mult104 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_307 : BitVec 32 := 0#32
  let v1020 : BitVec 32 := Scalar.addi v999 c0_i32_307
  let c8_i32_308 : BitVec 32 := 8#32
  let v1021 : BitVec 32 := Scalar.addi v1020 c8_i32_308
  v1021
def k0_mult105 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_314 : BitVec 32 := 0#32
  let v1034 : BitVec 32 := Scalar.addi v999 c0_i32_314
  let c16_i32 : BitVec 32 := 16#32
  let v1035 : BitVec 32 := Scalar.addi v1034 c16_i32
  v1035
def k0_mult106 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_320 : BitVec 32 := 0#32
  let v1048 : BitVec 32 := Scalar.addi v999 c0_i32_320
  let c24_i32 : BitVec 32 := 24#32
  let v1049 : BitVec 32 := Scalar.addi v1048 c24_i32
  v1049
def k0_mult107 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_326 : BitVec 32 := 0#32
  let v1062 : BitVec 32 := Scalar.addi v999 c0_i32_326
  let c32_i32_327 : BitVec 32 := 32#32
  let v1063 : BitVec 32 := Scalar.addi v1062 c32_i32_327
  v1063
def k0_mult108 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_333 : BitVec 32 := 0#32
  let v1076 : BitVec 32 := Scalar.addi v999 c0_i32_333
  let c40_i32 : BitVec 32 := 40#32
  let v1077 : BitVec 32 := Scalar.addi v1076 c40_i32
  v1077
def k0_mult109 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_338 : BitVec 32 := 0#32
  let v1090 : BitVec 32 := Scalar.addi v999 c0_i32_338
  let c48_i32 : BitVec 32 := 48#32
  let v1091 : BitVec 32 := Scalar.addi v1090 c48_i32
  v1091
def k0_mult110 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_343 : BitVec 32 := 0#32
  let v1104 : BitVec 32 := Scalar.addi v999 c0_i32_343
  let c56_i32 : BitVec 32 := 56#32
  let v1105 : BitVec 32 := Scalar.addi v1104 c56_i32
  v1105
def k0_mult111 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_349 : BitVec 32 := 0#32
  let v1118 : BitVec 32 := Scalar.addi v999 c0_i32_349
  let c64_i32 : BitVec 32 := 64#32
  let v1119 : BitVec 32 := Scalar.addi v1118 c64_i32
  v1119
def k0_mult112 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_355 : BitVec 32 := 0#32
  let v1132 : BitVec 32 := Scalar.addi v999 c0_i32_355
  let c72_i32 : BitVec 32 := 72#32
  let v1133 : BitVec 32 := Scalar.addi v1132 c72_i32
  v1133
def k0_mult113 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_360 : BitVec 32 := 0#32
  let v1146 : BitVec 32 := Scalar.addi v999 c0_i32_360
  let c80_i32 : BitVec 32 := 80#32
  let v1147 : BitVec 32 := Scalar.addi v1146 c80_i32
  v1147
def k0_mult114 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_365 : BitVec 32 := 0#32
  let v1160 : BitVec 32 := Scalar.addi v999 c0_i32_365
  let c88_i32 : BitVec 32 := 88#32
  let v1161 : BitVec 32 := Scalar.addi v1160 c88_i32
  v1161
def k0_mult115 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_370 : BitVec 32 := 0#32
  let v1174 : BitVec 32 := Scalar.addi v999 c0_i32_370
  let c96_i32 : BitVec 32 := 96#32
  let v1175 : BitVec 32 := Scalar.addi v1174 c96_i32
  v1175
def k0_mult116 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_375 : BitVec 32 := 0#32
  let v1188 : BitVec 32 := Scalar.addi v999 c0_i32_375
  let c104_i32 : BitVec 32 := 104#32
  let v1189 : BitVec 32 := Scalar.addi v1188 c104_i32
  v1189
def k0_mult117 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_380 : BitVec 32 := 0#32
  let v1202 : BitVec 32 := Scalar.addi v999 c0_i32_380
  let c112_i32 : BitVec 32 := 112#32
  let v1203 : BitVec 32 := Scalar.addi v1202 c112_i32
  v1203
def k0_mult118 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_385 : BitVec 32 := 0#32
  let v1216 : BitVec 32 := Scalar.addi v999 c0_i32_385
  let c120_i32 : BitVec 32 := 120#32
  let v1217 : BitVec 32 := Scalar.addi v1216 c120_i32
  v1217
def k0_mult119 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_390 : BitVec 32 := 0#32
  let v1230 : BitVec 32 := Scalar.addi v999 c0_i32_390
  let c128_i32_391 : BitVec 32 := 128#32
  let v1231 : BitVec 32 := Scalar.addi v1230 c128_i32_391
  v1231
def k0_mult120 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_397 : BitVec 32 := 0#32
  let v1244 : BitVec 32 := Scalar.addi v999 c0_i32_397
  let c136_i32 : BitVec 32 := 136#32
  let v1245 : BitVec 32 := Scalar.addi v1244 c136_i32
  v1245
def k0_mult121 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_402 : BitVec 32 := 0#32
  let v1258 : BitVec 32 := Scalar.addi v999 c0_i32_402
  let c144_i32 : BitVec 32 := 144#32
  let v1259 : BitVec 32 := Scalar.addi v1258 c144_i32
  v1259
def k0_mult122 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_407 : BitVec 32 := 0#32
  let v1272 : BitVec 32 := Scalar.addi v999 c0_i32_407
  let c152_i32 : BitVec 32 := 152#32
  let v1273 : BitVec 32 := Scalar.addi v1272 c152_i32
  v1273
def k0_mult123 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_412 : BitVec 32 := 0#32
  let v1286 : BitVec 32 := Scalar.addi v999 c0_i32_412
  let c160_i32 : BitVec 32 := 160#32
  let v1287 : BitVec 32 := Scalar.addi v1286 c160_i32
  v1287
def k0_mult124 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_417 : BitVec 32 := 0#32
  let v1300 : BitVec 32 := Scalar.addi v999 c0_i32_417
  let c168_i32 : BitVec 32 := 168#32
  let v1301 : BitVec 32 := Scalar.addi v1300 c168_i32
  v1301
def k0_mult125 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_422 : BitVec 32 := 0#32
  let v1314 : BitVec 32 := Scalar.addi v999 c0_i32_422
  let c176_i32 : BitVec 32 := 176#32
  let v1315 : BitVec 32 := Scalar.addi v1314 c176_i32
  v1315
def k0_mult126 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_427 : BitVec 32 := 0#32
  let v1328 : BitVec 32 := Scalar.addi v999 c0_i32_427
  let c184_i32 : BitVec 32 := 184#32
  let v1329 : BitVec 32 := Scalar.addi v1328 c184_i32
  v1329
def k0_mult127 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_432 : BitVec 32 := 0#32
  let v1342 : BitVec 32 := Scalar.addi v999 c0_i32_432
  let c192_i32 : BitVec 32 := 192#32
  let v1343 : BitVec 32 := Scalar.addi v1342 c192_i32
  v1343
def k0_mult128 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_438 : BitVec 32 := 0#32
  let v1356 : BitVec 32 := Scalar.addi v999 c0_i32_438
  let c200_i32 : BitVec 32 := 200#32
  let v1357 : BitVec 32 := Scalar.addi v1356 c200_i32
  v1357
def k0_mult129 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_443 : BitVec 32 := 0#32
  let v1370 : BitVec 32 := Scalar.addi v999 c0_i32_443
  let c208_i32 : BitVec 32 := 208#32
  let v1371 : BitVec 32 := Scalar.addi v1370 c208_i32
  v1371
def k0_mult130 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_448 : BitVec 32 := 0#32
  let v1384 : BitVec 32 := Scalar.addi v999 c0_i32_448
  let c216_i32 : BitVec 32 := 216#32
  let v1385 : BitVec 32 := Scalar.addi v1384 c216_i32
  v1385
def k0_mult131 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_453 : BitVec 32 := 0#32
  let v1398 : BitVec 32 := Scalar.addi v999 c0_i32_453
  let c224_i32 : BitVec 32 := 224#32
  let v1399 : BitVec 32 := Scalar.addi v1398 c224_i32
  v1399
def k0_mult132 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_458 : BitVec 32 := 0#32
  let v1412 : BitVec 32 := Scalar.addi v999 c0_i32_458
  let c232_i32 : BitVec 32 := 232#32
  let v1413 : BitVec 32 := Scalar.addi v1412 c232_i32
  v1413
def k0_mult133 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_463 : BitVec 32 := 0#32
  let v1426 : BitVec 32 := Scalar.addi v999 c0_i32_463
  let c240_i32 : BitVec 32 := 240#32
  let v1427 : BitVec 32 := Scalar.addi v1426 c240_i32
  v1427
def k0_mult134 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c0_i32_468 : BitVec 32 := 0#32
  let v1440 : BitVec 32 := Scalar.addi v999 c0_i32_468
  let c248_i32 : BitVec 32 := 248#32
  let v1441 : BitVec 32 := Scalar.addi v1440 c248_i32
  v1441
def k0_mult135 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c2_i32_473 : BitVec 32 := 2#32
  let v1454 : BitVec 32 := Scalar.muli arg17 c2_i32_473
  let c1_i32_474 : BitVec 32 := 1#32
  let v1455 : BitVec 32 := Scalar.addi v1454 c1_i32_474
  let c8_i32_475 : BitVec 32 := 8#32
  let v1456 : BitVec 32 := Scalar.muli v1455 c8_i32_475
  v1456
def k0_mult136 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_477 : BitVec 32 := 256#32
  let v1460 : BitVec 32 := Scalar.addi v999 c256_i32_477
  let c0_i32_478 : BitVec 32 := 0#32
  let v1461 : BitVec 32 := Scalar.addi v1460 c0_i32_478
  v1461
def k0_mult137 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_484 : BitVec 32 := 256#32
  let v1474 : BitVec 32 := Scalar.addi v999 c256_i32_484
  let c8_i32_485 : BitVec 32 := 8#32
  let v1475 : BitVec 32 := Scalar.addi v1474 c8_i32_485
  v1475
def k0_mult138 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_491 : BitVec 32 := 256#32
  let v1488 : BitVec 32 := Scalar.addi v999 c256_i32_491
  let c16_i32_492 : BitVec 32 := 16#32
  let v1489 : BitVec 32 := Scalar.addi v1488 c16_i32_492
  v1489
def k0_mult139 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_498 : BitVec 32 := 256#32
  let v1502 : BitVec 32 := Scalar.addi v999 c256_i32_498
  let c24_i32_499 : BitVec 32 := 24#32
  let v1503 : BitVec 32 := Scalar.addi v1502 c24_i32_499
  v1503
def k0_mult140 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_505 : BitVec 32 := 256#32
  let v1516 : BitVec 32 := Scalar.addi v999 c256_i32_505
  let c32_i32_506 : BitVec 32 := 32#32
  let v1517 : BitVec 32 := Scalar.addi v1516 c32_i32_506
  v1517
def k0_mult141 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_512 : BitVec 32 := 256#32
  let v1530 : BitVec 32 := Scalar.addi v999 c256_i32_512
  let c40_i32_513 : BitVec 32 := 40#32
  let v1531 : BitVec 32 := Scalar.addi v1530 c40_i32_513
  v1531
def k0_mult142 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_519 : BitVec 32 := 256#32
  let v1544 : BitVec 32 := Scalar.addi v999 c256_i32_519
  let c48_i32_520 : BitVec 32 := 48#32
  let v1545 : BitVec 32 := Scalar.addi v1544 c48_i32_520
  v1545
def k0_mult143 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_526 : BitVec 32 := 256#32
  let v1558 : BitVec 32 := Scalar.addi v999 c256_i32_526
  let c56_i32_527 : BitVec 32 := 56#32
  let v1559 : BitVec 32 := Scalar.addi v1558 c56_i32_527
  v1559
def k0_mult144 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_533 : BitVec 32 := 256#32
  let v1572 : BitVec 32 := Scalar.addi v999 c256_i32_533
  let c64_i32_534 : BitVec 32 := 64#32
  let v1573 : BitVec 32 := Scalar.addi v1572 c64_i32_534
  v1573
def k0_mult145 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_540 : BitVec 32 := 256#32
  let v1586 : BitVec 32 := Scalar.addi v999 c256_i32_540
  let c72_i32_541 : BitVec 32 := 72#32
  let v1587 : BitVec 32 := Scalar.addi v1586 c72_i32_541
  v1587
def k0_mult146 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_547 : BitVec 32 := 256#32
  let v1600 : BitVec 32 := Scalar.addi v999 c256_i32_547
  let c80_i32_548 : BitVec 32 := 80#32
  let v1601 : BitVec 32 := Scalar.addi v1600 c80_i32_548
  v1601
def k0_mult147 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_554 : BitVec 32 := 256#32
  let v1614 : BitVec 32 := Scalar.addi v999 c256_i32_554
  let c88_i32_555 : BitVec 32 := 88#32
  let v1615 : BitVec 32 := Scalar.addi v1614 c88_i32_555
  v1615
def k0_mult148 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_561 : BitVec 32 := 256#32
  let v1628 : BitVec 32 := Scalar.addi v999 c256_i32_561
  let c96_i32_562 : BitVec 32 := 96#32
  let v1629 : BitVec 32 := Scalar.addi v1628 c96_i32_562
  v1629
def k0_mult149 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_568 : BitVec 32 := 256#32
  let v1642 : BitVec 32 := Scalar.addi v999 c256_i32_568
  let c104_i32_569 : BitVec 32 := 104#32
  let v1643 : BitVec 32 := Scalar.addi v1642 c104_i32_569
  v1643
def k0_mult150 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_575 : BitVec 32 := 256#32
  let v1656 : BitVec 32 := Scalar.addi v999 c256_i32_575
  let c112_i32_576 : BitVec 32 := 112#32
  let v1657 : BitVec 32 := Scalar.addi v1656 c112_i32_576
  v1657
def k0_mult151 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_582 : BitVec 32 := 256#32
  let v1670 : BitVec 32 := Scalar.addi v999 c256_i32_582
  let c120_i32_583 : BitVec 32 := 120#32
  let v1671 : BitVec 32 := Scalar.addi v1670 c120_i32_583
  v1671
def k0_mult152 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_589 : BitVec 32 := 256#32
  let v1684 : BitVec 32 := Scalar.addi v999 c256_i32_589
  let c128_i32_590 : BitVec 32 := 128#32
  let v1685 : BitVec 32 := Scalar.addi v1684 c128_i32_590
  v1685
def k0_mult153 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_596 : BitVec 32 := 256#32
  let v1698 : BitVec 32 := Scalar.addi v999 c256_i32_596
  let c136_i32_597 : BitVec 32 := 136#32
  let v1699 : BitVec 32 := Scalar.addi v1698 c136_i32_597
  v1699
def k0_mult154 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_603 : BitVec 32 := 256#32
  let v1712 : BitVec 32 := Scalar.addi v999 c256_i32_603
  let c144_i32_604 : BitVec 32 := 144#32
  let v1713 : BitVec 32 := Scalar.addi v1712 c144_i32_604
  v1713
def k0_mult155 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_610 : BitVec 32 := 256#32
  let v1726 : BitVec 32 := Scalar.addi v999 c256_i32_610
  let c152_i32_611 : BitVec 32 := 152#32
  let v1727 : BitVec 32 := Scalar.addi v1726 c152_i32_611
  v1727
def k0_mult156 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_617 : BitVec 32 := 256#32
  let v1740 : BitVec 32 := Scalar.addi v999 c256_i32_617
  let c160_i32_618 : BitVec 32 := 160#32
  let v1741 : BitVec 32 := Scalar.addi v1740 c160_i32_618
  v1741
def k0_mult157 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_624 : BitVec 32 := 256#32
  let v1754 : BitVec 32 := Scalar.addi v999 c256_i32_624
  let c168_i32_625 : BitVec 32 := 168#32
  let v1755 : BitVec 32 := Scalar.addi v1754 c168_i32_625
  v1755
def k0_mult158 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_631 : BitVec 32 := 256#32
  let v1768 : BitVec 32 := Scalar.addi v999 c256_i32_631
  let c176_i32_632 : BitVec 32 := 176#32
  let v1769 : BitVec 32 := Scalar.addi v1768 c176_i32_632
  v1769
def k0_mult159 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_638 : BitVec 32 := 256#32
  let v1782 : BitVec 32 := Scalar.addi v999 c256_i32_638
  let c184_i32_639 : BitVec 32 := 184#32
  let v1783 : BitVec 32 := Scalar.addi v1782 c184_i32_639
  v1783
def k0_mult160 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_645 : BitVec 32 := 256#32
  let v1796 : BitVec 32 := Scalar.addi v999 c256_i32_645
  let c192_i32_646 : BitVec 32 := 192#32
  let v1797 : BitVec 32 := Scalar.addi v1796 c192_i32_646
  v1797
def k0_mult161 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_652 : BitVec 32 := 256#32
  let v1810 : BitVec 32 := Scalar.addi v999 c256_i32_652
  let c200_i32_653 : BitVec 32 := 200#32
  let v1811 : BitVec 32 := Scalar.addi v1810 c200_i32_653
  v1811
def k0_mult162 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_659 : BitVec 32 := 256#32
  let v1824 : BitVec 32 := Scalar.addi v999 c256_i32_659
  let c208_i32_660 : BitVec 32 := 208#32
  let v1825 : BitVec 32 := Scalar.addi v1824 c208_i32_660
  v1825
def k0_mult163 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_666 : BitVec 32 := 256#32
  let v1838 : BitVec 32 := Scalar.addi v999 c256_i32_666
  let c216_i32_667 : BitVec 32 := 216#32
  let v1839 : BitVec 32 := Scalar.addi v1838 c216_i32_667
  v1839
def k0_mult164 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_673 : BitVec 32 := 256#32
  let v1852 : BitVec 32 := Scalar.addi v999 c256_i32_673
  let c224_i32_674 : BitVec 32 := 224#32
  let v1853 : BitVec 32 := Scalar.addi v1852 c224_i32_674
  v1853
def k0_mult165 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_680 : BitVec 32 := 256#32
  let v1866 : BitVec 32 := Scalar.addi v999 c256_i32_680
  let c232_i32_681 : BitVec 32 := 232#32
  let v1867 : BitVec 32 := Scalar.addi v1866 c232_i32_681
  v1867
def k0_mult166 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_687 : BitVec 32 := 256#32
  let v1880 : BitVec 32 := Scalar.addi v999 c256_i32_687
  let c240_i32_688 : BitVec 32 := 240#32
  let v1881 : BitVec 32 := Scalar.addi v1880 c240_i32_688
  v1881
def k0_mult167 (i : grid0.Coords) (k0_t5 : Fin (k0_t5_loop i).trips) : BitVec 32 :=
  let c0_i32_222 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v845 : BitVec 32 := Scalar.subi v20 c0_i32_222
  let c1_i32_223 : BitVec 32 := 1#32
  let v847 : BitVec 32 := Scalar.divsi v845 c1_i32_223
  let v848 : BitVec 32 := Scalar.muli v847 c1_i32_223
  let v849 : BitVec 32 := Scalar.addi c0_i32_222 v848
  let c1_i32_225 : BitVec 32 := 1#32
  let arg17 : BitVec 32 := Scf.iv v849 c1_i32_225 k0_t5
  let c512_i32_296 : BitVec 32 := 512#32
  let v998 : BitVec 32 := Scalar.muli arg17 c512_i32_296
  let v999 : BitVec 32 := v998
  let c256_i32_694 : BitVec 32 := 256#32
  let v1894 : BitVec 32 := Scalar.addi v999 c256_i32_694
  let c248_i32_695 : BitVec 32 := 248#32
  let v1895 : BitVec 32 := Scalar.addi v1894 c248_i32_695
  v1895
@[reducible] def k0_t6_loop (i : grid0.Coords) : Scf.Loop 32 :=
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_249 : BitVec 32 := 1#32
  ⟨c0_i32_247, v883, c1_i32_249⟩
def k0_mult168 (i : grid0.Coords) (k0_t6 : Fin (k0_t6_loop i).trips) : BitVec 32 :=
  let c4_i32_296 : BitVec 32 := 4#32
  let c0_i32_247 : BitVec 32 := 0#32
  let c1_i32_249 : BitVec 32 := 1#32
  let arg17 : BitVec 32 := Scf.iv c0_i32_247 c1_i32_249 k0_t6
  let v998 : BitVec 32 := Scalar.muli c4_i32_296 arg17
  let c512_i32_303 : BitVec 32 := 512#32
  let v1005 : BitVec 32 := Scalar.muli v998 c512_i32_303
  v1005
def k0_mult169 (i : grid0.Coords) (k0_t6 : Fin (k0_t6_loop i).trips) : BitVec 32 :=
  let c4_i32_296 : BitVec 32 := 4#32
  let c0_i32_247 : BitVec 32 := 0#32
  let c1_i32_249 : BitVec 32 := 1#32
  let arg17 : BitVec 32 := Scf.iv c0_i32_247 c1_i32_249 k0_t6
  let v998 : BitVec 32 := Scalar.muli c4_i32_296 arg17
  let c512_i32_304 : BitVec 32 := 512#32
  let v1007 : BitVec 32 := Scalar.muli v998 c512_i32_304
  v1007
def k0_mult170 (i : grid0.Coords) (k0_t6 : Fin (k0_t6_loop i).trips) : BitVec 32 :=
  let c4_i32_296 : BitVec 32 := 4#32
  let c0_i32_247 : BitVec 32 := 0#32
  let c1_i32_249 : BitVec 32 := 1#32
  let arg17 : BitVec 32 := Scf.iv c0_i32_247 c1_i32_249 k0_t6
  let v998 : BitVec 32 := Scalar.muli c4_i32_296 arg17
  let c512_i32_305 : BitVec 32 := 512#32
  let v1009 : BitVec 32 := Scalar.muli v998 c512_i32_305
  v1009
def k0_mult171 (i : grid0.Coords) (k0_t6 : Fin (k0_t6_loop i).trips) : BitVec 32 :=
  let c4_i32_296 : BitVec 32 := 4#32
  let c0_i32_247 : BitVec 32 := 0#32
  let c1_i32_249 : BitVec 32 := 1#32
  let arg17 : BitVec 32 := Scf.iv c0_i32_247 c1_i32_249 k0_t6
  let v998 : BitVec 32 := Scalar.muli c4_i32_296 arg17
  let c512_i32_306 : BitVec 32 := 512#32
  let v1011 : BitVec 32 := Scalar.muli v998 c512_i32_306
  v1011
def k0_mult172 (i : grid0.Coords) (k0_t6 : Fin (k0_t6_loop i).trips) : BitVec 32 :=
  let c4_i32_297 : BitVec 32 := 4#32
  let c0_i32_247 : BitVec 32 := 0#32
  let c1_i32_249 : BitVec 32 := 1#32
  let arg17 : BitVec 32 := Scf.iv c0_i32_247 c1_i32_249 k0_t6
  let v999 : BitVec 32 := Scalar.muli c4_i32_297 arg17
  let c1_i32_298 : BitVec 32 := 1#32
  let v1000 : BitVec 32 := Scalar.addi v999 c1_i32_298
  let c512_i32_307 : BitVec 32 := 512#32
  let v1013 : BitVec 32 := Scalar.muli v1000 c512_i32_307
  v1013
def k0_mult173 (i : grid0.Coords) (k0_t6 : Fin (k0_t6_loop i).trips) : BitVec 32 :=
  let c4_i32_297 : BitVec 32 := 4#32
  let c0_i32_247 : BitVec 32 := 0#32
  let c1_i32_249 : BitVec 32 := 1#32
  let arg17 : BitVec 32 := Scf.iv c0_i32_247 c1_i32_249 k0_t6
  let v999 : BitVec 32 := Scalar.muli c4_i32_297 arg17
  let c1_i32_298 : BitVec 32 := 1#32
  let v1000 : BitVec 32 := Scalar.addi v999 c1_i32_298
  let c512_i32_308 : BitVec 32 := 512#32
  let v1015 : BitVec 32 := Scalar.muli v1000 c512_i32_308
  v1015
def k0_mult174 (i : grid0.Coords) (k0_t6 : Fin (k0_t6_loop i).trips) : BitVec 32 :=
  let c4_i32_297 : BitVec 32 := 4#32
  let c0_i32_247 : BitVec 32 := 0#32
  let c1_i32_249 : BitVec 32 := 1#32
  let arg17 : BitVec 32 := Scf.iv c0_i32_247 c1_i32_249 k0_t6
  let v999 : BitVec 32 := Scalar.muli c4_i32_297 arg17
  let c1_i32_298 : BitVec 32 := 1#32
  let v1000 : BitVec 32 := Scalar.addi v999 c1_i32_298
  let c512_i32_309 : BitVec 32 := 512#32
  let v1017 : BitVec 32 := Scalar.muli v1000 c512_i32_309
  v1017
def k0_mult175 (i : grid0.Coords) (k0_t6 : Fin (k0_t6_loop i).trips) : BitVec 32 :=
  let c4_i32_297 : BitVec 32 := 4#32
  let c0_i32_247 : BitVec 32 := 0#32
  let c1_i32_249 : BitVec 32 := 1#32
  let arg17 : BitVec 32 := Scf.iv c0_i32_247 c1_i32_249 k0_t6
  let v999 : BitVec 32 := Scalar.muli c4_i32_297 arg17
  let c1_i32_298 : BitVec 32 := 1#32
  let v1000 : BitVec 32 := Scalar.addi v999 c1_i32_298
  let c512_i32_310 : BitVec 32 := 512#32
  let v1019 : BitVec 32 := Scalar.muli v1000 c512_i32_310
  v1019
def k0_mult176 (i : grid0.Coords) (k0_t6 : Fin (k0_t6_loop i).trips) : BitVec 32 :=
  let c4_i32_299 : BitVec 32 := 4#32
  let c0_i32_247 : BitVec 32 := 0#32
  let c1_i32_249 : BitVec 32 := 1#32
  let arg17 : BitVec 32 := Scf.iv c0_i32_247 c1_i32_249 k0_t6
  let v1001 : BitVec 32 := Scalar.muli c4_i32_299 arg17
  let c2_i32_300 : BitVec 32 := 2#32
  let v1002 : BitVec 32 := Scalar.addi v1001 c2_i32_300
  let c512_i32_311 : BitVec 32 := 512#32
  let v1021 : BitVec 32 := Scalar.muli v1002 c512_i32_311
  v1021
def k0_mult177 (i : grid0.Coords) (k0_t6 : Fin (k0_t6_loop i).trips) : BitVec 32 :=
  let c4_i32_299 : BitVec 32 := 4#32
  let c0_i32_247 : BitVec 32 := 0#32
  let c1_i32_249 : BitVec 32 := 1#32
  let arg17 : BitVec 32 := Scf.iv c0_i32_247 c1_i32_249 k0_t6
  let v1001 : BitVec 32 := Scalar.muli c4_i32_299 arg17
  let c2_i32_300 : BitVec 32 := 2#32
  let v1002 : BitVec 32 := Scalar.addi v1001 c2_i32_300
  let c512_i32_312 : BitVec 32 := 512#32
  let v1023 : BitVec 32 := Scalar.muli v1002 c512_i32_312
  v1023
def k0_mult178 (i : grid0.Coords) (k0_t6 : Fin (k0_t6_loop i).trips) : BitVec 32 :=
  let c4_i32_299 : BitVec 32 := 4#32
  let c0_i32_247 : BitVec 32 := 0#32
  let c1_i32_249 : BitVec 32 := 1#32
  let arg17 : BitVec 32 := Scf.iv c0_i32_247 c1_i32_249 k0_t6
  let v1001 : BitVec 32 := Scalar.muli c4_i32_299 arg17
  let c2_i32_300 : BitVec 32 := 2#32
  let v1002 : BitVec 32 := Scalar.addi v1001 c2_i32_300
  let c512_i32_313 : BitVec 32 := 512#32
  let v1025 : BitVec 32 := Scalar.muli v1002 c512_i32_313
  v1025
def k0_mult179 (i : grid0.Coords) (k0_t6 : Fin (k0_t6_loop i).trips) : BitVec 32 :=
  let c4_i32_299 : BitVec 32 := 4#32
  let c0_i32_247 : BitVec 32 := 0#32
  let c1_i32_249 : BitVec 32 := 1#32
  let arg17 : BitVec 32 := Scf.iv c0_i32_247 c1_i32_249 k0_t6
  let v1001 : BitVec 32 := Scalar.muli c4_i32_299 arg17
  let c2_i32_300 : BitVec 32 := 2#32
  let v1002 : BitVec 32 := Scalar.addi v1001 c2_i32_300
  let c512_i32_314 : BitVec 32 := 512#32
  let v1027 : BitVec 32 := Scalar.muli v1002 c512_i32_314
  v1027
def k0_mult180 (i : grid0.Coords) (k0_t6 : Fin (k0_t6_loop i).trips) : BitVec 32 :=
  let c4_i32_301 : BitVec 32 := 4#32
  let c0_i32_247 : BitVec 32 := 0#32
  let c1_i32_249 : BitVec 32 := 1#32
  let arg17 : BitVec 32 := Scf.iv c0_i32_247 c1_i32_249 k0_t6
  let v1003 : BitVec 32 := Scalar.muli c4_i32_301 arg17
  let c3_i32_302 : BitVec 32 := 3#32
  let v1004 : BitVec 32 := Scalar.addi v1003 c3_i32_302
  let c512_i32_315 : BitVec 32 := 512#32
  let v1029 : BitVec 32 := Scalar.muli v1004 c512_i32_315
  v1029
def k0_mult181 (i : grid0.Coords) (k0_t6 : Fin (k0_t6_loop i).trips) : BitVec 32 :=
  let c4_i32_301 : BitVec 32 := 4#32
  let c0_i32_247 : BitVec 32 := 0#32
  let c1_i32_249 : BitVec 32 := 1#32
  let arg17 : BitVec 32 := Scf.iv c0_i32_247 c1_i32_249 k0_t6
  let v1003 : BitVec 32 := Scalar.muli c4_i32_301 arg17
  let c3_i32_302 : BitVec 32 := 3#32
  let v1004 : BitVec 32 := Scalar.addi v1003 c3_i32_302
  let c512_i32_316 : BitVec 32 := 512#32
  let v1031 : BitVec 32 := Scalar.muli v1004 c512_i32_316
  v1031
def k0_mult182 (i : grid0.Coords) (k0_t6 : Fin (k0_t6_loop i).trips) : BitVec 32 :=
  let c4_i32_301 : BitVec 32 := 4#32
  let c0_i32_247 : BitVec 32 := 0#32
  let c1_i32_249 : BitVec 32 := 1#32
  let arg17 : BitVec 32 := Scf.iv c0_i32_247 c1_i32_249 k0_t6
  let v1003 : BitVec 32 := Scalar.muli c4_i32_301 arg17
  let c3_i32_302 : BitVec 32 := 3#32
  let v1004 : BitVec 32 := Scalar.addi v1003 c3_i32_302
  let c512_i32_317 : BitVec 32 := 512#32
  let v1033 : BitVec 32 := Scalar.muli v1004 c512_i32_317
  v1033
def k0_mult183 (i : grid0.Coords) (k0_t6 : Fin (k0_t6_loop i).trips) : BitVec 32 :=
  let c4_i32_301 : BitVec 32 := 4#32
  let c0_i32_247 : BitVec 32 := 0#32
  let c1_i32_249 : BitVec 32 := 1#32
  let arg17 : BitVec 32 := Scf.iv c0_i32_247 c1_i32_249 k0_t6
  let v1003 : BitVec 32 := Scalar.muli c4_i32_301 arg17
  let c3_i32_302 : BitVec 32 := 3#32
  let v1004 : BitVec 32 := Scalar.addi v1003 c3_i32_302
  let c512_i32_318 : BitVec 32 := 512#32
  let v1035 : BitVec 32 := Scalar.muli v1004 c512_i32_318
  v1035
def k0_off236 (i : grid0.Coords) (k0_t6 : Fin (k0_t6_loop i).trips) : Fin 3 → Nat :=
  let c0_319 : Index := 0#32
  let c4_i32_296 : BitVec 32 := 4#32
  let c0_i32_247 : BitVec 32 := 0#32
  let c1_i32_249 : BitVec 32 := 1#32
  let arg17 : BitVec 32 := Scf.iv c0_i32_247 c1_i32_249 k0_t6
  let v998 : BitVec 32 := Scalar.muli c4_i32_296 arg17
  let c512_i32_303 : BitVec 32 := 512#32
  let v1005 : BitVec 32 := Scalar.muli v998 c512_i32_303
  let v1006 : BitVec 32 := v1005
  let v1038 : Index := Scalar.indexCast v1006
  let c0_320 : Index := 0#32
  ![0, v1038.toNat, 0]
def k0_off237 (i : grid0.Coords) (k0_t6 : Fin (k0_t6_loop i).trips) : Fin 2 → Nat :=
  let c4_i32_296 : BitVec 32 := 4#32
  let c0_i32_247 : BitVec 32 := 0#32
  let c1_i32_249 : BitVec 32 := 1#32
  let arg17 : BitVec 32 := Scf.iv c0_i32_247 c1_i32_249 k0_t6
  let v998 : BitVec 32 := Scalar.muli c4_i32_296 arg17
  let c512_i32_303 : BitVec 32 := 512#32
  let v1005 : BitVec 32 := Scalar.muli v998 c512_i32_303
  let v1006 : BitVec 32 := v1005
  let v1047 : Index := Scalar.indexCast v1006
  let c0_328 : Index := 0#32
  ![v1047.toNat, 0]
def k0_off238 (i : grid0.Coords) (k0_t6 : Fin (k0_t6_loop i).trips) : Fin 3 → Nat :=
  let c0_397 : Index := 0#32
  let c4_i32_296 : BitVec 32 := 4#32
  let c0_i32_247 : BitVec 32 := 0#32
  let c1_i32_249 : BitVec 32 := 1#32
  let arg17 : BitVec 32 := Scf.iv c0_i32_247 c1_i32_249 k0_t6
  let v998 : BitVec 32 := Scalar.muli c4_i32_296 arg17
  let c512_i32_304 : BitVec 32 := 512#32
  let v1007 : BitVec 32 := Scalar.muli v998 c512_i32_304
  let v1008 : BitVec 32 := v1007
  let v1142 : Index := Scalar.indexCast v1008
  let c128_398 : Index := 128#32
  ![0, v1142.toNat, 128]
def k0_off239 (i : grid0.Coords) (k0_t6 : Fin (k0_t6_loop i).trips) : Fin 3 → Nat :=
  let c0_515 : Index := 0#32
  let c4_i32_296 : BitVec 32 := 4#32
  let c0_i32_247 : BitVec 32 := 0#32
  let c1_i32_249 : BitVec 32 := 1#32
  let arg17 : BitVec 32 := Scf.iv c0_i32_247 c1_i32_249 k0_t6
  let v998 : BitVec 32 := Scalar.muli c4_i32_296 arg17
  let c512_i32_305 : BitVec 32 := 512#32
  let v1009 : BitVec 32 := Scalar.muli v998 c512_i32_305
  let v1010 : BitVec 32 := v1009
  let v1298 : Index := Scalar.indexCast v1010
  let c256_516 : Index := 256#32
  ![0, v1298.toNat, 256]
def k0_off240 (i : grid0.Coords) (k0_t6 : Fin (k0_t6_loop i).trips) : Fin 3 → Nat :=
  let c0_521 : Index := 0#32
  let c0_522 : Index := 0#32
  let c4_i32_296 : BitVec 32 := 4#32
  let c0_i32_247 : BitVec 32 := 0#32
  let c1_i32_249 : BitVec 32 := 1#32
  let arg17 : BitVec 32 := Scf.iv c0_i32_247 c1_i32_249 k0_t6
  let v998 : BitVec 32 := Scalar.muli c4_i32_296 arg17
  let c512_i32_303 : BitVec 32 := 512#32
  let v1005 : BitVec 32 := Scalar.muli v998 c512_i32_303
  let v1006 : BitVec 32 := v1005
  let v1305 : Index := Scalar.indexCast v1006
  ![0, 0, v1305.toNat]
def k0_off241 (i : grid0.Coords) (k0_t6 : Fin (k0_t6_loop i).trips) : Fin 3 → Nat :=
  let c0_648 : Index := 0#32
  let c4_i32_296 : BitVec 32 := 4#32
  let c0_i32_247 : BitVec 32 := 0#32
  let c1_i32_249 : BitVec 32 := 1#32
  let arg17 : BitVec 32 := Scf.iv c0_i32_247 c1_i32_249 k0_t6
  let v998 : BitVec 32 := Scalar.muli c4_i32_296 arg17
  let c512_i32_306 : BitVec 32 := 512#32
  let v1011 : BitVec 32 := Scalar.muli v998 c512_i32_306
  let v1012 : BitVec 32 := v1011
  let v1471 : Index := Scalar.indexCast v1012
  let c384_649 : Index := 384#32
  ![0, v1471.toNat, 384]
def k0_off242 (i : grid0.Coords) (k0_t6 : Fin (k0_t6_loop i).trips) : Fin 3 → Nat :=
  let c0_654 : Index := 0#32
  let c128_655 : Index := 128#32
  let c4_i32_296 : BitVec 32 := 4#32
  let c0_i32_247 : BitVec 32 := 0#32
  let c1_i32_249 : BitVec 32 := 1#32
  let arg17 : BitVec 32 := Scf.iv c0_i32_247 c1_i32_249 k0_t6
  let v998 : BitVec 32 := Scalar.muli c4_i32_296 arg17
  let c512_i32_304 : BitVec 32 := 512#32
  let v1007 : BitVec 32 := Scalar.muli v998 c512_i32_304
  let v1008 : BitVec 32 := v1007
  let v1478 : Index := Scalar.indexCast v1008
  ![0, 128, v1478.toNat]
def k0_off243 (i : grid0.Coords) (k0_t6 : Fin (k0_t6_loop i).trips) (c1_i32_298 : BitVec 32) : Fin 3 → Nat :=
  let c0_781 : Index := 0#32
  let c4_i32_297 : BitVec 32 := 4#32
  let c0_i32_247 : BitVec 32 := 0#32
  let c1_i32_249 : BitVec 32 := 1#32
  let arg17 : BitVec 32 := Scf.iv c0_i32_247 c1_i32_249 k0_t6
  let v999 : BitVec 32 := Scalar.muli c4_i32_297 arg17
  let v1000 : BitVec 32 := Scalar.addi v999 c1_i32_298
  let c512_i32_307 : BitVec 32 := 512#32
  let v1013 : BitVec 32 := Scalar.muli v1000 c512_i32_307
  let v1014 : BitVec 32 := v1013
  let v1644 : Index := Scalar.indexCast v1014
  let c0_782 : Index := 0#32
  ![0, v1644.toNat, 0]
def k0_off244 (i : grid0.Coords) (k0_t6 : Fin (k0_t6_loop i).trips) : Fin 3 → Nat :=
  let c0_787 : Index := 0#32
  let c256_788 : Index := 256#32
  let c4_i32_296 : BitVec 32 := 4#32
  let c0_i32_247 : BitVec 32 := 0#32
  let c1_i32_249 : BitVec 32 := 1#32
  let arg17 : BitVec 32 := Scf.iv c0_i32_247 c1_i32_249 k0_t6
  let v998 : BitVec 32 := Scalar.muli c4_i32_296 arg17
  let c512_i32_305 : BitVec 32 := 512#32
  let v1009 : BitVec 32 := Scalar.muli v998 c512_i32_305
  let v1010 : BitVec 32 := v1009
  let v1651 : Index := Scalar.indexCast v1010
  ![0, 256, v1651.toNat]
def k0_off245 (i : grid0.Coords) (k0_t6 : Fin (k0_t6_loop i).trips) (c1_i32_298 : BitVec 32) : Fin 2 → Nat :=
  let c4_i32_297 : BitVec 32 := 4#32
  let c0_i32_247 : BitVec 32 := 0#32
  let c1_i32_249 : BitVec 32 := 1#32
  let arg17 : BitVec 32 := Scf.iv c0_i32_247 c1_i32_249 k0_t6
  let v999 : BitVec 32 := Scalar.muli c4_i32_297 arg17
  let v1000 : BitVec 32 := Scalar.addi v999 c1_i32_298
  let c512_i32_307 : BitVec 32 := 512#32
  let v1013 : BitVec 32 := Scalar.muli v1000 c512_i32_307
  let v1014 : BitVec 32 := v1013
  let v1722 : Index := Scalar.indexCast v1014
  let c0_845 : Index := 0#32
  ![v1722.toNat, 0]
def k0_off246 (i : grid0.Coords) (k0_t6 : Fin (k0_t6_loop i).trips) (c1_i32_298 : BitVec 32) : Fin 3 → Nat :=
  let c0_914 : Index := 0#32
  let c4_i32_297 : BitVec 32 := 4#32
  let c0_i32_247 : BitVec 32 := 0#32
  let c1_i32_249 : BitVec 32 := 1#32
  let arg17 : BitVec 32 := Scf.iv c0_i32_247 c1_i32_249 k0_t6
  let v999 : BitVec 32 := Scalar.muli c4_i32_297 arg17
  let v1000 : BitVec 32 := Scalar.addi v999 c1_i32_298
  let c512_i32_308 : BitVec 32 := 512#32
  let v1015 : BitVec 32 := Scalar.muli v1000 c512_i32_308
  let v1016 : BitVec 32 := v1015
  let v1817 : Index := Scalar.indexCast v1016
  let c128_915 : Index := 128#32
  ![0, v1817.toNat, 128]
def k0_off247 (i : grid0.Coords) (k0_t6 : Fin (k0_t6_loop i).trips) : Fin 3 → Nat :=
  let c0_920 : Index := 0#32
  let c384_921 : Index := 384#32
  let c4_i32_296 : BitVec 32 := 4#32
  let c0_i32_247 : BitVec 32 := 0#32
  let c1_i32_249 : BitVec 32 := 1#32
  let arg17 : BitVec 32 := Scf.iv c0_i32_247 c1_i32_249 k0_t6
  let v998 : BitVec 32 := Scalar.muli c4_i32_296 arg17
  let c512_i32_306 : BitVec 32 := 512#32
  let v1011 : BitVec 32 := Scalar.muli v998 c512_i32_306
  let v1012 : BitVec 32 := v1011
  let v1824 : Index := Scalar.indexCast v1012
  ![0, 384, v1824.toNat]
def k0_off248 (i : grid0.Coords) (k0_t6 : Fin (k0_t6_loop i).trips) (c1_i32_298 : BitVec 32) : Fin 3 → Nat :=
  let c0_1047 : Index := 0#32
  let c4_i32_297 : BitVec 32 := 4#32
  let c0_i32_247 : BitVec 32 := 0#32
  let c1_i32_249 : BitVec 32 := 1#32
  let arg17 : BitVec 32 := Scf.iv c0_i32_247 c1_i32_249 k0_t6
  let v999 : BitVec 32 := Scalar.muli c4_i32_297 arg17
  let v1000 : BitVec 32 := Scalar.addi v999 c1_i32_298
  let c512_i32_309 : BitVec 32 := 512#32
  let v1017 : BitVec 32 := Scalar.muli v1000 c512_i32_309
  let v1018 : BitVec 32 := v1017
  let v1990 : Index := Scalar.indexCast v1018
  let c256_1048 : Index := 256#32
  ![0, v1990.toNat, 256]
def k0_off249 (i : grid0.Coords) (k0_t6 : Fin (k0_t6_loop i).trips) (c1_i32_298 : BitVec 32) : Fin 3 → Nat :=
  let c0_1053 : Index := 0#32
  let c0_1054 : Index := 0#32
  let c4_i32_297 : BitVec 32 := 4#32
  let c0_i32_247 : BitVec 32 := 0#32
  let c1_i32_249 : BitVec 32 := 1#32
  let arg17 : BitVec 32 := Scf.iv c0_i32_247 c1_i32_249 k0_t6
  let v999 : BitVec 32 := Scalar.muli c4_i32_297 arg17
  let v1000 : BitVec 32 := Scalar.addi v999 c1_i32_298
  let c512_i32_307 : BitVec 32 := 512#32
  let v1013 : BitVec 32 := Scalar.muli v1000 c512_i32_307
  let v1014 : BitVec 32 := v1013
  let v1997 : Index := Scalar.indexCast v1014
  ![0, 0, v1997.toNat]
def k0_off250 (i : grid0.Coords) (k0_t6 : Fin (k0_t6_loop i).trips) (c1_i32_298 : BitVec 32) : Fin 3 → Nat :=
  let c0_1180 : Index := 0#32
  let c4_i32_297 : BitVec 32 := 4#32
  let c0_i32_247 : BitVec 32 := 0#32
  let c1_i32_249 : BitVec 32 := 1#32
  let arg17 : BitVec 32 := Scf.iv c0_i32_247 c1_i32_249 k0_t6
  let v999 : BitVec 32 := Scalar.muli c4_i32_297 arg17
  let v1000 : BitVec 32 := Scalar.addi v999 c1_i32_298
  let c512_i32_310 : BitVec 32 := 512#32
  let v1019 : BitVec 32 := Scalar.muli v1000 c512_i32_310
  let v1020 : BitVec 32 := v1019
  let v2163 : Index := Scalar.indexCast v1020
  let c384_1181 : Index := 384#32
  ![0, v2163.toNat, 384]
def k0_off251 (i : grid0.Coords) (k0_t6 : Fin (k0_t6_loop i).trips) (c1_i32_298 : BitVec 32) : Fin 3 → Nat :=
  let c0_1186 : Index := 0#32
  let c128_1187 : Index := 128#32
  let c4_i32_297 : BitVec 32 := 4#32
  let c0_i32_247 : BitVec 32 := 0#32
  let c1_i32_249 : BitVec 32 := 1#32
  let arg17 : BitVec 32 := Scf.iv c0_i32_247 c1_i32_249 k0_t6
  let v999 : BitVec 32 := Scalar.muli c4_i32_297 arg17
  let v1000 : BitVec 32 := Scalar.addi v999 c1_i32_298
  let c512_i32_308 : BitVec 32 := 512#32
  let v1015 : BitVec 32 := Scalar.muli v1000 c512_i32_308
  let v1016 : BitVec 32 := v1015
  let v2170 : Index := Scalar.indexCast v1016
  ![0, 128, v2170.toNat]
def k0_off252 (i : grid0.Coords) (k0_t6 : Fin (k0_t6_loop i).trips) (c1_i32_298 : BitVec 32) : Fin 3 → Nat :=
  let c0_1319 : Index := 0#32
  let c256_1320 : Index := 256#32
  let c4_i32_297 : BitVec 32 := 4#32
  let c0_i32_247 : BitVec 32 := 0#32
  let c1_i32_249 : BitVec 32 := 1#32
  let arg17 : BitVec 32 := Scf.iv c0_i32_247 c1_i32_249 k0_t6
  let v999 : BitVec 32 := Scalar.muli c4_i32_297 arg17
  let v1000 : BitVec 32 := Scalar.addi v999 c1_i32_298
  let c512_i32_309 : BitVec 32 := 512#32
  let v1017 : BitVec 32 := Scalar.muli v1000 c512_i32_309
  let v1018 : BitVec 32 := v1017
  let v2343 : Index := Scalar.indexCast v1018
  ![0, 256, v2343.toNat]
def k0_off253 (i : grid0.Coords) (k0_t6 : Fin (k0_t6_loop i).trips) (c1_i32_298 : BitVec 32) : Fin 3 → Nat :=
  let c0_1452 : Index := 0#32
  let c384_1453 : Index := 384#32
  let c4_i32_297 : BitVec 32 := 4#32
  let c0_i32_247 : BitVec 32 := 0#32
  let c1_i32_249 : BitVec 32 := 1#32
  let arg17 : BitVec 32 := Scf.iv c0_i32_247 c1_i32_249 k0_t6
  let v999 : BitVec 32 := Scalar.muli c4_i32_297 arg17
  let v1000 : BitVec 32 := Scalar.addi v999 c1_i32_298
  let c512_i32_310 : BitVec 32 := 512#32
  let v1019 : BitVec 32 := Scalar.muli v1000 c512_i32_310
  let v1020 : BitVec 32 := v1019
  let v2516 : Index := Scalar.indexCast v1020
  ![0, 384, v2516.toNat]
@[reducible] def k0_t7_loop (i : grid0.Coords) : Scf.Loop 32 :=
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let v880 : BitVec 32 := Scalar.addi c0_i32_247 v879
  let c1_i32_250 : BitVec 32 := 1#32
  ⟨v883, v880, c1_i32_250⟩
def k0_mult184 (i : grid0.Coords) (k0_t7 : Fin (k0_t7_loop i).trips) : BitVec 32 :=
  let c4_i32_296 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v998 : BitVec 32 := Scalar.muli c4_i32_296 arg17
  let c512_i32_303 : BitVec 32 := 512#32
  let v1005 : BitVec 32 := Scalar.muli v998 c512_i32_303
  v1005
def k0_mult185 (i : grid0.Coords) (k0_t7 : Fin (k0_t7_loop i).trips) : BitVec 32 :=
  let c4_i32_296 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v998 : BitVec 32 := Scalar.muli c4_i32_296 arg17
  let c512_i32_304 : BitVec 32 := 512#32
  let v1007 : BitVec 32 := Scalar.muli v998 c512_i32_304
  v1007
def k0_mult186 (i : grid0.Coords) (k0_t7 : Fin (k0_t7_loop i).trips) : BitVec 32 :=
  let c4_i32_296 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v998 : BitVec 32 := Scalar.muli c4_i32_296 arg17
  let c512_i32_305 : BitVec 32 := 512#32
  let v1009 : BitVec 32 := Scalar.muli v998 c512_i32_305
  v1009
def k0_mult187 (i : grid0.Coords) (k0_t7 : Fin (k0_t7_loop i).trips) : BitVec 32 :=
  let c4_i32_296 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v998 : BitVec 32 := Scalar.muli c4_i32_296 arg17
  let c512_i32_306 : BitVec 32 := 512#32
  let v1011 : BitVec 32 := Scalar.muli v998 c512_i32_306
  v1011
def k0_mult188 (i : grid0.Coords) (k0_t7 : Fin (k0_t7_loop i).trips) : BitVec 32 :=
  let c4_i32_297 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v999 : BitVec 32 := Scalar.muli c4_i32_297 arg17
  let c1_i32_298 : BitVec 32 := 1#32
  let v1000 : BitVec 32 := Scalar.addi v999 c1_i32_298
  let c512_i32_307 : BitVec 32 := 512#32
  let v1013 : BitVec 32 := Scalar.muli v1000 c512_i32_307
  v1013
def k0_mult189 (i : grid0.Coords) (k0_t7 : Fin (k0_t7_loop i).trips) : BitVec 32 :=
  let c4_i32_297 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v999 : BitVec 32 := Scalar.muli c4_i32_297 arg17
  let c1_i32_298 : BitVec 32 := 1#32
  let v1000 : BitVec 32 := Scalar.addi v999 c1_i32_298
  let c512_i32_308 : BitVec 32 := 512#32
  let v1015 : BitVec 32 := Scalar.muli v1000 c512_i32_308
  v1015
def k0_mult190 (i : grid0.Coords) (k0_t7 : Fin (k0_t7_loop i).trips) : BitVec 32 :=
  let c4_i32_297 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v999 : BitVec 32 := Scalar.muli c4_i32_297 arg17
  let c1_i32_298 : BitVec 32 := 1#32
  let v1000 : BitVec 32 := Scalar.addi v999 c1_i32_298
  let c512_i32_309 : BitVec 32 := 512#32
  let v1017 : BitVec 32 := Scalar.muli v1000 c512_i32_309
  v1017
def k0_mult191 (i : grid0.Coords) (k0_t7 : Fin (k0_t7_loop i).trips) : BitVec 32 :=
  let c4_i32_297 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v999 : BitVec 32 := Scalar.muli c4_i32_297 arg17
  let c1_i32_298 : BitVec 32 := 1#32
  let v1000 : BitVec 32 := Scalar.addi v999 c1_i32_298
  let c512_i32_310 : BitVec 32 := 512#32
  let v1019 : BitVec 32 := Scalar.muli v1000 c512_i32_310
  v1019
def k0_mult192 (i : grid0.Coords) (k0_t7 : Fin (k0_t7_loop i).trips) : BitVec 32 :=
  let c4_i32_299 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v1001 : BitVec 32 := Scalar.muli c4_i32_299 arg17
  let c2_i32_300 : BitVec 32 := 2#32
  let v1002 : BitVec 32 := Scalar.addi v1001 c2_i32_300
  let c512_i32_311 : BitVec 32 := 512#32
  let v1021 : BitVec 32 := Scalar.muli v1002 c512_i32_311
  v1021
def k0_mult193 (i : grid0.Coords) (k0_t7 : Fin (k0_t7_loop i).trips) : BitVec 32 :=
  let c4_i32_299 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v1001 : BitVec 32 := Scalar.muli c4_i32_299 arg17
  let c2_i32_300 : BitVec 32 := 2#32
  let v1002 : BitVec 32 := Scalar.addi v1001 c2_i32_300
  let c512_i32_312 : BitVec 32 := 512#32
  let v1023 : BitVec 32 := Scalar.muli v1002 c512_i32_312
  v1023
def k0_mult194 (i : grid0.Coords) (k0_t7 : Fin (k0_t7_loop i).trips) : BitVec 32 :=
  let c4_i32_299 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v1001 : BitVec 32 := Scalar.muli c4_i32_299 arg17
  let c2_i32_300 : BitVec 32 := 2#32
  let v1002 : BitVec 32 := Scalar.addi v1001 c2_i32_300
  let c512_i32_313 : BitVec 32 := 512#32
  let v1025 : BitVec 32 := Scalar.muli v1002 c512_i32_313
  v1025
def k0_mult195 (i : grid0.Coords) (k0_t7 : Fin (k0_t7_loop i).trips) : BitVec 32 :=
  let c4_i32_299 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v1001 : BitVec 32 := Scalar.muli c4_i32_299 arg17
  let c2_i32_300 : BitVec 32 := 2#32
  let v1002 : BitVec 32 := Scalar.addi v1001 c2_i32_300
  let c512_i32_314 : BitVec 32 := 512#32
  let v1027 : BitVec 32 := Scalar.muli v1002 c512_i32_314
  v1027
def k0_mult196 (i : grid0.Coords) (k0_t7 : Fin (k0_t7_loop i).trips) : BitVec 32 :=
  let c4_i32_301 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v1003 : BitVec 32 := Scalar.muli c4_i32_301 arg17
  let c3_i32_302 : BitVec 32 := 3#32
  let v1004 : BitVec 32 := Scalar.addi v1003 c3_i32_302
  let c512_i32_315 : BitVec 32 := 512#32
  let v1029 : BitVec 32 := Scalar.muli v1004 c512_i32_315
  v1029
def k0_mult197 (i : grid0.Coords) (k0_t7 : Fin (k0_t7_loop i).trips) : BitVec 32 :=
  let c4_i32_301 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v1003 : BitVec 32 := Scalar.muli c4_i32_301 arg17
  let c3_i32_302 : BitVec 32 := 3#32
  let v1004 : BitVec 32 := Scalar.addi v1003 c3_i32_302
  let c512_i32_316 : BitVec 32 := 512#32
  let v1031 : BitVec 32 := Scalar.muli v1004 c512_i32_316
  v1031
def k0_mult198 (i : grid0.Coords) (k0_t7 : Fin (k0_t7_loop i).trips) : BitVec 32 :=
  let c4_i32_301 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v1003 : BitVec 32 := Scalar.muli c4_i32_301 arg17
  let c3_i32_302 : BitVec 32 := 3#32
  let v1004 : BitVec 32 := Scalar.addi v1003 c3_i32_302
  let c512_i32_317 : BitVec 32 := 512#32
  let v1033 : BitVec 32 := Scalar.muli v1004 c512_i32_317
  v1033
def k0_mult199 (i : grid0.Coords) (k0_t7 : Fin (k0_t7_loop i).trips) : BitVec 32 :=
  let c4_i32_301 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v1003 : BitVec 32 := Scalar.muli c4_i32_301 arg17
  let c3_i32_302 : BitVec 32 := 3#32
  let v1004 : BitVec 32 := Scalar.addi v1003 c3_i32_302
  let c512_i32_318 : BitVec 32 := 512#32
  let v1035 : BitVec 32 := Scalar.muli v1004 c512_i32_318
  v1035
def k0_off254 (i : grid0.Coords) (k0_t7 : Fin (k0_t7_loop i).trips) : Fin 3 → Nat :=
  let c0_319 : Index := 0#32
  let c4_i32_296 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v998 : BitVec 32 := Scalar.muli c4_i32_296 arg17
  let c512_i32_303 : BitVec 32 := 512#32
  let v1005 : BitVec 32 := Scalar.muli v998 c512_i32_303
  let v1006 : BitVec 32 := v1005
  let v1038 : Index := Scalar.indexCast v1006
  let c0_320 : Index := 0#32
  ![0, v1038.toNat, 0]
def k0_off255 (i : grid0.Coords) (k0_t7 : Fin (k0_t7_loop i).trips) : Fin 2 → Nat :=
  let c4_i32_296 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v998 : BitVec 32 := Scalar.muli c4_i32_296 arg17
  let c512_i32_303 : BitVec 32 := 512#32
  let v1005 : BitVec 32 := Scalar.muli v998 c512_i32_303
  let v1006 : BitVec 32 := v1005
  let v1047 : Index := Scalar.indexCast v1006
  let c0_328 : Index := 0#32
  ![v1047.toNat, 0]
def k0_off256 (i : grid0.Coords) (k0_t7 : Fin (k0_t7_loop i).trips) : Fin 3 → Nat :=
  let c0_397 : Index := 0#32
  let c4_i32_296 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v998 : BitVec 32 := Scalar.muli c4_i32_296 arg17
  let c512_i32_304 : BitVec 32 := 512#32
  let v1007 : BitVec 32 := Scalar.muli v998 c512_i32_304
  let v1008 : BitVec 32 := v1007
  let v1142 : Index := Scalar.indexCast v1008
  let c128_398 : Index := 128#32
  ![0, v1142.toNat, 128]
def k0_off257 (i : grid0.Coords) (k0_t7 : Fin (k0_t7_loop i).trips) : Fin 3 → Nat :=
  let c0_515 : Index := 0#32
  let c4_i32_296 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v998 : BitVec 32 := Scalar.muli c4_i32_296 arg17
  let c512_i32_305 : BitVec 32 := 512#32
  let v1009 : BitVec 32 := Scalar.muli v998 c512_i32_305
  let v1010 : BitVec 32 := v1009
  let v1298 : Index := Scalar.indexCast v1010
  let c256_516 : Index := 256#32
  ![0, v1298.toNat, 256]
def k0_off258 (i : grid0.Coords) (k0_t7 : Fin (k0_t7_loop i).trips) : Fin 3 → Nat :=
  let c0_521 : Index := 0#32
  let c0_522 : Index := 0#32
  let c4_i32_296 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v998 : BitVec 32 := Scalar.muli c4_i32_296 arg17
  let c512_i32_303 : BitVec 32 := 512#32
  let v1005 : BitVec 32 := Scalar.muli v998 c512_i32_303
  let v1006 : BitVec 32 := v1005
  let v1305 : Index := Scalar.indexCast v1006
  ![0, 0, v1305.toNat]
def k0_off259 (i : grid0.Coords) (k0_t7 : Fin (k0_t7_loop i).trips) : Fin 3 → Nat :=
  let c0_648 : Index := 0#32
  let c4_i32_296 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v998 : BitVec 32 := Scalar.muli c4_i32_296 arg17
  let c512_i32_306 : BitVec 32 := 512#32
  let v1011 : BitVec 32 := Scalar.muli v998 c512_i32_306
  let v1012 : BitVec 32 := v1011
  let v1471 : Index := Scalar.indexCast v1012
  let c384_649 : Index := 384#32
  ![0, v1471.toNat, 384]
def k0_off260 (i : grid0.Coords) (k0_t7 : Fin (k0_t7_loop i).trips) : Fin 3 → Nat :=
  let c0_654 : Index := 0#32
  let c128_655 : Index := 128#32
  let c4_i32_296 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v998 : BitVec 32 := Scalar.muli c4_i32_296 arg17
  let c512_i32_304 : BitVec 32 := 512#32
  let v1007 : BitVec 32 := Scalar.muli v998 c512_i32_304
  let v1008 : BitVec 32 := v1007
  let v1478 : Index := Scalar.indexCast v1008
  ![0, 128, v1478.toNat]
def k0_off261 (i : grid0.Coords) (k0_t7 : Fin (k0_t7_loop i).trips) (c1_i32_298 : BitVec 32) : Fin 3 → Nat :=
  let c0_781 : Index := 0#32
  let c4_i32_297 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v999 : BitVec 32 := Scalar.muli c4_i32_297 arg17
  let v1000 : BitVec 32 := Scalar.addi v999 c1_i32_298
  let c512_i32_307 : BitVec 32 := 512#32
  let v1013 : BitVec 32 := Scalar.muli v1000 c512_i32_307
  let v1014 : BitVec 32 := v1013
  let v1644 : Index := Scalar.indexCast v1014
  let c0_782 : Index := 0#32
  ![0, v1644.toNat, 0]
def k0_off262 (i : grid0.Coords) (k0_t7 : Fin (k0_t7_loop i).trips) : Fin 3 → Nat :=
  let c0_787 : Index := 0#32
  let c256_788 : Index := 256#32
  let c4_i32_296 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v998 : BitVec 32 := Scalar.muli c4_i32_296 arg17
  let c512_i32_305 : BitVec 32 := 512#32
  let v1009 : BitVec 32 := Scalar.muli v998 c512_i32_305
  let v1010 : BitVec 32 := v1009
  let v1651 : Index := Scalar.indexCast v1010
  ![0, 256, v1651.toNat]
def k0_off263 (i : grid0.Coords) (k0_t7 : Fin (k0_t7_loop i).trips) (c1_i32_298 : BitVec 32) : Fin 2 → Nat :=
  let c4_i32_297 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v999 : BitVec 32 := Scalar.muli c4_i32_297 arg17
  let v1000 : BitVec 32 := Scalar.addi v999 c1_i32_298
  let c512_i32_307 : BitVec 32 := 512#32
  let v1013 : BitVec 32 := Scalar.muli v1000 c512_i32_307
  let v1014 : BitVec 32 := v1013
  let v1722 : Index := Scalar.indexCast v1014
  let c0_845 : Index := 0#32
  ![v1722.toNat, 0]
def k0_off264 (i : grid0.Coords) (k0_t7 : Fin (k0_t7_loop i).trips) (c1_i32_298 : BitVec 32) : Fin 3 → Nat :=
  let c0_914 : Index := 0#32
  let c4_i32_297 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v999 : BitVec 32 := Scalar.muli c4_i32_297 arg17
  let v1000 : BitVec 32 := Scalar.addi v999 c1_i32_298
  let c512_i32_308 : BitVec 32 := 512#32
  let v1015 : BitVec 32 := Scalar.muli v1000 c512_i32_308
  let v1016 : BitVec 32 := v1015
  let v1817 : Index := Scalar.indexCast v1016
  let c128_915 : Index := 128#32
  ![0, v1817.toNat, 128]
def k0_off265 (i : grid0.Coords) (k0_t7 : Fin (k0_t7_loop i).trips) : Fin 3 → Nat :=
  let c0_920 : Index := 0#32
  let c384_921 : Index := 384#32
  let c4_i32_296 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v998 : BitVec 32 := Scalar.muli c4_i32_296 arg17
  let c512_i32_306 : BitVec 32 := 512#32
  let v1011 : BitVec 32 := Scalar.muli v998 c512_i32_306
  let v1012 : BitVec 32 := v1011
  let v1824 : Index := Scalar.indexCast v1012
  ![0, 384, v1824.toNat]
def k0_off266 (i : grid0.Coords) (k0_t7 : Fin (k0_t7_loop i).trips) (c1_i32_298 : BitVec 32) : Fin 3 → Nat :=
  let c0_1047 : Index := 0#32
  let c4_i32_297 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v999 : BitVec 32 := Scalar.muli c4_i32_297 arg17
  let v1000 : BitVec 32 := Scalar.addi v999 c1_i32_298
  let c512_i32_309 : BitVec 32 := 512#32
  let v1017 : BitVec 32 := Scalar.muli v1000 c512_i32_309
  let v1018 : BitVec 32 := v1017
  let v1990 : Index := Scalar.indexCast v1018
  let c256_1048 : Index := 256#32
  ![0, v1990.toNat, 256]
def k0_off267 (i : grid0.Coords) (k0_t7 : Fin (k0_t7_loop i).trips) (c1_i32_298 : BitVec 32) : Fin 3 → Nat :=
  let c0_1053 : Index := 0#32
  let c0_1054 : Index := 0#32
  let c4_i32_297 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v999 : BitVec 32 := Scalar.muli c4_i32_297 arg17
  let v1000 : BitVec 32 := Scalar.addi v999 c1_i32_298
  let c512_i32_307 : BitVec 32 := 512#32
  let v1013 : BitVec 32 := Scalar.muli v1000 c512_i32_307
  let v1014 : BitVec 32 := v1013
  let v1997 : Index := Scalar.indexCast v1014
  ![0, 0, v1997.toNat]
def k0_off268 (i : grid0.Coords) (k0_t7 : Fin (k0_t7_loop i).trips) (c1_i32_298 : BitVec 32) : Fin 3 → Nat :=
  let c0_1180 : Index := 0#32
  let c4_i32_297 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v999 : BitVec 32 := Scalar.muli c4_i32_297 arg17
  let v1000 : BitVec 32 := Scalar.addi v999 c1_i32_298
  let c512_i32_310 : BitVec 32 := 512#32
  let v1019 : BitVec 32 := Scalar.muli v1000 c512_i32_310
  let v1020 : BitVec 32 := v1019
  let v2163 : Index := Scalar.indexCast v1020
  let c384_1181 : Index := 384#32
  ![0, v2163.toNat, 384]
def k0_off269 (i : grid0.Coords) (k0_t7 : Fin (k0_t7_loop i).trips) (c1_i32_298 : BitVec 32) : Fin 3 → Nat :=
  let c0_1186 : Index := 0#32
  let c128_1187 : Index := 128#32
  let c4_i32_297 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v999 : BitVec 32 := Scalar.muli c4_i32_297 arg17
  let v1000 : BitVec 32 := Scalar.addi v999 c1_i32_298
  let c512_i32_308 : BitVec 32 := 512#32
  let v1015 : BitVec 32 := Scalar.muli v1000 c512_i32_308
  let v1016 : BitVec 32 := v1015
  let v2170 : Index := Scalar.indexCast v1016
  ![0, 128, v2170.toNat]
def k0_off270 (i : grid0.Coords) (k0_t7 : Fin (k0_t7_loop i).trips) (c1_i32_298 : BitVec 32) : Fin 3 → Nat :=
  let c0_1319 : Index := 0#32
  let c256_1320 : Index := 256#32
  let c4_i32_297 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v999 : BitVec 32 := Scalar.muli c4_i32_297 arg17
  let v1000 : BitVec 32 := Scalar.addi v999 c1_i32_298
  let c512_i32_309 : BitVec 32 := 512#32
  let v1017 : BitVec 32 := Scalar.muli v1000 c512_i32_309
  let v1018 : BitVec 32 := v1017
  let v2343 : Index := Scalar.indexCast v1018
  ![0, 256, v2343.toNat]
def k0_off271 (i : grid0.Coords) (k0_t7 : Fin (k0_t7_loop i).trips) (c1_i32_298 : BitVec 32) : Fin 3 → Nat :=
  let c0_1452 : Index := 0#32
  let c384_1453 : Index := 384#32
  let c4_i32_297 : BitVec 32 := 4#32
  let c0_i32_247 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_240 : BitVec 32 := 0#32
  let v863 : BitVec 1 := Scalar.cmpi .sgt v20 c0_i32_240
  let v864 : BitVec 32 := Scalar.extui v863
  let c0_i32_241 : BitVec 32 := 0#32
  let v865 : BitVec 1 := Scalar.cmpi .slt v20 c0_i32_241
  let v866 : BitVec 32 := Scalar.extui v865
  let v867 : BitVec 32 := Scalar.subi v864 v866
  let c4_i32_239 : BitVec 32 := 4#32
  let c0_i32_242 : BitVec 32 := 0#32
  let v868 : BitVec 1 := Scalar.cmpi .sgt c4_i32_239 c0_i32_242
  let v869 : BitVec 32 := Scalar.extui v868
  let c0_i32_243 : BitVec 32 := 0#32
  let v870 : BitVec 1 := Scalar.cmpi .slt c4_i32_239 c0_i32_243
  let v871 : BitVec 32 := Scalar.extui v870
  let v872 : BitVec 32 := Scalar.subi v869 v871
  let v873 : BitVec 1 := Scalar.cmpi .ne v867 v872
  let v874 : BitVec 32 := Scalar.remsi v20 c4_i32_239
  let c0_i32_244 : BitVec 32 := 0#32
  let v875 : BitVec 1 := Scalar.cmpi .ne v874 c0_i32_244
  let v876 : BitVec 1 := Scalar.andi v873 v875
  let v862 : BitVec 32 := Scalar.divsi v20 c4_i32_239
  let c1_i32_245 : BitVec 32 := 1#32
  let v877 : BitVec 32 := Scalar.subi v862 c1_i32_245
  let v878 : BitVec 32 := Scalar.select v876 v877 v862
  let v879 : BitVec 32 := Scalar.subi v878 c0_i32_247
  let c1_i32_248 : BitVec 32 := 1#32
  let v881 : BitVec 32 := Scalar.divsi v879 c1_i32_248
  let v882 : BitVec 32 := Scalar.muli v881 c1_i32_248
  let v883 : BitVec 32 := Scalar.addi c0_i32_247 v882
  let c1_i32_250 : BitVec 32 := 1#32
  let arg17 : BitVec 32 := Scf.iv v883 c1_i32_250 k0_t7
  let v999 : BitVec 32 := Scalar.muli c4_i32_297 arg17
  let v1000 : BitVec 32 := Scalar.addi v999 c1_i32_298
  let c512_i32_310 : BitVec 32 := 512#32
  let v1019 : BitVec 32 := Scalar.muli v1000 c512_i32_310
  let v1020 : BitVec 32 := v1019
  let v2516 : Index := Scalar.indexCast v1020
  ![0, 384, v2516.toNat]
def k0_cond5 (i : grid0.Coords) : BitVec 1 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c4_i32_251 : BitVec 32 := 4#32
  let c0_i32_252 : BitVec 32 := 0#32
  let v884 : BitVec 1 := Scalar.cmpi .eq c4_i32_251 c0_i32_252
  let c1_i32_253 : BitVec 32 := 1#32
  let v885 : BitVec 32 := Scalar.select v884 c1_i32_253 c4_i32_251
  let v886 : BitVec 32 := Scalar.remsi v20 v885
  let c0_i32_255 : BitVec 32 := 0#32
  let v888 : BitVec 1 := Scalar.cmpi .slt v886 c0_i32_255
  let c0_i32_256 : BitVec 32 := 0#32
  let v889 : BitVec 1 := Scalar.cmpi .slt v885 c0_i32_256
  let v890 : BitVec 1 := Scalar.xori v888 v889
  let c0_i32_254 : BitVec 32 := 0#32
  let v887 : BitVec 1 := Scalar.cmpi .ne v886 c0_i32_254
  let v891 : BitVec 1 := Scalar.andi v890 v887
  let v892 : BitVec 32 := Scalar.addi v886 v885
  let v893 : BitVec 32 := Scalar.select v891 v892 v886
  let c2_i32_257 : BitVec 32 := 2#32
  let v894 : BitVec 1 := Scalar.cmpi .sge v893 c2_i32_257
  let v895 : BitVec 32 := Scalar.extui v894
  let c0_i32_258 : BitVec 32 := 0#32
  let v896 : BitVec 1 := Scalar.cmpi .ne v895 c0_i32_258
  v896

def k0_mult200 (i : grid0.Coords) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c512_i32_305 : BitVec 32 := 512#32
  let v1017 : BitVec 32 := Scalar.muli v1015 c512_i32_305
  v1017
def k0_mult201 (i : grid0.Coords) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c512_i32_306 : BitVec 32 := 512#32
  let v1019 : BitVec 32 := Scalar.muli v1015 c512_i32_306
  v1019
def k0_mult202 (i : grid0.Coords) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c512_i32_307 : BitVec 32 := 512#32
  let v1021 : BitVec 32 := Scalar.muli v1015 c512_i32_307
  v1021
def k0_mult203 (i : grid0.Coords) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c512_i32_308 : BitVec 32 := 512#32
  let v1023 : BitVec 32 := Scalar.muli v1015 c512_i32_308
  v1023
def k0_mult204 (i : grid0.Coords) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c512_i32_309 : BitVec 32 := 512#32
  let v1025 : BitVec 32 := Scalar.muli v1016 c512_i32_309
  v1025
def k0_mult205 (i : grid0.Coords) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c512_i32_310 : BitVec 32 := 512#32
  let v1027 : BitVec 32 := Scalar.muli v1016 c512_i32_310
  v1027
def k0_mult206 (i : grid0.Coords) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c512_i32_311 : BitVec 32 := 512#32
  let v1029 : BitVec 32 := Scalar.muli v1016 c512_i32_311
  v1029
def k0_mult207 (i : grid0.Coords) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c512_i32_312 : BitVec 32 := 512#32
  let v1031 : BitVec 32 := Scalar.muli v1016 c512_i32_312
  v1031
def k0_off272 (i : grid0.Coords) : Fin 3 → Nat :=
  let c0_313 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c512_i32_305 : BitVec 32 := 512#32
  let v1017 : BitVec 32 := Scalar.muli v1015 c512_i32_305
  let v1018 : BitVec 32 := v1017
  let v1034 : Index := Scalar.indexCast v1018
  let c0_314 : Index := 0#32
  ![0, v1034.toNat, 0]
def k0_off273 (i : grid0.Coords) : Fin 2 → Nat :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c512_i32_305 : BitVec 32 := 512#32
  let v1017 : BitVec 32 := Scalar.muli v1015 c512_i32_305
  let v1018 : BitVec 32 := v1017
  let v1043 : Index := Scalar.indexCast v1018
  let c0_322 : Index := 0#32
  ![v1043.toNat, 0]
def k0_off274 (i : grid0.Coords) : Fin 3 → Nat :=
  let c0_391 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c512_i32_306 : BitVec 32 := 512#32
  let v1019 : BitVec 32 := Scalar.muli v1015 c512_i32_306
  let v1020 : BitVec 32 := v1019
  let v1138 : Index := Scalar.indexCast v1020
  let c128_392 : Index := 128#32
  ![0, v1138.toNat, 128]
def k0_off275 (i : grid0.Coords) : Fin 3 → Nat :=
  let c0_509 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c512_i32_307 : BitVec 32 := 512#32
  let v1021 : BitVec 32 := Scalar.muli v1015 c512_i32_307
  let v1022 : BitVec 32 := v1021
  let v1294 : Index := Scalar.indexCast v1022
  let c256_510 : Index := 256#32
  ![0, v1294.toNat, 256]
def k0_off276 (i : grid0.Coords) : Fin 3 → Nat :=
  let c0_515 : Index := 0#32
  let c0_516 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c512_i32_305 : BitVec 32 := 512#32
  let v1017 : BitVec 32 := Scalar.muli v1015 c512_i32_305
  let v1018 : BitVec 32 := v1017
  let v1301 : Index := Scalar.indexCast v1018
  ![0, 0, v1301.toNat]
def k0_off277 (i : grid0.Coords) : Fin 3 → Nat :=
  let c0_642 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c512_i32_308 : BitVec 32 := 512#32
  let v1023 : BitVec 32 := Scalar.muli v1015 c512_i32_308
  let v1024 : BitVec 32 := v1023
  let v1467 : Index := Scalar.indexCast v1024
  let c384_643 : Index := 384#32
  ![0, v1467.toNat, 384]
def k0_off278 (i : grid0.Coords) : Fin 3 → Nat :=
  let c0_648 : Index := 0#32
  let c128_649 : Index := 128#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c512_i32_306 : BitVec 32 := 512#32
  let v1019 : BitVec 32 := Scalar.muli v1015 c512_i32_306
  let v1020 : BitVec 32 := v1019
  let v1474 : Index := Scalar.indexCast v1020
  ![0, 128, v1474.toNat]
def k0_off279 (i : grid0.Coords) : Fin 3 → Nat :=
  let c0_775 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c512_i32_309 : BitVec 32 := 512#32
  let v1025 : BitVec 32 := Scalar.muli v1016 c512_i32_309
  let v1026 : BitVec 32 := v1025
  let v1640 : Index := Scalar.indexCast v1026
  let c0_776 : Index := 0#32
  ![0, v1640.toNat, 0]
def k0_off280 (i : grid0.Coords) : Fin 3 → Nat :=
  let c0_781 : Index := 0#32
  let c256_782 : Index := 256#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c512_i32_307 : BitVec 32 := 512#32
  let v1021 : BitVec 32 := Scalar.muli v1015 c512_i32_307
  let v1022 : BitVec 32 := v1021
  let v1647 : Index := Scalar.indexCast v1022
  ![0, 256, v1647.toNat]
def k0_off281 (i : grid0.Coords) : Fin 2 → Nat :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c512_i32_309 : BitVec 32 := 512#32
  let v1025 : BitVec 32 := Scalar.muli v1016 c512_i32_309
  let v1026 : BitVec 32 := v1025
  let v1718 : Index := Scalar.indexCast v1026
  let c0_839 : Index := 0#32
  ![v1718.toNat, 0]
def k0_off282 (i : grid0.Coords) : Fin 3 → Nat :=
  let c0_908 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c512_i32_310 : BitVec 32 := 512#32
  let v1027 : BitVec 32 := Scalar.muli v1016 c512_i32_310
  let v1028 : BitVec 32 := v1027
  let v1813 : Index := Scalar.indexCast v1028
  let c128_909 : Index := 128#32
  ![0, v1813.toNat, 128]
def k0_off283 (i : grid0.Coords) : Fin 3 → Nat :=
  let c0_914 : Index := 0#32
  let c384_915 : Index := 384#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c512_i32_308 : BitVec 32 := 512#32
  let v1023 : BitVec 32 := Scalar.muli v1015 c512_i32_308
  let v1024 : BitVec 32 := v1023
  let v1820 : Index := Scalar.indexCast v1024
  ![0, 384, v1820.toNat]
def k0_off284 (i : grid0.Coords) : Fin 3 → Nat :=
  let c0_1041 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c512_i32_311 : BitVec 32 := 512#32
  let v1029 : BitVec 32 := Scalar.muli v1016 c512_i32_311
  let v1030 : BitVec 32 := v1029
  let v1986 : Index := Scalar.indexCast v1030
  let c256_1042 : Index := 256#32
  ![0, v1986.toNat, 256]
def k0_off285 (i : grid0.Coords) : Fin 3 → Nat :=
  let c0_1047 : Index := 0#32
  let c0_1048 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c512_i32_309 : BitVec 32 := 512#32
  let v1025 : BitVec 32 := Scalar.muli v1016 c512_i32_309
  let v1026 : BitVec 32 := v1025
  let v1993 : Index := Scalar.indexCast v1026
  ![0, 0, v1993.toNat]
def k0_off286 (i : grid0.Coords) : Fin 3 → Nat :=
  let c0_1174 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c512_i32_312 : BitVec 32 := 512#32
  let v1031 : BitVec 32 := Scalar.muli v1016 c512_i32_312
  let v1032 : BitVec 32 := v1031
  let v2159 : Index := Scalar.indexCast v1032
  let c384_1175 : Index := 384#32
  ![0, v2159.toNat, 384]
def k0_off287 (i : grid0.Coords) : Fin 3 → Nat :=
  let c0_1180 : Index := 0#32
  let c128_1181 : Index := 128#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c512_i32_310 : BitVec 32 := 512#32
  let v1027 : BitVec 32 := Scalar.muli v1016 c512_i32_310
  let v1028 : BitVec 32 := v1027
  let v2166 : Index := Scalar.indexCast v1028
  ![0, 128, v2166.toNat]
def k0_off288 (i : grid0.Coords) : Fin 3 → Nat :=
  let c0_1307 : Index := 0#32
  let c256_1308 : Index := 256#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c512_i32_311 : BitVec 32 := 512#32
  let v1029 : BitVec 32 := Scalar.muli v1016 c512_i32_311
  let v1030 : BitVec 32 := v1029
  let v2331 : Index := Scalar.indexCast v1030
  ![0, 256, v2331.toNat]
def k0_off289 (i : grid0.Coords) : Fin 3 → Nat :=
  let c0_1362 : Index := 0#32
  let c384_1363 : Index := 384#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_297 : BitVec 32 := 0#32
  let v999 : BitVec 1 := Scalar.cmpi .sgt v20 c0_i32_297
  let v1000 : BitVec 32 := Scalar.extui v999
  let c0_i32_298 : BitVec 32 := 0#32
  let v1001 : BitVec 1 := Scalar.cmpi .slt v20 c0_i32_298
  let v1002 : BitVec 32 := Scalar.extui v1001
  let v1003 : BitVec 32 := Scalar.subi v1000 v1002
  let c4_i32_296 : BitVec 32 := 4#32
  let c0_i32_299 : BitVec 32 := 0#32
  let v1004 : BitVec 1 := Scalar.cmpi .sgt c4_i32_296 c0_i32_299
  let v1005 : BitVec 32 := Scalar.extui v1004
  let c0_i32_300 : BitVec 32 := 0#32
  let v1006 : BitVec 1 := Scalar.cmpi .slt c4_i32_296 c0_i32_300
  let v1007 : BitVec 32 := Scalar.extui v1006
  let v1008 : BitVec 32 := Scalar.subi v1005 v1007
  let v1009 : BitVec 1 := Scalar.cmpi .ne v1003 v1008
  let v1010 : BitVec 32 := Scalar.remsi v20 c4_i32_296
  let c0_i32_301 : BitVec 32 := 0#32
  let v1011 : BitVec 1 := Scalar.cmpi .ne v1010 c0_i32_301
  let v1012 : BitVec 1 := Scalar.andi v1009 v1011
  let v998 : BitVec 32 := Scalar.divsi v20 c4_i32_296
  let c1_i32_302 : BitVec 32 := 1#32
  let v1013 : BitVec 32 := Scalar.subi v998 c1_i32_302
  let v1014 : BitVec 32 := Scalar.select v1012 v1013 v998
  let c4_i32_303 : BitVec 32 := 4#32
  let v1015 : BitVec 32 := Scalar.muli v1014 c4_i32_303
  let c1_i32_304 : BitVec 32 := 1#32
  let v1016 : BitVec 32 := Scalar.addi v1015 c1_i32_304
  let c512_i32_312 : BitVec 32 := 512#32
  let v1031 : BitVec 32 := Scalar.muli v1016 c512_i32_312
  let v1032 : BitVec 32 := v1031
  let v2400 : Index := Scalar.indexCast v1032
  ![0, 384, v2400.toNat]
def k0_cond6 (i : grid0.Coords) : BitVec 1 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32_259 : BitVec 32 := 2#32
  let c0_i32_260 : BitVec 32 := 0#32
  let v897 : BitVec 1 := Scalar.cmpi .eq c2_i32_259 c0_i32_260
  let c1_i32_261 : BitVec 32 := 1#32
  let v898 : BitVec 32 := Scalar.select v897 c1_i32_261 c2_i32_259
  let v899 : BitVec 32 := Scalar.remsi v20 v898
  let c0_i32_263 : BitVec 32 := 0#32
  let v901 : BitVec 1 := Scalar.cmpi .slt v899 c0_i32_263
  let c0_i32_264 : BitVec 32 := 0#32
  let v902 : BitVec 1 := Scalar.cmpi .slt v898 c0_i32_264
  let v903 : BitVec 1 := Scalar.xori v901 v902
  let c0_i32_262 : BitVec 32 := 0#32
  let v900 : BitVec 1 := Scalar.cmpi .ne v899 c0_i32_262
  let v904 : BitVec 1 := Scalar.andi v903 v900
  let v905 : BitVec 32 := Scalar.addi v899 v898
  let v906 : BitVec 32 := Scalar.select v904 v905 v899
  let c1_i32_265 : BitVec 32 := 1#32
  let v907 : BitVec 1 := Scalar.cmpi .eq v906 c1_i32_265
  let v908 : BitVec 32 := Scalar.extui v907
  let c0_i32_266 : BitVec 32 := 0#32
  let v909 : BitVec 1 := Scalar.cmpi .ne v908 c0_i32_266
  v909

def k0_mult208 (i : grid0.Coords) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c512_i32_297 : BitVec 32 := 512#32
  let v999 : BitVec 32 := Scalar.muli v998 c512_i32_297
  v999
def k0_mult209 (i : grid0.Coords) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c512_i32_298 : BitVec 32 := 512#32
  let v1001 : BitVec 32 := Scalar.muli v998 c512_i32_298
  v1001
def k0_mult210 (i : grid0.Coords) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c512_i32_299 : BitVec 32 := 512#32
  let v1003 : BitVec 32 := Scalar.muli v998 c512_i32_299
  v1003
def k0_mult211 (i : grid0.Coords) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c512_i32_300 : BitVec 32 := 512#32
  let v1005 : BitVec 32 := Scalar.muli v998 c512_i32_300
  v1005
def k0_off290 (i : grid0.Coords) : Fin 3 → Nat :=
  let c0_301 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c512_i32_297 : BitVec 32 := 512#32
  let v999 : BitVec 32 := Scalar.muli v998 c512_i32_297
  let v1000 : BitVec 32 := v999
  let v1008 : Index := Scalar.indexCast v1000
  let c0_302 : Index := 0#32
  ![0, v1008.toNat, 0]
def k0_off291 (i : grid0.Coords) : Fin 2 → Nat :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c512_i32_297 : BitVec 32 := 512#32
  let v999 : BitVec 32 := Scalar.muli v998 c512_i32_297
  let v1000 : BitVec 32 := v999
  let v1017 : Index := Scalar.indexCast v1000
  let c0_310 : Index := 0#32
  ![v1017.toNat, 0]
def k0_off292 (i : grid0.Coords) : Fin 3 → Nat :=
  let c0_379 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c512_i32_298 : BitVec 32 := 512#32
  let v1001 : BitVec 32 := Scalar.muli v998 c512_i32_298
  let v1002 : BitVec 32 := v1001
  let v1112 : Index := Scalar.indexCast v1002
  let c128_380 : Index := 128#32
  ![0, v1112.toNat, 128]
def k0_off293 (i : grid0.Coords) : Fin 3 → Nat :=
  let c0_497 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c512_i32_299 : BitVec 32 := 512#32
  let v1003 : BitVec 32 := Scalar.muli v998 c512_i32_299
  let v1004 : BitVec 32 := v1003
  let v1268 : Index := Scalar.indexCast v1004
  let c256_498 : Index := 256#32
  ![0, v1268.toNat, 256]
def k0_off294 (i : grid0.Coords) : Fin 3 → Nat :=
  let c0_503 : Index := 0#32
  let c0_504 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c512_i32_297 : BitVec 32 := 512#32
  let v999 : BitVec 32 := Scalar.muli v998 c512_i32_297
  let v1000 : BitVec 32 := v999
  let v1275 : Index := Scalar.indexCast v1000
  ![0, 0, v1275.toNat]
def k0_off295 (i : grid0.Coords) : Fin 3 → Nat :=
  let c0_630 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c512_i32_300 : BitVec 32 := 512#32
  let v1005 : BitVec 32 := Scalar.muli v998 c512_i32_300
  let v1006 : BitVec 32 := v1005
  let v1441 : Index := Scalar.indexCast v1006
  let c384_631 : Index := 384#32
  ![0, v1441.toNat, 384]
def k0_off296 (i : grid0.Coords) : Fin 3 → Nat :=
  let c0_636 : Index := 0#32
  let c128_637 : Index := 128#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c512_i32_298 : BitVec 32 := 512#32
  let v1001 : BitVec 32 := Scalar.muli v998 c512_i32_298
  let v1002 : BitVec 32 := v1001
  let v1448 : Index := Scalar.indexCast v1002
  ![0, 128, v1448.toNat]
def k0_off297 (i : grid0.Coords) : Fin 3 → Nat :=
  let c0_763 : Index := 0#32
  let c256_764 : Index := 256#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c512_i32_299 : BitVec 32 := 512#32
  let v1003 : BitVec 32 := Scalar.muli v998 c512_i32_299
  let v1004 : BitVec 32 := v1003
  let v1613 : Index := Scalar.indexCast v1004
  ![0, 256, v1613.toNat]
def k0_off298 (i : grid0.Coords) : Fin 3 → Nat :=
  let c0_818 : Index := 0#32
  let c384_819 : Index := 384#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_296 : BitVec 32 := 1#32
  let v998 : BitVec 32 := Scalar.subi v20 c1_i32_296
  let c512_i32_300 : BitVec 32 := 512#32
  let v1005 : BitVec 32 := Scalar.muli v998 c512_i32_300
  let v1006 : BitVec 32 := v1005
  let v1682 : Index := Scalar.indexCast v1006
  ![0, 384, v1682.toNat]
def cc0_transform_0 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c1_i32 : BitVec 32 := 1#32
  let c0_i32 : BitVec 32 := 0#32
  let c0_i32_0 : BitVec 32 := 0#32
  let c0_i32_1 : BitVec 32 := 0#32
  ![v1.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x16x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x8192x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x8192x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x512x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2.lean ====
abbrev S16384x4096 : Shape := ⟨2, ![16384, 4096]⟩
abbrev S4096x4096 : Shape := ⟨2, ![4096, 4096]⟩
abbrev S16384x256 : Shape := ⟨2, ![16384, 256]⟩
abbrev S256x4096 : Shape := ⟨2, ![256, 4096]⟩
abbrev S4096 : Shape := ⟨1, ![4096]⟩
abbrev S1x4096 : Shape := ⟨2, ![1, 4096]⟩
abbrev S512x4096 : Shape := ⟨2, ![512, 4096]⟩
abbrev S4096x512 : Shape := ⟨2, ![4096, 512]⟩
abbrev S512x256 : Shape := ⟨2, ![512, 256]⟩
abbrev S256x512 : Shape := ⟨2, ![256, 512]⟩
abbrev S64x4096 : Shape := ⟨2, ![64, 4096]⟩
abbrev S64 : Shape := ⟨1, ![64]⟩
abbrev S64x1 : Shape := ⟨2, ![64, 1]⟩
abbrev S512x512 : Shape := ⟨2, ![512, 512]⟩

abbrev nBuf : Space → Nat
  | .hbm => 9
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S4096x4096, .bf16⟩
  | .hbm, ⟨2, _⟩ => ⟨S16384x256, .f32⟩
  | .hbm, ⟨3, _⟩ => ⟨S256x4096, .f32⟩
  | .hbm, ⟨4, _⟩ => ⟨S4096, .f32⟩
  | .hbm, ⟨5, _⟩ => ⟨S16384x256, .bf16⟩
  | .hbm, ⟨6, _⟩ => ⟨S256x4096, .bf16⟩
  | .hbm, ⟨7, _⟩ => ⟨S1x4096, .f32⟩
  | .hbm, ⟨8, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S4096x512, .bf16⟩
  | .local _ .vmem, ⟨3, _⟩ => ⟨S4096x512, .bf16⟩
  | .local _ .vmem, ⟨4, _⟩ => ⟨S512x256, .bf16⟩
  | .local _ .vmem, ⟨5, _⟩ => ⟨S512x256, .bf16⟩
  | .local _ .vmem, ⟨6, _⟩ => ⟨S256x512, .bf16⟩
  | .local _ .vmem, ⟨7, _⟩ => ⟨S256x512, .bf16⟩
  | .local _ .vmem, ⟨8, _⟩ => ⟨S1x4096, .f32⟩
  | .local _ .vmem, ⟨9, _⟩ => ⟨S512x4096, .f32⟩
  | .local _ .vmem, ⟨10, _⟩ => ⟨S512x4096, .f32⟩
  | .local _ .vmem, ⟨11, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c8_i32 : BitVec 32 := 8#32
  let v29 : BitVec 32 := Scalar.addi c0_i32_15 c8_i32
  let c1_i32 : BitVec 32 := 1#32
  ⟨c0_i32_15, v29, c1_i32⟩
def k0_mult1 (k0_t1 : Fin k0_t1_loop.trips) : BitVec 32 :=
  let c0_i32_15 : BitVec 32 := 0#32
  let c1_i32 : BitVec 32 := 1#32
  let arg9 : BitVec 32 := Scf.iv c0_i32_15 c1_i32 k0_t1
  let c64_i32 : BitVec 32 := 64#32
  let v30 : BitVec 32 := Scalar.muli arg9 c64_i32
  v30
def k0_off1 (k0_t1 : Fin k0_t1_loop.trips) : Fin 2 → Nat :=
  let c0_i32_15 : BitVec 32 := 0#32
  let c1_i32 : BitVec 32 := 1#32
  let arg9 : BitVec 32 := Scf.iv c0_i32_15 c1_i32 k0_t1
  let c64_i32 : BitVec 32 := 64#32
  let v30 : BitVec 32 := Scalar.muli arg9 c64_i32
  let v31 : BitVec 32 := v30
  let v32 : Index := Scalar.indexCast v31
  let c0_17 : Index := 0#32
  ![v32.toNat, 0]
def k0_mult2 (k0_t1 : Fin k0_t1_loop.trips) : BitVec 32 :=
  let c0_i32_15 : BitVec 32 := 0#32
  let c1_i32 : BitVec 32 := 1#32
  let arg9 : BitVec 32 := Scf.iv c0_i32_15 c1_i32 k0_t1
  let c64_i32_21 : BitVec 32 := 64#32
  let v45 : BitVec 32 := Scalar.muli arg9 c64_i32_21
  v45
def k0_mult3 (i : grid0.Coords) : BitVec 32 :=
  let arg1 : BitVec 32 := BitVec.ofNat 32 (i 1).val
  let c512_i32 : BitVec 32 := 512#32
  let v3 : BitVec 32 := Scalar.muli arg1 c512_i32
  v3
def k0_off2 (i : grid0.Coords) : Fin 2 → Nat :=
  let c0_7 : Index := 0#32
  let arg1 : BitVec 32 := BitVec.ofNat 32 (i 1).val
  let c512_i32 : BitVec 32 := 512#32
  let v3 : BitVec 32 := Scalar.muli arg1 c512_i32
  let v4 : BitVec 32 := v3
  let v15 : Index := Scalar.indexCast v4
  ![0, v15.toNat]
def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_14 : BitVec 32 := 0#32
  let v28 : BitVec 1 := Scalar.cmpi .ne v27 c0_i32_14
  v28

@[reducible] def k0_t2_loop : Scf.Loop 32 :=
  let c0_i32_15 : BitVec 32 := 0#32
  let c8_i32 : BitVec 32 := 8#32
  let v29 : BitVec 32 := Scalar.addi c0_i32_15 c8_i32
  let c1_i32 : BitVec 32 := 1#32
  ⟨c0_i32_15, v29, c1_i32⟩
def k0_mult4 (k0_t2 : Fin k0_t2_loop.trips) : BitVec 32 :=
  let c0_i32_15 : BitVec 32 := 0#32
  let c1_i32 : BitVec 32 := 1#32
  let arg9 : BitVec 32 := Scf.iv c0_i32_15 c1_i32 k0_t2
  let c64_i32 : BitVec 32 := 64#32
  let v30 : BitVec 32 := Scalar.muli arg9 c64_i32
  v30
def k0_off3 (k0_t2 : Fin k0_t2_loop.trips) : Fin 2 → Nat :=
  let c0_i32_15 : BitVec 32 := 0#32
  let c1_i32 : BitVec 32 := 1#32
  let arg9 : BitVec 32 := Scf.iv c0_i32_15 c1_i32 k0_t2
  let c64_i32 : BitVec 32 := 64#32
  let v30 : BitVec 32 := Scalar.muli arg9 c64_i32
  let v31 : BitVec 32 := v30
  let v32 : Index := Scalar.indexCast v31
  let c0_17 : Index := 0#32
  ![v32.toNat, 0]
def k0_mult5 (k0_t2 : Fin k0_t2_loop.trips) : BitVec 32 :=
  let c0_i32_15 : BitVec 32 := 0#32
  let c1_i32 : BitVec 32 := 1#32
  let arg9 : BitVec 32 := Scf.iv c0_i32_15 c1_i32 k0_t2
  let c64_i32_23 : BitVec 32 := 64#32
  let v49 : BitVec 32 := Scalar.muli arg9 c64_i32_23
  v49
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384x4096 : Shape := ⟨2, ![16384, 4096]⟩
abbrev S4096x4096 : Shape := ⟨2, ![4096, 4096]⟩
abbrev S16384x256 : Shape := ⟨2, ![16384, 256]⟩
abbrev S256x4096 : Shape := ⟨2, ![256, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 47
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .bf16⟩
  | .hbm, ⟨2, _⟩ => ⟨S16384x256, .f32⟩
  | .hbm, ⟨3, _⟩ => ⟨S256x4096, .f32⟩
  | .hbm, ⟨4, _⟩ => ⟨S4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S4096x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x4096, .f32⟩
  | .hbm, ⟨43, _⟩ => ⟨S16384x4096, .f32⟩
  | .hbm, ⟨44, _⟩ => ⟨S1x4096, .f32⟩
  | .hbm, ⟨45, _⟩ => ⟨S16384x4096, .f32⟩
  | .hbm, ⟨46, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel3.lean ====
abbrev S16384x4096 : Shape := ⟨2, ![16384, 4096]⟩
abbrev S4096x11008 : Shape := ⟨2, ![4096, 11008]⟩
abbrev S11008x4096 : Shape := ⟨2, ![11008, 4096]⟩
abbrev S16384x11008 : Shape := ⟨2, ![16384, 11008]⟩
abbrev S1024x4096 : Shape := ⟨2, ![1024, 4096]⟩
abbrev S4096x512 : Shape := ⟨2, ![4096, 512]⟩
abbrev S32x4096 : Shape := ⟨2, ![32, 4096]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S4096x11008, .bf16⟩
  | .hbm, ⟨2, _⟩ => ⟨S4096x11008, .bf16⟩
  | .hbm, ⟨3, _⟩ => ⟨S11008x4096, .f32⟩
  | .hbm, ⟨4, _⟩ => ⟨S16384x11008, .bf16⟩
  | .hbm, ⟨5, _⟩ => ⟨S11008x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S32x4096, .f32⟩
  | .local _ .vmem, ⟨7, _⟩ => ⟨S32x4096, .f32⟩
  | .local _ .vmem, ⟨8, _⟩ => ⟨S1024x512, .bf16⟩
  | .local _ .vmem, ⟨9, _⟩ => ⟨S1024x512, .bf16⟩
  | .local _ .vmem, ⟨10, _⟩ => ⟨S32x4096, .bf16⟩
  | .local _ .vmem, ⟨11, _⟩ => ⟨S32x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.muli arg0 c22_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.muli arg0 c22_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16384x4096 : Shape := ⟨2, ![16384, 4096]⟩
abbrev S4096x11008 : Shape := ⟨2, ![4096, 11008]⟩
abbrev S11008x4096 : Shape := ⟨2, ![11008, 4096]⟩
abbrev S16384x11008 : Shape := ⟨2, ![16384, 11008]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x11008, .bf16⟩
  | .hbm, ⟨2, _⟩ => ⟨S4096x11008, .bf16⟩
  | .hbm, ⟨3, _⟩ => ⟨S11008x4096, .f32⟩
  | .hbm, ⟨4, _⟩ => ⟨S16384x4096, .f32⟩
  | .hbm, ⟨5, _⟩ => ⟨S4096x11008, .f32⟩
  | .hbm, ⟨6, _⟩ => ⟨S16384x11008, .f32⟩
  | .hbm, ⟨7, _⟩ => ⟨S16384x11008, .f32⟩
  | .hbm, ⟨8, _⟩ => ⟨S16384x11008, .f32⟩
  | .hbm, ⟨9, _⟩ => ⟨S_, .f32⟩
  | .hbm, ⟨10, _⟩ => ⟨S16384x11008, .f32⟩
  | .hbm, ⟨11, _⟩ => ⟨S16384x11008, .f32⟩
  | .hbm, ⟨12, _⟩ => ⟨S_, .f32⟩
  | .hbm, ⟨13, _⟩ => ⟨S16384x11008, .f32⟩
  | .hbm, ⟨14, _⟩ => ⟨S16384x11008, .f32⟩
  | .hbm, ⟨15, _⟩ => ⟨S16384x11008, .f32⟩
  | .hbm, ⟨16, _⟩ => ⟨S16384x4096, .f32⟩
  | .hbm, ⟨17, _⟩ => ⟨S4096x11008, .f32⟩
  | .hbm, ⟨18, _⟩ => ⟨S16384x11008, .f32⟩
  | .hbm, ⟨19, _⟩ => ⟨S16384x11008, .f32⟩
  | .hbm, ⟨20, _⟩ => ⟨S16384x11008, .bf16⟩
  | .hbm, ⟨21, _⟩ => ⟨S11008x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel4.lean ====
abbrev S16384x11008 : Shape := ⟨2, ![16384, 11008]⟩
abbrev S11008x4096 : Shape := ⟨2, ![11008, 4096]⟩
abbrev S16384x4096 : Shape := ⟨2, ![16384, 4096]⟩
abbrev S4096x4096 : Shape := ⟨2, ![4096, 4096]⟩
abbrev S512x11008 : Shape := ⟨2, ![512, 11008]⟩
abbrev S11008x512 : Shape := ⟨2, ![11008, 512]⟩
abbrev S512x512 : Shape := ⟨2, ![512, 512]⟩
abbrev S16x4096 : Shape := ⟨2, ![16, 4096]⟩

abbrev nBuf : Space → Nat
  | .hbm => 6
  | .vmem => 12
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .bf16⟩
  | .hbm, ⟨2, _⟩ => ⟨S16384x4096, .f32⟩
  | .hbm, ⟨3, _⟩ => ⟨S4096x4096, .f32⟩
  | .hbm, ⟨4, _⟩ => ⟨S16384x4096, .f32⟩
  | .hbm, ⟨5, _⟩ => ⟨S4096x4096, .bf16⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S16x4096, .f32⟩
  | .local _ .vmem, ⟨7, _⟩ => ⟨S16x4096, .f32⟩
  | .local _ .vmem, ⟨8, _⟩ => ⟨S512x512, .f32⟩
  | .local _ .vmem, ⟨9, _⟩ => ⟨S512x512, .f32⟩
  | .local _ .vmem, ⟨10, _⟩ => ⟨S16x4096, .bf16⟩
  | .local _ .vmem, ⟨11, _⟩ => ⟨S16x4096, .bf16⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S16384x11008 : Shape := ⟨2, ![16384, 11008]⟩
abbrev S11008x4096 : Shape := ⟨2, ![11008, 4096]⟩
abbrev S16384x4096 : Shape := ⟨2, ![16384, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .bf16⟩
  | .hbm, ⟨2, _⟩ => ⟨S16384x4096, .f32⟩
  | .hbm, ⟨3, _⟩ => ⟨S4096x4096, .f32⟩
  | .hbm, ⟨4, _⟩ => ⟨S16384x11008, .f32⟩
  | .hbm, ⟨5, _⟩ => ⟨S11008x4096, .f32⟩
  | .hbm, ⟨6, _⟩ => ⟨S16384x4096, .f32⟩
  | .hbm, ⟨7, _⟩ => ⟨S16384x4096, .f32⟩
  | .hbm, ⟨8, _⟩ => ⟨S4096x4096, .bf16⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel5.lean ====
abbrev S16384x4096 : Shape := ⟨2, ![16384, 4096]⟩
abbrev S16384x2048 : Shape := ⟨2, ![16384, 2048]⟩
abbrev S4096x8192 : Shape := ⟨2, ![4096, 8192]⟩
abbrev S8192 : Shape := ⟨1, ![8192]⟩
abbrev S2048x4096 : Shape := ⟨2, ![2048, 4096]⟩
abbrev S4096x11008 : Shape := ⟨2, ![4096, 11008]⟩
abbrev S1x8192 : Shape := ⟨2, ![1, 8192]⟩
abbrev S1024x4096 : Shape := ⟨2, ![1024, 4096]⟩
abbrev S1024x2048 : Shape := ⟨2, ![1024, 2048]⟩
abbrev S4096x256 : Shape := ⟨2, ![4096, 256]⟩
abbrev S1x256 : Shape := ⟨2, ![1, 256]⟩
abbrev S2048x256 : Shape := ⟨2, ![2048, 256]⟩
abbrev S16x11008 : Shape := ⟨2, ![16, 11008]⟩
abbrev S1024x256 : Shape := ⟨2, ![1024, 256]⟩

abbrev nBuf : Space → Nat
  | .hbm => 13
  | .vmem => 24
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S16384x2048, .bf16⟩
  | .hbm, ⟨3, _⟩ => ⟨S4096x8192, .bf16⟩
  | .hbm, ⟨4, _⟩ => ⟨S8192, .f32⟩
  | .hbm, ⟨5, _⟩ => ⟨S2048x4096, .f32⟩
  | .hbm, ⟨6, _⟩ => ⟨S2048x4096, .f32⟩
  | .hbm, ⟨7, _⟩ => ⟨S4096x11008, .f32⟩
  | .hbm, ⟨8, _⟩ => ⟨S1x8192, .f32⟩
  | .hbm, ⟨9, _⟩ => ⟨S2048x4096, .bf16⟩
  | .hbm, ⟨10, _⟩ => ⟨S2048x4096, .bf16⟩
  | .hbm, ⟨11, _⟩ => ⟨S16384x4096, .bf16⟩
  | .hbm, ⟨12, _⟩ => ⟨S4096x11008, .bf16⟩
  | .local _ .vmem, ⟨0, _⟩ => ⟨S1024x4096, .bf16⟩
  | .local _ .vmem, ⟨1, _⟩ => ⟨S1024x4096, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S16x11008, .f32⟩
  | .local _ .vmem, ⟨19, _⟩ => ⟨S16x11008, .f32⟩
  | .local _ .vmem, ⟨20, _⟩ => ⟨S1024x256, .bf16⟩
  | .local _ .vmem, ⟨21, _⟩ => ⟨S1024x256, .bf16⟩
  | .local _ .vmem, ⟨22, _⟩ => ⟨S16x11008, .bf16⟩
  | .local _ .vmem, ⟨23, _⟩ => ⟨S16x11008, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S16x11008 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x11008 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference5Ideal.lean ====
abbrev S16384x4096 : Shape := ⟨2, ![16384, 4096]⟩
abbrev S16384x2048 : Shape := ⟨2, ![16384, 2048]⟩
abbrev S4096x8192 : Shape := ⟨2, ![4096, 8192]⟩
abbrev S8192 : Shape := ⟨1, ![8192]⟩
abbrev S2048x4096 : Shape := ⟨2, ![2048, 4096]⟩
abbrev S4096x11008 : Shape := ⟨2, ![4096, 11008]⟩
abbrev S16384x8192 : Shape := ⟨2, ![16384, 8192]⟩
abbrev S1x8192 : Shape := ⟨2, ![1, 8192]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S16384x2048, .bf16⟩
  | .hbm, ⟨3, _⟩ => ⟨S4096x8192, .bf16⟩
  | .hbm, ⟨4, _⟩ => ⟨S8192, .f32⟩
  | .hbm, ⟨5, _⟩ => ⟨S2048x4096, .f32⟩
  | .hbm, ⟨6, _⟩ => ⟨S2048x4096, .f32⟩
  | .hbm, ⟨7, _⟩ => ⟨S4096x11008, .f32⟩
  | .hbm, ⟨8, _⟩ => ⟨S16384x4096, .f32⟩
  | .hbm, ⟨9, _⟩ => ⟨S4096x8192, .f32⟩
  | .hbm, ⟨10, _⟩ => ⟨S16384x8192, .f32⟩
  | .hbm, ⟨11, _⟩ => ⟨S1x8192, .f32⟩
  | .hbm, ⟨12, _⟩ => ⟨S16384x8192, .f32⟩
  | .hbm, ⟨13, _⟩ => ⟨S16384x8192, .f32⟩
  | .hbm, ⟨14, _⟩ => ⟨S16384x8192, .f32⟩
  | .hbm, ⟨15, _⟩ => ⟨S16384x8192, .f32⟩
  | .hbm, ⟨16, _⟩ => ⟨S_, .f32⟩
  | .hbm, ⟨17, _⟩ => ⟨S16384x8192, .f32⟩
  | .hbm, ⟨18, _⟩ => ⟨S16384x8192, .f32⟩
  | .hbm, ⟨19, _⟩ => ⟨S_, .f32⟩
  | .hbm, ⟨20, _⟩ => ⟨S16384x8192, .f32⟩
  | .hbm, ⟨21, _⟩ => ⟨S16384x8192, .f32⟩
  | .hbm, ⟨22, _⟩ => ⟨S16384x4096, .f32⟩
  | .hbm, ⟨23, _⟩ => ⟨S16384x4096, .f32⟩
  | .hbm, ⟨24, _⟩ => ⟨S16384x2048, .f32⟩
  | .hbm, ⟨25, _⟩ => ⟨S16384x4096, .f32⟩
  | .hbm, ⟨26, _⟩ => ⟨S16384x4096, .f32⟩
  | .hbm, ⟨27, _⟩ => ⟨S16384x2048, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S16384x4096, .bf16⟩
  | .hbm, ⟨32, _⟩ => ⟨S4096x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel6.lean ====
abbrev S16384x4096 : Shape := ⟨2, ![16384, 4096]⟩
abbrev S4096x4096 : Shape := ⟨2, ![4096, 4096]⟩
abbrev S4096x11008 : Shape := ⟨2, ![4096, 11008]⟩
abbrev S1024x4096 : Shape := ⟨2, ![1024, 4096]⟩
abbrev S4096x512 : Shape := ⟨2, ![4096, 512]⟩
abbrev S1024x512 : Shape := ⟨2, ![1024, 512]⟩
abbrev S32x11008 : Shape := ⟨2, ![32, 11008]⟩

abbrev nBuf : Space → Nat
  | .hbm => 6
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S4096x11008, .f32⟩
  | .hbm, ⟨4, _⟩ => ⟨S16384x4096, .f32⟩
  | .hbm, ⟨5, _⟩ => ⟨S4096x11008, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S32x11008, .f32⟩
  | .local _ .vmem, ⟨7, _⟩ => ⟨S32x11008, .f32⟩
  | .local _ .vmem, ⟨8, _⟩ => ⟨S1024x512, .f32⟩
  | .local _ .vmem, ⟨9, _⟩ => ⟨S1024x512, .f32⟩
  | .local _ .vmem, ⟨10, _⟩ => ⟨S32x11008, .bf16⟩
  | .local _ .vmem, ⟨11, _⟩ => ⟨S32x11008, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x11008 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x11008 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S16384x4096 : Shape := ⟨2, ![16384, 4096]⟩
abbrev S4096x4096 : Shape := ⟨2, ![4096, 4096]⟩
abbrev S4096x11008 : Shape := ⟨2, ![4096, 11008]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S4096x11008, .f32⟩
  | .hbm, ⟨4, _⟩ => ⟨S16384x4096, .f32⟩
  | .hbm, ⟨5, _⟩ => ⟨S4096x4096, .f32⟩
  | .hbm, ⟨6, _⟩ => ⟨S16384x4096, .f32⟩
  | .hbm, ⟨7, _⟩ => ⟨S16384x4096, .f32⟩
  | .hbm, ⟨8, _⟩ => ⟨S4096x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel7.lean ====
abbrev S16384x4096 : Shape := ⟨2, ![16384, 4096]⟩
abbrev S4096x11408 : Shape := ⟨2, ![4096, 11408]⟩
abbrev S4096x8192 : Shape := ⟨2, ![4096, 8192]⟩
abbrev S4096x6144 : Shape := ⟨2, ![4096, 6144]⟩
abbrev S16384x6144 : Shape := ⟨2, ![16384, 6144]⟩
abbrev S1024x4096 : Shape := ⟨2, ![1024, 4096]⟩
abbrev S4096x512 : Shape := ⟨2, ![4096, 512]⟩
abbrev S32x8192 : Shape := ⟨2, ![32, 8192]⟩
abbrev S1024x512 : Shape := ⟨2, ![1024, 512]⟩

abbrev nBuf : Space → Nat
  | .hbm => 7
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x11408, .f32⟩
  | .hbm, ⟨2, _⟩ => ⟨S4096x8192, .f32⟩
  | .hbm, ⟨3, _⟩ => ⟨S4096x11408, .bf16⟩
  | .hbm, ⟨4, _⟩ => ⟨S4096x6144, .bf16⟩
  | .hbm, ⟨5, _⟩ => ⟨S16384x6144, .f32⟩
  | .hbm, ⟨6, _⟩ => ⟨S4096x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S32x8192, .f32⟩
  | .local _ .vmem, ⟨5, _⟩ => ⟨S32x8192, .f32⟩
  | .local _ .vmem, ⟨6, _⟩ => ⟨S1024x512, .f32⟩
  | .local _ .vmem, ⟨7, _⟩ => ⟨S1024x512, .f32⟩
  | .local _ .vmem, ⟨8, _⟩ => ⟨S32x8192, .bf16⟩
  | .local _ .vmem, ⟨9, _⟩ => ⟨S32x8192, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S16384x4096 : Shape := ⟨2, ![16384, 4096]⟩
abbrev S4096x11408 : Shape := ⟨2, ![4096, 11408]⟩
abbrev S4096x8192 : Shape := ⟨2, ![4096, 8192]⟩
abbrev S16384x11408 : Shape := ⟨2, ![16384, 11408]⟩
abbrev S16384x6144 : Shape := ⟨2, ![16384, 6144]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x11408, .f32⟩
  | .hbm, ⟨2, _⟩ => ⟨S4096x8192, .f32⟩
  | .hbm, ⟨3, _⟩ => ⟨S16384x4096, .f32⟩
  | .hbm, ⟨4, _⟩ => ⟨S16384x11408, .f32⟩
  | .hbm, ⟨5, _⟩ => ⟨S16384x6144, .f32⟩
  | .hbm, ⟨6, _⟩ => ⟨S4096x8192, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S16384x4096 : Shape := ⟨2, ![16384, 4096]⟩
abbrev S4096x11408 : Shape := ⟨2, ![4096, 11408]⟩
abbrev S16384x64 : Shape := ⟨2, ![16384, 64]⟩
abbrev S16384x128 : Shape := ⟨2, ![16384, 128]⟩
abbrev S16384x1152 : Shape := ⟨2, ![16384, 1152]⟩
abbrev S1024x4096 : Shape := ⟨2, ![1024, 4096]⟩
abbrev S4096x512 : Shape := ⟨2, ![4096, 512]⟩
abbrev S4096x128 : Shape := ⟨2, ![4096, 128]⟩
abbrev S1024x128 : Shape := ⟨2, ![1024, 128]⟩
abbrev S1024x1152 : Shape := ⟨2, ![1024, 1152]⟩
abbrev S1024x512 : Shape := ⟨2, ![1024, 512]⟩

abbrev nBuf : Space → Nat
  | .hbm => 9
  | .vmem => 11
  | .smem => 0
  | _ => 0

abbrev bufTy : (tb : Table) → Fin (tcTables nBuf tb) → BufTy
  | .hbm, ⟨0, _⟩ => ⟨S16384x4096, .bf16⟩
  | .hbm, ⟨1, _⟩ => ⟨S4096x11408, .f32⟩
  | .hbm, ⟨2, _⟩ => ⟨S16384x64, .f32⟩
  | .hbm, ⟨3, _⟩ => ⟨S16384x64, .f32⟩
  | .hbm, ⟨4, _⟩ => ⟨S4096x11408, .bf16⟩
  | .hbm, ⟨5, _⟩ => ⟨S16384x128, .f32⟩
  | .hbm, ⟨6, _⟩ => ⟨S16384x64, .f32⟩
  | .hbm, ⟨7, _⟩ => ⟨S16384x128, .f32⟩
  | .hbm, ⟨8, _⟩ => ⟨S16384x1152, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x128, .bf16⟩
  | .local _ .vmem, ⟨4, _⟩ => ⟨S4096x512, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x1152, .bf16⟩
  | .local _ .vmem, ⟨10, _⟩ => ⟨S1024x1152, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_2 (i : grid0.Coords) : Fin 2 → Nat :=
  let arg0 : BitVec 32 := BitVec.ofNat 32 (i 0).val
  let c0_i32 : BitVec 32 := 0#32
  let c40_i32 : BitVec 32 := 40#32
  let c0_i32_0 : BitVec 32 := 0#32
  ![c0_i32.toNat, c40_i32.toNat]

def cc0_transform_3 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1152 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S16384x4096 : Shape := ⟨2, ![16384, 4096]⟩
abbrev S4096x11408 : Shape := ⟨2, ![4096, 11408]⟩
abbrev S16384x64 : Shape := ⟨2, ![16384, 64]⟩
abbrev S16384x11408 : Shape := ⟨2, ![16384, 11408]⟩
abbrev S16384x512 : Shape := ⟨2, ![16384, 512]⟩
abbrev S16384x4x128 : Shape := ⟨3, ![16384, 4, 128]⟩
abbrev S16384x1x64 : Shape := ⟨3, ![16384, 1, 64]⟩
abbrev S16384x4x64 : Shape := ⟨3, ![16384, 4, 64]⟩
abbrev S16384x128 : Shape := ⟨2, ![16384, 128]⟩
abbrev S16384x1x128 : Shape := ⟨3, ![16384, 1, 128]⟩
abbrev S16384x1152 : Shape := ⟨2, ![16384, 1152]⟩

abbrev nBuf : Space → Nat
  | .hbm => 41
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x11408, .f32⟩
  | .hbm, ⟨2, _⟩ => ⟨S16384x64, .f32⟩
  | .hbm, ⟨3, _⟩ => ⟨S16384x64, .f32⟩
  | .hbm, ⟨4, _⟩ => ⟨S16384x4096, .f32⟩
  | .hbm, ⟨5, _⟩ => ⟨S16384x11408, .f32⟩
  | .hbm, ⟨6, _⟩ => ⟨S16384x512, .f32⟩
  | .hbm, ⟨7, _⟩ => ⟨S16384x4x128, .f32⟩
  | .hbm, ⟨8, _⟩ => ⟨S16384x1x64, .f32⟩
  | .hbm, ⟨9, _⟩ => ⟨S16384x1x64, .f32⟩
  | .hbm, ⟨10, _⟩ => ⟨S16384x4x64, .f32⟩
  | .hbm, ⟨11, _⟩ => ⟨S16384x4x64, .f32⟩
  | .hbm, ⟨12, _⟩ => ⟨S16384x4x64, .f32⟩
  | .hbm, ⟨13, _⟩ => ⟨S16384x4x64, .f32⟩
  | .hbm, ⟨14, _⟩ => ⟨S16384x4x64, .f32⟩
  | .hbm, ⟨15, _⟩ => ⟨S16384x4x64, .f32⟩
  | .hbm, ⟨16, _⟩ => ⟨S16384x4x64, .f32⟩
  | .hbm, ⟨17, _⟩ => ⟨S16384x4x64, .f32⟩
  | .hbm, ⟨18, _⟩ => ⟨S16384x4x64, .f32⟩
  | .hbm, ⟨19, _⟩ => ⟨S16384x4x64, .f32⟩
  | .hbm, ⟨20, _⟩ => ⟨S16384x4x64, .f32⟩
  | .hbm, ⟨21, _⟩ => ⟨S16384x4x64, .f32⟩
  | .hbm, ⟨22, _⟩ => ⟨S16384x4x128, .f32⟩
  | .hbm, ⟨23, _⟩ => ⟨S16384x128, .f32⟩
  | .hbm, ⟨24, _⟩ => ⟨S16384x1x128, .f32⟩
  | .hbm, ⟨25, _⟩ => ⟨S16384x1x64, .f32⟩
  | .hbm, ⟨26, _⟩ => ⟨S16384x1x64, .f32⟩
  | .hbm, ⟨27, _⟩ => ⟨S16384x1x64, .f32⟩
  | .hbm, ⟨28, _⟩ => ⟨S16384x1x64, .f32⟩
  | .hbm, ⟨29, _⟩ => ⟨S16384x1x64, .f32⟩
  | .hbm, ⟨30, _⟩ => ⟨S16384x1x64, .f32⟩
  | .hbm, ⟨31, _⟩ => ⟨S16384x1x64, .f32⟩
  | .hbm, ⟨32, _⟩ => ⟨S16384x1x64, .f32⟩
  | .hbm, ⟨33, _⟩ => ⟨S16384x1x64, .f32⟩
  | .hbm, ⟨34, _⟩ => ⟨S16384x1x64, .f32⟩
  | .hbm, ⟨35, _⟩ => ⟨S16384x1x128, .f32⟩
  | .hbm, ⟨36, _⟩ => ⟨S16384x512, .f32⟩
  | .hbm, ⟨37, _⟩ => ⟨S16384x512, .f32⟩
  | .hbm, ⟨38, _⟩ => ⟨S16384x128, .f32⟩
  | .hbm, ⟨39, _⟩ => ⟨S16384x1152, .f32⟩
  | .hbm, ⟨40, _⟩ => ⟨S16384x1152, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩

abbrev nD : Nat := 1
abbrev τ : Topo := Topo.v7x

variable {F : FTy → Type} [FloatOps F]
-- ==== Kernel9.lean ====
abbrev S16384x4096 : Shape := ⟨2, ![16384, 4096]⟩
abbrev S4096x11408 : Shape := ⟨2, ![4096, 11408]⟩
abbrev S16384x64 : Shape := ⟨2, ![16384, 64]⟩
abbrev S4096x4096 : Shape := ⟨2, ![4096, 4096]⟩
abbrev S16384x128 : Shape := ⟨2, ![16384, 128]⟩
abbrev S128x32x128x128 : Shape := ⟨4, ![128, 32, 128, 128]⟩
abbrev S1024x4096 : Shape := ⟨2, ![1024, 4096]⟩
abbrev S4096x1024 : Shape := ⟨2, ![4096, 1024]⟩
abbrev S1024x128 : Shape := ⟨2, ![1024, 128]⟩
abbrev S64x4096 : Shape := ⟨2, ![64, 4096]⟩
abbrev S8x8x128x128 : Shape := ⟨4, ![8, 8, 128, 128]⟩
abbrev S1024x1024 : Shape := ⟨2, ![1024, 1024]⟩
abbrev S128x128 : Shape := ⟨2, ![128, 128]⟩
abbrev S1x1x128x128 : Shape := ⟨4, ![1, 1, 128, 128]⟩

abbrev nBuf : Space → Nat
  | .hbm => 11
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S4096x11408, .f32⟩
  | .hbm, ⟨2, _⟩ => ⟨S16384x64, .f32⟩
  | .hbm, ⟨3, _⟩ => ⟨S16384x64, .f32⟩
  | .hbm, ⟨4, _⟩ => ⟨S4096x4096, .f32⟩
  | .hbm, ⟨5, _⟩ => ⟨S4096x11408, .bf16⟩
  | .hbm, ⟨6, _⟩ => ⟨S16384x128, .f32⟩
  | .hbm, ⟨7, _⟩ => ⟨S16384x64, .f32⟩
  | .hbm, ⟨8, _⟩ => ⟨S16384x128, .f32⟩
  | .hbm, ⟨9, _⟩ => ⟨S128x32x128x128, .bf16⟩
  | .hbm, ⟨10, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S64x4096, .f32⟩
  | .local _ .vmem, ⟨9, _⟩ => ⟨S64x4096, .f32⟩
  | .local _ .vmem, ⟨10, _⟩ => ⟨S8x8x128x128, .bf16⟩
  | .local _ .vmem, ⟨11, _⟩ => ⟨S8x8x128x128, .bf16⟩
  | .local _ .vmem, ⟨12, _⟩ => ⟨S64x4096, .bf16⟩
  | .local _ .vmem, ⟨13, _⟩ => ⟨S64x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c0_i32 : BitVec 32 := 0#32
  let v1 : BitVec 32 := Scalar.addi c0_i32 arg1
  let c3_i32 : BitVec 32 := 3#32
  let v2 : BitVec 32 := Scalar.addi c3_i32 arg1
  let c2_i32_0 : BitVec 32 := 2#32
  let v3 : BitVec 32 := Scalar.subi v2 c2_i32_0
  let v4 : BitVec 32 := Scalar.select v0 v1 v3
  let c0_i32_1 : BitVec 32 := 0#32
  let c0_i32_2 : BitVec 32 := 0#32
  ![c0_i32_1.toNat, v4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x8x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference9Ideal.lean ====
abbrev S16384x4096 : Shape := ⟨2, ![16384, 4096]⟩
abbrev S4096x11408 : Shape := ⟨2, ![4096, 11408]⟩
abbrev S16384x64 : Shape := ⟨2, ![16384, 64]⟩
abbrev S4096x4096 : Shape := ⟨2, ![4096, 4096]⟩
abbrev S16384x11408 : Shape := ⟨2, ![16384, 11408]⟩
abbrev S16384x2048 : Shape := ⟨2, ![16384, 2048]⟩
abbrev S16384x16x128 : Shape := ⟨3, ![16384, 16, 128]⟩
abbrev S16384x1x64 : Shape := ⟨3, ![16384, 1, 64]⟩
abbrev S16384x16x64 : Shape := ⟨3, ![16384, 16, 64]⟩
abbrev S16384x32x128 : Shape := ⟨3, ![16384, 32, 128]⟩
abbrev S128x128x32x128 : Shape := ⟨4, ![128, 128, 32, 128]⟩
abbrev S128x32x128x128 : Shape := ⟨4, ![128, 32, 128, 128]⟩

abbrev nBuf : Space → Nat
  | .hbm => 46
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x11408, .f32⟩
  | .hbm, ⟨2, _⟩ => ⟨S16384x64, .f32⟩
  | .hbm, ⟨3, _⟩ => ⟨S16384x64, .f32⟩
  | .hbm, ⟨4, _⟩ => ⟨S4096x4096, .f32⟩
  | .hbm, ⟨5, _⟩ => ⟨S16384x4096, .f32⟩
  | .hbm, ⟨6, _⟩ => ⟨S16384x11408, .f32⟩
  | .hbm, ⟨7, _⟩ => ⟨S16384x2048, .f32⟩
  | .hbm, ⟨8, _⟩ => ⟨S16384x16x128, .f32⟩
  | .hbm, ⟨9, _⟩ => ⟨S16384x1x64, .f32⟩
  | .hbm, ⟨10, _⟩ => ⟨S16384x1x64, .f32⟩
  | .hbm, ⟨11, _⟩ => ⟨S16384x16x64, .f32⟩
  | .hbm, ⟨12, _⟩ => ⟨S16384x16x64, .f32⟩
  | .hbm, ⟨13, _⟩ => ⟨S16384x16x64, .f32⟩
  | .hbm, ⟨14, _⟩ => ⟨S16384x16x64, .f32⟩
  | .hbm, ⟨15, _⟩ => ⟨S16384x16x64, .f32⟩
  | .hbm, ⟨16, _⟩ => ⟨S16384x16x64, .f32⟩
  | .hbm, ⟨17, _⟩ => ⟨S16384x16x64, .f32⟩
  | .hbm, ⟨18, _⟩ => ⟨S16384x16x64, .f32⟩
  | .hbm, ⟨19, _⟩ => ⟨S16384x16x64, .f32⟩
  | .hbm, ⟨20, _⟩ => ⟨S16384x16x64, .f32⟩
  | .hbm, ⟨21, _⟩ => ⟨S16384x16x64, .f32⟩
  | .hbm, ⟨22, _⟩ => ⟨S16384x16x64, .f32⟩
  | .hbm, ⟨23, _⟩ => ⟨S16384x16x128, .f32⟩
  | .hbm, ⟨24, _⟩ => ⟨S16384x2048, .f32⟩
  | .hbm, ⟨25, _⟩ => ⟨S16384x16x128, .f32⟩
  | .hbm, ⟨26, _⟩ => ⟨S16384x1x64, .f32⟩
  | .hbm, ⟨27, _⟩ => ⟨S16384x1x64, .f32⟩
  | .hbm, ⟨28, _⟩ => ⟨S16384x16x64, .f32⟩
  | .hbm, ⟨29, _⟩ => ⟨S16384x16x64, .f32⟩
  | .hbm, ⟨30, _⟩ => ⟨S16384x16x64, .f32⟩
  | .hbm, ⟨31, _⟩ => ⟨S16384x16x64, .f32⟩
  | .hbm, ⟨32, _⟩ => ⟨S16384x16x64, .f32⟩
  | .hbm, ⟨33, _⟩ => ⟨S16384x16x64, .f32⟩
  | .hbm, ⟨34, _⟩ => ⟨S16384x16x64, .f32⟩
  | .hbm, ⟨35, _⟩ => ⟨S16384x16x64, .f32⟩
  | .hbm, ⟨36, _⟩ => ⟨S16384x16x64, .f32⟩
  | .hbm, ⟨37, _⟩ => ⟨S16384x16x64, .f32⟩
  | .hbm, ⟨38, _⟩ => ⟨S16384x16x64, .f32⟩
  | .hbm, ⟨39, _⟩ => ⟨S16384x16x64, .f32⟩
  | .hbm, ⟨40, _⟩ => ⟨S16384x16x128, .f32⟩
  | .hbm, ⟨41, _⟩ => ⟨S16384x32x128, .f32⟩
  | .hbm, ⟨42, _⟩ => ⟨S128x128x32x128, .f32⟩
  | .hbm, ⟨43, _⟩ => ⟨S128x32x128x128, .f32⟩
  | .hbm, ⟨44, _⟩ => ⟨S128x32x128x128, .bf16⟩
  | .hbm, ⟨45, _⟩ => ⟨S4096x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩

abbrev nD : Nat := 1
abbrev τ : Topo := Topo.v7x

variable {F : FTy → Type} [FloatOps F]
-- ==== Kernel10.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel11.lean ====
abbrev S2x8192 : Shape := ⟨2, ![2, 8192]⟩
abbrev S64 : Shape := ⟨1, ![64]⟩
abbrev S_ : Shape := ⟨0, ![]⟩
abbrev S128 : Shape := ⟨1, ![128]⟩
abbrev S1x128 : Shape := ⟨2, ![1, 128]⟩
abbrev S16384x1 : Shape := ⟨2, ![16384, 1]⟩
abbrev S16384x128 : Shape := ⟨2, ![16384, 128]⟩
abbrev S2048x1 : Shape := ⟨2, ![2048, 1]⟩
abbrev S2048x128 : Shape := ⟨2, ![2048, 128]⟩

abbrev nBuf : Space → Nat
  | .hbm => 27
  | .vmem => 8
  | .smem => 0
  | _ => 0

abbrev bufTy : (tb : Table) → Fin (tcTables nBuf tb) → BufTy
  | .hbm, ⟨0, _⟩ => ⟨S2x8192, .i32⟩
  | .hbm, ⟨1, _⟩ => ⟨S64, .f32⟩
  | .hbm, ⟨2, _⟩ => ⟨S_, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S128, .f32⟩
  | .hbm, ⟨16, _⟩ => ⟨S1x128, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S128, .f32⟩
  | .hbm, ⟨23, _⟩ => ⟨S1x128, .f32⟩
  | .hbm, ⟨24, _⟩ => ⟨S16384x1, .i32⟩
  | .hbm, ⟨25, _⟩ => ⟨S16384x128, .f32⟩
  | .hbm, ⟨26, _⟩ => ⟨S16384x128, .f32⟩
  | .local _ .vmem, ⟨0, _⟩ => ⟨S2048x1, .i32⟩
  | .local _ .vmem, ⟨1, _⟩ => ⟨S2048x1, .i32⟩
  | .local _ .vmem, ⟨2, _⟩ => ⟨S1x128, .f32⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | _, _ => ⟨S2x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_cst_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S2x8192 : Shape := ⟨2, ![2, 8192]⟩
abbrev S64 : Shape := ⟨1, ![64]⟩
abbrev S_ : Shape := ⟨0, ![]⟩
abbrev S16384x1 : Shape := ⟨2, ![16384, 1]⟩
abbrev S1x64 : Shape := ⟨2, ![1, 64]⟩
abbrev S16384x64 : Shape := ⟨2, ![16384, 64]⟩
abbrev S16384x128 : Shape := ⟨2, ![16384, 128]⟩

abbrev nBuf : Space → Nat
  | .hbm => 26
  | .vmem => 0
  | .smem => 0
  | _ => 0

abbrev bufTy : (tb : Table) → Fin (tcTables nBuf tb) → BufTy
  | .hbm, ⟨0, _⟩ => ⟨S2x8192, .i32⟩
  | .hbm, ⟨1, _⟩ => ⟨S64, .f32⟩
  | .hbm, ⟨2, _⟩ => ⟨S_, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S16384x1, .i32⟩
  | .hbm, ⟨16, _⟩ => ⟨S16384x1, .f32⟩
  | .hbm, ⟨17, _⟩ => ⟨S1x64, .f32⟩
  | .hbm, ⟨18, _⟩ => ⟨S16384x64, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S16384x64, .f32⟩
  | .hbm, ⟨23, _⟩ => ⟨S16384x128, .f32⟩
  | .hbm, ⟨24, _⟩ => ⟨S16384x64, .f32⟩
  | .hbm, ⟨25, _⟩ => ⟨S16384x128, .f32⟩
  | _, _ => ⟨S2x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Kernel12.lean ====
abbrev S16384x4096 : Shape := ⟨2, ![16384, 4096]⟩
abbrev S4096 : Shape := ⟨1, ![4096]⟩
abbrev S3x4096 : Shape := ⟨2, ![3, 4096]⟩
abbrev S4096x11408 : Shape := ⟨2, ![4096, 11408]⟩
abbrev S2048 : Shape := ⟨1, ![2048]⟩
abbrev S4096x96 : Shape := ⟨2, ![4096, 96]⟩
abbrev S96x2048 : Shape := ⟨2, ![96, 2048]⟩
abbrev S4096x256 : Shape := ⟨2, ![4096, 256]⟩
abbrev S256x2048 : Shape := ⟨2, ![256, 2048]⟩
abbrev S1x4096 : Shape := ⟨2, ![1, 4096]⟩
abbrev S_ : Shape := ⟨0, ![]⟩
abbrev S4096x128 : Shape := ⟨2, ![4096, 128]⟩
abbrev S128x2048 : Shape := ⟨2, ![128, 2048]⟩
abbrev S1x2048 : Shape := ⟨2, ![1, 2048]⟩
abbrev S16384x2048 : Shape := ⟨2, ![16384, 2048]⟩
abbrev S16384x128 : Shape := ⟨2, ![16384, 128]⟩
abbrev S256x4096 : Shape := ⟨2, ![256, 4096]⟩
abbrev S8x4096 : Shape := ⟨2, ![8, 4096]⟩
abbrev S256x128 : Shape := ⟨2, ![256, 128]⟩
abbrev S256 : Shape := ⟨1, ![256]⟩
abbrev S256x1 : Shape := ⟨2, ![256, 1]⟩
abbrev S8 : Shape := ⟨1, ![8]⟩
abbrev S8x1 : Shape := ⟨2, ![8, 1]⟩
abbrev S256x256 : Shape := ⟨2, ![256, 256]⟩

abbrev nBuf : Space → Nat
  | .hbm => 39
  | .vmem => 25
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S3x4096, .f32⟩
  | .hbm, ⟨3, _⟩ => ⟨S4096x11408, .f32⟩
  | .hbm, ⟨4, _⟩ => ⟨S2048, .f32⟩
  | .hbm, ⟨5, _⟩ => ⟨S4096x96, .f32⟩
  | .hbm, ⟨6, _⟩ => ⟨S96x2048, .f32⟩
  | .hbm, ⟨7, _⟩ => ⟨S2048, .f32⟩
  | .hbm, ⟨8, _⟩ => ⟨S4096x96, .f32⟩
  | .hbm, ⟨9, _⟩ => ⟨S96x2048, .f32⟩
  | .hbm, ⟨10, _⟩ => ⟨S4096x256, .f32⟩
  | .hbm, ⟨11, _⟩ => ⟨S256x2048, .f32⟩
  | .hbm, ⟨12, _⟩ => ⟨S1x4096, .f32⟩
  | .hbm, ⟨13, _⟩ => ⟨S_, .i32⟩
  | .hbm, ⟨14, _⟩ => ⟨S_, .f32⟩
  | .hbm, ⟨15, _⟩ => ⟨S4096x128, .f32⟩
  | .hbm, ⟨16, _⟩ => ⟨S4096x128, .bf16⟩
  | .hbm, ⟨17, _⟩ => ⟨S_, .i32⟩
  | .hbm, ⟨18, _⟩ => ⟨S_, .f32⟩
  | .hbm, ⟨19, _⟩ => ⟨S128x2048, .f32⟩
  | .hbm, ⟨20, _⟩ => ⟨S128x2048, .bf16⟩
  | .hbm, ⟨21, _⟩ => ⟨S1x2048, .f32⟩
  | .hbm, ⟨22, _⟩ => ⟨S_, .i32⟩
  | .hbm, ⟨23, _⟩ => ⟨S_, .f32⟩
  | .hbm, ⟨24, _⟩ => ⟨S4096x128, .f32⟩
  | .hbm, ⟨25, _⟩ => ⟨S4096x128, .bf16⟩
  | .hbm, ⟨26, _⟩ => ⟨S_, .i32⟩
  | .hbm, ⟨27, _⟩ => ⟨S_, .f32⟩
  | .hbm, ⟨28, _⟩ => ⟨S128x2048, .f32⟩
  | .hbm, ⟨29, _⟩ => ⟨S128x2048, .bf16⟩
  | .hbm, ⟨30, _⟩ => ⟨S1x2048, .f32⟩
  | .hbm, ⟨31, _⟩ => ⟨S4096x256, .bf16⟩
  | .hbm, ⟨32, _⟩ => ⟨S256x2048, .bf16⟩
  | .hbm, ⟨33, _⟩ => ⟨S4096x11408, .bf16⟩
  | .hbm, ⟨34, _⟩ => ⟨S16384x4096, .bf16⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x128, .f32⟩
  | .local _ .vmem, ⟨0, _⟩ => ⟨S256x4096, .f32⟩
  | .local _ .vmem, ⟨1, _⟩ => ⟨S256x4096, .f32⟩
  | .local _ .vmem, ⟨2, _⟩ => ⟨S8x4096, .f32⟩
  | .local _ .vmem, ⟨3, _⟩ => ⟨S8x4096, .f32⟩
  | .local _ .vmem, ⟨4, _⟩ => ⟨S1x4096, .f32⟩
  | .local _ .vmem, ⟨5, _⟩ => ⟨S3x4096, .f32⟩
  | .local _ .vmem, ⟨6, _⟩ => ⟨S4096x128, .bf16⟩
  | .local _ .vmem, ⟨7, _⟩ => ⟨S128x2048, .bf16⟩
  | .local _ .vmem, ⟨8, _⟩ => ⟨S1x2048, .f32⟩
  | .local _ .vmem, ⟨9, _⟩ => ⟨S4096x128, .bf16⟩
  | .local _ .vmem, ⟨10, _⟩ => ⟨S128x2048, .bf16⟩
  | .local _ .vmem, ⟨11, _⟩ => ⟨S1x2048, .f32⟩
  | .local _ .vmem, ⟨12, _⟩ => ⟨S4096x256, .bf16⟩
  | .local _ .vmem, ⟨13, _⟩ => ⟨S256x2048, .bf16⟩
  | .local _ .vmem, ⟨14, _⟩ => ⟨S4096x128, .bf16⟩
  | .local _ .vmem, ⟨15, _⟩ => ⟨S256x4096, .bf16⟩
  | .local _ .vmem, ⟨16, _⟩ => ⟨S256x4096, .bf16⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x128, .f32⟩
  | .local _ .vmem, ⟨24, _⟩ => ⟨S256x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_call1_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_call2_v0 : Ref sig .tc := ⟨.hbm, 23, rfl⟩
abbrev main_v6 : Ref sig .tc := ⟨.hbm, 24, rfl⟩
abbrev main_v7 : Ref sig .tc := ⟨.hbm, 25, rfl⟩
abbrev main_c_2 : Ref sig .tc := ⟨.hbm, 26, rfl⟩
abbrev main_call3_v0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14_0 : Ref sig .tc := ⟨.hbm, 34, rfl⟩
abbrev main_v14_1 : Ref sig .tc := ⟨.hbm, 35, rfl⟩
abbrev main_v14_2 : Ref sig .tc := ⟨.hbm, 36, rfl⟩
abbrev main_v14_3 : Ref sig .tc := ⟨.hbm, 37, rfl⟩
abbrev main_v14_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c41_i32 : BitVec 32 := 41#32
  let c0_i32_0 : BitVec 32 := 0#32
  ![c0_i32.toNat, c41_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference12Ideal.lean ====
abbrev S16384x4096 : Shape := ⟨2, ![16384, 4096]⟩
abbrev S4096 : Shape := ⟨1, ![4096]⟩
abbrev S3x4096 : Shape := ⟨2, ![3, 4096]⟩
abbrev S4096x11408 : Shape := ⟨2, ![4096, 11408]⟩
abbrev S2048 : Shape := ⟨1, ![2048]⟩
abbrev S4096x96 : Shape := ⟨2, ![4096, 96]⟩
abbrev S96x2048 : Shape := ⟨2, ![96, 2048]⟩
abbrev S4096x256 : Shape := ⟨2, ![4096, 256]⟩
abbrev S256x2048 : Shape := ⟨2, ![256, 2048]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S2x8192x4096 : Shape := ⟨3, ![2, 8192, 4096]⟩
abbrev S2x8193x4096 : Shape := ⟨3, ![2, 8193, 4096]⟩
abbrev S16384x96 : Shape := ⟨2, ![16384, 96]⟩
abbrev S16384x2048 : Shape := ⟨2, ![16384, 2048]⟩
abbrev S1x2048 : Shape := ⟨2, ![1, 2048]⟩
abbrev S16384x256 : Shape := ⟨2, ![16384, 256]⟩
abbrev S16384x11408 : Shape := ⟨2, ![16384, 11408]⟩
abbrev S16384x128 : Shape := ⟨2, ![16384, 128]⟩

abbrev nBuf : Space → Nat
  | .hbm => 99
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S3x4096, .f32⟩
  | .hbm, ⟨3, _⟩ => ⟨S4096x11408, .f32⟩
  | .hbm, ⟨4, _⟩ => ⟨S2048, .f32⟩
  | .hbm, ⟨5, _⟩ => ⟨S4096x96, .f32⟩
  | .hbm, ⟨6, _⟩ => ⟨S96x2048, .f32⟩
  | .hbm, ⟨7, _⟩ => ⟨S2048, .f32⟩
  | .hbm, ⟨8, _⟩ => ⟨S4096x96, .f32⟩
  | .hbm, ⟨9, _⟩ => ⟨S96x2048, .f32⟩
  | .hbm, ⟨10, _⟩ => ⟨S4096x256, .f32⟩
  | .hbm, ⟨11, _⟩ => ⟨S256x2048, .f32⟩
  | .hbm, ⟨12, _⟩ => ⟨S16384x4096, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x4096, .f32⟩
  | .hbm, ⟨24, _⟩ => ⟨S16384x4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S2x8192x4096, .f32⟩
  | .hbm, ⟨29, _⟩ => ⟨S_, .i32⟩
  | .hbm, ⟨30, _⟩ => ⟨S_, .f32⟩
  | .hbm, ⟨31, _⟩ => ⟨S2x8193x4096, .f32⟩
  | .hbm, ⟨32, _⟩ => ⟨S2x8192x4096, .f32⟩
  | .hbm, ⟨33, _⟩ => ⟨S16384x4096, .f32⟩
  | .hbm, ⟨34, _⟩ => ⟨S16384x4096, .f32⟩
  | .hbm, ⟨35, _⟩ => ⟨S1x4096, .f32⟩
  | .hbm, ⟨36, _⟩ => ⟨S4096, .f32⟩
  | .hbm, ⟨37, _⟩ => ⟨S1x4096, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S16384x96, .f32⟩
  | .hbm, ⟨42, _⟩ => ⟨S16384x96, .f32⟩
  | .hbm, ⟨43, _⟩ => ⟨S16384x2048, .f32⟩
  | .hbm, ⟨44, _⟩ => ⟨S1x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S_, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S_, .f32⟩
  | .hbm, ⟨56, _⟩ => ⟨S16384x2048, .f32⟩
  | .hbm, ⟨57, _⟩ => ⟨S16384x2048, .f32⟩
  | .hbm, ⟨58, _⟩ => ⟨S1x4096, .f32⟩
  | .hbm, ⟨59, _⟩ => ⟨S4096, .f32⟩
  | .hbm, ⟨60, _⟩ => ⟨S1x4096, .f32⟩
  | .hbm, ⟨61, _⟩ => ⟨S16384x4096, .f32⟩
  | .hbm, ⟨62, _⟩ => ⟨S16384x4096, .f32⟩
  | .hbm, ⟨63, _⟩ => ⟨S16384x4096, .f32⟩
  | .hbm, ⟨64, _⟩ => ⟨S16384x96, .f32⟩
  | .hbm, ⟨65, _⟩ => ⟨S16384x2048, .f32⟩
  | .hbm, ⟨66, _⟩ => ⟨S1x2048, .f32⟩
  | .hbm, ⟨67, _⟩ => ⟨S16384x2048, .f32⟩
  | .hbm, ⟨68, _⟩ => ⟨S16384x2048, .f32⟩
  | .hbm, ⟨69, _⟩ => ⟨S16384x2048, .f32⟩
  | .hbm, ⟨70, _⟩ => ⟨S16384x2048, .f32⟩
  | .hbm, ⟨71, _⟩ => ⟨S_, .f32⟩
  | .hbm, ⟨72, _⟩ => ⟨S16384x2048, .f32⟩
  | .hbm, ⟨73, _⟩ => ⟨S16384x2048, .f32⟩
  | .hbm, ⟨74, _⟩ => ⟨S_, .f32⟩
  | .hbm, ⟨75, _⟩ => ⟨S16384x2048, .f32⟩
  | .hbm, ⟨76, _⟩ => ⟨S16384x2048, .f32⟩
  | .hbm, ⟨77, _⟩ => ⟨S1x4096, .f32⟩
  | .hbm, ⟨78, _⟩ => ⟨S4096, .f32⟩
  | .hbm, ⟨79, _⟩ => ⟨S1x4096, .f32⟩
  | .hbm, ⟨80, _⟩ => ⟨S16384x4096, .f32⟩
  | .hbm, ⟨81, _⟩ => ⟨S16384x4096, .f32⟩
  | .hbm, ⟨82, _⟩ => ⟨S16384x4096, .f32⟩
  | .hbm, ⟨83, _⟩ => ⟨S16384x256, .f32⟩
  | .hbm, ⟨84, _⟩ => ⟨S16384x256, .f32⟩
  | .hbm, ⟨85, _⟩ => ⟨S16384x256, .f32⟩
  | .hbm, ⟨86, _⟩ => ⟨S_, .f32⟩
  | .hbm, ⟨87, _⟩ => ⟨S16384x256, .f32⟩
  | .hbm, ⟨88, _⟩ => ⟨S16384x256, .f32⟩
  | .hbm, ⟨89, _⟩ => ⟨S_, .f32⟩
  | .hbm, ⟨90, _⟩ => ⟨S16384x256, .f32⟩
  | .hbm, ⟨91, _⟩ => ⟨S16384x256, .f32⟩
  | .hbm, ⟨92, _⟩ => ⟨S16384x2048, .f32⟩
  | .hbm, ⟨93, _⟩ => ⟨S16384x4096, .bf16⟩
  | .hbm, ⟨94, _⟩ => ⟨S16384x11408, .f32⟩
  | .hbm, ⟨95, _⟩ => ⟨S16384x128, .f32⟩
  | .hbm, ⟨96, _⟩ => ⟨S_, .f32⟩
  | .hbm, ⟨97, _⟩ => ⟨S16384x128, .f32⟩
  | .hbm, ⟨98, _⟩ => ⟨S16384x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_call0_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_4 : Ref sig .tc := ⟨.hbm, 71, rfl⟩
abbrev main_v52 : Ref sig .tc := ⟨.hbm, 72, rfl⟩
abbrev main_v53 : Ref sig .tc := ⟨.hbm, 73, rfl⟩
abbrev main_cst_5 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_6 : Ref sig .tc := ⟨.hbm, 86, rfl⟩
abbrev main_v65 : Ref sig .tc := ⟨.hbm, 87, rfl⟩
abbrev main_v66 : Ref sig .tc := ⟨.hbm, 88, rfl⟩
abbrev main_cst_7 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_8 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== Proof.Safe.lean ====
/-
  Programs that KEEP what their core holds. A frame names nothing of what a kernel computes, so its proof need not
  follow the values: it is enough that the program loads from and stores into memrefs the core holds whole, whatever
  they contain. `Keeps I p` says that the program `p`, run from the resources `I`, ends with `I`; `Holds I m` says that
  among the resources `I` is the memref `m`, whole and at some contents. A load and a store of a held memref keep `I`,
  and so do sequence, choice and counted loops of programs that do.
-/
module

public import Idealize.ShloMosaic.Lib.Exec
public import Idealize.ShloMosaic.Lib.MemrefSat

@[expose] public section

noncomputable section

namespace Cert.Frames

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name] {U : Type} [URA U]
variable {Lvl : Type} [Preorder Lvl] {Λ : Labels}

/-- The resources `I` contain the whole of the memref `m`, at some contents, and are whole again once it is given back
    at any contents. -/
def Holds (d : Dev nD) (I : sProp (MT nD τ sig Ix Val Name U Lvl)) {sp : Space} {s : Shape} {e : EltTy} (m : Memref sig .tc sp s e) : Prop :=
  I ⊢ iprop((∃ f : Buf Val (m.view.loc (d : Thread nD τ)), m.view.loc (d : Thread nD τ) ↦[m.view.set]{fullShare} f)
    ∗ ((∃ f : Buf Val (m.view.loc (d : Thread nD τ)), m.view.loc (d : Thread nD τ) ↦[m.view.set]{fullShare} f) -∗ I))

section Holds

variable {d : Dev nD} {A B : sProp (MT nD τ sig Ix Val Name U Lvl)} {sp : Space} {s : Shape} {e : EltTy} {m : Memref sig .tc sp s e}

theorem Holds.left (h : Holds d A m) : Holds d iprop(A ∗ B) m := by
  unfold Holds
  iintro ⟨HA, HB⟩
  ihave H := (show A ⊢ _ from h) $$ HA
  icases H with ⟨Hm, Hback⟩
  isplitl [Hm]; · iexact Hm
  iintro Hm
  isplitr [HB]
  · iapply Hback; iexact Hm
  · iexact HB

theorem Holds.right (h : Holds d B m) : Holds d iprop(A ∗ B) m := by
  unfold Holds
  iintro ⟨HA, HB⟩
  ihave H := (show B ⊢ _ from h) $$ HB
  icases H with ⟨Hm, Hback⟩
  isplitl [Hm]; · iexact Hm
  iintro Hm
  isplitl [HA]; · iexact HA
  iapply Hback; iexact Hm

/-- A memref owned at some contents. -/
theorem Holds.owned : Holds d (iprop(∃ X, owns (d : Thread nD τ) m fullShare X) : sProp (MT nD τ sig Ix Val Name U Lvl)) m := by
  unfold Holds owns
  iintro ⟨%X, %f, %hf, H⟩
  isplitl [H]; · iexists f; iexact H
  iintro ⟨%g, H⟩
  iexists (m.view.read Val g); iexists g
  isplitr; · ipureintro; rfl
  iexact H

/-- A whole buffer at some contents. -/
theorem Holds.whole (b : Ref sig .tc) :
    Holds d (iprop(∃ f : Buf Val ((d : Thread nD τ).loc b), ((d : Thread nD τ).loc b) ↦{fullShare} f)
      : sProp (MT nD τ sig Ix Val Name U Lvl)) (Memref.whole b) := by
  unfold Holds
  iintro ⟨%f, H⟩
  isplitl [H]; · iexists f; simp only [View.set_whole]; iexact H
  iintro ⟨%g, H⟩
  iexists g; simp only [View.set_whole]; iexact H

end Holds

variable (defs : Defs nD τ sig Val Λ) (𝒱 : Variants) (d : Dev nD) (E : Set Name) (I : sProp (MT nD τ sig Ix Val Name U Lvl))

/-- Run from `I` on device `d`'s TensorCore, the program ends with `I`, whatever it returns. -/
def Keeps {α : Type} (p : Prog (TpuEff nD τ sig Val Λ .tc) α) : Prop :=
  I ⊢ (wp frame (wpE defs 𝒱 (d.tc : Thread nD τ) none) E p (fun _ => I) : sProp (MT nD τ sig Ix Val Name U Lvl))

variable {defs 𝒱 d E I} {α β : Type}

theorem Keeps.pure (a : α) : Keeps defs 𝒱 d E I (pure a) := by
  unfold Keeps
  show I ⊢ wp frame (wpE defs 𝒱 (d : Thread nD τ) none) E (.ret a) (fun _ => I)
  rw [wp_ret]; iintro H; imodintro; iexact H

theorem Keeps.bind {p : Prog (TpuEff nD τ sig Val Λ .tc) α} {k : α → Prog (TpuEff nD τ sig Val Λ .tc) β}
    (hp : Keeps defs 𝒱 d E I p) (hk : ∀ a, Keeps defs 𝒱 d E I (k a)) : Keeps defs 𝒱 d E I (p >>= k) := by
  unfold Keeps; rw [wp_bind]
  exact hp.trans (wp_mono frame _ E fun a => hk a)

theorem Keeps.load {cs : CoreSpace} {s : Shape} {e : EltTy} {m : Memref sig .tc cs s e} {r : LoadRect s} {hl : m.view.LoadsAt r}
    (hm : Holds d I m) : Keeps defs 𝒱 d E I (Prog.lift (.load m r hl)) := by
  unfold Keeps
  refine hm.trans ?_
  iintro ⟨⟨%f, H⟩, Hback⟩
  iapply (wp_load 𝒱 (d : Thread nD τ) none E (hl := hl) (k := .ret) (View.setOn_subset_set _ _)) $$ H
  iintro H
  rw [wp_ret]; imodintro
  iapply Hback; iexists f; iexact H

theorem Keeps.store {cs : CoreSpace} {s : Shape} {e : EltTy} {m : Memref sig .tc cs s e} {r : Rect s} {w : r.shape.Idx → Val e}
    {Mk : Finset r.shape.Idx} {hx : (m.access r).Stores Mk} {hs : Mk = Finset.univ ∨ ∀ a, r.stride a = 1}
    (hm : Holds d I m) : Keeps defs 𝒱 d E I (Prog.lift (.store m r w Mk hx hs)) := by
  unfold Keeps
  refine hm.trans ?_
  iintro ⟨⟨%f, H⟩, Hback⟩
  iapply (wp_store 𝒱 (d : Thread nD τ) none E (hx := hx) (hm := hs) (k := .ret)
    (((m.access r).setOn_subset_set Mk).trans (by rw [View.set_slice]; exact View.setOn_subset_set _ _))) $$ H
  iintro H
  rw [wp_ret]; imodintro
  iapply Hback; iexists _; iexact H

theorem Keeps.dite {c : Prop} [Decidable c] {p : c → Prog (TpuEff nD τ sig Val Λ .tc) α} {q : ¬c → Prog (TpuEff nD τ sig Val Λ .tc) α}
    (hp : ∀ h, Keeps defs 𝒱 d E I (p h)) (hq : ∀ h, Keeps defs 𝒱 d E I (q h)) : Keeps defs 𝒱 d E I (dite c p q) := by
  by_cases h : c
  · rw [dif_pos h]; exact hp h
  · rw [dif_neg h]; exact hq h

theorem Keeps.loop {w : Nat} {σ : Type} {l : Scf.Loop w} {hok : l.OK} {init : σ} {body : Fin l.trips → σ → Prog (TpuEff nD τ sig Val Λ .tc) σ}
    (h : ∀ t a, Keeps defs 𝒱 d E I (body t a)) : Keeps defs 𝒱 d E I (Scf.Loop.for l hok init body) := by
  unfold Keeps
  have hw := Scf.wp_for frame (wpE defs 𝒱 (d : Thread nD τ) none) E l.lb l.ub l.st hok init body (fun _ _ => I) h (Q := fun _ => I)
  refine Entails.trans ?_ hw
  iintro H; isplitl; · iexact H
  iintro %_ H; iexact H

end Cert.Frames

end
-- ==== Proof.Body.lean ====
module

public import proofs.«01_k».proof.Kernel
public import proofs.«01_k».proof.Proof.Safe

@[expose] public section

set_option maxRecDepth 16384

noncomputable section

namespace Cert.Frames

open Idealize.ShloMosaic Idealize.ShloMosaic.TcCoe
open Idealize.SL Idealize.SL.RA Idealize.SL.Sem
open Idealize.SL.BI (sProp)
open Cert.Kernel

variable {F : FTy → Type} [BitOps F]
variable {Ix : Type} [DecidableEq Ix] {Name : Type} [DecidableEq Name] {U : Type} [URA U]
variable {Lvl : Type} [Preorder Lvl] [Facts]

set_option maxHeartbeats 0 in
theorem body_keeps (defs : Defs nD τ sig (Elt F) Λ₀) (𝒱 : Variants) (d : Dev nD) (E : Set Name) (I : sProp (MT nD τ sig Ix (Elt F) Name U Lvl))
    {i} {arg2 harg2} {arg3 harg3} {arg4 harg4} {arg5 harg5} {arg6 harg6} {arg7 harg7} {arg8 harg8} {arg9 harg9} {arg10 harg10} {arg11 harg11} {arg12 harg12} {arg13 harg13} {arg14 harg14} {arg15 harg15} {arg16 harg16}
    (h2 : Holds d I arg2) (h3 : Holds d I arg3) (h4 : Holds d I arg4) (h5 : Holds d I arg5) (h6 : Holds d I arg6) (h7 : Holds d I arg7) (h8 : Holds d I arg8) (h9 : Holds d I arg9) (h10 : Holds d I arg10) (h11 : Holds d I arg11) (h12 : Holds d I arg12) (h13 : Holds d I arg13) (h14 : Holds d I arg14) (h15 : Holds d I arg15) (h16 : Holds d I arg16) :
    Keeps defs 𝒱 d E I (cc0_dsa_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) := by
  repeat' first
    | with_reducible first
      | assumption
      | exact Keeps.pure _
      | apply Keeps.load
      | apply Keeps.store
      | apply Keeps.loop
      | apply Keeps.dite
      | apply Keeps.bind
      | intro _
    | (delta k0_part623; with_reducible apply Keeps.pure)
    | (delta k0_part797; with_reducible apply Keeps.dite)
    | apply Keeps.bind
    | apply Keeps.dite
    | apply Keeps.pure

end Cert.Frames

end
-- ==== Proof.AttentionFrame.lean ====
/-
  The frame of the attention call: from its body's (`body_keeps`: it only loads from and stores into memrefs it is
  handed) to the run of the whole program. The proof data name what the pipeline holds at entry and nothing of what the
  body leaves, so that the two windows on the queries and the two on the keys and values share their arrays.
-/
module

public import proofs.«01_k».proof.Proof.Body
public import proofs.«01_k».proof.Proof.Gen.Kernel.Frame

@[expose] public section

set_option maxRecDepth 16384

noncomputable section

namespace Cert.Frames

open Idealize.ShloMosaic Idealize.ShloMosaic.TcCoe
open Idealize.SL Idealize.SL.RA Idealize.SL.Sem Idealize.SL.ProofMode
open Idealize.SL.BI (sProp bigSep bigSep_mono)
open scoped Idealize.SL.BI
open Idealize.SL.BI.BIBase Idealize.SL.BI.Laws
open Idealize.ShloMosaic.Pipeline (RDat)
open Cert.Kernel Cert.Kernel.Gen

variable {F : FTy → Type} [BitOps F]
variable (m : (ℓ : Loc nD τ sig) → Buf (Elt F) ℓ) (ρ : Dev nD → PrngReg)

/-- The attention call's proof data: its arrays at what the region finds them at, and of what the body leaves in its
    buffers nothing. -/
def attnData (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- Window `w`'s current buffer at point `t`, at some contents. -/
def attnWin (c : Dev nD) (t : Fin cfg0.N) (w : Fin 7) : sProp (MT nD τ sig Unit (Elt F) ℕ (UR sig nD τ) ℕ) :=
  iprop(∃ X, owns (c : Thread nD τ) ((cfg0.win w).stage (cfg0.slots t w)) fullShare X)

theorem attnWin_of (c : Dev nD) (t : Fin cfg0.N) (w : Fin 7) (X : (cfg0.win w).block.Idx → Elt F (cfg0.win w).elt) :
    owns (c : Thread nD τ) ((cfg0.win w).stage (cfg0.slots t w)) fullShare X ⊢ attnWin c t w := by
  unfold attnWin; iintro H; iexists X; iexact H

theorem attnWin_elim (c : Dev nD) (t : Fin cfg0.N) (w : Fin 7) (Y : (cfg0.win w).block.Idx → Elt F (cfg0.win w).elt) :
    attnWin c t w ⊢ iprop(∃ X, ⌜(attnData m c).after w t Y X⌝ ∗ owns (c : Thread nD τ) ((cfg0.win w).stage (cfg0.slots t w)) fullShare X) := by
  unfold attnWin; iintro ⟨%X, H⟩; iexists X
  isplitr; · ipureintro; trivial
  iexact H

/-- What the body runs from at point `t`: the scratch buffers and every window's current buffer, each at some contents. -/
def attnHeld (c : Dev nD) (t : Fin cfg0.N) : sProp (MT nD τ sig Unit (Elt F) ℕ (UR sig nD τ) ℕ) :=
  iprop(Pipeline.ΦA spec0 c ∗ (attnData m c).owesAt () t.castSucc ∗ bigSep Finset.univ (attnWin c t))

theorem attn_holds_win (c : Dev nD) (t : Fin cfg0.N) (w : Fin 7) : Holds c (attnHeld m c t) ((cfg0.win w).stage (cfg0.slots t w)) := by
  unfold attnHeld
  refine Holds.right (Holds.right ?_)
  have h : ∀ w : Fin 7, Holds c (attnWin (F := F) c t w) ((cfg0.win w).stage (cfg0.slots t w)) := fun w => Holds.owned
  rw [bigSep_W0]
  fin_cases w
  · exact .left (h 0)
  · exact .right (.left (h 1))
  · exact .right (.right (.left (h 2)))
  · exact .right (.right (.right (.left (h 3))))
  · exact .right (.right (.right (.right (.left (h 4)))))
  · exact .right (.right (.right (.right (.right (.left (h 5))))))
  · exact .right (.right (.right (.right (.right (.right (h 6))))))

theorem attn_keeps (c : Dev nD) (t : Fin cfg0.N) :
    Keeps defs₀ Variants.none c Set.univ (attnHeld m c t) (defs₀ .tc cfg0.body (cfg0.bodyArgs t (cfg0.slots t))) := by
  have hw := attn_holds_win m c t
  have hs : ∀ {s : Shape} {e : EltTy} (b : Memref sig .tc .vmem s e),
      Holds c (Pipeline.scopedRest (Ix := Unit) (Name := ℕ) (U := UR sig nD τ) (Lvl := ℕ) (Val := Elt F) spec0 c) b →
        Holds c (attnHeld m c t) b := fun b hb => by
    unfold attnHeld Pipeline.ΦA; exact .left (.left hb)
  rw [scopedRest0_eq] at hs
  exact body_keeps defs₀ Variants.none c Set.univ (attnHeld m c t) (hw 0) (hw 1) (hw 2) (hw 3) (hw 4) (hw 5) (hw 6)
    (hs _ (.left (.whole _)))
    (hs _ (.right (.left (.whole _))))
    (hs _ (.right (.right (.left (.whole _)))))
    (hs _ (.right (.right (.right (.left (.whole _))))))
    (hs _ (.right (.right (.right (.right (.left (.whole _)))))))
    (hs _ (.right (.right (.right (.right (.right (.left (.whole _))))))))
    (hs _ (.right (.right (.right (.right (.right (.right (.left (.whole _)))))))))
    (hs _ (.right (.right (.right (.right (.right (.right (.right (.whole _)))))))))

theorem attn_body (c : Dev nD) : (attnData m c).BodyObligation defs₀ Variants.none () Set.univ := by
  intro t Y _
  have hpre := bigSep_mono (s := (Finset.univ : Finset (Fin 7))) fun w _ => attnWin_of (F := F) c t w (Y w)
  have hpost := bigSep_mono (s := (Finset.univ : Finset (Fin 7))) fun w _ => attnWin_elim (F := F) m c t w (Y w)
  exact (sep_mono .rfl (sep_mono .rfl hpre)).trans ((attn_keeps m c t).trans
    (wp_mono frame _ _ fun _ => sep_mono .rfl (sep_mono .rfl hpost)))

/-- The attention call's program runs to its end, its arguments as they were, every semaphore at zero. -/
theorem attn_frame : θ_run (Cert.Kernel.defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine RDat.θ_run_frame_track_shared cfgs 0 launch₀0 defs₀ Variants.none (attnData m) m ρ main (attn_body m)
    (fun _ _ _ => rfl) (fun _ _ => rfl) (V m) (hmain m _) (fun _ _ => rfl) (fun _ => .rfl) (fun _ => .rfl) _ ?_
  rintro r ⟨h, hsem⟩
  have hin : ∀ (c : Dev nD) (w : Fin 7), (cfg0.win w).isOut = false →
      r.2.mem ((cfg0.win w).arr.view.loc (c.tc : Thread nD τ)) = V m c (Pipeline.arrRef spec0 w) := fun c w hw =>
by
    have h1 := (h c).1 w
    simp only [(attnData m c).ArrAt_in w hw] at h1
    exact h1
  exact ⟨fun c => ⟨(hin c 1 rfl).trans (V_main_arg0 m c), (hin c 2 rfl).trans (V_main_arg1 m c), (hin c 4 rfl).trans (V_main_arg2 m c)⟩, hsem⟩

end Cert.Frames

end
-- ==== Proof.PleValue.lean ====
/-
  The layer's last call (`Kernel2`), index by index: the reference's normalized rows, gated sum and result, and the three
  values that the body stores, each written out in the same shape.
-/
module

public import proofs.«01_k».proof.Defs
public import proofs.«01_k».proof.Proof.Gen.Kernel2Ideal.Frame
public import proofs.«01_k».proof.Proof.Gen.Kernel2Ideal.Skeleton
public import proofs.«01_k».proof.Proof.Gen.Kernel2Ideal.Points
public import proofs.«01_k».proof.Proof.Gen.Reference2Ideal.Run
public import proofs.«01_k».proof.Proof.Gen.Reference2Ideal.Read
public import Idealize.ShloMosaic.Lib.Pipeline.ValueKit.Point
public import Idealize.ShloMosaic.Lib.Quiescent

@[expose] public section

noncomputable section

open Idealize.ShloMosaic Idealize.ShloMosaic.TcCoe Idealize.SL.Sem
open Idealize.ShloMosaic.Pipeline (Dat)

namespace Cert.PleValue

open Cert.Kernel2Ideal Cert.Kernel2Ideal.Gen
open Cert.Reference2Ideal.Read

variable (x0 : (⟨S16384x4096, .f32⟩ : BufTy).Contents (Elt Ideal)) (x1 : (⟨S4096x4096, .bf16⟩ : BufTy).Contents (Elt Ideal))
  (x2 : (⟨S16384x256, .f32⟩ : BufTy).Contents (Elt Ideal)) (x3 : (⟨S256x4096, .f32⟩ : BufTy).Contents (Elt Ideal))
  (x4 : (⟨S4096, .f32⟩ : BufTy).Contents (Elt Ideal))

/-- The reference's normalized rows at an index. -/
theorem norm_apply (i : S16384x4096.Idx) : val_main_v9 (F := Ideal) x0 i =
    x0 i * Ideal.rsqrt (Ideal.div (∑ k, x0 (ix2 (i 0) k) * x0 (ix2 (i 0) k)) (Ideal.ofBits .f32 0x45800000#32) + Ideal.ofBits .f32 0x358637BD#32) := by
  pointwise [val_main_v0, val_main_v1, val_main_v2, val_main_v3, val_main_v4, val_main_v5,
    val_main_v6, val_main_v7, val_main_v8, val_main_v9, val_main_cst, val_main_cst_0, val_main_cst_1]

/-- The reference's gated sum at an index, from its normalized rows. -/
theorem sum_apply (i : S16384x4096.Idx) : val_main_v20 (F := Ideal) x0 x1 x2 x3 i =
    x0 i + Ideal.div 1 (1 + Ideal.exp (-∑ k, val_main_v9 x0 (ix2 (i 0) k) * x1 (ix2 k (i 1)))) * ∑ k, x2 (ix2 (i 0) k) * x3 (ix2 k (i 1)) := by
  pointwise [val_main_v10, val_main_v11, val_main_v12, val_main_v13,
    val_main_v14, val_main_v15, val_main_v16, val_main_v17, val_main_v18, val_main_v19, val_main_v20, val_main_cst_2, val_main_cst_3, zero_sub]

/-- The reference's result at an index, from its gated sums. -/
theorem fin_apply (i : S16384x4096.Idx) : val_main_v33 (F := Ideal) x0 x1 x2 x3 x4 i =
    val_main_v20 x0 x1 x2 x3 i * Ideal.rsqrt (Ideal.div (∑ k, val_main_v20 x0 x1 x2 x3 (ix2 (i 0) k) * val_main_v20 x0 x1 x2 x3 (ix2 (i 0) k))
      (Ideal.ofBits .f32 0x45800000#32) + Ideal.ofBits .f32 0x358637BD#32) * x4 (ix1 (i 1)) := by
  pointwise [val_main_v21, val_main_v22, val_main_v23, val_main_v24, val_main_v25, val_main_v26, val_main_v27, val_main_v28, val_main_v29,
    val_main_v30, val_main_v31, val_main_v32, val_main_v33, val_main_cst_4, val_main_cst_5, val_main_cst_6]

/-- The body's three stored values at an index. -/
theorem pay1_apply (v : Vec Ideal S64x4096 .f32) (y : S64x4096.Idx) : k0_pay1 v y =
    v y * Ideal.rsqrt (Ideal.div (∑ k, v (ix2 (y 0) k) * v (ix2 (y 0) k)) (Ideal.ofBits .f32 0x45800000#32) + Ideal.ofBits .f32 0x358637BD#32) := by
  pointwise [k0_pay1]
theorem pay2_apply (v5 : Vec Ideal S512x4096 .bf16) (v6 : Vec Ideal S4096x512 .bf16) (v16 : Vec Ideal S512x512 .f32) (v17 : Vec Ideal S512x256 .bf16)
    (v19 : Vec Ideal S256x512 .bf16) (y : S512x512.Idx) : k0_pay2 v5 v6 v16 v17 v19 y =
    v16 y + Ideal.div 1 (1 + Ideal.exp (-∑ k, v5 (ix2 (y 0) k) * v6 (ix2 k (y 1)))) * ∑ k, v17 (ix2 (y 0) k) * v19 (ix2 k (y 1)) := by
  pointwise [k0_pay2, zero_sub]
theorem pay3_apply (v : Vec Ideal S64x4096 .f32) (g : Vec Ideal S1x4096 .f32) (y : S64x4096.Idx) : k0_pay3 v g y =
    v y * Ideal.rsqrt (Ideal.div (∑ k, v (ix2 (y 0) k) * v (ix2 (y 0) k)) (Ideal.ofBits .f32 0x45800000#32) + Ideal.ofBits .f32 0x358637BD#32)
      * g (ix2 0 (y 1)) := by
  pointwise [k0_pay3]

end Cert.PleValue
end
-- ==== Proof.PleLoops.lean ====
/-
  The two loops of the layer's last call (`Kernel2`): eight trips of 64 rows each. The first fills the scratch with the
  normalized rows, the second normalizes the finished rows in place, reading each before it is stored.
-/
module

public import proofs.«01_k».proof.Proof.PleValue
public import Idealize.ShloMosaic.Lib.WritesUnit

@[expose] public section

noncomputable section

namespace Cert.PleValue

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

section Body

variable (c : Dev nD) (E : Set ℕ) (i : grid0.Coords) (arg2 : Memref sig .tc .vmem S512x4096 .f32) (harg2 : arg2.IsWhole) (arg3 : Memref sig .tc .vmem S4096x512 .bf16) (harg3 : arg3.IsWhole) (arg4 : Memref sig .tc .vmem S512x256 .bf16) (harg4 : arg4.IsWhole) (arg5 : Memref sig .tc .vmem S256x512 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole)

/-- Rows `64 k` to `64 k + 63` of a block, and the columns of column block `i 1`. -/
abbrev rows1 (h1 : k0_cond1 i = 1#1) (k : Fin k0_t1_loop.trips) : Rect S512x4096 :=
  Rect.unit (s := S512x4096) (k0_off1 k) S64x4096.size (k0_off1_inb i k h1)
abbrev rows2 (h2 : k0_cond2 i = 1#1) (k : Fin k0_t2_loop.trips) : Rect S512x4096 :=
  Rect.unit (s := S512x4096) (k0_off3 k) S64x4096.size (k0_off3_inb i k h2)
abbrev cols : Rect S512x4096 := Rect.unit (s := S512x4096) (k0_off2 i) S512x512.size (k0_off2_inb i)

theorem trips1 : k0_t1_loop.trips = 8 := by decide +kernel
theorem trips2 : k0_t2_loop.trips = 8 := by decide +kernel

/-- Storing rows `64 n` to `64 n + 63` of a block: the rows before stay, the rows stored hold what is stored. -/
theorem put_rows {e : EltTy} (arg : Memref sig .tc .vmem S512x4096 e) (f : arg.view.ty.Contents (Elt Ideal)) (O T : Vec Ideal S512x4096 e) (n : ℕ)
    (off : Fin 2 → ℕ) (hoff : off = ![64 * n, 0]) (inb : ∀ a, off a + S64x4096.size a ≤ S512x4096.size a)
    (w : (Rect.unit (s := S512x4096) off S64x4096.size inb).shape.Idx → Elt Ideal e)
    (hw : ∀ x, w x = T ((Rect.unit (s := S512x4096) off S64x4096.size inb).idx x)) (y : S512x4096.Idx)
    (hd : ((y 0).val < 64 * n → arg.view.read (Elt Ideal) f y = T y) ∧ (64 * n ≤ (y 0).val → arg.view.read (Elt Ideal) f y = O y)) :
    ((y 0).val < 64 * (n + 1) →
      arg.view.read (Elt Ideal) (arg.view.writes (Elt Ideal) f [⟨Rect.unit (s := S512x4096) off S64x4096.size inb, w⟩]) y = T y)
    ∧ (64 * (n + 1) ≤ (y 0).val →
      arg.view.read (Elt Ideal) (arg.view.writes (Elt Ideal) f [⟨Rect.unit (s := S512x4096) off S64x4096.size inb, w⟩]) y = O y) := by
  subst hoff
  have hsz : S64x4096.size 0 = 64 := rfl
  refine ⟨fun hy => ?_, fun hy => ?_⟩
  · by_cases hlt : (y 0).val < 64 * n
    · exact (View.read_writes_cons_unit_of_not_mem _ _ _ _ _ y rfl 0 (Or.inl hlt)).trans (hd.1 hlt)
    · have hx : ∀ a, (y a).val = (![64 * n, 0] : Fin 2 → ℕ) a + ((ix2 ⟨(y 0).val - 64 * n, by omega⟩ (y 1) : S64x4096.Idx) a).val :=
        Fin.forall_fin_two.mpr ⟨show (y 0).val = 64 * n + ((y 0).val - 64 * n) by omega, show (y 1).val = 0 + (y 1).val from (Nat.zero_add _).symm⟩
      refine (View.read_writes_cons_unit_of_mem _ _ _ _ _ y _ rfl hx).trans ((hw _).trans (congrArg T (funext fun a => Fin.ext ?_)))
      show (![64 * n, 0] : Fin 2 → ℕ) a + 1 * _ = _
      rw [Nat.one_mul]; exact (hx a).symm
  · refine (View.read_writes_cons_unit_of_not_mem _ _ _ _ _ y rfl 0 (Or.inr ?_)).trans (hd.2 (by omega))
    have h : 64 * n + S64x4096.size 0 ≤ (y 0).val := by rw [hsz]; omega
    exact h

set_option maxHeartbeats 1000000 in
/-- One trip of the first loop: 64 more rows of the scratch hold their normalized values. -/
theorem trip1 (h1 : k0_cond1 i = 1#1) (X : Vec Ideal S512x4096 .f32) (T : Vec Ideal S512x4096 .bf16) (k : Fin k0_t1_loop.trips)
    (hT : ∀ x : S64x4096.Idx, k0_pay1 (View.ld X (rows1 i h1 k)) x = T ((rows1 i h1 k).idx x)) :
    iprop(owns (c : Thread nD τ) arg2 fullShare X ∗ (∃ d, owns (c : Thread nD τ) arg8 fullShare d ∗ ⌜∀ y, (y 0).val < 64 * k.val → d y = T y⌝))
      ⊢ (wp frame (wpE (defs₀ (F := Ideal)) Variants.none (c : Thread nD τ) none) E
          (k0_t1_body (F := Ideal) i arg2 harg2 arg3 harg3 arg4 harg4 arg5 harg5 arg6 harg6 arg7 harg7 arg8 harg8 h1 k ⟨⟩)
          (fun _ => iprop(owns (c : Thread nD τ) arg2 fullShare X ∗ (∃ d, owns (c : Thread nD τ) arg8 fullShare d ∗ ⌜∀ y, (y 0).val < 64 * (k.val + 1) → d y = T y⌝))) : sProp 𝕄) := by
  have hk : k.val < 8 := Nat.lt_of_lt_of_le k.isLt k0_t1_abs.2.1
  unfold k0_t1_body
  unfold owns
  iintro ⟨⟨%f0, %hf0, H0⟩, ⟨%d, ⟨%f, %hf, H8⟩, %hd⟩⟩
  subst hf0 hf
  sl_exec
  sl_step
  isplitl [H0]
  · iexists f0; isplitr; · ipureintro; rfl
    iexact H0
  iexists _
  isplitl [H8]
  · iexists _; isplitr; swap; · iexact H8
    ipureintro; rfl
  ipureintro
  intro y hy
  exact (put_rows arg8 f (arg8.view.read (Elt Ideal) f) T k.val _ (k0_off1_eq k) _ _ hT y ⟨hd y, fun _ => rfl⟩).1 hy

set_option maxHeartbeats 200000 in
/-- One trip of the last loop: 64 more rows of the output hold their final values. -/
theorem trip2 (h2 : k0_cond2 i = 1#1) (G : Vec Ideal S1x4096 .f32) (O T : Vec Ideal S512x4096 .f32) (k : Fin k0_t2_loop.trips)
    (hT : ∀ x : S64x4096.Idx, k0_pay3 (View.ld O (rows2 i h2 k)) G x = T ((rows2 i h2 k).idx x)) :
    iprop(owns (c : Thread nD τ) arg6 fullShare G
        ∗ (∃ d, owns (c : Thread nD τ) arg7 fullShare d ∗ ⌜∀ y, ((y 0).val < 64 * k.val → d y = T y) ∧ (64 * k.val ≤ (y 0).val → d y = O y)⌝))
      ⊢ (wp frame (wpE (defs₀ (F := Ideal)) Variants.none (c : Thread nD τ) none) E
          (k0_t2_body (F := Ideal) i arg2 harg2 arg3 harg3 arg4 harg4 arg5 harg5 arg6 harg6 arg7 harg7 arg8 harg8 h2 k ⟨⟩)
          (fun _ => iprop(owns (c : Thread nD τ) arg6 fullShare G
            ∗ (∃ d, owns (c : Thread nD τ) arg7 fullShare d ∗ ⌜∀ y, ((y 0).val < 64 * (k.val + 1) → d y = T y) ∧ (64 * (k.val + 1) ≤ (y 0).val → d y = O y)⌝))) : sProp 𝕄) := by
  have hk : k.val < 8 := Nat.lt_of_lt_of_le k.isLt k0_t2_abs.2.1
  unfold k0_t2_body
  unfold owns
  iintro ⟨⟨%f0, %hf0, H0⟩, ⟨%d, ⟨%f, %hf, H8⟩, %hd⟩⟩
  subst hf0 hf
  sl_exec
  sl_step
  isplitl [H0]
  · iexists f0; isplitr; · ipureintro; rfl
    iexact H0
  iexists _
  isplitl [H8]
  · iexists _; isplitr; swap; · iexact H8
    ipureintro; rfl
  ipureintro
  intro y
  refine put_rows arg7 f O T k.val _ (k0_off3_eq k) _ _ (fun x => Eq.trans ?_ (hT x)) y (hd y)
  have hO : View.ld (arg7.view.read (Elt Ideal) f) (rows2 i h2 k) = View.ld O (rows2 i h2 k) := funext fun x => by
    refine (hd _).2 ?_
    show 64 * k.val ≤ k0_off3 k 0 + 1 * _
    rw [k0_off3_eq k]; exact Nat.le_add_right _ _
  have hG : View.ld (arg6.view.read (Elt Ideal) f0) (Rect.unit (s := S1x4096) ![0, 0] S1x4096.size inb_S1x4096_S1x4096_0_0) = arg6.view.read (Elt Ideal) f0 :=
    View.ld_unit_zero (by decide) _ _
  exact congrArg₂ (fun v g => k0_pay3 v g x) hO hG

/-- The first loop: the scratch ends at `T`. -/
theorem loop1 (h1 : k0_cond1 i = 1#1) (X : Vec Ideal S512x4096 .f32) (T : Vec Ideal S512x4096 .bf16)
    (hT : ∀ k (x : S64x4096.Idx), k0_pay1 (View.ld X (rows1 i h1 k)) x = T ((rows1 i h1 k).idx x)) :
    iprop(owns (c : Thread nD τ) arg2 fullShare X ∗ (∃ d, owns (c : Thread nD τ) arg8 fullShare d))
      ⊢ (wp frame (wpE (defs₀ (F := Ideal)) Variants.none (c : Thread nD τ) none) E
          (Scf.Loop.for k0_t1_loop (k0_t1_ok i h1) ⟨⟩ (k0_t1_body (F := Ideal) i arg2 harg2 arg3 harg3 arg4 harg4 arg5 harg5 arg6 harg6 arg7 harg7 arg8 harg8 h1))
          (fun _ => iprop(owns (c : Thread nD τ) arg2 fullShare X ∗ owns (c : Thread nD τ) arg8 fullShare T)) : sProp 𝕄) := by
  refine BIBase.Entails.trans ?_ (Scf.wp_for frame (wpE (defs₀ (F := Ideal)) Variants.none (c : Thread nD τ) none) E k0_t1_loop.lb k0_t1_loop.ub k0_t1_loop.st
    (k0_t1_ok i h1) ⟨⟩ _ (fun n _ => iprop(owns (c : Thread nD τ) arg2 fullShare X ∗ (∃ d, owns (c : Thread nD τ) arg8 fullShare d ∗ ⌜∀ y, (y 0).val < 64 * n → d y = T y⌝)))
    (fun k _ => trip1 c E i arg2 harg2 arg3 harg3 arg4 harg4 arg5 harg5 arg6 harg6 arg7 harg7 arg8 harg8 h1 X T k (hT k)))
  iintro ⟨H2, ⟨%d, H8⟩⟩
  isplitl [H2 H8]
  · isplitl [H2]; · iexact H2
    iexists d
    isplitl [H8]; · iexact H8
    ipureintro; intro y hy; exact absurd hy (by omega)
  iintro %_ ⟨H2, ⟨%d, H8, %hd⟩⟩
  isplitl [H2]; · iexact H2
  obtain rfl : d = T := funext fun y => hd y (lt_of_lt_of_eq (y 0).isLt (show 512 = 64 * k0_t1_loop.trips by rw [trips1]))
  iexact H8

/-- The last loop: the output ends at `T`. -/
theorem loop2 (h2 : k0_cond2 i = 1#1) (G : Vec Ideal S1x4096 .f32) (O T : Vec Ideal S512x4096 .f32)
    (hT : ∀ k (x : S64x4096.Idx), k0_pay3 (View.ld O (rows2 i h2 k)) G x = T ((rows2 i h2 k).idx x)) :
    iprop(owns (c : Thread nD τ) arg6 fullShare G ∗ owns (c : Thread nD τ) arg7 fullShare O)
      ⊢ (wp frame (wpE (defs₀ (F := Ideal)) Variants.none (c : Thread nD τ) none) E
          (Scf.Loop.for k0_t2_loop (k0_t2_ok i h2) ⟨⟩ (k0_t2_body (F := Ideal) i arg2 harg2 arg3 harg3 arg4 harg4 arg5 harg5 arg6 harg6 arg7 harg7 arg8 harg8 h2))
          (fun _ => iprop(owns (c : Thread nD τ) arg6 fullShare G ∗ owns (c : Thread nD τ) arg7 fullShare T)) : sProp 𝕄) := by
  refine BIBase.Entails.trans ?_ (Scf.wp_for frame (wpE (defs₀ (F := Ideal)) Variants.none (c : Thread nD τ) none) E k0_t2_loop.lb k0_t2_loop.ub k0_t2_loop.st
    (k0_t2_ok i h2) ⟨⟩ _ (fun n _ => iprop(owns (c : Thread nD τ) arg6 fullShare G
      ∗ (∃ d, owns (c : Thread nD τ) arg7 fullShare d ∗ ⌜∀ y, ((y 0).val < 64 * n → d y = T y) ∧ (64 * n ≤ (y 0).val → d y = O y)⌝)))
    (fun k _ => trip2 c E i arg2 harg2 arg3 harg3 arg4 harg4 arg5 harg5 arg6 harg6 arg7 harg7 arg8 harg8 h2 G O T k (hT k)))
  iintro ⟨H2, H8⟩
  isplitl [H2 H8]
  · isplitl [H2]; · iexact H2
    iexists O
    isplitl [H8]; · iexact H8
    ipureintro; intro y; exact ⟨fun hy => absurd hy (by omega), fun _ => rfl⟩
  iintro %_ ⟨H2, ⟨%d, H8, %hd⟩⟩
  isplitl [H2]; · iexact H2
  obtain rfl : d = T := funext fun y => (hd y).1 (lt_of_lt_of_eq (y 0).isLt (show 512 = 64 * k0_t2_loop.trips by rw [trips2]))
  iexact H8

end Body
end Cert.PleValue
end
-- ==== Proof.PleBody.lean ====
/-
  The body of the layer's last call (`Kernel2`) on any buffers: the scratch ends at the normalized rows, the output's
  columns up to the point's at the gated sum, and after the last block of columns the whole output at the result.
-/
module

public import proofs.«01_k».proof.Proof.PleLoops

@[expose] public section

noncomputable section

namespace Cert.PleValue

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

section Body

variable (c : Dev nD) (E : Set ℕ) (i : grid0.Coords) (arg2 : Memref sig .tc .vmem S512x4096 .f32) (harg2 : arg2.IsWhole) (arg3 : Memref sig .tc .vmem S4096x512 .bf16) (harg3 : arg3.IsWhole) (arg4 : Memref sig .tc .vmem S512x256 .bf16) (harg4 : arg4.IsWhole) (arg5 : Memref sig .tc .vmem S256x512 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole)

/-- The body between its two conditions. -/
def mid : Prog (TpuEff nD τ sig (Elt Ideal) Λ₀ .tc) PUnit := do
  let v5 : Vec Ideal S512x4096 .bf16 ← Prog.lift (.load arg8 (Rect.unit (s := S512x4096) ![0, 0] S512x4096.size inb_S512x4096_S512x4096_0_0).toLoadRect (View.loadsAt_vmem h_S512x4096))
  let v6 : Vec Ideal S4096x512 .bf16 ← Prog.lift (.load arg3 (Rect.unit (s := S4096x512) ![0, 0] S4096x512.size inb_S4096x512_S4096x512_0_0).toLoadRect (View.loadsAt_vmem h_S4096x512))
  let v16 : Vec Ideal S512x512 .f32 ← Prog.lift (.load arg2 (Rect.unit (s := S512x4096) (k0_off2 i) S512x512.size (k0_off2_inb i)).toLoadRect (View.loadsAt_vmem h_S512x512))
  let v17 : Vec Ideal S512x256 .bf16 ← Prog.lift (.load arg4 (Rect.unit (s := S512x256) ![0, 0] S512x256.size inb_S512x256_S512x256_0_0).toLoadRect (View.loadsAt_vmem h_S512x256))
  let v19 : Vec Ideal S256x512 .bf16 ← Prog.lift (.load arg5 (Rect.unit (s := S256x512) ![0, 0] S256x512.size inb_S256x512_S256x512_0_0).toLoadRect (View.loadsAt_vmem h_S256x512))
  let _v25 : Vec Ideal S512x512 .f32 ← Prog.lift (.load arg7 (Rect.unit (s := S512x4096) (k0_off2 i) S512x512.size (k0_off2_inb i)).toLoadRect (View.loadsAt_vmem h_S512x512))
  Prog.lift (.store arg7 (Rect.unit (s := S512x4096) (k0_off2 i) S512x512.size (k0_off2_inb i)) (k0_pay2 v5 v6 v16 v17 v19) Finset.univ (View.stores_vmem_bits_univ h_S512x512 rfl) (.inl rfl))

/-- The body after its first condition. -/
def rest : Prog (TpuEff nD τ sig (Elt Ideal) Λ₀ .tc) PUnit :=
  mid i arg2 arg3 arg4 arg5 arg7 arg8 >>= fun _ =>
  if h2 : k0_cond2 i = 1#1 then
    Scf.Loop.for k0_t2_loop (k0_t2_ok i h2) ⟨⟩ (k0_t2_body i arg2 harg2 arg3 harg3 arg4 harg4 arg5 harg5 arg6 harg6 arg7 harg7 arg8 harg8 h2)
      >>= fun _ => pure ⟨⟩
  else pure ⟨⟩

theorem skel_eq : cc0_ple_skel (F := Ideal) i arg2 harg2 arg3 harg3 arg4 harg4 arg5 harg5 arg6 harg6 arg7 harg7 arg8 harg8 =
    (if h1 : k0_cond1 i = 1#1 then
      Scf.Loop.for k0_t1_loop (k0_t1_ok i h1) ⟨⟩ (k0_t1_body i arg2 harg2 arg3 harg3 arg4 harg4 arg5 harg5 arg6 harg6 arg7 harg7 arg8 harg8 h1)
        >>= fun _ => rest i arg2 harg2 arg3 harg3 arg4 harg4 arg5 harg5 arg6 harg6 arg7 harg7 arg8 harg8
    else rest i arg2 harg2 arg3 harg3 arg4 harg4 arg5 harg5 arg6 harg6 arg7 harg7 arg8 harg8) := by
  unfold cc0_ple_skel rest mid
  by_cases h1 : k0_cond1 i = 1#1
  · simp only [dif_pos h1]; rfl
  · simp only [dif_neg h1]; rfl

/-- The whole of a buffer read as itself. -/
theorem ld_whole {r : ℕ} {d : Fin r → ℕ} {e : EltTy} (X : (⟨r, d⟩ : Shape).Idx → Elt Ideal e) (off : Fin r → ℕ) (h : off = fun _ => 0)
    (inb : ∀ a, off a + d a ≤ d a) : View.ld X (Rect.unit (s := ⟨r, d⟩) off d inb) = X := View.ld_unit_zero h inb X

/-- Storing the columns of a column block: the columns before stay, the columns stored hold what is stored. -/
theorem put_cols (f : arg7.view.ty.Contents (Elt Ideal)) (S : Vec Ideal S512x4096 .f32) (n : ℕ)
    (off : Fin 2 → ℕ) (hoff : off = ![0, 512 * n]) (inb : ∀ a, off a + S512x512.size a ≤ S512x4096.size a)
    (w : (Rect.unit (s := S512x4096) off S512x512.size inb).shape.Idx → Elt Ideal .f32)
    (hw : ∀ x, w x = S ((Rect.unit (s := S512x4096) off S512x512.size inb).idx x)) (y : S512x4096.Idx)
    (hd : (y 1).val < 512 * n → arg7.view.read (Elt Ideal) f y = S y) (hy : (y 1).val < 512 * (n + 1)) :
    arg7.view.read (Elt Ideal) (arg7.view.writes (Elt Ideal) f [⟨Rect.unit (s := S512x4096) off S512x512.size inb, w⟩]) y = S y := by
  subst hoff
  by_cases hlt : (y 1).val < 512 * n
  · exact (View.read_writes_cons_unit_of_not_mem _ _ _ _ _ y rfl 1 (Or.inl hlt)).trans (hd hlt)
  · have hx : ∀ a, (y a).val = (![0, 512 * n] : Fin 2 → ℕ) a + ((ix2 (y 0) ⟨(y 1).val - 512 * n, by omega⟩ : S512x512.Idx) a).val :=
      Fin.forall_fin_two.mpr ⟨show (y 0).val = 0 + (y 0).val from (Nat.zero_add _).symm, show (y 1).val = 512 * n + ((y 1).val - 512 * n) by omega⟩
    refine (View.read_writes_cons_unit_of_mem _ _ _ _ _ y _ rfl hx).trans ((hw _).trans (congrArg S (funext fun a => Fin.ext ?_)))
    show (![0, 512 * n] : Fin 2 → ℕ) a + 1 * _ = _
    rw [Nat.one_mul]; exact (hx a).symm

section Rest

variable (X0 : Vec Ideal S512x4096 .f32) (X1 : Vec Ideal S4096x512 .bf16) (X2 : Vec Ideal S512x256 .bf16) (X3 : Vec Ideal S256x512 .bf16)
  (G : Vec Ideal S1x4096 .f32) (Y : Vec Ideal S512x4096 .f32) (N : Vec Ideal S512x4096 .bf16) (S T : Vec Ideal S512x4096 .f32)

set_option maxHeartbeats 1000000 in
/-- The body between its conditions: the output's columns of the point's column block hold `S`. -/
theorem sound_mid (hS : ∀ x : S512x512.Idx, k0_pay2 N X1 (View.ld X0 (cols i)) X2 X3 x = S ((cols i).idx x))
    (hY : ∀ y : S512x4096.Idx, (y 1).val < 512 * (i 1).val → Y y = S y) :
    iprop(owns (c : Thread nD τ) arg2 fullShare X0 ∗ owns (c : Thread nD τ) arg3 fullShare X1 ∗ owns (c : Thread nD τ) arg4 fullShare X2 ∗ owns (c : Thread nD τ) arg5 fullShare X3 ∗ owns (c : Thread nD τ) arg7 fullShare Y ∗ owns (c : Thread nD τ) arg8 fullShare N)
      ⊢ (wp frame (wpE (defs₀ (F := Ideal)) Variants.none (c : Thread nD τ) none) E (mid i arg2 arg3 arg4 arg5 arg7 arg8)
          (fun _ => iprop(owns (c : Thread nD τ) arg2 fullShare X0 ∗ owns (c : Thread nD τ) arg3 fullShare X1 ∗ owns (c : Thread nD τ) arg4 fullShare X2 ∗ owns (c : Thread nD τ) arg5 fullShare X3
            ∗ (∃ d, owns (c : Thread nD τ) arg7 fullShare d ∗ ⌜∀ y : S512x4096.Idx, (y 1).val < 512 * ((i 1).val + 1) → d y = S y⌝)
            ∗ owns (c : Thread nD τ) arg8 fullShare N)) : sProp 𝕄) := by
  unfold mid
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩⟩
  sl_exec
  sl_step
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H5]
  · iexists _
    isplitl [H5]
    · iexists _; isplitr; swap; · iexact H5
      ipureintro; rfl
    ipureintro
    intro y hy
    refine put_cols arg7 f5 S (i 1).val _ (k0_off2_eq i) _ _ (fun x => Eq.trans ?_ (hS x)) y (fun h => (congrFun hf5 y).trans (hY y h)) hy
    subst hf0 hf1 hf2 hf3 hf6
    have e6 := ld_whole (arg8.view.read (Elt Ideal) f6) ![0, 0] (by decide) inb_S512x4096_S512x4096_0_0
    have e1 := ld_whole (arg3.view.read (Elt Ideal) f1) ![0, 0] (by decide) inb_S4096x512_S4096x512_0_0
    have e2 := ld_whole (arg4.view.read (Elt Ideal) f2) ![0, 0] (by decide) inb_S512x256_S512x256_0_0
    have e3 := ld_whole (arg5.view.read (Elt Ideal) f3) ![0, 0] (by decide) inb_S256x512_S256x512_0_0
    exact (congrArg (fun v => k0_pay2 v _ _ _ _ x) e6).trans ((congrArg (fun v => k0_pay2 _ v _ _ _ x) e1).trans
      ((congrArg (fun v => k0_pay2 _ _ _ v _ x) e2).trans (congrArg (fun v => k0_pay2 _ _ _ _ v x) e3)))
  iexists f6; isplitr; · ipureintro; exact hf6
  iexact H6

/-- The body after its first condition: at the last column block the whole output ends at `T`. -/
theorem sound_rest (hS : ∀ x : S512x512.Idx, k0_pay2 N X1 (View.ld X0 (cols i)) X2 X3 x = S ((cols i).idx x))
    (hF : ∀ h2 k (x : S64x4096.Idx), k0_pay3 (View.ld S (rows2 i h2 k)) G x = T ((rows2 i h2 k).idx x))
    (hY : ∀ y : S512x4096.Idx, (y 1).val < 512 * (i 1).val → Y y = S y) (h7 : k0_cond2 i = 1#1 → (i 1).val = 7) :
    iprop((owns (c : Thread nD τ) arg2 fullShare X0 ∗ owns (c : Thread nD τ) arg3 fullShare X1 ∗ owns (c : Thread nD τ) arg4 fullShare X2 ∗ owns (c : Thread nD τ) arg5 fullShare X3 ∗ owns (c : Thread nD τ) arg7 fullShare Y ∗ owns (c : Thread nD τ) arg8 fullShare N) ∗ owns (c : Thread nD τ) arg6 fullShare G)
      ⊢ (wp frame (wpE (defs₀ (F := Ideal)) Variants.none (c : Thread nD τ) none) E
          (rest i arg2 harg2 arg3 harg3 arg4 harg4 arg5 harg5 arg6 harg6 arg7 harg7 arg8 harg8)
          (fun _ => iprop(owns (c : Thread nD τ) arg2 fullShare X0 ∗ owns (c : Thread nD τ) arg3 fullShare X1 ∗ owns (c : Thread nD τ) arg4 fullShare X2 ∗ owns (c : Thread nD τ) arg5 fullShare X3 ∗ owns (c : Thread nD τ) arg6 fullShare G
            ∗ (∃ d, owns (c : Thread nD τ) arg7 fullShare d ∗ ⌜(k0_cond2 i = 1#1 → d = T) ∧ (¬k0_cond2 i = 1#1 → ∀ y : S512x4096.Idx, (y 1).val < 512 * ((i 1).val + 1) → d y = S y)⌝)
            ∗ owns (c : Thread nD τ) arg8 fullShare N)) : sProp 𝕄) := by
  unfold rest
  rw [wp_bind]
  iintro ⟨H, H6⟩
  iapply (wp_wand_r frame (wpE (defs₀ (F := Ideal)) Variants.none (c : Thread nD τ) none) E)
  isplitl [H]
  · iapply (sound_mid c E i arg2 arg3 arg4 arg5 arg7 arg8 X0 X1 X2 X3 Y N S hS hY); iexact H
  iintro %_ ⟨H2, H3, H4, H5, ⟨%d, H7, %hd⟩, H8⟩
  by_cases h2 : k0_cond2 i = 1#1
  · rw [dif_pos h2, wp_bind]
    obtain rfl : d = S := funext fun y => hd y (by rw [h7 h2]; exact (y 1).isLt)
    iapply (wp_wand_r frame (wpE (defs₀ (F := Ideal)) Variants.none (c : Thread nD τ) none) E)
    isplitl [H6 H7]
    · iapply (loop2 c E i arg2 harg2 arg3 harg3 arg4 harg4 arg5 harg5 arg6 harg6 arg7 harg7 arg8 harg8 h2 G d T (hF h2))
      isplitl [H6]; · iexact H6
      iexact H7
    iintro %_ ⟨H6, H7⟩
    rw [show (pure PUnit.unit : Prog (TpuEff nD τ sig (Elt Ideal) Λ₀ .tc) PUnit) = .ret PUnit.unit from rfl, wp_ret]
    imodintro
    isplitl [H2]; · iexact H2
    isplitl [H3]; · iexact H3
    isplitl [H4]; · iexact H4
    isplitl [H5]; · iexact H5
    isplitl [H6]; · iexact H6
    isplitl [H7]
    · iexists T; isplitl [H7]; · iexact H7
      ipureintro; exact ⟨fun _ => rfl, fun h => absurd h2 h⟩
    iexact H8
  · rw [dif_neg h2]
    rw [show (pure PUnit.unit : Prog (TpuEff nD τ sig (Elt Ideal) Λ₀ .tc) PUnit) = .ret PUnit.unit from rfl, wp_ret]
    imodintro
    isplitl [H2]; · iexact H2
    isplitl [H3]; · iexact H3
    isplitl [H4]; · iexact H4
    isplitl [H5]; · iexact H5
    isplitl [H6]; · iexact H6
    isplitl [H7]
    · iexists d; isplitl [H7]; · iexact H7
      ipureintro; exact ⟨fun h => absurd h h2, fun _ => hd⟩
    iexact H8

/-- The body: the scratch ends at `N`, the output's columns up to the point's column block at `S`, and at the last column
    block the whole output at `T`. -/
theorem sound_kernel (Z : Vec Ideal S512x4096 .bf16) (hZ : ¬k0_cond1 i = 1#1 → Z = N)
    (hN : ∀ h1 k (x : S64x4096.Idx), k0_pay1 (View.ld X0 (rows1 i h1 k)) x = N ((rows1 i h1 k).idx x))
    (hS : ∀ x : S512x512.Idx, k0_pay2 N X1 (View.ld X0 (cols i)) X2 X3 x = S ((cols i).idx x))
    (hF : ∀ h2 k (x : S64x4096.Idx), k0_pay3 (View.ld S (rows2 i h2 k)) G x = T ((rows2 i h2 k).idx x))
    (hY : ∀ y : S512x4096.Idx, (y 1).val < 512 * (i 1).val → Y y = S y) (h7 : k0_cond2 i = 1#1 → (i 1).val = 7) :
    iprop(owns (c : Thread nD τ) arg2 fullShare X0 ∗ owns (c : Thread nD τ) arg3 fullShare X1 ∗ owns (c : Thread nD τ) arg4 fullShare X2 ∗ owns (c : Thread nD τ) arg5 fullShare X3 ∗ owns (c : Thread nD τ) arg6 fullShare G ∗ owns (c : Thread nD τ) arg7 fullShare Y ∗ owns (c : Thread nD τ) arg8 fullShare Z)
      ⊢ (wp frame (wpE (defs₀ (F := Ideal)) Variants.none (c : Thread nD τ) none) E
          (cc0_ple (F := Ideal) i arg2 harg2 arg3 harg3 arg4 harg4 arg5 harg5 arg6 harg6 arg7 harg7 arg8 harg8)
          (fun _ => iprop(owns (c : Thread nD τ) arg2 fullShare X0 ∗ owns (c : Thread nD τ) arg3 fullShare X1 ∗ owns (c : Thread nD τ) arg4 fullShare X2 ∗ owns (c : Thread nD τ) arg5 fullShare X3 ∗ owns (c : Thread nD τ) arg6 fullShare G
            ∗ (∃ d, owns (c : Thread nD τ) arg7 fullShare d ∗ ⌜(k0_cond2 i = 1#1 → d = T) ∧ (¬k0_cond2 i = 1#1 → ∀ y : S512x4096.Idx, (y 1).val < 512 * ((i 1).val + 1) → d y = S y)⌝)
            ∗ owns (c : Thread nD τ) arg8 fullShare N)) : sProp 𝕄) := by
  rw [cc0_ple_eq_skeleton, skel_eq]
  iintro ⟨H2, H3, H4, H5, H6, H7, H8⟩
  by_cases h1 : k0_cond1 i = 1#1
  · rw [dif_pos h1, wp_bind]
    iapply (wp_wand_r frame (wpE (defs₀ (F := Ideal)) Variants.none (c : Thread nD τ) none) E)
    isplitl [H2 H8]
    · iapply (loop1 c E i arg2 harg2 arg3 harg3 arg4 harg4 arg5 harg5 arg6 harg6 arg7 harg7 arg8 harg8 h1 X0 N (hN h1))
      isplitl [H2]; · iexact H2
      iexists Z; iexact H8
    iintro %_ ⟨H2, H8⟩
    iapply (sound_rest c E i arg2 harg2 arg3 harg3 arg4 harg4 arg5 harg5 arg6 harg6 arg7 harg7 arg8 harg8 X0 X1 X2 X3 G Y N S T hS hF hY h7)
    isplitr [H6]; swap; · iexact H6
    isplitl [H2]; · iexact H2
    isplitl [H3]; · iexact H3
    isplitl [H4]; · iexact H4
    isplitl [H5]; · iexact H5
    isplitl [H7]; · iexact H7
    iexact H8
  · rw [dif_neg h1]
    obtain rfl := hZ h1
    iapply (sound_rest c E i arg2 harg2 arg3 harg3 arg4 harg4 arg5 harg5 arg6 harg6 arg7 harg7 arg8 harg8 X0 X1 X2 X3 G Y Z S T hS hF hY h7)
    isplitr [H6]; swap; · iexact H6
    isplitl [H2]; · iexact H2
    isplitl [H3]; · iexact H3
    isplitl [H4]; · iexact H4
    isplitl [H5]; · iexact H5
    isplitl [H7]; · iexact H7
    iexact H8

end Rest

end Body
end Cert.PleValue
end
-- ==== Proof.PleBlocks.lean ====
/-
  The blocks of the layer's last call (`Kernel2`): which part of each argument the body is handed at a point, and that the
  three stored values are the reference's there.
-/
module

public import proofs.«01_k».proof.Proof.PleBody

@[expose] public section

noncomputable section

namespace Cert.PleValue

open Cert.Kernel2Ideal Cert.Kernel2Ideal.Gen
open Cert.Reference2Ideal.Read
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable (m : (ℓ : Loc nD τ sig) → Buf (Elt Ideal) ℓ) (c : Dev nD)

/-- The reference's normalized rows, gated sum and result at the kernel's arguments. -/
abbrev normed : (⟨S16384x4096, .f32⟩ : BufTy).Contents (Elt Ideal) := val_main_v9 (F := Ideal) (m ((c : Thread nD τ).loc main_arg0))
abbrev summed : (⟨S16384x4096, .f32⟩ : BufTy).Contents (Elt Ideal) :=
  val_main_v20 (F := Ideal) (m ((c : Thread nD τ).loc main_arg0)) (m ((c : Thread nD τ).loc main_arg1)) (m ((c : Thread nD τ).loc main_arg2)) (m ((c : Thread nD τ).loc main_arg3))
abbrev res : (⟨S16384x4096, .f32⟩ : BufTy).Contents (Elt Ideal) :=
  val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- Where the windows stand at a point: eight blocks of columns to each block of rows. -/
theorem idx : ∀ t : Fin cfg0.N,
    win0_0.index t = ![t.val / 8, 0] ∧ win0_1.index t = ![0, t.val % 8] ∧ win0_2.index t = ![t.val / 8, 0]
    ∧ win0_3.index t = ![0, t.val % 8] ∧ win0_4.index t = ![0, 0] ∧ win0_5.index t = ![t.val / 8, 0] :=
  (by decide +kernel : ∀ t : Fin grid0.N,
    win0_0.index t = ![t.val / 8, 0] ∧ win0_1.index t = ![0, t.val % 8] ∧ win0_2.index t = ![t.val / 8, 0]
    ∧ win0_3.index t = ![0, t.val % 8] ∧ win0_4.index t = ![0, 0] ∧ win0_5.index t = ![t.val / 8, 0])

theorem coord0 (t : Fin cfg0.N) : (grid0.coords t 0).val = t.val / 8 := by
  have ht : t.val < 256 := Nat.lt_of_lt_of_eq t.isLt N_0
  have e : (grid0.coords t 0).val = t.val / 8 % 32 := Pipeline.Grid.coords_val t 0 (by decide) rfl
  omega
theorem coord1 (t : Fin cfg0.N) : (grid0.coords t 1).val = t.val % 8 := by
  have e : (grid0.coords t 1).val = t.val / 1 % 8 := Pipeline.Grid.coords_val t 1 (by decide) rfl
  omega

/-- The body's two conditions: the first and the last block of columns. -/
theorem cond1_iff (t : Fin cfg0.N) : k0_cond1 (grid0.coords t) = 1#1 ↔ t.val % 8 = 0 := by
  have e0 := coord0 t
  have e1 := coord1 t
  have ht : t.val < 256 := Nat.lt_of_lt_of_eq t.isLt N_0
  simp only [k0_cond1, e0, e1]
  word_cmp
theorem cond2_iff (t : Fin cfg0.N) : k0_cond2 (grid0.coords t) = 1#1 ↔ t.val % 8 = 7 := by
  have e0 := coord0 t
  have e1 := coord1 t
  have ht : t.val < 256 := Nat.lt_of_lt_of_eq t.isLt N_0
  simp only [k0_cond2, e0, e1]
  word_cmp

/-- The row of the arrays at a row of a point's block, and the column at a column of its column block. -/
def row (t : Fin cfg0.N) (a : Fin 512) : Fin 16384 :=
  ⟨512 * (t.val / 8) + a.val, by have h : t.val < 256 := Nat.lt_of_lt_of_eq t.isLt N_0; have := a.isLt; omega⟩
def col (t : Fin cfg0.N) (b : Fin 512) : Fin 4096 := ⟨512 * (t.val % 8) + b.val, by have := b.isLt; omega⟩

/-- The arrays the casts and the reshape make. -/
theorem cast_p (i : Fin 16384) (k : Fin 256) : V m c main_v0 (ix2 i k) = m ((c : Thread nD τ).loc main_arg2) (ix2 i k) := by
  entry_read
  pointwise
theorem cast_w (k : Fin 256) (j : Fin 4096) : V m c main_v1 (ix2 k j) = m ((c : Thread nD τ).loc main_arg3) (ix2 k j) := by
  entry_read
  pointwise
theorem gain (j : Fin 4096) : V m c main_v2 (ix2 0 j) = m ((c : Thread nD τ).loc main_arg4) (ix1 j) := by
  entry_read
  pointwise

/-- The blocks the body is handed, at an index. -/
theorem blk0 (t : Fin cfg0.N) (a : Fin 512) (b : Fin 4096) : iblk m c 0 t (ix2 a b) = m ((c : Thread nD τ).loc main_arg0) (ix2 (row t a) b) := by
  unfold row
  blk_point [iblk, V_main_arg0 m, idx t]
theorem blk1 (t : Fin cfg0.N) (k : Fin 4096) (b : Fin 512) : iblk m c 1 t (ix2 k b) = m ((c : Thread nD τ).loc main_arg1) (ix2 k (col t b)) := by
  unfold col
  blk_point [iblk, V_main_arg1 m, idx t]
theorem blk2 (t : Fin cfg0.N) (a : Fin 512) (k : Fin 256) : iblk m c 2 t (ix2 a k) = m ((c : Thread nD τ).loc main_arg2) (ix2 (row t a) k) := by
  refine Eq.trans ?_ (cast_p m c _ _)
  unfold iblk row
  blk_ext [idx t]
theorem blk3 (t : Fin cfg0.N) (k : Fin 256) (b : Fin 512) : iblk m c 3 t (ix2 k b) = m ((c : Thread nD τ).loc main_arg3) (ix2 k (col t b)) := by
  refine Eq.trans ?_ (cast_w m c _ _)
  unfold iblk col
  blk_ext [idx t]
theorem blk4 (t : Fin cfg0.N) (b : Fin 4096) : iblk m c 4 t (ix2 0 b) = m ((c : Thread nD τ).loc main_arg4) (ix1 b) := by
  refine Eq.trans ?_ (gain m c _)
  unfold iblk
  blk_ext [idx t]

/-- What the scratch and the output's buffer hold at a point's block of rows. -/
def blkN (t : Fin cfg0.N) : Vec Ideal S512x4096 .bf16 := fun y => normed m c (ix2 (row t (y 0)) (y 1))
def blkS (t : Fin cfg0.N) : Vec Ideal S512x4096 .f32 := fun y => summed m c (ix2 (row t (y 0)) (y 1))
def blkT (t : Fin cfg0.N) : Vec Ideal S512x4096 .f32 := fun y => res m c (ix2 (row t (y 0)) (y 1))

/-- Where a rectangle of 64 whole rows, and one of 512 columns, has its elements. -/
theorem idx_rows (o : ℕ) (off : Fin 2 → ℕ) (hoff : off = ![o, 0]) (inb : ∀ a, off a + S64x4096.size a ≤ S512x4096.size a) (ho : o + 64 ≤ 512)
    (x : S64x4096.Idx) : (Rect.unit (s := S512x4096) off S64x4096.size inb).idx x
      = ix2 (⟨o + (x 0).val, Nat.lt_of_lt_of_le (Nat.add_lt_add_left (x 0).isLt o) ho⟩ : Fin 512) (x 1) := by
  subst hoff
  refine funext (Fin.forall_fin_two.mpr ⟨Fin.ext ?_, Fin.ext ?_⟩)
  · show o + 1 * (x 0).val = o + (x 0).val
    rw [Nat.one_mul]
  · show 0 + 1 * (x 1).val = (x 1).val
    rw [Nat.one_mul, Nat.zero_add]
theorem idx_cols (o : ℕ) (off : Fin 2 → ℕ) (hoff : off = ![0, o]) (inb : ∀ a, off a + S512x512.size a ≤ S512x4096.size a) (ho : o + 512 ≤ 4096)
    (x : S512x512.Idx) : (Rect.unit (s := S512x4096) off S512x512.size inb).idx x
      = ix2 (x 0) (⟨o + (x 1).val, Nat.lt_of_lt_of_le (Nat.add_lt_add_left (x 1).isLt o) ho⟩ : Fin 4096) := by
  subst hoff
  refine funext (Fin.forall_fin_two.mpr ⟨Fin.ext ?_, Fin.ext ?_⟩)
  · show 0 + 1 * (x 0).val = (x 0).val
    rw [Nat.one_mul, Nat.zero_add]
  · show o + 1 * (x 1).val = o + (x 1).val
    rw [Nat.one_mul]

/-- The first loop stores the normalized rows. -/
theorem hN (t : Fin cfg0.N) (h1 : k0_cond1 (grid0.coords t) = 1#1) (k : Fin k0_t1_loop.trips) (x : S64x4096.Idx) :
    k0_pay1 (View.ld (iblk m c 0 t) (rows1 (grid0.coords t) h1 k)) x = blkN m c t ((rows1 (grid0.coords t) h1 k).idx x) := by
  have hk : 64 * k.val + 64 ≤ 512 := by have h := Nat.lt_of_lt_of_eq k.isLt trips1; omega
  have hR : ∀ x, (rows1 (grid0.coords t) h1 k).idx x = _ := fun x => idx_rows (64 * k.val) _ (k0_off1_eq k) _ hk x
  have hL : ∀ x : S64x4096.Idx, View.ld (iblk m c 0 t) (rows1 (grid0.coords t) h1 k) x = m ((c : Thread nD τ).loc main_arg0) (ix2 (row t _) (x 1)) :=
    fun x => (congrArg (iblk m c 0 t) (hR x)).trans (blk0 m c t _ _)
  rw [pay1_apply, hR]
  unfold blkN normed
  rw [norm_apply]
  simp only [hL]
  rfl

/-- The middle stores the gated sum's columns. -/
theorem hS (t : Fin cfg0.N) (x : S512x512.Idx) :
    k0_pay2 (blkN m c t) (iblk m c 1 t) (View.ld (iblk m c 0 t) (cols (grid0.coords t))) (iblk m c 2 t) (iblk m c 3 t) x
      = blkS m c t ((cols (grid0.coords t)).idx x) := by
  have hk : 512 * (t.val % 8) + 512 ≤ 4096 := by omega
  have hR : ∀ x, (cols (grid0.coords t)).idx x = _ := fun x =>
    idx_cols (512 * (t.val % 8)) _ ((k0_off2_eq (grid0.coords t)).trans (by rw [coord1])) _ hk x
  have hL : ∀ x : S512x512.Idx, View.ld (iblk m c 0 t) (cols (grid0.coords t)) x = m ((c : Thread nD τ).loc main_arg0) (ix2 (row t (x 0)) _) :=
    fun x => (congrArg (iblk m c 0 t) (hR x)).trans (blk0 m c t _ _)
  rw [pay2_apply, hR]
  unfold blkS summed
  rw [sum_apply, hL]
  have e1 : ∀ k, iblk m c 1 t (ix2 k (x 1)) = _ := fun k => blk1 m c t k (x 1)
  have e2 : ∀ k, iblk m c 2 t (ix2 (x 0) k) = _ := fun k => blk2 m c t (x 0) k
  have e3 : ∀ k, iblk m c 3 t (ix2 k (x 1)) = _ := fun k => blk3 m c t k (x 1)
  simp only [e1, e2, e3]
  rfl

/-- The last loop stores the result's rows. -/
theorem hF (t : Fin cfg0.N) (h2 : k0_cond2 (grid0.coords t) = 1#1) (k : Fin k0_t2_loop.trips) (x : S64x4096.Idx) :
    k0_pay3 (View.ld (blkS m c t) (rows2 (grid0.coords t) h2 k)) (iblk m c 4 t) x = blkT m c t ((rows2 (grid0.coords t) h2 k).idx x) := by
  have hk : 64 * k.val + 64 ≤ 512 := by have h := Nat.lt_of_lt_of_eq k.isLt trips2; omega
  have hR : ∀ x, (rows2 (grid0.coords t) h2 k).idx x = _ := fun x => idx_rows (64 * k.val) _ (k0_off3_eq k) _ hk x
  have hL : ∀ x : S64x4096.Idx, View.ld (blkS m c t) (rows2 (grid0.coords t) h2 k) x = summed m c (ix2 (row t _) (x 1)) :=
    fun x => congrArg (blkS m c t) (hR x)
  rw [pay3_apply, hR]
  unfold blkT res
  rw [fin_apply]
  have e4 : iblk m c 4 t (ix2 0 (x 1)) = _ := blk4 m c t (x 1)
  simp only [hL, e4]
  rfl

end Cert.PleValue
end
-- ==== Proof.PleFrame.lean ====
/-
  The frame of the layer's last call at the chip's own words: its body and both of its loops only load from and store into
  the buffers they are handed, the scratch among them, so they keep them.
-/
module

public import proofs.«01_k».proof.Proof.Safe
public import proofs.«01_k».proof.Proof.Gen.Kernel2.Frame

@[expose] public section

set_option maxRecDepth 16384

noncomputable section

namespace Cert.Frames

open Idealize.ShloMosaic Idealize.ShloMosaic.TcCoe
open Idealize.SL Idealize.SL.RA Idealize.SL.Sem Idealize.SL.ProofMode
open Idealize.SL.BI (sProp bigSep bigSep_mono)
open scoped Idealize.SL.BI
open Idealize.SL.BI.BIBase Idealize.SL.BI.Laws
open Idealize.ShloMosaic.Pipeline (RDat)
open Cert.Kernel2 Cert.Kernel2.Gen

variable {F : FTy → Type} [FloatOps F]
variable (m : (ℓ : Loc nD τ sig) → Buf (Elt F) ℓ) (ρ : Dev nD → PrngReg)

theorem ple_body_keeps (defs : Defs nD τ sig (Elt F) Λ₀) (𝒱 : Variants) (d : Dev nD) (E : Set ℕ)
    (I : sProp (MT nD τ sig Unit (Elt F) ℕ (UR sig nD τ) ℕ))
    {i} {arg2 harg2} {arg3 harg3} {arg4 harg4} {arg5 harg5} {arg6 harg6} {arg7 harg7} {arg8 harg8}
    (h2 : Holds d I arg2) (h3 : Holds d I arg3) (h4 : Holds d I arg4) (h5 : Holds d I arg5) (h6 : Holds d I arg6) (h7 : Holds d I arg7) (h8 : Holds d I arg8) :
    Keeps defs 𝒱 d E I (cc0_ple (F := F) i arg2 harg2 arg3 harg3 arg4 harg4 arg5 harg5 arg6 harg6 arg7 harg7 arg8 harg8) := by
  repeat' first
    | with_reducible first
      | assumption
      | exact Keeps.pure _
      | apply Keeps.load
      | apply Keeps.store
      | apply Keeps.loop
      | apply Keeps.dite
      | apply Keeps.bind
      | intro _
    | apply Keeps.bind
    | apply Keeps.dite
    | apply Keeps.pure

/-- The body table's row at a point is the body there. -/
theorem ple_row (t : Fin cfg0.N) : defs₀ (F := F) .tc cfg0.body (cfg0.bodyArgs t (cfg0.slots t)) = bodyAt0 t := by
  unfold defs₀; rw [Defs.onTc_tc]

/-- The call's proof data: its arrays at what the region finds them at, and of what the body leaves in its buffers
    nothing. -/
def pleData (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- Window `w`'s current buffer at point `t`, at some contents. -/
def pleWin (c : Dev nD) (t : Fin cfg0.N) (w : Fin 6) : sProp (MT nD τ sig Unit (Elt F) ℕ (UR sig nD τ) ℕ) :=
  iprop(∃ X, owns (c : Thread nD τ) ((cfg0.win w).stage (cfg0.slots t w)) fullShare X)

theorem pleWin_of (c : Dev nD) (t : Fin cfg0.N) (w : Fin 6) (X : (cfg0.win w).block.Idx → Elt F (cfg0.win w).elt) :
    owns (c : Thread nD τ) ((cfg0.win w).stage (cfg0.slots t w)) fullShare X ⊢ pleWin c t w := by
  unfold pleWin; iintro H; iexists X; iexact H

theorem pleWin_elim (c : Dev nD) (t : Fin cfg0.N) (w : Fin 6) (Y : (cfg0.win w).block.Idx → Elt F (cfg0.win w).elt) :
    pleWin c t w ⊢ iprop(∃ X, ⌜(pleData m c).after w t Y X⌝ ∗ owns (c : Thread nD τ) ((cfg0.win w).stage (cfg0.slots t w)) fullShare X) := by
  unfold pleWin; iintro ⟨%X, H⟩; iexists X
  isplitr; · ipureintro; trivial
  iexact H

/-- What the body runs from at point `t`: every window's current buffer, each at some contents. -/
def pleHeld (c : Dev nD) (t : Fin cfg0.N) : sProp (MT nD τ sig Unit (Elt F) ℕ (UR sig nD τ) ℕ) :=
  iprop(Pipeline.ΦA spec0 c ∗ (pleData m c).owesAt () t.castSucc ∗ bigSep Finset.univ (pleWin c t))

theorem ple_holds_win (c : Dev nD) (t : Fin cfg0.N) (w : Fin 6) : Holds c (pleHeld m c t) ((cfg0.win w).stage (cfg0.slots t w)) := by
  unfold pleHeld
  refine Holds.right (Holds.right ?_)
  have h : ∀ w : Fin 6, Holds c (pleWin (F := F) c t w) ((cfg0.win w).stage (cfg0.slots t w)) := fun w => Holds.owned
  rw [bigSep_W0]
  fin_cases w
  · exact .left (h 0)
  · exact .right (.left (h 1))
  · exact .right (.right (.left (h 2)))
  · exact .right (.right (.right (.left (h 3))))
  · exact .right (.right (.right (.right (.left (h 4)))))
  · exact .right (.right (.right (.right (.right (h 5)))))

theorem ple_keeps (c : Dev nD) (t : Fin cfg0.N) :
    Keeps defs₀ Variants.none c Set.univ (pleHeld m c t) (defs₀ .tc cfg0.body (cfg0.bodyArgs t (cfg0.slots t))) := by
  have hw := ple_holds_win m c t
  have hs : ∀ {s : Shape} {e : EltTy} (b : Memref sig .tc .vmem s e),
      Holds c (Pipeline.scopedRest (Ix := Unit) (Name := ℕ) (U := UR sig nD τ) (Lvl := ℕ) (Val := Elt F) spec0 c) b →
        Holds c (pleHeld m c t) b := fun b hb => by
    unfold pleHeld Pipeline.ΦA; exact .left (.left hb)
  rw [scopedRest0_eq] at hs
  rw [ple_row]
  exact ple_body_keeps defs₀ Variants.none c Set.univ (pleHeld m c t) (hw 0) (hw 1) (hw 2) (hw 3) (hw 4) (hw 5) (hs _ (.whole _))

theorem ple_body (c : Dev nD) : (pleData m c).BodyObligation defs₀ Variants.none () Set.univ := by
  intro t Y _
  have hpre := bigSep_mono (s := (Finset.univ : Finset (Fin 6))) fun w _ => pleWin_of (F := F) c t w (Y w)
  have hpost := bigSep_mono (s := (Finset.univ : Finset (Fin 6))) fun w _ => pleWin_elim (F := F) m c t w (Y w)
  exact (sep_mono .rfl (sep_mono .rfl hpre)).trans ((ple_keeps m c t).trans
    (wp_mono frame _ _ fun _ => sep_mono .rfl (sep_mono .rfl hpost)))

/-- The program runs to its end, its arguments as they were, every semaphore at zero. -/
theorem ple_frame : θ_run (Cert.Kernel2.defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine RDat.θ_run_frame_track_shared cfgs 0 launch0.to₀ defs₀ Variants.none (pleData m) m ρ main (ple_body m)
    (fun _ _ _ => rfl) (fun _ _ => rfl) (V m) (hmain m _) (fun _ _ => rfl) (fun _ => .rfl) (fun _ => .rfl) _ ?_
  rintro r ⟨h, hsem⟩
  have hin : ∀ (c : Dev nD) (w : Fin 6), (cfg0.win w).isOut = false →
      r.2.mem ((cfg0.win w).arr.view.loc (c.tc : Thread nD τ)) = V m c (Pipeline.arrRef spec0 w) := fun c w hw => by
    have h1 := (h c).1 w
    simp only [(pleData m c).ArrAt_in w hw] at h1
    exact h1
  exact ⟨fun c => ⟨(hin c 0 rfl).trans (V_main_arg0 m c), (hin c 1 rfl).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩, hsem⟩

end Cert.Frames

end
-- ==== Proof.Ple.lean ====
/-
  The layer's last call (`Kernel2`): the gate, its sum with the residual and the final normalization, proved to end as the
  reference has it. Between the points of one block of rows the scratch keeps the normalized rows and the output's buffer
  the columns done so far; what its other columns hold before they are stored is left unnamed.
-/
module

public import proofs.«01_k».proof.Proof.PleBlocks
public import Idealize.ShloMosaic.Lib.Pipeline.DatRel
public import Idealize.ShloMosaic.Lib.Pipeline.ArrRel
public import Idealize.ShloMosaic.Lib.Pipeline.FrameBody
public import proofs.«01_k».proof.Proof.PleFrame

@[expose] public section

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel)

namespace Cert.PleValue

open Cert.Kernel2Ideal Cert.Kernel2Ideal.Gen
open Cert.Reference2Ideal.Read

local notation "𝕄" => MT nD τ sig Unit (Elt Ideal) ℕ (UR sig nD τ) ℕ

variable (m : (ℓ : Loc nD τ sig) → Buf (Elt Ideal) ℓ) (ρ : Dev nD → PrngReg)

abbrev scM : Memref sig .tc .vmem S512x4096 .bf16 := Memref.whole cc0_scratch0

theorem ΦA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- What the body carries: between the points of one block of rows the scratch holds that block's normalized rows. -/
def carried (c : Dev nD) (t : Fin (cfg0.N + 1)) : sProp 𝕄 :=
  iprop((∃ Z, ⌜∀ u : Fin cfg0.N, u.val = t.val → ¬u.val % 8 = 0 → Z = blkN m c u⌝ ∗ owns (c : Thread nD τ) scM fullShare Z) ∗ (∃ r, prngReg c r))

/-- The pipeline's proof data: each input's buffer holds its block; the output's is held to `left` instead. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ t := carried m c t
  q _ := fullShare
  owed _ := 0

/-- The output's window, and what the body leaves in its buffer: after the last block of columns the result, before it
    the gated sum in the columns so far. -/
def marks : Fin 6 → Bool := fun w => w.val == 5
def out (c : Dev nD) (t : Fin cfg0.N) (X : Vec Ideal S512x4096 .f32) : Prop :=
  (t.val % 8 = 7 → X = blkT m c t) ∧ (¬t.val % 8 = 7 → ∀ y : S512x4096.Idx, (y 1).val < 512 * (t.val % 8 + 1) → X y = blkS m c t y)
def left (c : Dev nD) : (w : Fin cfg0.W) → Fin cfg0.N → ((cfg0.win w).block.Idx → Elt Ideal (cfg0.win w).elt) → Prop
  | ⟨0, _⟩ => fun _ _ => True
  | ⟨1, _⟩ => fun _ _ => True
  | ⟨2, _⟩ => fun _ _ => True
  | ⟨3, _⟩ => fun _ _ => True
  | ⟨4, _⟩ => fun _ _ => True
  | ⟨5, _⟩ => fun t X => out m c t X

/-- The same data with the output held to `left`. -/
abbrev rdat (c : Dev nD) : Pipeline.RDat τ (Elt Ideal) Unit ℕ (UR sig nD τ) ℕ cfg0 c := (dats m 0 c).toRRel marks (left m c)

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- Points of one block of rows have the same rows. -/
theorem row_eq (t u : Fin cfg0.N) (h : t.val / 8 = u.val / 8) : row t = row u := by
  funext a; apply Fin.ext; show 512 * (t.val / 8) + a.val = 512 * (u.val / 8) + a.val; rw [h]

/-- What the body may find in the output's buffer: the gated sum in the columns before the point's. -/
theorem found (c : Dev nD) (t : Fin cfg0.N) (Y : Vec Ideal S512x4096 .f32) (hY : (rdat m c).Finds 5 t Y) (y : S512x4096.Idx)
    (hy : (y 1).val < 512 * (t.val % 8)) : Y y = blkS m c t y := by
  have h8 : ¬t.val % 8 = 0 := fun h => by rw [h] at hy; exact Nat.not_lt_zero _ hy
  have h0 : t.val ≠ 0 := fun h => h8 (by rw [h])
  have hlt : t.val - 1 < cfg0.N := Nat.lt_of_le_of_lt (Nat.sub_le _ _) t.isLt
  rcases ((rdat m c).finds_of_pos (w := 5) (t := t) rfl h0 Y).mp hY with hfl | hl
  · exact absurd ((flush0_5 ⟨t.val - 1, hlt⟩).mp hfl) (by show ¬(t.val - 1) % 8 = 7; omega)
  · have hr : out m c ⟨t.val - 1, hlt⟩ Y := (dats m 0 c).toRRel_leaves (fgt := marks) (Rl := left m c) (w := 5) rfl hl
    refine (hr.2 (by show ¬(t.val - 1) % 8 = 7; omega) y (by show (y 1).val < 512 * ((t.val - 1) % 8 + 1); omega)).trans ?_
    show summed m c (ix2 (row ⟨t.val - 1, hlt⟩ (y 0)) (y 1)) = summed m c (ix2 (row t (y 0)) (y 1))
    rw [row_eq ⟨t.val - 1, hlt⟩ t (by show (t.val - 1) / 8 = t.val / 8; omega)]

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ Y, ⌜(rdat m c).Finds 5 t Y⌝ ∗ owns (c : Thread nD τ) (st0_5 t) fullShare Y))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, ⌜left m c 5 t X⌝ ∗ owns (c : Thread nD τ) (st0_5 t) fullShare X))

set_option maxHeartbeats 1200000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl, after_0, after_1, after_2, after_3, after_4,
    show (dats m 0 c).Φ t.castSucc = carried m c t.castSucc from rfl, show (dats m 0 c).Φ t.succ = carried m c t.succ from rfl]
  unfold carried
  iintro ⟨⟨⟨%Z, %hZ, HS⟩, Hg⟩, Ho, ⟨%d0, H0⟩, ⟨%d1, H1⟩, ⟨%d2, H2⟩, ⟨%d3, H3⟩, ⟨%d4, H4⟩, ⟨%Y, %hY, H5⟩⟩
  iapply (wp_wand_r frame (wpE (defs₀ (F := Ideal)) Variants.none (c : Thread nD τ) none) Set.univ)
  isplitl [HS H0 H1 H2 H3 H4 H5]
  · iapply (sound_kernel c Set.univ (grid0.coords t) _ _ _ _ _ _ _ _ _ _ _ _ _ _ (iblk m c 0 t) (iblk m c 1 t) (iblk m c 2 t) (iblk m c 3 t)
      (iblk m c 4 t) Y (blkN m c t) (blkS m c t) (blkT m c t) Z
      (fun h => hZ t rfl fun h8 => h ((cond1_iff t).mpr h8)) (hN m c t) (hS m c t) (hF m c t)
      (fun y hy => found m c t Y hY y (by rw [coord1] at hy; exact hy)) (fun h => (coord1 t).trans ((cond2_iff t).mp h)))
    isplitl [H0]; · iexact H0
    isplitl [H1]; · iexact H1
    isplitl [H2]; · iexact H2
    isplitl [H3]; · iexact H3
    isplitl [H4]; · iexact H4
    isplitl [H5]; · iexact H5
    iexact HS
  iintro %_ ⟨H0, H1, H2, H3, H4, ⟨%d, H5, %hd⟩, HS⟩
  isplitl [HS Hg]
  · isplitl [HS]
    · iexists (blkN m c t)
      isplitr
      · ipureintro
        intro u hu h8
        have hu' : u.val = t.val + 1 := hu
        funext y
        show normed m c (ix2 (row t (y 0)) (y 1)) = normed m c (ix2 (row u (y 0)) (y 1))
        rw [row_eq t u (by omega)]
      iexact HS
    iexact Hg
  isplitl [Ho]; · iexact Ho
  isplitl [H0]; · iexact H0
  isplitl [H1]; · iexact H1
  isplitl [H2]; · iexact H2
  isplitl [H3]; · iexact H3
  isplitl [H4]; · iexact H4
  iexists d
  isplitr
  · ipureintro
    show out m c t d
    refine ⟨fun h => hd.1 ((cond2_iff t).mpr h), fun h y hy => hd.2 (fun h' => h ((cond2_iff t).mp h')) y ?_⟩
    rw [coord1]; exact hy
  iexact H5

/-- The body table's row at a point is the body there. -/
theorem defs₀_row (t : Fin cfg0.N) : defs₀ (F := Ideal) .tc cfg0.body (cfg0.bodyArgs t (cfg0.slots t)) = bodyAt0 t := by
  unfold defs₀; rw [Defs.onTc_tc]

theorem body_obligation (c : Dev nD) : BodyObligationRel (dats m 0 c) (defs₀ (F := Ideal)) Variants.none () Set.univ marks (left m c) := fun t => by
  rw [bigSep_W0, bigSep_W0, defs₀_row]
  exact triple_restated (sound_body m c t) rfl .rfl fun _ => .rfl

/-! ## The run -/

theorem start (c : Dev nD) : (Pipeline.ΦA spec0 c : sProp 𝕄) ⊢ (rdat m c).Φ 0 := by
  rw [ΦA_eq, show (rdat m c).Φ 0 = carried m c 0 from rfl]
  unfold carried
  iintro ⟨⟨%Z, HS⟩, Hg⟩
  isplitl [HS]
  · iexists Z
    isplitr
    · ipureintro
      intro u hu h8
      exact absurd (by rw [show u.val = 0 from hu]) h8
    iexact HS
  iexact Hg
theorem finish (c : Dev nD) : (rdat m c).Φ (Fin.last cfg0.N) ⊢ (Pipeline.ΦA spec0 c : sProp 𝕄) := by
  rw [ΦA_eq, show (rdat m c).Φ (Fin.last cfg0.N) = carried m c (Fin.last cfg0.N) from rfl]
  unfold carried
  iintro ⟨⟨%Z, -, HS⟩, Hg⟩
  isplitl [HS]; · iexists Z; iexact HS
  iexact Hg

set_option backward.isDefEq.respectTransparency.types false in
set_option maxHeartbeats 800000 in
/-- The run: every array at something the data allow, every semaphore at zero. -/
theorem run_main : θ_run (Cert.Kernel2Ideal.defs (F := Ideal)) (onTc (τ := τ) (main (F := Ideal))) (s₀ m ρ)
    (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := start m) (hout := finish m)

/-- The result ends as the reference has it. -/
theorem final_res (c : Dev nD) (r : PUnit × MemSt nD τ sig (Elt Ideal)) (h : Pipeline.RDat.FramePost (cfgs 0) (rdat m) (V m) r) :
    r.2.mem ((c : Thread nD τ).loc main_v3) = res m c := by
  obtain ⟨after, hL, hA⟩ := Pipeline.RDat.FramePost.exists_exact h c
  refine (hA 5).trans ?_
  refine ((rdat m c).withAfter after).arrAt_eq_of_covers 5 _ (by decide +kernel) fun t hf y => ?_
  have h7 : t.val % 8 = 7 := (flush0_5 t).mp hf
  have ha : out m c t (after 5 t) := (dats m 0 c).toRRel_leaves (fgt := marks) (Rl := left m c) (w := 5) rfl (hL 5 t hf)
  blk_simp
  rw [Pipeline.RDat.withAfter_after, ha.1 h7]
  unfold blkT row
  blk_point [idx t]

end Cert.PleValue

/-! ## The claims -/

namespace Cert.PleClaims

open Cert.PleValue

/-- The run and the arguments' arrays unchanged. -/
theorem runs (m : (ℓ : Loc Cert.Kernel2Ideal.nD Cert.Kernel2Ideal.τ Cert.Kernel2Ideal.sig) → Buf (Elt Ideal) ℓ)
    (ρ : Dev Cert.Kernel2Ideal.nD → PrngReg) :
    θ_run (Cert.Kernel2Ideal.defs (F := Ideal)) (onTc (τ := Cert.Kernel2Ideal.τ) (Cert.Kernel2Ideal.main (F := Ideal))) ⟨m, fun _ => 0, ρ⟩
      (fun r => (∀ c : Dev Cert.Kernel2Ideal.nD,
        r.2.mem ((c.tc : Thread Cert.Kernel2Ideal.nD Cert.Kernel2Ideal.τ).loc Cert.Kernel2Ideal.main_v3) = res m c
        ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
        ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
        ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
        ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
        ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
        ∧ r.2.sem = fun _ => 0) :=
  (θ_run _ _ _).mono (fun r h => ⟨fun c => ⟨final_res m c r h.1,
    (Pipeline.RDat.FramePost.arr_in h.1 c 0 rfl).trans ((A_eq m c 0).trans (Cert.Kernel2Ideal.Gen.V_main_arg0 m c)),
    (Pipeline.RDat.FramePost.arr_in h.1 c 1 rfl).trans ((A_eq m c 1).trans (Cert.Kernel2Ideal.Gen.V_main_arg1 m c)),
    ((h.1 c).2 Cert.Kernel2Ideal.main_arg2 (Pipeline.mem_restRefs_of Cert.Kernel2Ideal.main_arg2 (by decide) (by decide))).trans (Cert.Kernel2Ideal.Gen.V_main_arg2 m c),
    ((h.1 c).2 Cert.Kernel2Ideal.main_arg3 (Pipeline.mem_restRefs_of Cert.Kernel2Ideal.main_arg3 (by decide) (by decide))).trans (Cert.Kernel2Ideal.Gen.V_main_arg3 m c),
    ((h.1 c).2 Cert.Kernel2Ideal.main_arg4 (Pipeline.mem_restRefs_of Cert.Kernel2Ideal.main_arg4 (by decide) (by decide))).trans (Cert.Kernel2Ideal.Gen.V_main_arg4 m c)⟩, h.2⟩)
    (run_main m ρ)

theorem frame_k : Cert.quiescent_Kernel2 := fun m ρ _ => Cert.Frames.ple_frame m ρ
theorem frame_ki : Cert.quiescent_Kernel2Ideal := fun m ρ _ =>
  (θ_run _ _ _).mono (fun _ h => ⟨fun c => (h.1 c).2, h.2⟩) (runs m ρ)
theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem preserves : Cert.preserves_Kernel2_Kernel2Ideal := trivial

theorem algebraic : Cert.algebraic_Kernel2Ideal_Reference2Ideal := by
  intro m ρ m' ρ' _ hagree
  refine ⟨res m, (θ_run _ _ _).mono (fun _ h => h.1) (runs m ρ), ?_⟩
  refine (θ_run Cert.Reference2Ideal.defs _ _).mono (fun _ h c => ⟨(h c).1.trans ?_, (h c).2⟩)
    (Cert.Reference2Ideal.Value.run (F := Ideal) m' ρ')
  refine (Cert.Reference2Ideal.Read.val_main_v33_eq _ _ _ _ _).trans ?_
  unfold res
  obtain ⟨h0, h1, h2, h3, h4⟩ := hagree c
  rw [h0, h1, h2, h3, h4]

end Cert.PleClaims

end
-- ==== Proof.Up.lean ====
/-
  The two up products and their gate (`Kernel3`): both results of the idealized kernel as the reference has them. The
  weights' last block of columns overhangs their arrays; there the buffers' tails hold words nothing names, and a
  column of the product depends on that column of the weights alone.
-/
module

public import proofs.«01_k».proof.Defs
public import proofs.«01_k».proof.Proof.Gen.Kernel3Ideal.Frame
public import proofs.«01_k».proof.Proof.Gen.Reference3Ideal.Run
public import proofs.«01_k».proof.Proof.Gen.Reference3Ideal.Read
public import Idealize.ShloMosaic.Lib.Pipeline.ValueKit.Point
public import Idealize.ShloMosaic.Lib.Quiescent

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

namespace Cert.UpValue

open Cert.Kernel3Ideal Cert.Kernel3Ideal.Gen
open Cert.Reference3Ideal.Read

variable (m : (ℓ : Loc nD τ sig) → Buf (Elt Ideal) ℓ) (ρ : Dev nD → PrngReg)

/-- The reference's two results at the kernel's arguments. -/
abbrev res (c : Dev nD) : (⟨S16384x11008, .bf16⟩ : BufTy).Contents (Elt Ideal) :=
  val_main_v14 (F := Ideal) (m ((c : Thread nD τ).loc main_arg0)) (m ((c : Thread nD τ).loc main_arg1)) (m ((c : Thread nD τ).loc main_arg2))
abbrev sideRes (c : Dev nD) : (⟨S11008x4096, .bf16⟩ : BufTy).Contents (Elt Ideal) :=
  val_main_v15 (F := Ideal) (m ((c : Thread nD τ).loc main_arg3))

/-- Where the windows stand at a point: twenty-two columns of blocks to each row of blocks; the cast weight's blocks in
    order, the last one again at the last points. -/
theorem idx : ∀ t : Fin cfg0.N,
    win0_0.index t = ![t.val / 22, 0] ∧ win0_1.index t = ![0, t.val % 22] ∧ win0_2.index t = ![0, t.val % 22]
    ∧ win0_3.index t = ![min t.val 343, 0] ∧ win0_4.index t = ![t.val / 22, t.val % 22] ∧ win0_5.index t = ![min t.val 343, 0] :=
  (by decide +kernel : ∀ t : Fin grid0.N,
    win0_0.index t = ![t.val / 22, 0] ∧ win0_1.index t = ![0, t.val % 22] ∧ win0_2.index t = ![0, t.val % 22]
    ∧ win0_3.index t = ![min t.val 343, 0] ∧ win0_4.index t = ![t.val / 22, t.val % 22] ∧ win0_5.index t = ![min t.val 343, 0])

/-- A product of a block of rows and a block of columns. -/
def prod (x : Vec Ideal S1024x4096 .bf16) (w : Vec Ideal S4096x512 .bf16) : FVec Ideal S1024x512 .f32 :=
  matmul (F := Ideal) (φ₁ := .bf16) (φ₂ := .bf16) dot_S1024x4096_S4096x512_S1024x512_1_0_0_1_n_n none x w (constant S1024x512 .f32 0x00000000#32)

/-- What the body stores: the gated product of the two. -/
def gated (x : Vec Ideal S1024x4096 .bf16) (w₁ w₂ : Vec Ideal S4096x512 .bf16) : FVec Ideal S1024x512 .bf16 :=
  truncf .bf16 (mulf (mulf (prod x w₁) (divf (broadcast S1024x512 (Scalar.ofBits (F := Ideal) .f32 0x3F800000#32))
    (addf (broadcast S1024x512 (Scalar.ofBits (F := Ideal) .f32 0x3F800000#32))
      (exp (subf (broadcast S1024x512 (Scalar.ofBits (F := Ideal) .f32 0x00000000#32)) (prod x w₁)))))) (prod x w₂)) bitsLt_bf16_f32

abbrev rSide : Rect S32x4096 := Rect.unit (s := S32x4096) ![0, 0] S32x4096.size inb_S32x4096_S32x4096_0_0
abbrev rRow : Rect S1024x4096 := Rect.unit (s := S1024x4096) ![0, 0] S1024x4096.size inb_S1024x4096_S1024x4096_0_0
abbrev rCol : Rect S4096x512 := Rect.unit (s := S4096x512) ![0, 0] S4096x512.size inb_S4096x512_S4096x512_0_0
abbrev rOut : Rect S1024x512 := Rect.unit (s := S1024x512) ![0, 0] S1024x512.size inb_S1024x512_S1024x512_0_0

theorem cover_out (p : Vec Ideal S1024x512 .bf16) (y : S1024x512.Idx) :
    ∃ pc ∈ ([⟨rOut, p⟩] : List (View.Piece (Elt Ideal) S1024x512 .bf16)), y ∈ pc.1.set :=
  View.cover_of_tiled [⟨rOut, p⟩] S1024x512.size (by rfl) y
theorem cover_side (p : Vec Ideal S32x4096 .bf16) (y : S32x4096.Idx) :
    ∃ pc ∈ ([⟨rSide, p⟩] : List (View.Piece (Elt Ideal) S32x4096 .bf16)), y ∈ pc.1.set :=
  View.cover_of_tiled [⟨rSide, p⟩] S32x4096.size (by rfl) y

/-- What the body leaves in its two output buffers, from what it finds in the others. -/
def out4 (x0 : Vec Ideal S1024x4096 .bf16) (x1 x2 : Vec Ideal S4096x512 .bf16) : Vec Ideal S1024x512 .bf16 :=
  View.canon [⟨rOut, gated (View.ld x0 rRow) (View.ld x1 rCol) (View.ld x2 rCol)⟩]
def out5 (x3 : Vec Ideal S32x4096 .f32) : Vec Ideal S32x4096 .bf16 :=
  View.canon [⟨rSide, truncf (F := Ideal) .bf16 (View.ld x3 rSide) bitsLt_bf16_f32⟩]

set_option maxHeartbeats 1000000 in
/-- The body on whole buffers: the inputs stay, the outputs end at `out4` and `out5` of them. -/
theorem sound_kernel (c : Dev nD) (E : Set ℕ) (i : grid0.Coords) (arg2 : Memref sig .tc .vmem S1024x4096 .bf16) (harg2 : arg2.IsWhole)
    (arg3 : Memref sig .tc .vmem S4096x512 .bf16) (harg3 : arg3.IsWhole) (arg4 : Memref sig .tc .vmem S4096x512 .bf16) (harg4 : arg4.IsWhole)
    (arg5 : Memref sig .tc .vmem S32x4096 .f32) (harg5 : arg5.IsWhole) (arg6 : Memref sig .tc .vmem S1024x512 .bf16) (harg6 : arg6.IsWhole)
    (arg7 : Memref sig .tc .vmem S32x4096 .bf16) (harg7 : arg7.IsWhole)
    (x0 : Vec Ideal S1024x4096 .bf16) (x1 x2 : Vec Ideal S4096x512 .bf16) (x3 : Vec Ideal S32x4096 .f32)
    (K : PUnit → sProp (MT nD τ sig Unit (Elt Ideal) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out4 x0 x1 x2) ∗ owns (c : Thread nD τ) arg7 fullShare (out5 x3)) -∗ K ⟨⟩))
      ⊢ wp frame (wpE (defs₀ (F := Ideal)) Variants.none c none) E (cc0_ffn_up i arg2 harg2 arg3 harg3 arg4 harg4 arg5 harg5 arg6 harg6 arg7 harg7) K := by
  unfold cc0_ffn_up
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_out _)
  iexists _; isplitr
  swap; · iexact H5
  ipureintro
  exact View.read_writes_eq_canon _ _ _ (cover_side _)

/-- How much of the weights' and the product's blocks lies inside their arrays at a point. -/
theorem xsizes : ∀ t : Fin cfg0.N,
    win0_1.xsize (grid0.coords t) = ![4096, min 512 (11008 - t.val % 22 * 512)]
    ∧ win0_2.xsize (grid0.coords t) = ![4096, min 512 (11008 - t.val % 22 * 512)]
    ∧ win0_4.xsize (grid0.coords t) = ![1024, min 512 (11008 - t.val % 22 * 512)] :=
  (by decide +kernel : ∀ t : Fin grid0.N,
    win0_1.xsize (grid0.coords t) = ![4096, min 512 (11008 - t.val % 22 * 512)]
    ∧ win0_2.xsize (grid0.coords t) = ![4096, min 512 (11008 - t.val % 22 * 512)]
    ∧ win0_4.xsize (grid0.coords t) = ![1024, min 512 (11008 - t.val % 22 * 512)])

/-- The part of a filled buffer inside the array: the array's. -/
theorem fill₁ (c : Dev nD) (t : Fin cfg0.N) (d : Vec Ideal S4096x512 .bf16) (k : Fin 4096) (j : Fin 512) (h : t.val % 22 * 512 + j.val < 11008) :
    win0_1.fill (grid0.coords t) d (iblk m c 1 t) (ix2 k j) = m ((c : Thread nD τ).loc main_arg1) (ix2 k ⟨t.val % 22 * 512 + j.val, h⟩) := by
  have hm : win0_1.moved (grid0.coords t) (ix2 k j) = true := (win0_1.moved_iff _ _).mpr fun a => by
    rw [(xsizes t).1]
    match a with
    | ⟨0, _⟩ => exact k.isLt
    | ⟨1, _⟩ => exact (by have := j.isLt; show j.val < min 512 (11008 - t.val % 22 * 512); omega)
  unfold Window.fill
  rw [dif_pos hm]
  blk_point [iblk, idx t]
theorem fill₂ (c : Dev nD) (t : Fin cfg0.N) (d : Vec Ideal S4096x512 .bf16) (k : Fin 4096) (j : Fin 512) (h : t.val % 22 * 512 + j.val < 11008) :
    win0_2.fill (grid0.coords t) d (iblk m c 2 t) (ix2 k j) = m ((c : Thread nD τ).loc main_arg2) (ix2 k ⟨t.val % 22 * 512 + j.val, h⟩) := by
  have hm : win0_2.moved (grid0.coords t) (ix2 k j) = true := (win0_2.moved_iff _ _).mpr fun a => by
    rw [(xsizes t).2.1]
    match a with
    | ⟨0, _⟩ => exact k.isLt
    | ⟨1, _⟩ => exact (by have := j.isLt; show j.val < min 512 (11008 - t.val % 22 * 512); omega)
  unfold Window.fill
  rw [dif_pos hm]
  blk_point [iblk, idx t]

/-- The body's product on the part of its block inside the array is the reference's, whatever the tails hold. -/
theorem block_res (c : Dev nD) (t : Fin cfg0.N) (d₁ d₂ : Vec Ideal S4096x512 .bf16) :
    win0_4.cut (grid0.coords t) (out4 (iblk m c 0 t) (win0_1.fill (grid0.coords t) d₁ (iblk m c 1 t)) (win0_2.fill (grid0.coords t) d₂ (iblk m c 2 t)))
      = (win0_4.blk t).view.read (Elt Ideal) (res m c) := by
  funext y
  have hy : t.val % 22 * 512 + (win0_4.xinj (grid0.coords t) y 1).val < 11008 := by
    have h1 : (y 1).val < win0_4.xsize (grid0.coords t) 1 := (y 1).isLt
    rw [(xsizes t).2.2] at h1
    have h2 : (y 1).val < min 512 (11008 - t.val % 22 * 512) := h1
    show t.val % 22 * 512 + (y 1).val < 11008
    omega
  blk_simp
  unfold out4; frame_out
  pointwise [gated, prod, val_main_v0, val_main_v1, val_main_v2, val_main_v3, val_main_v4, val_main_v5,
    val_main_v6, val_main_v7, val_main_v8, val_main_v9, val_main_v10, val_main_v11, val_main_v12, val_main_v13,
    val_main_v14, val_main_cst, val_main_cst_0, zero_sub]
  have e₁ : ∀ x : Fin 4096, win0_1.fill (grid0.coords t) d₁ (iblk m c 1 t) (ix2 x (win0_4.xinj (grid0.coords t) y 1)) = _ :=
    fun x => fill₁ m c t d₁ x _ hy
  have e₂ : ∀ x : Fin 4096, win0_2.fill (grid0.coords t) d₂ (iblk m c 2 t) (ix2 x (win0_4.xinj (grid0.coords t) y 1)) = _ :=
    fun x => fill₂ m c t d₂ x _ hy
  simp only [e₁, e₂]
  blk_point [iblk, idx t]

/-! ## The run -/

/-- The word the proof fills a tail with; nothing reads it. -/
abbrev pad {s : Shape} : s.Idx → Elt Ideal .bf16 := fun _ => Scalar.ofBits (F := Ideal) .bf16 0x0000#16

/-- The pipeline's proof data: after the body each input's buffer holds its block, the product's the reference's block,
    each filled out past its array's end; the cast weight's holds its block cast. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) pad (iblk m c 1 t)
    | ⟨2, _⟩ => win0_2.fill (grid0.coords t) pad (iblk m c 2 t)
    | ⟨3, _⟩ => iblk m c 3 t
    | ⟨4, _⟩ => win0_4.fill (grid0.coords t) pad ((win0_4.blk t).view.read (Elt Ideal) (res m c))
    | ⟨5, _⟩ => out5 (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_3 (c : Dev nD) (t : Fin cfg0.N) : (dats m 0 c).after 3 t = iblk m c 3 t := by dsimp only [dats]
theorem after_5 (c : Dev nD) (t : Fin cfg0.N) : (dats m 0 c).after 5 t = out5 (iblk m c 3 t) := by dsimp only [dats]
theorem cut_1 (c : Dev nD) (t : Fin cfg0.N) : win0_1.cut (grid0.coords t) ((dats m 0 c).after 1 t) = iblk m c 1 t := by
  dsimp only [dats]; exact win0_1.cut_fill _ _ _
theorem cut_2 (c : Dev nD) (t : Fin cfg0.N) : win0_2.cut (grid0.coords t) ((dats m 0 c).after 2 t) = iblk m c 2 t := by
  dsimp only [dats]; exact win0_2.cut_fill _ _ _
theorem cut_4 (c : Dev nD) (t : Fin cfg0.N) :
    win0_4.cut (grid0.coords t) ((dats m 0 c).after 4 t) = (win0_4.blk t).view.read (Elt Ideal) (res m c) := by
  dsimp only [dats]; exact win0_4.cut_fill _ _ _

theorem before_0 (c : Dev nD) (t : Fin cfg0.N) (d) : (dats m 0 c).before 0 t d = iblk m c 0 t :=
  before0_0_of m (dats m 0 c) (A_eq m c 0) (after_0 m c) t d
theorem before_3 (c : Dev nD) (t : Fin cfg0.N) (d) : (dats m 0 c).before 3 t d = iblk m c 3 t :=
  before0_3_of m (dats m 0 c) (A_eq m c 3) (after_3 m c) t d
theorem before_1 (c : Dev nD) (t : Fin cfg0.N) (d) : (dats m 0 c).before 1 t d = win0_1.fill (grid0.coords t) d (iblk m c 1 t) := by
  unfold Dat.before; rw [if_pos (fetch0_1 t)]; rfl
theorem before_2 (c : Dev nD) (t : Fin cfg0.N) (d) : (dats m 0 c).before 2 t d = win0_2.fill (grid0.coords t) d (iblk m c 2 t) := by
  unfold Dat.before; rw [if_pos (fetch0_2 t)]; rfl

/-- The body table's row at a point is the body there. -/
theorem defs₀_row (t : Fin cfg0.N) : defs₀ (F := Ideal) .tc cfg0.body (cfg0.bodyArgs t (cfg0.slots t)) = bodyAt0 t := by
  unfold defs₀; rw [Defs.onTc_tc]

theorem body_obligation (c : Dev nD) : BodyObligationLoose (dats m 0 c) (defs₀ (F := Ideal)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3]
  unfold bodyAt0
  iapply (sound_kernel c Set.univ (grid0.coords t) _ _ _ _ _ _ _ _ _ _ _ _ (iblk m c 0 t)
    (win0_1.fill (grid0.coords t) d1 (iblk m c 1 t)) (win0_2.fill (grid0.coords t) d2 (iblk m c 2 t)) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · rw [after_0]; iexact H0
  isplitl [H1]
  · iexists d1
    change _ ⊢ owns (c : Thread nD τ) (st0_1 t) fullShare (win0_1.fill (grid0.coords t) d1 (win0_1.cut (grid0.coords t) ((dats m 0 c).after 1 t)))
    rw [cut_1]; try iexact H1
  isplitl [H2]
  · iexists d2
    change _ ⊢ owns (c : Thread nD τ) (st0_2 t) fullShare (win0_2.fill (grid0.coords t) d2 (win0_2.cut (grid0.coords t) ((dats m 0 c).after 2 t)))
    rw [cut_2]; try iexact H2
  isplitl [H3]; · rw [after_3]; iexact H3
  isplitl [H4]
  · iexists out4 (iblk m c 0 t) (win0_1.fill (grid0.coords t) d1 (iblk m c 1 t)) (win0_2.fill (grid0.coords t) d2 (iblk m c 2 t))
    change _ ⊢ owns (c : Thread nD τ) (st0_4 t) fullShare (win0_4.fill (grid0.coords t)
      (out4 (iblk m c 0 t) (win0_1.fill (grid0.coords t) d1 (iblk m c 1 t)) (win0_2.fill (grid0.coords t) d2 (iblk m c 2 t)))
      (win0_4.cut (grid0.coords t) ((dats m 0 c).after 4 t)))
    rw [cut_4, ← block_res m c t d1 d2, win0_4.fill_cut]; try iexact H4
  rw [after_5]; iexact H5

set_option backward.isDefEq.respectTransparency.types false in
set_option maxHeartbeats 800000 in
/-- The run: every array at what the proof data give it, every semaphore at zero. -/
theorem run_main : θ_run (Cert.Kernel3Ideal.defs (F := Ideal)) (onTc (τ := τ) (main (F := Ideal))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The gated product ends as the reference has it. -/
theorem final_res (c : Dev nD) : (dats m 0 c).arrAt 4 cfg0.N = res m c := by
  refine (dats m 0 c).arrAt_eq_of_covers 4 _ (by decide +kernel) fun t hf y => ?_
  exact congrFun (cut_4 m c t) y

/-- The cast weight ends as the reference casts it. -/
theorem final_side (c : Dev nD) : (dats m 0 c).arrAt 5 cfg0.N = sideRes m c := by
  refine (dats m 0 c).arrAt_eq_of_covers 5 _ (by decide +kernel) fun t hf y => ?_
  blk_simp
  rw [after_5]; unfold out5; frame_out
  pointwise [val_main_v15]
  blk_point [iblk, V_main_arg3, idx t]

end Cert.UpValue

/-! ## The claims -/

namespace Cert.UpClaims

open Cert.UpValue

theorem frame_ki : Cert.quiescent_Kernel3Ideal := fun m ρ _ =>
  Idealize.ShloMosaic.θ_run_and
    (Cert.Kernel3Ideal.Gen.frame_of m ρ (dats m) (A_eq m) ((θ_run _ _ _).mono (fun _ h => h.1) (run_main m ρ)))
    ((θ_run _ _ _).mono (fun _ h => h.2) (run_main m ρ))
theorem frame_ri : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

theorem preserves : Cert.preserves_Kernel3_Kernel3Ideal := trivial

theorem algebraic : Cert.algebraic_Kernel3Ideal_Reference3Ideal := by
  intro m ρ m' ρ' _ hagree
  refine ⟨res m, sideRes m, ?_, ?_⟩
  · exact (θ_run Cert.Kernel3Ideal.defs _ _).mono
      (fun _ h c => ⟨((h.1.1 c).1 4).trans (final_res m c), ((h.1.1 c).1 5).trans (final_side m c), h.2 c⟩)
      (Idealize.ShloMosaic.θ_run_and (run_main m ρ)
        (Cert.Kernel3Ideal.Gen.frame_of m ρ (dats m) (A_eq m) ((θ_run _ _ _).mono (fun _ h => h.1) (run_main m ρ))))
  · refine (θ_run Cert.Reference3Ideal.defs _ _).mono (fun _ h c => ⟨(h c).1.trans ?_, (h c).2.1.trans ?_, (h c).2.2⟩)
      (Cert.Reference3Ideal.Value.run (F := Ideal) m' ρ')
    · refine (Cert.Reference3Ideal.Read.val_main_v14_eq _ _ _).trans ?_
      unfold res
      obtain ⟨h0, h1, h2, -⟩ := hagree c
      rw [h0, h1, h2]
    · refine (Cert.Reference3Ideal.Read.val_main_v15_eq _).trans ?_
      unfold sideRes
      rw [(hagree c).2.2.2]

end Cert.UpClaims

end
-- ==== Proof.UpFrame.lean ====
/-
  The frame of the two up products' call at the chip's own words: its body only loads from and stores into the buffers
  it is handed, so it keeps them, whatever the overhanging blocks' tails hold.
-/
module

public import proofs.«01_k».proof.Proof.Safe
public import proofs.«01_k».proof.Proof.Gen.Kernel3.Frame

@[expose] public section

set_option maxRecDepth 16384

noncomputable section

namespace Cert.Frames

open Idealize.ShloMosaic Idealize.ShloMosaic.TcCoe
open Idealize.SL Idealize.SL.RA Idealize.SL.Sem Idealize.SL.ProofMode
open Idealize.SL.BI (sProp bigSep bigSep_mono)
open scoped Idealize.SL.BI
open Idealize.SL.BI.BIBase Idealize.SL.BI.Laws
open Idealize.ShloMosaic.Pipeline (RDat)
open Cert.Kernel3 Cert.Kernel3.Gen

variable {F : FTy → Type} [FloatOps F]
variable (m : (ℓ : Loc nD τ sig) → Buf (Elt F) ℓ) (ρ : Dev nD → PrngReg)

theorem up_body_keeps (defs : Defs nD τ sig (Elt F) Λ₀) (𝒱 : Variants) (d : Dev nD) (E : Set ℕ)
    (I : sProp (MT nD τ sig Unit (Elt F) ℕ (UR sig nD τ) ℕ))
    {i} {arg2 harg2} {arg3 harg3} {arg4 harg4} {arg5 harg5} {arg6 harg6} {arg7 harg7}
    (h2 : Holds d I arg2) (h3 : Holds d I arg3) (h4 : Holds d I arg4) (h5 : Holds d I arg5) (h6 : Holds d I arg6) (h7 : Holds d I arg7) :
    Keeps defs 𝒱 d E I (cc0_ffn_up (F := F) i arg2 harg2 arg3 harg3 arg4 harg4 arg5 harg5 arg6 harg6 arg7 harg7) := by
  repeat' first
    | with_reducible first
      | assumption
      | exact Keeps.pure _
      | apply Keeps.load
      | apply Keeps.store
      | apply Keeps.bind
      | intro _
    | apply Keeps.bind

/-- The body table's row at a point is the body there. -/
theorem up_row (t : Fin cfg0.N) : defs₀ (F := F) .tc cfg0.body (cfg0.bodyArgs t (cfg0.slots t)) = bodyAt0 t := by
  unfold defs₀; rw [Defs.onTc_tc]

/-- The call's proof data: its arrays at what the region finds them at, and of what the body leaves in its buffers
    nothing. -/
def upData (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- Window `w`'s current buffer at point `t`, at some contents. -/
def upWin (c : Dev nD) (t : Fin cfg0.N) (w : Fin 6) : sProp (MT nD τ sig Unit (Elt F) ℕ (UR sig nD τ) ℕ) :=
  iprop(∃ X, owns (c : Thread nD τ) ((cfg0.win w).stage (cfg0.slots t w)) fullShare X)

theorem upWin_of (c : Dev nD) (t : Fin cfg0.N) (w : Fin 6) (X : (cfg0.win w).block.Idx → Elt F (cfg0.win w).elt) :
    owns (c : Thread nD τ) ((cfg0.win w).stage (cfg0.slots t w)) fullShare X ⊢ upWin c t w := by
  unfold upWin; iintro H; iexists X; iexact H

theorem upWin_elim (c : Dev nD) (t : Fin cfg0.N) (w : Fin 6) (Y : (cfg0.win w).block.Idx → Elt F (cfg0.win w).elt) :
    upWin c t w ⊢ iprop(∃ X, ⌜(upData m c).after w t Y X⌝ ∗ owns (c : Thread nD τ) ((cfg0.win w).stage (cfg0.slots t w)) fullShare X) := by
  unfold upWin; iintro ⟨%X, H⟩; iexists X
  isplitr; · ipureintro; trivial
  iexact H

/-- What the body runs from at point `t`: every window's current buffer, each at some contents. -/
def upHeld (c : Dev nD) (t : Fin cfg0.N) : sProp (MT nD τ sig Unit (Elt F) ℕ (UR sig nD τ) ℕ) :=
  iprop(Pipeline.ΦA spec0 c ∗ (upData m c).owesAt () t.castSucc ∗ bigSep Finset.univ (upWin c t))

theorem up_holds_win (c : Dev nD) (t : Fin cfg0.N) (w : Fin 6) : Holds c (upHeld m c t) ((cfg0.win w).stage (cfg0.slots t w)) := by
  unfold upHeld
  refine Holds.right (Holds.right ?_)
  have h : ∀ w : Fin 6, Holds c (upWin (F := F) c t w) ((cfg0.win w).stage (cfg0.slots t w)) := fun w => Holds.owned
  rw [bigSep_W0]
  fin_cases w
  · exact .left (h 0)
  · exact .right (.left (h 1))
  · exact .right (.right (.left (h 2)))
  · exact .right (.right (.right (.left (h 3))))
  · exact .right (.right (.right (.right (.left (h 4)))))
  · exact .right (.right (.right (.right (.right (h 5)))))

theorem up_keeps (c : Dev nD) (t : Fin cfg0.N) :
    Keeps defs₀ Variants.none c Set.univ (upHeld m c t) (defs₀ .tc cfg0.body (cfg0.bodyArgs t (cfg0.slots t))) := by
  have hw := up_holds_win m c t
  rw [up_row]
  exact up_body_keeps defs₀ Variants.none c Set.univ (upHeld m c t) (hw 0) (hw 1) (hw 2) (hw 3) (hw 4) (hw 5)

theorem up_body (c : Dev nD) : (upData m c).BodyObligation defs₀ Variants.none () Set.univ := by
  intro t Y _
  have hpre := bigSep_mono (s := (Finset.univ : Finset (Fin 6))) fun w _ => upWin_of (F := F) c t w (Y w)
  have hpost := bigSep_mono (s := (Finset.univ : Finset (Fin 6))) fun w _ => upWin_elim (F := F) m c t w (Y w)
  exact (sep_mono .rfl (sep_mono .rfl hpre)).trans ((up_keeps m c t).trans
    (wp_mono frame _ _ fun _ => sep_mono .rfl (sep_mono .rfl hpost)))

/-- The program runs to its end, its arguments as they were, every semaphore at zero. -/
theorem up_frame : θ_run (Cert.Kernel3.defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine RDat.θ_run_frame_track_shared cfgs 0 launch0.to₀ defs₀ Variants.none (upData m) m ρ main (up_body m)
    (fun _ _ _ => rfl) (fun _ _ => rfl) (V m) (hmain m _) (fun _ _ => rfl) (fun _ => .rfl) (fun _ => .rfl) _ ?_
  rintro r ⟨h, hsem⟩
  have hin : ∀ (c : Dev nD) (w : Fin 6), (cfg0.win w).isOut = false →
      r.2.mem ((cfg0.win w).arr.view.loc (c.tc : Thread nD τ)) = V m c (Pipeline.arrRef spec0 w) := fun c w hw => by
    have h1 := (h c).1 w
    simp only [(upData m c).ArrAt_in w hw] at h1
    exact h1
  exact ⟨fun c => ⟨(hin c 0 rfl).trans (V_main_arg0 m c), (hin c 1 rfl).trans (V_main_arg1 m c),
    (hin c 2 rfl).trans (V_main_arg2 m c), (hin c 3 rfl).trans (V_main_arg3 m c)⟩, hsem⟩

end Cert.Frames

end
-- ==== Proof.Down.lean ====
/-
  The down projection of the feed-forward (`Kernel4`): both results of the idealized kernel as the reference has them.
-/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit.Point
public import Idealize.ShloMosaic.Lib.Quiescent

@[expose] public section

noncomputable section

open Idealize.ShloMosaic Idealize.ShloMosaic.TcCoe Idealize.SL.Sem
open Idealize.ShloMosaic.Pipeline (Dat)

namespace Cert.DownValue

open Cert.Kernel4Ideal Cert.Kernel4Ideal.Gen
open Cert.Reference4Ideal.Read (val_main_v0 val_main_v1 val_main_v2 val_main_v3 val_main_v4)

variable (m : (ℓ : Loc nD τ sig) → Buf (Elt Ideal) ℓ)

/-- The reference's two results at the kernel's arguments. -/
abbrev res (c : Dev nD) : (⟨S16384x4096, .f32⟩ : BufTy).Contents (Elt Ideal) :=
  val_main_v3 (F := Ideal) (m ((c : Thread nD τ).loc main_arg0)) (m ((c : Thread nD τ).loc main_arg1)) (m ((c : Thread nD τ).loc main_arg2))
abbrev sideRes (c : Dev nD) : (⟨S4096x4096, .bf16⟩ : BufTy).Contents (Elt Ideal) :=
  val_main_v4 (F := Ideal) (m ((c : Thread nD τ).loc main_arg3))

/-- Where the windows stand at a point: eight columns of blocks to each row of blocks. -/
theorem idx : ∀ t : Fin cfg0.N,
    win0_0.index t = ![t.val / 8, 0] ∧ win0_1.index t = ![0, t.val % 8] ∧ win0_2.index t = ![t.val / 8, t.val % 8]
    ∧ win0_3.index t = ![t.val, 0] ∧ win0_4.index t = ![t.val / 8, t.val % 8] ∧ win0_5.index t = ![t.val, 0] :=
  (by decide +kernel : ∀ t : Fin grid0.N,
    win0_0.index t = ![t.val / 8, 0] ∧ win0_1.index t = ![0, t.val % 8] ∧ win0_2.index t = ![t.val / 8, t.val % 8]
    ∧ win0_3.index t = ![t.val, 0] ∧ win0_4.index t = ![t.val / 8, t.val % 8] ∧ win0_5.index t = ![t.val, 0])

/-- The cast weights end as the reference casts them. -/
theorem final_side (c : Dev nD) : (dats m 0 c).arrAt 5 cfg0.N = sideRes m c := by
  refine (dats m 0 c).arrAt_eq_of_covers 5 _ (by decide +kernel) fun t hf y => ?_
  blk_simp
  rw [after0_5]; frame_out
  pointwise [k0_pay1, val_main_v4]
  blk_point [iblk, V, idx t]

/-- The result ends at the residual plus the product. -/
theorem final_res (c : Dev nD) : (dats m 0 c).arrAt 4 cfg0.N = res m c := by
  refine (dats m 0 c).arrAt_eq_of_covers 4 _ (by decide +kernel) fun t hf y => ?_
  blk_simp
  rw [after0_4]; frame_out
  pointwise [k0_pay2, val_main_v0, val_main_v1, val_main_v2, val_main_v3]
  blk_point [iblk, V, idx t]

end Cert.DownValue

/-! ## The claims -/

namespace Cert.DownClaims

theorem frame_k : Cert.quiescent_Kernel4 := fun m ρ _ => Cert.Kernel4.Gen.frame m ρ
theorem frame_ki : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

theorem preserves : Cert.preserves_Kernel4_Kernel4Ideal := trivial

theorem algebraic : Cert.algebraic_Kernel4Ideal_Reference4Ideal := by
  intro m ρ m' ρ' _ hagree
  refine ⟨Cert.DownValue.res m, Cert.DownValue.sideRes m, ?_, ?_⟩
  · exact (θ_run Cert.Kernel4Ideal.defs _ _).mono
      (fun _ h c => ⟨(h c).1.trans (Cert.DownValue.final_res m c), (h c).2.1.trans (Cert.DownValue.final_side m c), (h c).2.2⟩)
      (Cert.Kernel4Ideal.Value.run_blocks (F := Ideal) m ρ)
  · refine (θ_run Cert.Reference4Ideal.defs _ _).mono (fun _ h c => ⟨(h c).1.trans ?_, (h c).2.1.trans ?_, (h c).2.2⟩)
      (Cert.Reference4Ideal.Value.run (F := Ideal) m' ρ')
    · refine (Cert.Reference4Ideal.Read.val_main_v3_eq _ _ _).trans ?_
      unfold Cert.DownValue.res
      rw [(hagree c).1, (hagree c).2.1, (hagree c).2.2.1]
    · refine (Cert.Reference4Ideal.Read.val_main_v4_eq _).trans ?_
      unfold Cert.DownValue.sideRes
      rw [(hagree c).2.2.2]

end Cert.DownClaims

end
-- ==== Proof.Merge.lean ====
/-
  The gated merge of the two mixers (`Kernel5`): both results of the idealized kernel as the reference has them.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit.Point
public import Idealize.ShloMosaic.Lib.Quiescent

@[expose] public section

noncomputable section

open Idealize.ShloMosaic Idealize.ShloMosaic.TcCoe Idealize.SL.Sem
open Idealize.ShloMosaic.Pipeline (Dat)

namespace Cert.MergeValue

open Cert.Kernel5Ideal Cert.Kernel5Ideal.Gen
open Cert.Reference5Ideal.Read

variable (m : (ℓ : Loc nD τ sig) → Buf (Elt Ideal) ℓ)

/-- The reference's two results at the kernel's arguments. -/
abbrev res (c : Dev nD) : (⟨S16384x4096, .bf16⟩ : BufTy).Contents (Elt Ideal) :=
  val_main_v21 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))
abbrev sideRes (c : Dev nD) : (⟨S4096x11008, .bf16⟩ : BufTy).Contents (Elt Ideal) :=
  val_main_v22 (F := Ideal) (m ((c : Thread nD τ).loc main_arg7))

/-- Where the windows stand at a point: sixteen columns of blocks to each row of blocks, the second gate's columns and
    biases sixteen blocks after the first gate's. -/
theorem idx : ∀ t : Fin cfg0.N,
    win0_0.index t = ![t.val / 16, 0] ∧ win0_1.index t = ![t.val / 16, 0] ∧ win0_2.index t = ![t.val / 16, 0]
    ∧ win0_3.index t = ![0, t.val % 16] ∧ win0_4.index t = ![0, t.val % 16 + 16]
    ∧ win0_5.index t = ![0, t.val % 16] ∧ win0_6.index t = ![0, t.val % 16 + 16]
    ∧ win0_7.index t = ![0, t.val % 16] ∧ win0_8.index t = ![0, t.val % 16] ∧ win0_9.index t = ![t.val, 0]
    ∧ win0_10.index t = ![t.val / 16, t.val % 16] ∧ win0_11.index t = ![t.val, 0] :=
  (by decide +kernel : ∀ t : Fin grid0.N,
    win0_0.index t = ![t.val / 16, 0] ∧ win0_1.index t = ![t.val / 16, 0] ∧ win0_2.index t = ![t.val / 16, 0]
    ∧ win0_3.index t = ![0, t.val % 16] ∧ win0_4.index t = ![0, t.val % 16 + 16]
    ∧ win0_5.index t = ![0, t.val % 16] ∧ win0_6.index t = ![0, t.val % 16 + 16]
    ∧ win0_7.index t = ![0, t.val % 16] ∧ win0_8.index t = ![0, t.val % 16] ∧ win0_9.index t = ![t.val, 0]
    ∧ win0_10.index t = ![t.val / 16, t.val % 16] ∧ win0_11.index t = ![t.val, 0])

/-- The cast weights end as the reference casts them. -/
theorem final_side (c : Dev nD) : (dats m 0 c).arrAt 11 cfg0.N = sideRes m c := by
  refine (dats m 0 c).arrAt_eq_of_covers 11 _ (by decide +kernel) fun t hf y => ?_
  blk_simp
  rw [after0_11]; frame_out
  pointwise [k0_pay2, val_main_v22]
  blk_point [iblk, V_main_arg7, idx t]

/-- The reference's merge at an index. -/
theorem ref_apply (x0 : (⟨S16384x4096, .bf16⟩ : BufTy).Contents (Elt Ideal)) (x1 x2 : (⟨S16384x2048, .bf16⟩ : BufTy).Contents (Elt Ideal))
    (x3 : (⟨S4096x8192, .bf16⟩ : BufTy).Contents (Elt Ideal)) (x4 : (⟨S8192, .f32⟩ : BufTy).Contents (Elt Ideal))
    (x5 x6 : (⟨S2048x4096, .f32⟩ : BufTy).Contents (Elt Ideal)) (i : S16384x4096.Idx) :
    val_main_v21 (F := Ideal) x0 x1 x2 x3 x4 x5 x6 i =
      Ideal.div 1 (1 + Ideal.exp (-(∑ k : Fin 4096, x0 (ix2 (i 0) k) * x3 (ix2 k ⟨(i 1).val, Nat.lt_of_lt_of_le (i 1).isLt (by decide)⟩)
          + x4 (ix1 ⟨(i 1).val, Nat.lt_of_lt_of_le (i 1).isLt (by decide)⟩)))) * ∑ k : Fin 2048, x1 (ix2 (i 0) k) * x5 (ix2 k (i 1))
      + Ideal.div 1 (1 + Ideal.exp (-(∑ k : Fin 4096, x0 (ix2 (i 0) k) * x3 (ix2 k ⟨4096 + (i 1).val, Nat.add_lt_add_left (i 1).isLt 4096⟩)
          + x4 (ix1 ⟨4096 + (i 1).val, Nat.add_lt_add_left (i 1).isLt 4096⟩)))) * ∑ k : Fin 2048, x2 (ix2 (i 0) k) * x6 (ix2 k (i 1)) := by
  pointwise [val_main_v0, val_main_v1, val_main_v2, val_main_v3, val_main_v4, val_main_v5,
    val_main_v6, val_main_v7, val_main_v8, val_main_v9, val_main_v10, val_main_v11, val_main_v12, val_main_v13,
    val_main_v14, val_main_v15, val_main_v16, val_main_v17, val_main_v18, val_main_v19, val_main_v20, val_main_v21,
    val_main_cst, val_main_cst_0, zero_sub]

/-- The body's merge at an index of its block. -/
theorem pay_apply (x0 : Vec Ideal S1024x4096 .bf16) (x1 x2 : Vec Ideal S1024x2048 .bf16) (x3 x4 : Vec Ideal S4096x256 .bf16)
    (x5 x6 : Vec Ideal S1x256 .f32) (x7 x8 : Vec Ideal S2048x256 .bf16) (y : S1024x256.Idx) :
    k0_pay1 (k0_pay3 x0 x3 x5) (k0_pay4 x0 x4 x6) x1 x7 x2 x8 y =
      Ideal.div 1 (1 + Ideal.exp (-(∑ k : Fin 4096, x0 (ix2 (y 0) k) * x3 (ix2 k (y 1)) + x5 (ix2 0 (y 1))))) * ∑ k : Fin 2048, x1 (ix2 (y 0) k) * x7 (ix2 k (y 1))
      + Ideal.div 1 (1 + Ideal.exp (-(∑ k : Fin 4096, x0 (ix2 (y 0) k) * x4 (ix2 k (y 1)) + x6 (ix2 0 (y 1))))) * ∑ k : Fin 2048, x2 (ix2 (y 0) k) * x8 (ix2 k (y 1)) := by
  pointwise [k0_pay1, k0_pay3, k0_pay4, zero_sub]

/-- The biases the body is handed are the argument's, in one row. -/
theorem bias (c : Dev nD) (j : Fin 8192) : V m c main_v0 (ix2 0 j) = m ((c : Thread nD τ).loc main_arg4) (ix1 j) := by
  entry_read
  pointwise

/-- The result ends at the two gated products' sum. -/
theorem final_res (c : Dev nD) : (dats m 0 c).arrAt 10 cfg0.N = res m c := by
  refine (dats m 0 c).arrAt_eq_of_covers 10 _ (by decide +kernel) fun t hf y => ?_
  blk_simp
  rw [after0_10]; frame_out
  refine (pay_apply _ _ _ _ _ _ _ _ _ _).trans ?_
  refine Eq.trans ?_ (ref_apply _ _ _ _ _ _ _ _).symm
  have h0 : ∀ k : Fin 4096, iblk m c 0 t (ix2 (y 0) k) = m ((c : Thread nD τ).loc main_arg0) (ix2 (((View.whole main_v3_0).slice (win0_10.rect t)).emb y 0) k) := fun k => by
    blk_point [iblk, V_main_arg0 m, V_main_arg1 m, V_main_arg2 m, V_main_arg3 m, idx t]
  have h1 : ∀ k : Fin 2048, iblk m c 1 t (ix2 (y 0) k) = m ((c : Thread nD τ).loc main_arg1) (ix2 (((View.whole main_v3_0).slice (win0_10.rect t)).emb y 0) k) := fun k => by
    blk_point [iblk, V_main_arg0 m, V_main_arg1 m, V_main_arg2 m, V_main_arg3 m, idx t]
  have h2 : ∀ k : Fin 2048, iblk m c 2 t (ix2 (y 0) k) = m ((c : Thread nD τ).loc main_arg2) (ix2 (((View.whole main_v3_0).slice (win0_10.rect t)).emb y 0) k) := fun k => by
    blk_point [iblk, V_main_arg0 m, V_main_arg1 m, V_main_arg2 m, V_main_arg3 m, idx t]
  have h3 : ∀ k : Fin 4096, iblk m c 3 t (ix2 k (y 1)) = m ((c : Thread nD τ).loc main_arg3) (ix2 k ⟨(((View.whole main_v3_0).slice (win0_10.rect t)).emb y 1).val, Nat.lt_of_lt_of_le (((View.whole main_v3_0).slice (win0_10.rect t)).emb y 1).isLt (show 4096 ≤ 8192 by decide)⟩) := fun k => by
    blk_point [iblk, V_main_arg0 m, V_main_arg1 m, V_main_arg2 m, V_main_arg3 m, idx t]
  have h4 : ∀ k : Fin 4096, iblk m c 4 t (ix2 k (y 1)) = m ((c : Thread nD τ).loc main_arg3) (ix2 k ⟨4096 + (((View.whole main_v3_0).slice (win0_10.rect t)).emb y 1).val, Nat.add_lt_add_left (((View.whole main_v3_0).slice (win0_10.rect t)).emb y 1).isLt 4096⟩) := fun k => by
    blk_point [iblk, V_main_arg0 m, V_main_arg1 m, V_main_arg2 m, V_main_arg3 m, idx t]
  have h5 : iblk m c 5 t (ix2 0 (y 1)) = m ((c : Thread nD τ).loc main_arg4) (ix1 ⟨(((View.whole main_v3_0).slice (win0_10.rect t)).emb y 1).val, Nat.lt_of_lt_of_le (((View.whole main_v3_0).slice (win0_10.rect t)).emb y 1).isLt (show 4096 ≤ 8192 by decide)⟩) := by
    refine Eq.trans ?_ (bias m c _)
    unfold iblk
    blk_ext [idx t]
  have h6 : iblk m c 6 t (ix2 0 (y 1)) = m ((c : Thread nD τ).loc main_arg4) (ix1 ⟨4096 + (((View.whole main_v3_0).slice (win0_10.rect t)).emb y 1).val, Nat.add_lt_add_left (((View.whole main_v3_0).slice (win0_10.rect t)).emb y 1).isLt 4096⟩) := by
    refine Eq.trans ?_ (bias m c _)
    unfold iblk
    blk_ext [idx t]
  have h7 : ∀ k : Fin 2048, iblk m c 7 t (ix2 k (y 1)) = m ((c : Thread nD τ).loc main_arg5) (ix2 k (((View.whole main_v3_0).slice (win0_10.rect t)).emb y 1)) := fun k => by
    blk_point [iblk, idx t]
  have h8 : ∀ k : Fin 2048, iblk m c 8 t (ix2 k (y 1)) = m ((c : Thread nD τ).loc main_arg6) (ix2 k (((View.whole main_v3_0).slice (win0_10.rect t)).emb y 1)) := fun k => by
    blk_point [iblk, idx t]
  simp only [h0, h1, h2, h3, h4, h5, h6, h7, h8]

end Cert.MergeValue

/-! ## The claims -/

namespace Cert.MergeClaims

theorem frame_k : Cert.quiescent_Kernel5 := fun m ρ _ => Cert.Kernel5.Gen.frame m ρ
theorem frame_ki : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

theorem preserves : Cert.preserves_Kernel5_Kernel5Ideal := trivial

theorem algebraic : Cert.algebraic_Kernel5Ideal_Reference5Ideal := by
  intro m ρ m' ρ' _ hagree
  refine ⟨Cert.MergeValue.res m, Cert.MergeValue.sideRes m, ?_, ?_⟩
  · exact (θ_run Cert.Kernel5Ideal.defs _ _).mono
      (fun _ h c => ⟨(h c).1.trans (Cert.MergeValue.final_res m c), (h c).2.1.trans (Cert.MergeValue.final_side m c), (h c).2.2⟩)
      (Cert.Kernel5Ideal.Value.run_blocks (F := Ideal) m ρ)
  · refine (θ_run Cert.Reference5Ideal.defs _ _).mono (fun _ h c => ⟨(h c).1.trans ?_, (h c).2.1.trans ?_, (h c).2.2⟩)
      (Cert.Reference5Ideal.Value.run (F := Ideal) m' ρ')
    · refine (Cert.Reference5Ideal.Read.val_main_v21_eq _ _ _ _ _ _ _).trans ?_
      unfold Cert.MergeValue.res
      obtain ⟨h0, h1, h2, h3, h4, h5, h6, -⟩ := hagree c
      rw [h0, h1, h2, h3, h4, h5, h6]
    · refine (Cert.Reference5Ideal.Read.val_main_v22_eq _).trans ?_
      unfold Cert.MergeValue.sideRes
      rw [(hagree c).2.2.2.2.2.2.2]

end Cert.MergeClaims

end
-- ==== Proof.Out.lean ====
/-
  The mixers' output projection (`Kernel6`): both results of the idealized kernel as the reference has them.
-/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit.Point
public import Idealize.ShloMosaic.Lib.Quiescent

@[expose] public section

noncomputable section

open Idealize.ShloMosaic Idealize.ShloMosaic.TcCoe Idealize.SL.Sem
open Idealize.ShloMosaic.Pipeline (Dat)

namespace Cert.OutValue

open Cert.Kernel6Ideal Cert.Kernel6Ideal.Gen
open Cert.Reference6Ideal.Read (val_main_v0 val_main_v1 val_main_v2 val_main_v3 val_main_v4)

variable (m : (ℓ : Loc nD τ sig) → Buf (Elt Ideal) ℓ)

/-- The reference's two results at the kernel's arguments. -/
abbrev res (c : Dev nD) : (⟨S16384x4096, .f32⟩ : BufTy).Contents (Elt Ideal) :=
  val_main_v3 (F := Ideal) (m ((c : Thread nD τ).loc main_arg0)) (m ((c : Thread nD τ).loc main_arg1)) (m ((c : Thread nD τ).loc main_arg2))
abbrev sideRes (c : Dev nD) : (⟨S4096x11008, .bf16⟩ : BufTy).Contents (Elt Ideal) :=
  val_main_v4 (F := Ideal) (m ((c : Thread nD τ).loc main_arg3))

/-- Where the windows stand at a point: eight columns of blocks to each row of blocks. -/
theorem idx : ∀ t : Fin cfg0.N,
    win0_0.index t = ![t.val / 8, 0] ∧ win0_1.index t = ![0, t.val % 8] ∧ win0_2.index t = ![t.val / 8, t.val % 8]
    ∧ win0_3.index t = ![t.val, 0] ∧ win0_4.index t = ![t.val / 8, t.val % 8] ∧ win0_5.index t = ![t.val, 0] :=
  (by decide +kernel : ∀ t : Fin grid0.N,
    win0_0.index t = ![t.val / 8, 0] ∧ win0_1.index t = ![0, t.val % 8] ∧ win0_2.index t = ![t.val / 8, t.val % 8]
    ∧ win0_3.index t = ![t.val, 0] ∧ win0_4.index t = ![t.val / 8, t.val % 8] ∧ win0_5.index t = ![t.val, 0])

/-- The cast weights end as the reference casts them. -/
theorem final_side (c : Dev nD) : (dats m 0 c).arrAt 5 cfg0.N = sideRes m c := by
  refine (dats m 0 c).arrAt_eq_of_covers 5 _ (by decide +kernel) fun t hf y => ?_
  blk_simp
  rw [after0_5]; frame_out
  pointwise [k0_pay1, val_main_v4]
  blk_point [iblk, V, idx t]

/-- The result ends at the residual plus the product. -/
theorem final_res (c : Dev nD) : (dats m 0 c).arrAt 4 cfg0.N = res m c := by
  refine (dats m 0 c).arrAt_eq_of_covers 4 _ (by decide +kernel) fun t hf y => ?_
  blk_simp
  rw [after0_4]; frame_out
  pointwise [k0_pay2, val_main_v0, val_main_v1, val_main_v2, val_main_v3]
  blk_point [iblk, V, idx t]

end Cert.OutValue

/-! ## The claims -/

namespace Cert.OutClaims

theorem frame_k : Cert.quiescent_Kernel6 := fun m ρ _ => Cert.Kernel6.Gen.frame m ρ
theorem frame_ki : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2.2,
      Idealize.ShloMosaic.sem_eq_zero_of_no_sems (by decide) r.2⟩)
    (Cert.Reference6Ideal.Value.run (F := Ideal) m ρ)

theorem preserves : Cert.preserves_Kernel6_Kernel6Ideal := trivial

theorem algebraic : Cert.algebraic_Kernel6Ideal_Reference6Ideal := by
  intro m ρ m' ρ' _ hagree
  refine ⟨Cert.OutValue.res m, Cert.OutValue.sideRes m, ?_, ?_⟩
  · exact (θ_run Cert.Kernel6Ideal.defs _ _).mono
      (fun _ h c => ⟨(h c).1.trans (Cert.OutValue.final_res m c), (h c).2.1.trans (Cert.OutValue.final_side m c), (h c).2.2⟩)
      (Cert.Kernel6Ideal.Value.run_blocks (F := Ideal) m ρ)
  · refine (θ_run Cert.Reference6Ideal.defs _ _).mono (fun _ h c => ⟨(h c).1.trans ?_, (h c).2.1.trans ?_, (h c).2.2⟩)
      (Cert.Reference6Ideal.Value.run (F := Ideal) m' ρ')
    · refine (Cert.Reference6Ideal.Read.val_main_v3_eq _ _ _).trans ?_
      unfold Cert.OutValue.res
      rw [(hagree c).1, (hagree c).2.1, (hagree c).2.2.1]
    · refine (Cert.Reference6Ideal.Read.val_main_v4_eq _).trans ?_
      unfold Cert.OutValue.sideRes
      rw [(hagree c).2.2.2]

end Cert.OutClaims

end
-- ==== Proof.Proj.lean ====
/-
  The input projection of the recurrent mixer (`Kernel7`): both results of the idealized kernel as the reference has them.
-/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit.Point
public import Idealize.ShloMosaic.Lib.Quiescent

@[expose] public section

noncomputable section

open Idealize.ShloMosaic Idealize.ShloMosaic.TcCoe Idealize.SL.Sem
open Idealize.ShloMosaic.Pipeline (Dat)

namespace Cert.ProjValue

open Cert.Kernel7Ideal Cert.Kernel7Ideal.Gen
open Cert.Reference7Ideal.Read (val_main_v0 val_main_v1 val_main_v2 val_main_v3)

variable (m : (ℓ : Loc nD τ sig) → Buf (Elt Ideal) ℓ)

/-- The reference's two results at the kernel's arguments. -/
abbrev res (c : Dev nD) : (⟨S16384x6144, .f32⟩ : BufTy).Contents (Elt Ideal) :=
  val_main_v2 (F := Ideal) (m ((c : Thread nD τ).loc main_arg0)) (m ((c : Thread nD τ).loc main_arg1))
abbrev sideRes (c : Dev nD) : (⟨S4096x8192, .bf16⟩ : BufTy).Contents (Elt Ideal) :=
  val_main_v3 (F := Ideal) (m ((c : Thread nD τ).loc main_arg2))

/-- Where the windows stand at a point: twelve columns of blocks to each row of blocks; the weights to cast run out at
    the point 127. -/
theorem idx : ∀ t : Fin cfg0.N,
    win0_0.index t = ![t.val / 12, 0] ∧ win0_1.index t = ![0, t.val % 12] ∧ win0_2.index t = ![min t.val 127, 0]
    ∧ win0_3.index t = ![t.val / 12, t.val % 12] ∧ win0_4.index t = ![min t.val 127, 0] :=
  (by decide +kernel : ∀ t : Fin grid0.N,
    win0_0.index t = ![t.val / 12, 0] ∧ win0_1.index t = ![0, t.val % 12] ∧ win0_2.index t = ![min t.val 127, 0]
    ∧ win0_3.index t = ![t.val / 12, t.val % 12] ∧ win0_4.index t = ![min t.val 127, 0])

/-- The weights the region reads are the last columns of the argument's. -/
theorem weights (c : Dev nD) (i : S4096x6144.Idx) :
    V m c main_v1 i = m ((c : Thread nD τ).loc main_arg1) (ix2 (i 0) ⟨5264 + (i 1).val, Nat.add_lt_add_left (i 1).isLt 5264⟩) := by
  entry_read; pointwise

/-- The cast weights end as the reference casts them. -/
theorem final_side (c : Dev nD) : (dats m 0 c).arrAt 4 cfg0.N = sideRes m c := by
  refine (dats m 0 c).arrAt_eq_of_covers 4 _ (by decide +kernel) fun t hf y => ?_
  blk_simp
  rw [after0_4]; frame_out
  pointwise [k0_pay1, val_main_v3]
  blk_point [iblk, V_main_arg2, idx t]

/-- A column of the weights' block at a point. -/
theorem weights_block (c : Dev nD) (t : Fin cfg0.N) (k : Fin 4096) (j : Fin 512) (h : 5264 + (t.val % 12 * 512 + j.val) < 11408) :
    iblk m c 1 t (ix2 k j) = m ((c : Thread nD τ).loc main_arg1) (ix2 k ⟨5264 + (t.val % 12 * 512 + j.val), h⟩) := by
  refine Eq.trans ?_ ((weights m c (ix2 k ⟨t.val % 12 * 512 + j.val, by omega⟩)).trans ?_)
  · unfold iblk; blk_ext [idx t]
  · rfl

/-- The result ends at the product. -/
theorem final_res (c : Dev nD) : (dats m 0 c).arrAt 3 cfg0.N = res m c := by
  refine (dats m 0 c).arrAt_eq_of_covers 3 _ (by decide +kernel) fun t hf y => ?_
  blk_simp
  rw [after0_3]; frame_out
  pointwise [k0_pay2, val_main_v0, val_main_v1, val_main_v2]
  have h1 : (y 1).val < 512 := (y 1).isLt
  congr 1; funext k
  congr 1
  · unfold iblk; blk_ext [V_main_arg0, idx t]
  · refine (weights_block m c t k (y 1) (by omega)).trans ?_
    blk_ext [idx t]

end Cert.ProjValue

/-! ## The claims -/

namespace Cert.ProjClaims

theorem frame_k : Cert.quiescent_Kernel7 := fun m ρ _ => Cert.Kernel7.Gen.frame m ρ
theorem frame_ki : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2.2,
      Idealize.ShloMosaic.sem_eq_zero_of_no_sems (by decide) r.2⟩)
    (Cert.Reference7Ideal.Value.run (F := Ideal) m ρ)

theorem preserves : Cert.preserves_Kernel7_Kernel7Ideal := trivial

theorem algebraic : Cert.algebraic_Kernel7Ideal_Reference7Ideal := by
  intro m ρ m' ρ' _ hagree
  refine ⟨Cert.ProjValue.res m, Cert.ProjValue.sideRes m, ?_, ?_⟩
  · exact (θ_run Cert.Kernel7Ideal.defs _ _).mono
      (fun _ h c => ⟨(h c).1.trans (Cert.ProjValue.final_res m c), (h c).2.1.trans (Cert.ProjValue.final_side m c), (h c).2.2⟩)
      (Cert.Kernel7Ideal.Value.run_blocks (F := Ideal) m ρ)
  · refine (θ_run Cert.Reference7Ideal.defs _ _).mono (fun _ h c => ⟨(h c).1.trans ?_, (h c).2.1.trans ?_, (h c).2.2⟩)
      (Cert.Reference7Ideal.Value.run (F := Ideal) m' ρ')
    · refine (Cert.Reference7Ideal.Read.val_main_v2_eq _ _).trans ?_
      unfold Cert.ProjValue.res
      rw [(hagree c).1, (hagree c).2.1]
    · refine (Cert.Reference7Ideal.Read.val_main_v3_eq _).trans ?_
      unfold Cert.ProjValue.sideRes
      rw [(hagree c).2.2]

end Cert.ProjClaims

end
-- ==== Proof.Rotary.lean ====
/-
  The rotary embedding at one column, and a column of the input projection: what the two calls that rotate have in
  common (`Kernel8`, `Kernel9`).
-/
module

public import Idealize.ShloMosaic.Lib.Pipeline.ValueKit.Point

@[expose] public section

noncomputable section

open Idealize.ShloMosaic

namespace Cert.Rotary

/-- Column `d` of a rotated head whose columns are `p`, at cosines `c` and sines `s`. -/
def rot (p c s : ℕ → EReal) (d : ℕ) : EReal :=
  if d < 64 then p d * c d - p (64 + d) * s d else p (d - 64) * s (d - 64) + p (64 + (d - 64)) * c (d - 64)

/-- The same from the doubled tables: the cosines twice, the sines negated and then plain. -/
theorem rot_doubled (p c s : ℕ → EReal) (d : ℕ) (h : d < 128) :
    p d * (if d < 64 then c d else c (d - 64)) + p ((d + 128 - 64) % 128) * (if d < 64 then -s d else s (d - 64))
      = rot p c s d := by
  unfold rot
  by_cases hd : d < 64
  · rw [if_pos hd, if_pos hd, if_pos hd, show (d + 128 - 64) % 128 = 64 + d by omega, mul_neg, sub_eq_add_neg]
  · rw [if_neg hd, if_neg hd, if_neg hd, show (d + 128 - 64) % 128 = d - 64 by omega, add_comm,
      show 64 + (d - 64) = d by omega]

/-- Entry `j` of row `r` of the input projection. -/
def proj (x : (⟨2, ![16384, 4096]⟩ : Shape).Idx → EReal) (w : (⟨2, ![4096, 11408]⟩ : Shape).Idx → EReal) (r : Fin 16384) (j : ℕ) : EReal :=
  if h : j < 11408 then ∑ k : Fin 4096, x (ix2 r k) * w (ix2 k ⟨j, h⟩) else 0

/-- Entry `d` of row `r` of a table. -/
def tab (x : (⟨2, ![16384, 64]⟩ : Shape).Idx → EReal) (r : Fin 16384) (d : ℕ) : EReal :=
  if h : d < 64 then x (ix2 r ⟨d, h⟩) else 0

theorem proj_pos (x : (⟨2, ![16384, 4096]⟩ : Shape).Idx → EReal) (w : (⟨2, ![4096, 11408]⟩ : Shape).Idx → EReal) (r : Fin 16384) {j : ℕ}
    (h : j < 11408) : proj x w r j = ∑ k : Fin 4096, x (ix2 r k) * w (ix2 k ⟨j, h⟩) := dif_pos h

theorem tab_pos (x : (⟨2, ![16384, 64]⟩ : Shape).Idx → EReal) (r : Fin 16384) {d : ℕ} (h : d < 64) : tab x r d = x (ix2 r ⟨d, h⟩) := dif_pos h

theorem rot_low (p c s : ℕ → EReal) {d : ℕ} (h : d < 64) : rot p c s d = p d * c d - p (64 + d) * s d := if_pos h

theorem rot_high (p c s : ℕ → EReal) {d : ℕ} (h : ¬ d < 64) :
    rot p c s d = p (d - 64) * s (d - 64) + p (64 + (d - 64)) * c (d - 64) := if_neg h

/-- A head's column from the blocks at hand: the head's columns begin at `o` of the weights' block. -/
def head {n : ℕ} (v0 : (⟨2, ![1024, 4096]⟩ : Shape).Idx → EReal) (v5 : (⟨2, ![4096, n]⟩ : Shape).Idx → EReal)
    (v1 v3 : (⟨2, ![1024, 128]⟩ : Shape).Idx → EReal) (o : ℕ) (ho : o + 128 ≤ n) (a : Fin 1024) (d : Fin 128) : EReal :=
  (∑ k : Fin 4096, v0 (ix2 a k) * v5 (ix2 k ⟨o + d.val, by omega⟩)) * v1 (ix2 a d)
    + (∑ k : Fin 4096, v0 (ix2 a k) * v5 (ix2 k ⟨o + (d.val + 128 - 64) % 128, by omega⟩)) * v3 (ix2 a d)

/-- A product of the blocks at hand, when the weights' block begins at column `b` of the weights. -/
theorem dot_block {n : ℕ} {v0 : (⟨2, ![1024, 4096]⟩ : Shape).Idx → EReal} {v5 : (⟨2, ![4096, n]⟩ : Shape).Idx → EReal}
    {x : (⟨2, ![16384, 4096]⟩ : Shape).Idx → EReal} {w : (⟨2, ![4096, 11408]⟩ : Shape).Idx → EReal} {r : Fin 16384} {a : Fin 1024} {b : ℕ}
    (hb : b + n ≤ 11408) (hx : ∀ k : Fin 4096, v0 (ix2 a k) = x (ix2 r k))
    (hw : ∀ (k : Fin 4096) (j : Fin n), v5 (ix2 k j) = w (ix2 k ⟨b + j.val, by omega⟩)) (j : Fin n) :
    ∑ k : Fin 4096, v0 (ix2 a k) * v5 (ix2 k j) = proj x w r (b + j.val) := by
  rw [proj_pos x w r (j := b + j.val) (by omega)]
  exact Finset.sum_congr rfl fun k _ => by rw [hx, hw]

theorem head_eq {n : ℕ} {v0 : (⟨2, ![1024, 4096]⟩ : Shape).Idx → EReal} {v5 : (⟨2, ![4096, n]⟩ : Shape).Idx → EReal}
    {v1 v3 : (⟨2, ![1024, 128]⟩ : Shape).Idx → EReal} {o : ℕ} {ho : o + 128 ≤ n}
    {x : (⟨2, ![16384, 4096]⟩ : Shape).Idx → EReal} {w : (⟨2, ![4096, 11408]⟩ : Shape).Idx → EReal}
    {c s : (⟨2, ![16384, 64]⟩ : Shape).Idx → EReal} {r : Fin 16384} {a : Fin 1024} {b : ℕ} (d : Fin 128)
    (hb : b + n ≤ 11408) (hx : ∀ k : Fin 4096, v0 (ix2 a k) = x (ix2 r k))
    (hw : ∀ (k : Fin 4096) (j : Fin n), v5 (ix2 k j) = w (ix2 k ⟨b + j.val, by omega⟩))
    (hc : v1 (ix2 a d) = if d.val < 64 then tab c r d.val else tab c r (d.val - 64))
    (hs : v3 (ix2 a d) = if d.val < 64 then -tab s r d.val else tab s r (d.val - 64)) :
    head v0 v5 v1 v3 o ho a d = rot (fun e => proj x w r (b + (o + e))) (tab c r) (tab s r) d.val := by
  unfold head
  rw [dot_block hb hx hw, dot_block hb hx hw, hc, hs]
  exact rot_doubled (fun e => proj x w r (b + (o + e))) _ _ d.val d.isLt

end Cert.Rotary

end
-- ==== Proof.Keys.lean ====
/-
  The keys, the indexer's keys and the values (`Kernel8`): the result of the idealized kernel as the reference has it.
-/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Rotary
public import Idealize.ShloMosaic.Lib.Pipeline.ValueKit.Tiles
public import Idealize.ShloMosaic.Lib.Pipeline.ValueKit.Point
public import Idealize.ShloMosaic.Lib.Quiescent

@[expose] public section

noncomputable section

open Idealize.ShloMosaic Idealize.ShloMosaic.TcCoe Idealize.SL.Sem
open Idealize.ShloMosaic.Pipeline (Dat)

namespace Cert.KeysValue

open Cert.Kernel8Ideal Cert.Kernel8Ideal.Gen
open Cert.Reference8Ideal.Read
open Cert.Rotary

variable (m : (ℓ : Loc nD τ sig) → Buf (Elt Ideal) ℓ)

/-- The reference's result at the kernel's arguments. -/
abbrev res (c : Dev nD) : (⟨S16384x1152, .bf16⟩ : BufTy).Contents (Elt Ideal) :=
  val_main_v36 (F := Ideal) (m ((c : Thread nD τ).loc main_arg0)) (m ((c : Thread nD τ).loc main_arg1)) (m ((c : Thread nD τ).loc main_arg2))
    (m ((c : Thread nD τ).loc main_arg3))

/-! ## The reference's result, by columns -/

section Ref

variable (x0 : (⟨S16384x4096, .bf16⟩ : BufTy).Contents (Elt Ideal)) (x1 : (⟨S4096x11408, .f32⟩ : BufTy).Contents (Elt Ideal))
  (x2 x3 : (⟨S16384x64, .f32⟩ : BufTy).Contents (Elt Ideal)) (r : Fin 16384) (j : Fin 1152)

set_option maxHeartbeats 1600000 in
theorem ref_apply : val_main_v36 (F := Ideal) x0 x1 x2 x3 (ix2 r j) =
      if h : j.val < 512 then
        if hd : j.val % 128 < 64 then
          (∑ k : Fin 4096, x0 (ix2 r k) * x1 (ix2 k ⟨2048 + (j.val / 128 * 128 + j.val % 128), by omega⟩)) * x2 (ix2 r ⟨j.val % 128, by omega⟩) - (∑ k : Fin 4096, x0 (ix2 r k) * x1 (ix2 k ⟨2048 + (j.val / 128 * 128 + (64 + j.val % 128)), by omega⟩)) * x3 (ix2 r ⟨j.val % 128, by omega⟩)
        else
          (∑ k : Fin 4096, x0 (ix2 r k) * x1 (ix2 k ⟨2048 + (j.val / 128 * 128 + (j.val % 128 - 64)), by omega⟩)) * x3 (ix2 r ⟨j.val % 128 - 64, by omega⟩) + (∑ k : Fin 4096, x0 (ix2 r k) * x1 (ix2 k ⟨2048 + (j.val / 128 * 128 + (64 + (j.val % 128 - 64))), by omega⟩)) * x2 (ix2 r ⟨j.val % 128 - 64, by omega⟩)
      else if h' : j.val - 512 < 128 then
          if hd : j.val - 512 < 64 then
            (∑ k : Fin 4096, x0 (ix2 r k) * x1 (ix2 k ⟨5120 + (j.val - 512), by omega⟩)) * x2 (ix2 r ⟨j.val - 512, by omega⟩) - (∑ k : Fin 4096, x0 (ix2 r k) * x1 (ix2 k ⟨5120 + (64 + (j.val - 512)), by omega⟩)) * x3 (ix2 r ⟨j.val - 512, by omega⟩)
          else
            (∑ k : Fin 4096, x0 (ix2 r k) * x1 (ix2 k ⟨5120 + (j.val - 512 - 64), by omega⟩)) * x3 (ix2 r ⟨j.val - 512 - 64, by omega⟩) + (∑ k : Fin 4096, x0 (ix2 r k) * x1 (ix2 k ⟨5120 + (64 + (j.val - 512 - 64)), by omega⟩)) * x2 (ix2 r ⟨j.val - 512 - 64, by omega⟩)
      else (∑ k : Fin 4096, x0 (ix2 r k) * x1 (ix2 k ⟨2560 + (j.val - 512 - 128), by omega⟩)) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36]

theorem ref_key (h : j.val < 512) :
    val_main_v36 (F := Ideal) x0 x1 x2 x3 (ix2 r j)
      = rot (fun d => proj x0 x1 r (2048 + (j.val / 128 * 128 + d))) (tab x2 r) (tab x3 r) (j.val % 128) := by
  rw [ref_apply, dif_pos h]
  by_cases hd : j.val % 128 < 64
  · rw [dif_pos hd, rot_low _ _ _ hd, proj_pos _ _ _ (j := 2048 + (j.val / 128 * 128 + j.val % 128)) (by omega),
      proj_pos _ _ _ (j := 2048 + (j.val / 128 * 128 + (64 + j.val % 128))) (by omega), tab_pos _ _ hd, tab_pos _ _ hd]
  · rw [dif_neg hd, rot_high _ _ _ hd, proj_pos _ _ _ (j := 2048 + (j.val / 128 * 128 + (j.val % 128 - 64))) (by omega),
      proj_pos _ _ _ (j := 2048 + (j.val / 128 * 128 + (64 + (j.val % 128 - 64)))) (by omega),
      tab_pos _ _ (d := j.val % 128 - 64) (by omega), tab_pos _ _ (d := j.val % 128 - 64) (by omega)]

theorem ref_index (h : ¬ j.val < 512) (h' : j.val - 512 < 128) :
    val_main_v36 (F := Ideal) x0 x1 x2 x3 (ix2 r j)
      = rot (fun d => proj x0 x1 r (5120 + d)) (tab x2 r) (tab x3 r) (j.val - 512) := by
  rw [ref_apply, dif_neg h, dif_pos h']
  by_cases hd : j.val - 512 < 64
  · rw [dif_pos hd, rot_low _ _ _ hd, proj_pos _ _ _ (j := 5120 + (j.val - 512)) (by omega),
      proj_pos _ _ _ (j := 5120 + (64 + (j.val - 512))) (by omega), tab_pos _ _ hd, tab_pos _ _ hd]
  · rw [dif_neg hd, rot_high _ _ _ hd, proj_pos _ _ _ (j := 5120 + (j.val - 512 - 64)) (by omega),
      proj_pos _ _ _ (j := 5120 + (64 + (j.val - 512 - 64))) (by omega),
      tab_pos _ _ (d := j.val - 512 - 64) (by omega), tab_pos _ _ (d := j.val - 512 - 64) (by omega)]

theorem ref_value (h : ¬ j.val < 512) (h' : ¬ j.val - 512 < 128) :
    val_main_v36 (F := Ideal) x0 x1 x2 x3 (ix2 r j) = proj x0 x1 r (2560 + (j.val - 512 - 128)) := by
  rw [ref_apply, dif_neg h, dif_neg h', proj_pos _ _ _ (j := 2560 + (j.val - 512 - 128)) (by omega)]

end Ref

/-! ## The blocks -/

/-- Where the windows stand at a point. -/
theorem idx : ∀ t : Fin cfg0.N,
    win0_0.index t = ![t.val, 0] ∧ win0_1.index t = ![0, 4] ∧ win0_2.index t = ![0, 40]
    ∧ win0_3.index t = ![0, 5] ∧ win0_4.index t = ![t.val, 0] ∧ win0_5.index t = ![t.val, 0] ∧ win0_6.index t = ![t.val, 0] :=
  (by decide +kernel : ∀ t : Fin grid0.N,
    win0_0.index t = ![t.val, 0] ∧ win0_1.index t = ![0, 4] ∧ win0_2.index t = ![0, 40]
    ∧ win0_3.index t = ![0, 5] ∧ win0_4.index t = ![t.val, 0] ∧ win0_5.index t = ![t.val, 0] ∧ win0_6.index t = ![t.val, 0])

/-- A block's row in the array. -/
def row (t : Fin cfg0.N) (a : Fin 1024) : Fin 16384 :=
  ⟨t.val * 1024 + a.val, by have := t.isLt; have h : cfg0.N = 16 := rfl; omega⟩

theorem weights (c : Dev nD) (i : S4096x11408.Idx) : V m c main_v0 i = m ((c : Thread nD τ).loc main_arg1) i := by
  entry_read; pointwise

theorem cosTab (c : Dev nD) (r : Fin 16384) (d : Fin 128) :
    V m c main_v1 (ix2 r d) = if d.val < 64 then tab (m ((c : Thread nD τ).loc main_arg2)) r d.val else tab (m ((c : Thread nD τ).loc main_arg2)) r (d.val - 64) := by
  entry_read; pointwise
  have hr := d.isLt
  by_cases hd : d.val < 64
  · rw [dif_pos hd, if_pos hd, tab_pos _ _ hd]
  · rw [dif_neg hd, if_neg hd, tab_pos _ _ (d := d.val - 64) (by omega)]

theorem sinTab (c : Dev nD) (r : Fin 16384) (d : Fin 128) :
    V m c main_v3 (ix2 r d) = if d.val < 64 then -tab (m ((c : Thread nD τ).loc main_arg3)) r d.val else tab (m ((c : Thread nD τ).loc main_arg3)) r (d.val - 64) := by
  entry_read; pointwise
  have hr := d.isLt
  by_cases hd : d.val < 64
  · rw [dif_pos hd, if_pos hd, tab_pos _ _ hd]
  · rw [dif_neg hd, if_neg hd, tab_pos _ _ (d := d.val - 64) (by omega)]

theorem x_block (c : Dev nD) (t : Fin cfg0.N) (a : Fin 1024) (k : Fin 4096) :
    iblk m c 0 t (ix2 a k) = m ((c : Thread nD τ).loc main_arg0) (ix2 (row t a) k) := by
  unfold iblk row; blk_ext [V_main_arg0, idx t]

theorem w_block1 (c : Dev nD) (t : Fin cfg0.N) (k : Fin 4096) (j : Fin 512) (h : 2048 + j.val < 11408) :
    X0_1 m c t (ix2 k j) = m ((c : Thread nD τ).loc main_arg1) (ix2 k ⟨2048 + j.val, h⟩) := by
  refine Eq.trans ?_ (weights m c (ix2 k ⟨2048 + j.val, h⟩))
  unfold X0_1 Pipeline.Window.fill
  rw [dif_pos (moved0_1 t _)]
  unfold iblk; blk_ext [idx t]

theorem w_block2 (c : Dev nD) (t : Fin cfg0.N) (k : Fin 4096) (j : Fin 128) (h : 5120 + j.val < 11408) :
    X0_2 m c t (ix2 k j) = m ((c : Thread nD τ).loc main_arg1) (ix2 k ⟨5120 + j.val, h⟩) := by
  refine Eq.trans ?_ (weights m c (ix2 k ⟨5120 + j.val, h⟩))
  unfold X0_2 Pipeline.Window.fill
  rw [dif_pos (moved0_2 t _)]
  unfold iblk; blk_ext [idx t]

theorem w_block3 (c : Dev nD) (t : Fin cfg0.N) (k : Fin 4096) (j : Fin 512) (h : 2560 + j.val < 11408) :
    X0_3 m c t (ix2 k j) = m ((c : Thread nD τ).loc main_arg1) (ix2 k ⟨2560 + j.val, h⟩) := by
  refine Eq.trans ?_ (weights m c (ix2 k ⟨2560 + j.val, h⟩))
  unfold X0_3 Pipeline.Window.fill
  rw [dif_pos (moved0_3 t _)]
  unfold iblk; blk_ext [idx t]

theorem cos_block (c : Dev nD) (t : Fin cfg0.N) (a : Fin 1024) (d : Fin 128) :
    iblk m c 4 t (ix2 a d) = if d.val < 64 then tab (m ((c : Thread nD τ).loc main_arg2)) (row t a) d.val else tab (m ((c : Thread nD τ).loc main_arg2)) (row t a) (d.val - 64) := by
  refine Eq.trans ?_ (cosTab m c (row t a) d)
  unfold iblk row; blk_ext [idx t]

theorem sin_block (c : Dev nD) (t : Fin cfg0.N) (a : Fin 1024) (d : Fin 128) :
    iblk m c 5 t (ix2 a d) = if d.val < 64 then -tab (m ((c : Thread nD τ).loc main_arg3)) (row t a) d.val else tab (m ((c : Thread nD τ).loc main_arg3)) (row t a) (d.val - 64) := by
  refine Eq.trans ?_ (sinTab m c (row t a) d)
  unfold iblk row; blk_ext [idx t]

/-! ## The pieces -/

section Pays

variable (v0 : Vec Ideal S1024x4096 .bf16) (v1 v3 : Vec Ideal S1024x128 .f32) (v5 : Vec Ideal S4096x512 .bf16) (v6 : Vec Ideal S4096x128 .bf16)
  (a : Fin 1024) (d : Fin 128)

theorem pay10 : k0_pay10 v0 v1 v3 v5 (ix2 a d) = head v0 v5 v1 v3 0 (by decide) a d := by
  pointwise [k0_pay10, k0_pay9, k0_pay7, k0_pay8, head]

theorem pay11 : k0_pay11 v0 v1 v3 v5 (ix2 a d) = head v0 v5 v1 v3 128 (by decide) a d := by
  pointwise [k0_pay11, k0_pay9, k0_pay7, k0_pay8, head]

theorem pay12 : k0_pay12 v0 v1 v3 v5 (ix2 a d) = head v0 v5 v1 v3 256 (by decide) a d := by
  pointwise [k0_pay12, k0_pay9, k0_pay7, k0_pay8, head]

theorem pay13 : k0_pay13 v0 v1 v3 v5 (ix2 a d) = head v0 v5 v1 v3 384 (by decide) a d := by
  pointwise [k0_pay13, k0_pay9, k0_pay7, k0_pay8, head]

theorem pay1 : k0_pay1 v0 (k0_pay7 v1) (k0_pay8 v3) v6 (ix2 a d) = head v0 v6 v1 v3 0 (by decide) a d := by
  pointwise [k0_pay1, k0_pay7, k0_pay8, head]

theorem pay3 : k0_pay3 v0 v5 (ix2 a d) = ∑ k : Fin 4096, v0 (ix2 a k) * v5 (ix2 k ⟨d.val, by omega⟩) := by
  pointwise [k0_pay3, k0_pay2]

theorem pay4 : k0_pay4 v0 v5 (ix2 a d) = ∑ k : Fin 4096, v0 (ix2 a k) * v5 (ix2 k ⟨128 + d.val, by omega⟩) := by
  pointwise [k0_pay4, k0_pay2]

theorem pay5 : k0_pay5 v0 v5 (ix2 a d) = ∑ k : Fin 4096, v0 (ix2 a k) * v5 (ix2 k ⟨256 + d.val, by omega⟩) := by
  pointwise [k0_pay5, k0_pay2]

theorem pay6 : k0_pay6 v0 v5 (ix2 a d) = ∑ k : Fin 4096, v0 (ix2 a k) * v5 (ix2 k ⟨384 + d.val, by omega⟩) := by
  pointwise [k0_pay6, k0_pay2]

end Pays

/-- A block's entry of the result. -/
theorem at_res (c : Dev nD) (t : Fin cfg0.N) (y : S1024x1152.Idx) :
    res m c ((win0_6.blk t).view.emb y) = res m c (ix2 (row t (y 0)) (y 1)) := by
  refine congrArg (res m c) ?_
  unfold row; blk_ext [idx t]

theorem key_piece (c : Dev nD) (t : Fin cfg0.N) (y : S1024x1152.Idx) (a : Fin 1024) (d : Fin 128) (o : ℕ) (ho : o + 128 ≤ 512)
    (hm : o % 128 = 0) (h0 : (y 0).val = a.val) (h1 : (y 1).val = o + d.val) :
    head (iblk m c 0 t) (X0_1 m c t) (iblk m c 4 t) (iblk m c 5 t) o ho a d = res m c (ix2 (row t (y 0)) (y 1)) := by
  refine (head_eq d (b := 2048) (by decide) (x_block m c t a) (fun k j => w_block1 m c t k j (by omega)) (cos_block m c t a d)
    (sin_block m c t a d)).trans ?_
  have ha : y 0 = a := Fin.ext h0
  have hd := d.isLt
  rw [ha]
  refine Eq.trans ?_ (ref_key _ _ _ _ _ _ (by omega)).symm
  rw [show (y 1).val / 128 * 128 = o by omega, show (y 1).val % 128 = d.val by omega]

theorem index_piece (c : Dev nD) (t : Fin cfg0.N) (y : S1024x1152.Idx) (a : Fin 1024) (d : Fin 128)
    (h0 : (y 0).val = a.val) (h1 : (y 1).val = 512 + d.val) :
    head (iblk m c 0 t) (X0_2 m c t) (iblk m c 4 t) (iblk m c 5 t) 0 (by decide) a d = res m c (ix2 (row t (y 0)) (y 1)) := by
  refine (head_eq d (b := 5120) (by decide) (x_block m c t a) (fun k j => w_block2 m c t k j (by omega)) (cos_block m c t a d)
    (sin_block m c t a d)).trans ?_
  have ha : y 0 = a := Fin.ext h0
  have hd := d.isLt
  rw [ha]
  refine Eq.trans ?_ (ref_index _ _ _ _ _ _ (by omega) (by omega)).symm
  rw [show (y 1).val - 512 = d.val by omega]
  simp only [Nat.zero_add]

theorem value_piece (c : Dev nD) (t : Fin cfg0.N) (y : S1024x1152.Idx) (a : Fin 1024) (j : Fin 512)
    (h0 : (y 0).val = a.val) (h1 : (y 1).val = 640 + j.val) :
    proj (m ((c : Thread nD τ).loc main_arg0)) (m ((c : Thread nD τ).loc main_arg1)) (row t a) (2560 + j.val)
      = res m c (ix2 (row t (y 0)) (y 1)) := by
  have ha : y 0 = a := Fin.ext h0
  rw [ha]
  refine Eq.trans ?_ (ref_value _ _ _ _ _ _ (by omega) (by omega)).symm
  rw [show (y 1).val - 512 - 128 = j.val by omega]

theorem final_res (c : Dev nD) : (dats m 0 c).arrAt 6 cfg0.N = res m c := by
  refine (dats m 0 c).arrAt_eq_of_covers 6 _ (by decide +kernel) fun t hf y => ?_
  blk_simp
  rw [after0_6]
  unfold outsAt0
  frame_out
  refine Eq.trans ?_ (at_res m c t y).symm
  canon_tiles x h
  all_goals obtain ⟨a, d, rfl⟩ : ∃ (a : Fin 1024) (d : Fin 128), x = ix2 a d := ⟨x 0, x 1, eq_ix2 x⟩
  case piece0 =>
    refine (pay6 _ _ _ _).trans ((dot_block (b := 2560) (by decide) (x_block m c t a) (fun k j => w_block3 m c t k j (by omega)) _).trans
      (value_piece m c t y a _ h0 (h1.trans (Nat.add_assoc 640 384 d.val))))
  case piece1 =>
    refine (pay5 _ _ _ _).trans ((dot_block (b := 2560) (by decide) (x_block m c t a) (fun k j => w_block3 m c t k j (by omega)) _).trans
      (value_piece m c t y a _ h0 (h1.trans (Nat.add_assoc 640 256 d.val))))
  case piece2 =>
    refine (pay4 _ _ _ _).trans ((dot_block (b := 2560) (by decide) (x_block m c t a) (fun k j => w_block3 m c t k j (by omega)) _).trans
      (value_piece m c t y a _ h0 (h1.trans (Nat.add_assoc 640 128 d.val))))
  case piece3 =>
    refine (pay3 _ _ _ _).trans ((dot_block (b := 2560) (by decide) (x_block m c t a) (fun k j => w_block3 m c t k j (by omega)) _).trans
      (value_piece m c t y a _ h0 h1))
  case piece4 => exact (pay1 _ _ _ _ _ _).trans (index_piece m c t y a d h0 h1)
  case piece5 => exact (pay13 _ _ _ _ _ _).trans (key_piece m c t y a d 384 (by decide) rfl h0 h1)
  case piece6 => exact (pay12 _ _ _ _ _ _).trans (key_piece m c t y a d 256 (by decide) rfl h0 h1)
  case piece7 => exact (pay11 _ _ _ _ _ _).trans (key_piece m c t y a d 128 (by decide) rfl h0 h1)
  case piece8 => exact (pay10 _ _ _ _ _ _).trans (key_piece m c t y a d 0 (by decide) rfl h0 (h1.trans (Nat.zero_add _).symm))

end Cert.KeysValue

/-! ## The claims -/

namespace Cert.KeysClaims

theorem frame_k : Cert.quiescent_Kernel8 := fun m ρ _ => Cert.Kernel8.Gen.frame m ρ
theorem frame_ki : Cert.quiescent_Kernel8Ideal := fun m ρ _ => Cert.Kernel8Ideal.Gen.frame m ρ
theorem frame_ri : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

theorem preserves : Cert.preserves_Kernel8_Kernel8Ideal := trivial

theorem algebraic : Cert.algebraic_Kernel8Ideal_Reference8Ideal := by
  intro m ρ m' ρ' _ hagree
  refine ⟨Cert.KeysValue.res m, ?_, ?_⟩
  · exact (θ_run Cert.Kernel8Ideal.defs _ _).mono
      (fun _ h c => ⟨(h c).1.trans (Cert.KeysValue.final_res m c), (h c).2⟩)
      (Cert.Kernel8Ideal.Value.run_blocks (F := Ideal) m ρ)
  · refine (θ_run Cert.Reference8Ideal.defs _ _).mono (fun _ h c => ⟨(h c).1.trans ?_, (h c).2⟩)
      (Cert.Reference8Ideal.Value.run (F := Ideal) m' ρ')
    refine (Cert.Reference8Ideal.Read.val_main_v36_eq _ _).trans ?_
    unfold Cert.KeysValue.res
    rw [(hagree c).1, (hagree c).2.1, (hagree c).2.2.1, (hagree c).2.2.2]

end Cert.KeysClaims

end
-- ==== Proof.Heads.lean ====
/-
  The queries and the indexer's queries (`Kernel9`): both results of the idealized kernel as the reference has them.
-/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Rotary
public import Idealize.ShloMosaic.Lib.Pipeline.ValueKit.Tiles
public import Idealize.ShloMosaic.Lib.Pipeline.ValueKit.Point
public import Idealize.ShloMosaic.Lib.Quiescent

@[expose] public section

noncomputable section

open Idealize.ShloMosaic Idealize.ShloMosaic.TcCoe Idealize.SL.Sem
open Idealize.ShloMosaic.Pipeline (Dat)

namespace Cert.HeadsValue

open Cert.Kernel9Ideal Cert.Kernel9Ideal.Gen
open Cert.Reference9Ideal.Read
open Cert.Rotary

variable (m : (ℓ : Loc nD τ sig) → Buf (Elt Ideal) ℓ)

/-- The reference's two results at the kernel's arguments. -/
abbrev res (c : Dev nD) : (⟨S128x32x128x128, .bf16⟩ : BufTy).Contents (Elt Ideal) :=
  val_main_v39 (F := Ideal) (m ((c : Thread nD τ).loc main_arg0)) (m ((c : Thread nD τ).loc main_arg1)) (m ((c : Thread nD τ).loc main_arg2))
    (m ((c : Thread nD τ).loc main_arg3))
abbrev sideRes (c : Dev nD) : (⟨S4096x4096, .bf16⟩ : BufTy).Contents (Elt Ideal) :=
  val_main_v40 (F := Ideal) (m ((c : Thread nD τ).loc main_arg4))

/-! ## The reference's result, by heads -/

section Ref

variable (x0 : (⟨S16384x4096, .bf16⟩ : BufTy).Contents (Elt Ideal)) (x1 : (⟨S4096x11408, .f32⟩ : BufTy).Contents (Elt Ideal))
  (x2 x3 : (⟨S16384x64, .f32⟩ : BufTy).Contents (Elt Ideal)) (b : Fin 128) (n : Fin 32) (a d : Fin 128)

/-- A row of a block of the result, in the input. -/
def rowOf : Fin 16384 := ⟨b.val * 128 + a.val, by omega⟩

set_option maxHeartbeats 1600000 in
theorem ref_apply : val_main_v39 (F := Ideal) x0 x1 x2 x3 (ix4 b n a d) =
      if h : n.val < 16 then
        if hd : d.val < 64 then
          (∑ k : Fin 4096, x0 (ix2 (rowOf b a) k) * x1 (ix2 k ⟨n.val * 128 + d.val, by omega⟩)) * x2 (ix2 (rowOf b a) ⟨d.val, by omega⟩) - (∑ k : Fin 4096, x0 (ix2 (rowOf b a) k) * x1 (ix2 k ⟨n.val * 128 + (64 + d.val), by omega⟩)) * x3 (ix2 (rowOf b a) ⟨d.val, by omega⟩)
        else
          (∑ k : Fin 4096, x0 (ix2 (rowOf b a) k) * x1 (ix2 k ⟨n.val * 128 + (d.val - 64), by omega⟩)) * x3 (ix2 (rowOf b a) ⟨d.val - 64, by omega⟩) + (∑ k : Fin 4096, x0 (ix2 (rowOf b a) k) * x1 (ix2 k ⟨n.val * 128 + (64 + (d.val - 64)), by omega⟩)) * x2 (ix2 (rowOf b a) ⟨d.val - 64, by omega⟩)
      else
        if hd : d.val < 64 then
          (∑ k : Fin 4096, x0 (ix2 (rowOf b a) k) * x1 (ix2 k ⟨3072 + ((n.val - 16) * 128 + d.val), by omega⟩)) * x2 (ix2 (rowOf b a) ⟨d.val, by omega⟩) - (∑ k : Fin 4096, x0 (ix2 (rowOf b a) k) * x1 (ix2 k ⟨3072 + ((n.val - 16) * 128 + (64 + d.val)), by omega⟩)) * x3 (ix2 (rowOf b a) ⟨d.val, by omega⟩)
        else
          (∑ k : Fin 4096, x0 (ix2 (rowOf b a) k) * x1 (ix2 k ⟨3072 + ((n.val - 16) * 128 + (d.val - 64)), by omega⟩)) * x3 (ix2 (rowOf b a) ⟨d.val - 64, by omega⟩) + (∑ k : Fin 4096, x0 (ix2 (rowOf b a) k) * x1 (ix2 k ⟨3072 + ((n.val - 16) * 128 + (64 + (d.val - 64))), by omega⟩)) * x2 (ix2 (rowOf b a) ⟨d.val - 64, by omega⟩) := by
  pointwise [rowOf, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39]

theorem ref_query (h : n.val < 16) :
    val_main_v39 (F := Ideal) x0 x1 x2 x3 (ix4 b n a d)
      = rot (fun e => proj x0 x1 (rowOf b a) (n.val * 128 + e)) (tab x2 (rowOf b a)) (tab x3 (rowOf b a)) d.val := by
  have hn := d.isLt
  rw [ref_apply, dif_pos h]
  by_cases hd : d.val < 64
  · rw [dif_pos hd, rot_low _ _ _ hd, proj_pos _ _ _ (j := n.val * 128 + d.val) (by omega),
      proj_pos _ _ _ (j := n.val * 128 + (64 + d.val)) (by omega), tab_pos _ _ hd, tab_pos _ _ hd]
  · rw [dif_neg hd, rot_high _ _ _ hd, proj_pos _ _ _ (j := n.val * 128 + (d.val - 64)) (by omega),
      proj_pos _ _ _ (j := n.val * 128 + (64 + (d.val - 64))) (by omega),
      tab_pos _ _ (d := d.val - 64) (by omega), tab_pos _ _ (d := d.val - 64) (by omega)]

theorem ref_index (h : ¬ n.val < 16) :
    val_main_v39 (F := Ideal) x0 x1 x2 x3 (ix4 b n a d)
      = rot (fun e => proj x0 x1 (rowOf b a) (3072 + ((n.val - 16) * 128 + e))) (tab x2 (rowOf b a)) (tab x3 (rowOf b a)) d.val := by
  have hn := d.isLt
  have hm := n.isLt
  rw [ref_apply, dif_neg h]
  by_cases hd : d.val < 64
  · rw [dif_pos hd, rot_low _ _ _ hd, proj_pos _ _ _ (j := 3072 + ((n.val - 16) * 128 + d.val)) (by omega),
      proj_pos _ _ _ (j := 3072 + ((n.val - 16) * 128 + (64 + d.val))) (by omega), tab_pos _ _ hd, tab_pos _ _ hd]
  · rw [dif_neg hd, rot_high _ _ _ hd, proj_pos _ _ _ (j := 3072 + ((n.val - 16) * 128 + (d.val - 64))) (by omega),
      proj_pos _ _ _ (j := 3072 + ((n.val - 16) * 128 + (64 + (d.val - 64)))) (by omega),
      tab_pos _ _ (d := d.val - 64) (by omega), tab_pos _ _ (d := d.val - 64) (by omega)]

end Ref

/-! ## The blocks -/

/-- Where the windows stand at a point: four columns of blocks to each row of blocks, two of the queries and two of the
    indexer's, which begin one block further on. -/
theorem idx : ∀ t : Fin cfg0.N,
    win0_0.index t = ![t.val / 4, 0] ∧ win0_1.index t = ![0, t.val % 4 + t.val % 4 / 2] ∧ win0_2.index t = ![t.val / 4, 0]
    ∧ win0_3.index t = ![t.val / 4, 0] ∧ win0_4.index t = ![t.val, 0] ∧ win0_5.index t = ![t.val / 4, t.val % 4, 0, 0]
    ∧ win0_6.index t = ![t.val, 0] :=
  (by decide +kernel : ∀ t : Fin grid0.N,
    win0_0.index t = ![t.val / 4, 0] ∧ win0_1.index t = ![0, t.val % 4 + t.val % 4 / 2] ∧ win0_2.index t = ![t.val / 4, 0]
    ∧ win0_3.index t = ![t.val / 4, 0] ∧ win0_4.index t = ![t.val, 0] ∧ win0_5.index t = ![t.val / 4, t.val % 4, 0, 0]
    ∧ win0_6.index t = ![t.val, 0])

/-- A block's row in the array. -/
def row (t : Fin cfg0.N) (a : Fin 1024) : Fin 16384 :=
  ⟨t.val / 4 * 1024 + a.val, by have := t.isLt; have h : cfg0.N = 64 := rfl; omega⟩

/-- The weights' block's first column. -/
def base (t : Fin cfg0.N) : ℕ := (t.val % 4 + t.val % 4 / 2) * 1024

theorem base_le (t : Fin cfg0.N) : base t + 1024 ≤ 11408 := by unfold base; omega

theorem weights (c : Dev nD) (i : S4096x11408.Idx) : V m c main_v0 i = m ((c : Thread nD τ).loc main_arg1) i := by
  entry_read; pointwise

theorem cosTab (c : Dev nD) (r : Fin 16384) (d : Fin 128) :
    V m c main_v1 (ix2 r d) = if d.val < 64 then tab (m ((c : Thread nD τ).loc main_arg2)) r d.val else tab (m ((c : Thread nD τ).loc main_arg2)) r (d.val - 64) := by
  entry_read; pointwise
  have hr := d.isLt
  by_cases hd : d.val < 64
  · rw [dif_pos hd, if_pos hd, tab_pos _ _ hd]
  · rw [dif_neg hd, if_neg hd, tab_pos _ _ (d := d.val - 64) (by omega)]

theorem sinTab (c : Dev nD) (r : Fin 16384) (d : Fin 128) :
    V m c main_v3 (ix2 r d) = if d.val < 64 then -tab (m ((c : Thread nD τ).loc main_arg3)) r d.val else tab (m ((c : Thread nD τ).loc main_arg3)) r (d.val - 64) := by
  entry_read; pointwise
  have hr := d.isLt
  by_cases hd : d.val < 64
  · rw [dif_pos hd, if_pos hd, tab_pos _ _ hd]
  · rw [dif_neg hd, if_neg hd, tab_pos _ _ (d := d.val - 64) (by omega)]

theorem x_block (c : Dev nD) (t : Fin cfg0.N) (a : Fin 1024) (k : Fin 4096) :
    iblk m c 0 t (ix2 a k) = m ((c : Thread nD τ).loc main_arg0) (ix2 (row t a) k) := by
  unfold iblk row; blk_ext [V_main_arg0, idx t]

theorem w_block (c : Dev nD) (t : Fin cfg0.N) (k : Fin 4096) (j : Fin 1024) (h : base t + j.val < 11408) :
    X0_1 m c t (ix2 k j) = m ((c : Thread nD τ).loc main_arg1) (ix2 k ⟨base t + j.val, h⟩) := by
  refine Eq.trans ?_ (weights m c (ix2 k ⟨base t + j.val, h⟩))
  unfold X0_1 Pipeline.Window.fill
  rw [dif_pos (moved0_1 t _)]
  unfold iblk base; blk_ext [idx t]

theorem cos_block (c : Dev nD) (t : Fin cfg0.N) (a : Fin 1024) (d : Fin 128) :
    iblk m c 2 t (ix2 a d) = if d.val < 64 then tab (m ((c : Thread nD τ).loc main_arg2)) (row t a) d.val else tab (m ((c : Thread nD τ).loc main_arg2)) (row t a) (d.val - 64) := by
  refine Eq.trans ?_ (cosTab m c (row t a) d)
  unfold iblk row; blk_ext [idx t]

theorem sin_block (c : Dev nD) (t : Fin cfg0.N) (a : Fin 1024) (d : Fin 128) :
    iblk m c 3 t (ix2 a d) = if d.val < 64 then -tab (m ((c : Thread nD τ).loc main_arg3)) (row t a) d.val else tab (m ((c : Thread nD τ).loc main_arg3)) (row t a) (d.val - 64) := by
  refine Eq.trans ?_ (sinTab m c (row t a) d)
  unfold iblk row; blk_ext [idx t]

/-! ## The heads of a block, and their cuts by rows -/

section Heads

variable (w0 : Vec Ideal S1024x4096 .bf16) (w1 : Vec Ideal S4096x1024 .bf16) (w2 w3 : Vec Ideal S1024x128 .f32) (r : Fin 1024) (d : Fin 128)

theorem head0 : k0_pay6 w0 w1 w2 w3 (ix2 r d) = head w0 w1 w2 w3 0 (by decide) r d := by
  pointwise [k0_pay6, k0_pay3, k0_pay4, k0_pay5, head]
theorem head1 : k0_pay15 (k0_pay3 w0 w1) (k0_pay4 w2) (k0_pay5 w3) (ix2 r d) = head w0 w1 w2 w3 128 (by decide) r d := by
  pointwise [k0_pay15, k0_pay3, k0_pay4, k0_pay5, head]
theorem head2 : k0_pay26 (k0_pay3 w0 w1) (k0_pay4 w2) (k0_pay5 w3) (ix2 r d) = head w0 w1 w2 w3 256 (by decide) r d := by
  pointwise [k0_pay26, k0_pay3, k0_pay4, k0_pay5, head]
theorem head3 : k0_pay36 (k0_pay3 w0 w1) (k0_pay4 w2) (k0_pay5 w3) (ix2 r d) = head w0 w1 w2 w3 384 (by decide) r d := by
  pointwise [k0_pay36, k0_pay3, k0_pay4, k0_pay5, head]
theorem head4 : k0_pay46 (k0_pay3 w0 w1) (k0_pay4 w2) (k0_pay5 w3) (ix2 r d) = head w0 w1 w2 w3 512 (by decide) r d := by
  pointwise [k0_pay46, k0_pay3, k0_pay4, k0_pay5, head]
theorem head5 : k0_pay57 (k0_pay3 w0 w1) (k0_pay4 w2) (k0_pay5 w3) (ix2 r d) = head w0 w1 w2 w3 640 (by decide) r d := by
  pointwise [k0_pay57, k0_pay3, k0_pay4, k0_pay5, head]
theorem head6 : k0_pay67 (k0_pay3 w0 w1) (k0_pay4 w2) (k0_pay5 w3) (ix2 r d) = head w0 w1 w2 w3 768 (by decide) r d := by
  pointwise [k0_pay67, k0_pay3, k0_pay4, k0_pay5, head]
theorem head7 : k0_pay77 (k0_pay3 w0 w1) (k0_pay4 w2) (k0_pay5 w3) (ix2 r d) = head w0 w1 w2 w3 896 (by decide) r d := by
  pointwise [k0_pay77, k0_pay3, k0_pay4, k0_pay5, head]

end Heads

section Cuts

variable (w0 : Vec Ideal S1024x4096 .bf16) (w1 : Vec Ideal S4096x1024 .bf16) (w2 w3 : Vec Ideal S1024x128 .f32)
  (u : FVec Ideal S1024x1024 .f32) (p q : FVec Ideal S1024x128 .f32) (s : FVec Ideal S1024x128 .bf16) (a d : Fin 128)

theorem cut7 : k0_pay7 w0 w1 w2 w3 (ix4 0 0 a d) = k0_pay6 w0 w1 w2 w3 (ix2 ⟨0 + a.val, by omega⟩ d) := by
  pointwise [k0_pay7]
theorem cut8 : k0_pay8 w0 w1 w2 w3 (ix4 0 0 a d) = k0_pay6 w0 w1 w2 w3 (ix2 ⟨128 + a.val, by omega⟩ d) := by
  pointwise [k0_pay8]
theorem cut9 : k0_pay9 w0 w1 w2 w3 (ix4 0 0 a d) = k0_pay6 w0 w1 w2 w3 (ix2 ⟨256 + a.val, by omega⟩ d) := by
  pointwise [k0_pay9]
theorem cut10 : k0_pay10 s (ix4 0 0 a d) = s (ix2 ⟨384 + a.val, by omega⟩ d) := by
  pointwise [k0_pay10]
theorem cut11 : k0_pay11 s (ix4 0 0 a d) = s (ix2 ⟨512 + a.val, by omega⟩ d) := by
  pointwise [k0_pay11]
theorem cut12 : k0_pay12 s (ix4 0 0 a d) = s (ix2 ⟨640 + a.val, by omega⟩ d) := by
  pointwise [k0_pay12]
theorem cut13 : k0_pay13 s (ix4 0 0 a d) = s (ix2 ⟨768 + a.val, by omega⟩ d) := by
  pointwise [k0_pay13]
theorem cut14 : k0_pay14 s (ix4 0 0 a d) = s (ix2 ⟨896 + a.val, by omega⟩ d) := by
  pointwise [k0_pay14]
theorem cut17 : k0_pay17 (k0_pay16 u p q) (ix4 0 0 a d) = k0_pay15 u p q (ix2 ⟨0 + a.val, by omega⟩ d) := by
  pointwise [k0_pay17, k0_pay16]
theorem cut18 : k0_pay18 s (ix4 0 0 a d) = s (ix2 ⟨128 + a.val, by omega⟩ d) := by
  pointwise [k0_pay18]
theorem cut19 : k0_pay19 s (ix4 0 0 a d) = s (ix2 ⟨256 + a.val, by omega⟩ d) := by
  pointwise [k0_pay19]
theorem cut20 : k0_pay20 s (ix4 0 0 a d) = s (ix2 ⟨384 + a.val, by omega⟩ d) := by
  pointwise [k0_pay20]
theorem cut21 : k0_pay21 s (ix4 0 0 a d) = s (ix2 ⟨512 + a.val, by omega⟩ d) := by
  pointwise [k0_pay21]
theorem cut22 : k0_pay22 s (ix4 0 0 a d) = s (ix2 ⟨640 + a.val, by omega⟩ d) := by
  pointwise [k0_pay22]
theorem cut23 : k0_pay23 s (ix4 0 0 a d) = s (ix2 ⟨768 + a.val, by omega⟩ d) := by
  pointwise [k0_pay23]
theorem cut25 : k0_pay25 (k0_pay24 s) (ix4 0 0 a d) = s (ix2 ⟨896 + a.val, by omega⟩ d) := by
  pointwise [k0_pay25, k0_pay24]
theorem cut27 : k0_pay27 u p q (ix4 0 0 a d) = k0_pay26 u p q (ix2 ⟨0 + a.val, by omega⟩ d) := by
  pointwise [k0_pay27]
theorem cut28 : k0_pay28 u p q (ix4 0 0 a d) = k0_pay26 u p q (ix2 ⟨128 + a.val, by omega⟩ d) := by
  pointwise [k0_pay28]
theorem cut29 : k0_pay29 u p q (ix4 0 0 a d) = k0_pay26 u p q (ix2 ⟨256 + a.val, by omega⟩ d) := by
  pointwise [k0_pay29]
theorem cut30 : k0_pay30 u p q (ix4 0 0 a d) = k0_pay26 u p q (ix2 ⟨384 + a.val, by omega⟩ d) := by
  pointwise [k0_pay30]
theorem cut31 : k0_pay31 u p q (ix4 0 0 a d) = k0_pay26 u p q (ix2 ⟨512 + a.val, by omega⟩ d) := by
  pointwise [k0_pay31]
theorem cut33 : k0_pay33 (k0_pay32 u p q) (ix4 0 0 a d) = k0_pay26 u p q (ix2 ⟨640 + a.val, by omega⟩ d) := by
  pointwise [k0_pay33, k0_pay32]
theorem cut34 : k0_pay34 s (ix4 0 0 a d) = s (ix2 ⟨768 + a.val, by omega⟩ d) := by
  pointwise [k0_pay34]
theorem cut35 : k0_pay35 s (ix4 0 0 a d) = s (ix2 ⟨896 + a.val, by omega⟩ d) := by
  pointwise [k0_pay35]
theorem cut37 : k0_pay37 u p q (ix4 0 0 a d) = k0_pay36 u p q (ix2 ⟨0 + a.val, by omega⟩ d) := by
  pointwise [k0_pay37]
theorem cut38 : k0_pay38 u p q (ix4 0 0 a d) = k0_pay36 u p q (ix2 ⟨128 + a.val, by omega⟩ d) := by
  pointwise [k0_pay38]
theorem cut39 : k0_pay39 u p q (ix4 0 0 a d) = k0_pay36 u p q (ix2 ⟨256 + a.val, by omega⟩ d) := by
  pointwise [k0_pay39]
theorem cut41 : k0_pay41 (k0_pay40 u p q) (ix4 0 0 a d) = k0_pay36 u p q (ix2 ⟨384 + a.val, by omega⟩ d) := by
  pointwise [k0_pay41, k0_pay40]
theorem cut42 : k0_pay42 s (ix4 0 0 a d) = s (ix2 ⟨512 + a.val, by omega⟩ d) := by
  pointwise [k0_pay42]
theorem cut43 : k0_pay43 s (ix4 0 0 a d) = s (ix2 ⟨640 + a.val, by omega⟩ d) := by
  pointwise [k0_pay43]
theorem cut44 : k0_pay44 s (ix4 0 0 a d) = s (ix2 ⟨768 + a.val, by omega⟩ d) := by
  pointwise [k0_pay44]
theorem cut45 : k0_pay45 s (ix4 0 0 a d) = s (ix2 ⟨896 + a.val, by omega⟩ d) := by
  pointwise [k0_pay45]
theorem cut47 : k0_pay47 u p q (ix4 0 0 a d) = k0_pay46 u p q (ix2 ⟨0 + a.val, by omega⟩ d) := by
  pointwise [k0_pay47]
theorem cut49 : k0_pay49 (k0_pay48 u p q) (ix4 0 0 a d) = k0_pay46 u p q (ix2 ⟨128 + a.val, by omega⟩ d) := by
  pointwise [k0_pay49, k0_pay48]
theorem cut50 : k0_pay50 s (ix4 0 0 a d) = s (ix2 ⟨256 + a.val, by omega⟩ d) := by
  pointwise [k0_pay50]
theorem cut51 : k0_pay51 s (ix4 0 0 a d) = s (ix2 ⟨384 + a.val, by omega⟩ d) := by
  pointwise [k0_pay51]
theorem cut52 : k0_pay52 s (ix4 0 0 a d) = s (ix2 ⟨512 + a.val, by omega⟩ d) := by
  pointwise [k0_pay52]
theorem cut53 : k0_pay53 s (ix4 0 0 a d) = s (ix2 ⟨640 + a.val, by omega⟩ d) := by
  pointwise [k0_pay53]
theorem cut54 : k0_pay54 s (ix4 0 0 a d) = s (ix2 ⟨768 + a.val, by omega⟩ d) := by
  pointwise [k0_pay54]
theorem cut56 : k0_pay56 (k0_pay55 s) (ix4 0 0 a d) = s (ix2 ⟨896 + a.val, by omega⟩ d) := by
  pointwise [k0_pay56, k0_pay55]
theorem cut58 : k0_pay58 u p q (ix4 0 0 a d) = k0_pay57 u p q (ix2 ⟨0 + a.val, by omega⟩ d) := by
  pointwise [k0_pay58]
theorem cut59 : k0_pay59 u p q (ix4 0 0 a d) = k0_pay57 u p q (ix2 ⟨128 + a.val, by omega⟩ d) := by
  pointwise [k0_pay59]
theorem cut60 : k0_pay60 u p q (ix4 0 0 a d) = k0_pay57 u p q (ix2 ⟨256 + a.val, by omega⟩ d) := by
  pointwise [k0_pay60]
theorem cut61 : k0_pay61 u p q (ix4 0 0 a d) = k0_pay57 u p q (ix2 ⟨384 + a.val, by omega⟩ d) := by
  pointwise [k0_pay61]
theorem cut62 : k0_pay62 u p q (ix4 0 0 a d) = k0_pay57 u p q (ix2 ⟨512 + a.val, by omega⟩ d) := by
  pointwise [k0_pay62]
theorem cut64 : k0_pay64 (k0_pay63 u p q) (ix4 0 0 a d) = k0_pay57 u p q (ix2 ⟨640 + a.val, by omega⟩ d) := by
  pointwise [k0_pay64, k0_pay63]
theorem cut65 : k0_pay65 s (ix4 0 0 a d) = s (ix2 ⟨768 + a.val, by omega⟩ d) := by
  pointwise [k0_pay65]
theorem cut66 : k0_pay66 s (ix4 0 0 a d) = s (ix2 ⟨896 + a.val, by omega⟩ d) := by
  pointwise [k0_pay66]
theorem cut68 : k0_pay68 u p q (ix4 0 0 a d) = k0_pay67 u p q (ix2 ⟨0 + a.val, by omega⟩ d) := by
  pointwise [k0_pay68]
theorem cut69 : k0_pay69 u p q (ix4 0 0 a d) = k0_pay67 u p q (ix2 ⟨128 + a.val, by omega⟩ d) := by
  pointwise [k0_pay69]
theorem cut70 : k0_pay70 u p q (ix4 0 0 a d) = k0_pay67 u p q (ix2 ⟨256 + a.val, by omega⟩ d) := by
  pointwise [k0_pay70]
theorem cut72 : k0_pay72 (k0_pay71 u p q) (ix4 0 0 a d) = k0_pay67 u p q (ix2 ⟨384 + a.val, by omega⟩ d) := by
  pointwise [k0_pay72, k0_pay71]
theorem cut73 : k0_pay73 s (ix4 0 0 a d) = s (ix2 ⟨512 + a.val, by omega⟩ d) := by
  pointwise [k0_pay73]
theorem cut74 : k0_pay74 s (ix4 0 0 a d) = s (ix2 ⟨640 + a.val, by omega⟩ d) := by
  pointwise [k0_pay74]
theorem cut75 : k0_pay75 s (ix4 0 0 a d) = s (ix2 ⟨768 + a.val, by omega⟩ d) := by
  pointwise [k0_pay75]
theorem cut76 : k0_pay76 s (ix4 0 0 a d) = s (ix2 ⟨896 + a.val, by omega⟩ d) := by
  pointwise [k0_pay76]
theorem cut78 : k0_pay78 u p q (ix4 0 0 a d) = k0_pay77 u p q (ix2 ⟨0 + a.val, by omega⟩ d) := by
  pointwise [k0_pay78]
theorem cut80 : k0_pay80 (k0_pay79 u p q) (ix4 0 0 a d) = k0_pay77 u p q (ix2 ⟨128 + a.val, by omega⟩ d) := by
  pointwise [k0_pay80, k0_pay79]
theorem cut81 : k0_pay81 s (ix4 0 0 a d) = s (ix2 ⟨256 + a.val, by omega⟩ d) := by
  pointwise [k0_pay81]
theorem cut82 : k0_pay82 s (ix4 0 0 a d) = s (ix2 ⟨384 + a.val, by omega⟩ d) := by
  pointwise [k0_pay82]
theorem cut83 : k0_pay83 s (ix4 0 0 a d) = s (ix2 ⟨512 + a.val, by omega⟩ d) := by
  pointwise [k0_pay83]
theorem cut84 : k0_pay84 s (ix4 0 0 a d) = s (ix2 ⟨640 + a.val, by omega⟩ d) := by
  pointwise [k0_pay84]
theorem cut85 : k0_pay85 s (ix4 0 0 a d) = s (ix2 ⟨768 + a.val, by omega⟩ d) := by
  pointwise [k0_pay85]
theorem cut1 : k0_pay1 s (ix4 0 0 a d) = s (ix2 ⟨896 + a.val, by omega⟩ d) := by
  pointwise [k0_pay1]

end Cuts

/-! ## The results -/

/-- Block `r` of the rows, head `h`, of the sixty-four a point writes. -/
def blkRow (t : Fin cfg0.N) (r : Fin 8) : Fin 128 :=
  ⟨t.val / 4 * 8 + r.val, by have := t.isLt; have h : cfg0.N = 64 := rfl; omega⟩
def blkHead (t : Fin cfg0.N) (h : Fin 8) : Fin 32 := ⟨t.val % 4 * 8 + h.val, by omega⟩

theorem at_res (c : Dev nD) (t : Fin cfg0.N) (y : S8x8x128x128.Idx) :
    res m c ((win0_5.blk t).view.emb y) = res m c (ix4 (blkRow t (y 0)) (blkHead t (y 1)) (y 2) (y 3)) := by
  refine congrArg (res m c) ?_
  unfold blkRow blkHead; blk_ext [idx t]

theorem piece (c : Dev nD) (t : Fin cfg0.N) (y : S8x8x128x128.Idx) (a d : Fin 128) (r h s o : ℕ) (hs : s = 128 * r) (ho : o = 128 * h)
    (hr : r < 8) (hh : h < 8) (h0 : (y 0).val = r) (h1 : (y 1).val = h) (h2 : (y 2).val = a.val) (h3 : (y 3).val = d.val) :
    head (iblk m c 0 t) (X0_1 m c t) (iblk m c 2 t) (iblk m c 3 t) o (by omega) ⟨s + a.val, by omega⟩ d
      = res m c (ix4 (blkRow t (y 0)) (blkHead t (y 1)) (y 2) (y 3)) := by
  refine (head_eq d (b := base t) (base_le t) (x_block m c t ⟨s + a.val, by omega⟩)
    (fun k j => w_block m c t k j (by have := base_le t; omega)) (cos_block m c t ⟨s + a.val, by omega⟩ d)
    (sin_block m c t ⟨s + a.val, by omega⟩ d)).trans ?_
  have ha : y 2 = a := Fin.ext h2
  have hd : y 3 = d := Fin.ext h3
  have hrow : row t ⟨s + a.val, by omega⟩ = rowOf (blkRow t (y 0)) a := by
    unfold row rowOf blkRow
    refine Fin.ext ?_
    show t.val / 4 * 1024 + (s + a.val) = (t.val / 4 * 8 + (y 0).val) * 128 + a.val
    rw [h0]; omega
  have hhead : (blkHead t (y 1)).val = t.val % 4 * 8 + h := by rw [← h1]; rfl
  rw [ha, hd, hrow]
  by_cases hn : (blkHead t (y 1)).val < 16
  · refine Eq.trans ?_ (ref_query _ _ _ _ _ _ _ _ hn).symm
    congr 1
    funext e
    congr 1
    unfold base
    omega
  · refine Eq.trans ?_ (ref_index _ _ _ _ _ _ _ _ hn).symm
    congr 1
    funext e
    congr 1
    unfold base
    omega

theorem tile (x : S1x1x128x128.Idx) : ∃ a d : Fin 128, x = ix4 0 0 a d := by
  have h0 : x 0 = (0 : Fin 1) := Subsingleton.elim (α := Fin 1) _ _
  have h1 : x 1 = (0 : Fin 1) := Subsingleton.elim (α := Fin 1) _ _
  exact ⟨x 2, x 3, (eq_ix4 x).trans (congrArg₂ (fun p q => ix4 p q (x 2) (x 3)) h0 h1)⟩

theorem final_res (c : Dev nD) : (dats m 0 c).arrAt 5 cfg0.N = res m c := by
  refine (dats m 0 c).arrAt_eq_of_covers 5 _ (by decide +kernel) fun t hf y => ?_
  blk_simp
  rw [after0_5]
  unfold outsAt0
  frame_out
  refine Eq.trans ?_ (at_res m c t y).symm
  canon_tiles x h
  all_goals obtain ⟨a, d, rfl⟩ := tile x
  case piece0 =>
    exact (cut1 _ a d).trans ((head7 _ _ _ _ _ d).trans (piece m c t y a d 7 7 896 896 rfl rfl (by decide) (by decide) h0 h1 h2 h3))
  case piece1 =>
    exact (cut85 _ a d).trans ((head7 _ _ _ _ _ d).trans (piece m c t y a d 6 7 768 896 rfl rfl (by decide) (by decide) h0 h1 h2 h3))
  case piece2 =>
    exact (cut84 _ a d).trans ((head7 _ _ _ _ _ d).trans (piece m c t y a d 5 7 640 896 rfl rfl (by decide) (by decide) h0 h1 h2 h3))
  case piece3 =>
    exact (cut83 _ a d).trans ((head7 _ _ _ _ _ d).trans (piece m c t y a d 4 7 512 896 rfl rfl (by decide) (by decide) h0 h1 h2 h3))
  case piece4 =>
    exact (cut82 _ a d).trans ((head7 _ _ _ _ _ d).trans (piece m c t y a d 3 7 384 896 rfl rfl (by decide) (by decide) h0 h1 h2 h3))
  case piece5 =>
    exact (cut81 _ a d).trans ((head7 _ _ _ _ _ d).trans (piece m c t y a d 2 7 256 896 rfl rfl (by decide) (by decide) h0 h1 h2 h3))
  case piece6 =>
    exact (cut80 _ _ _ a d).trans ((head7 _ _ _ _ _ d).trans (piece m c t y a d 1 7 128 896 rfl rfl (by decide) (by decide) h0 h1 h2 h3))
  case piece7 =>
    exact (cut78 _ _ _ a d).trans ((head7 _ _ _ _ _ d).trans (piece m c t y a d 0 7 0 896 rfl rfl (by decide) (by decide) h0 h1 h2 h3))
  case piece8 =>
    exact (cut76 _ a d).trans ((head6 _ _ _ _ _ d).trans (piece m c t y a d 7 6 896 768 rfl rfl (by decide) (by decide) h0 h1 h2 h3))
  case piece9 =>
    exact (cut75 _ a d).trans ((head6 _ _ _ _ _ d).trans (piece m c t y a d 6 6 768 768 rfl rfl (by decide) (by decide) h0 h1 h2 h3))
  case piece10 =>
    exact (cut74 _ a d).trans ((head6 _ _ _ _ _ d).trans (piece m c t y a d 5 6 640 768 rfl rfl (by decide) (by decide) h0 h1 h2 h3))
  case piece11 =>
    exact (cut73 _ a d).trans ((head6 _ _ _ _ _ d).trans (piece m c t y a d 4 6 512 768 rfl rfl (by decide) (by decide) h0 h1 h2 h3))
  case piece12 =>
    exact (cut72 _ _ _ a d).trans ((head6 _ _ _ _ _ d).trans (piece m c t y a d 3 6 384 768 rfl rfl (by decide) (by decide) h0 h1 h2 h3))
  case piece13 =>
    exact (cut70 _ _ _ a d).trans ((head6 _ _ _ _ _ d).trans (piece m c t y a d 2 6 256 768 rfl rfl (by decide) (by decide) h0 h1 h2 h3))
  case piece14 =>
    exact (cut69 _ _ _ a d).trans ((head6 _ _ _ _ _ d).trans (piece m c t y a d 1 6 128 768 rfl rfl (by decide) (by decide) h0 h1 h2 h3))
  case piece15 =>
    exact (cut68 _ _ _ a d).trans ((head6 _ _ _ _ _ d).trans (piece m c t y a d 0 6 0 768 rfl rfl (by decide) (by decide) h0 h1 h2 h3))
  case piece16 =>
    exact (cut66 _ a d).trans ((head5 _ _ _ _ _ d).trans (piece m c t y a d 7 5 896 640 rfl rfl (by decide) (by decide) h0 h1 h2 h3))
  case piece17 =>
    exact (cut65 _ a d).trans ((head5 _ _ _ _ _ d).trans (piece m c t y a d 6 5 768 640 rfl rfl (by decide) (by decide) h0 h1 h2 h3))
  case piece18 =>
    exact (cut64 _ _ _ a d).trans ((head5 _ _ _ _ _ d).trans (piece m c t y a d 5 5 640 640 rfl rfl (by decide) (by decide) h0 h1 h2 h3))
  case piece19 =>
    exact (cut62 _ _ _ a d).trans ((head5 _ _ _ _ _ d).trans (piece m c t y a d 4 5 512 640 rfl rfl (by decide) (by decide) h0 h1 h2 h3))
  case piece20 =>
    exact (cut61 _ _ _ a d).trans ((head5 _ _ _ _ _ d).trans (piece m c t y a d 3 5 384 640 rfl rfl (by decide) (by decide) h0 h1 h2 h3))
  case piece21 =>
    exact (cut60 _ _ _ a d).trans ((head5 _ _ _ _ _ d).trans (piece m c t y a d 2 5 256 640 rfl rfl (by decide) (by decide) h0 h1 h2 h3))
  case piece22 =>
    exact (cut59 _ _ _ a d).trans ((head5 _ _ _ _ _ d).trans (piece m c t y a d 1 5 128 640 rfl rfl (by decide) (by decide) h0 h1 h2 h3))
  case piece23 =>
    exact (cut58 _ _ _ a d).trans ((head5 _ _ _ _ _ d).trans (piece m c t y a d 0 5 0 640 rfl rfl (by decide) (by decide) h0 h1 h2 h3))
  case piece24 =>
    exact (cut56 _ a d).trans ((head4 _ _ _ _ _ d).trans (piece m c t y a d 7 4 896 512 rfl rfl (by decide) (by decide) h0 h1 h2 h3))
  case piece25 =>
    exact (cut54 _ a d).trans ((head4 _ _ _ _ _ d).trans (piece m c t y a d 6 4 768 512 rfl rfl (by decide) (by decide) h0 h1 h2 h3))
  case piece26 =>
    exact (cut53 _ a d).trans ((head4 _ _ _ _ _ d).trans (piece m c t y a d 5 4 640 512 rfl rfl (by decide) (by decide) h0 h1 h2 h3))
  case piece27 =>
    exact (cut52 _ a d).trans ((head4 _ _ _ _ _ d).trans (piece m c t y a d 4 4 512 512 rfl rfl (by decide) (by decide) h0 h1 h2 h3))
  case piece28 =>
    exact (cut51 _ a d).trans ((head4 _ _ _ _ _ d).trans (piece m c t y a d 3 4 384 512 rfl rfl (by decide) (by decide) h0 h1 h2 h3))
  case piece29 =>
    exact (cut50 _ a d).trans ((head4 _ _ _ _ _ d).trans (piece m c t y a d 2 4 256 512 rfl rfl (by decide) (by decide) h0 h1 h2 h3))
  case piece30 =>
    exact (cut49 _ _ _ a d).trans ((head4 _ _ _ _ _ d).trans (piece m c t y a d 1 4 128 512 rfl rfl (by decide) (by decide) h0 h1 h2 h3))
  case piece31 =>
    exact (cut47 _ _ _ a d).trans ((head4 _ _ _ _ _ d).trans (piece m c t y a d 0 4 0 512 rfl rfl (by decide) (by decide) h0 h1 h2 h3))
  case piece32 =>
    exact (cut45 _ a d).trans ((head3 _ _ _ _ _ d).trans (piece m c t y a d 7 3 896 384 rfl rfl (by decide) (by decide) h0 h1 h2 h3))
  case piece33 =>
    exact (cut44 _ a d).trans ((head3 _ _ _ _ _ d).trans (piece m c t y a d 6 3 768 384 rfl rfl (by decide) (by decide) h0 h1 h2 h3))
  case piece34 =>
    exact (cut43 _ a d).trans ((head3 _ _ _ _ _ d).trans (piece m c t y a d 5 3 640 384 rfl rfl (by decide) (by decide) h0 h1 h2 h3))
  case piece35 =>
    exact (cut42 _ a d).trans ((head3 _ _ _ _ _ d).trans (piece m c t y a d 4 3 512 384 rfl rfl (by decide) (by decide) h0 h1 h2 h3))
  case piece36 =>
    exact (cut41 _ _ _ a d).trans ((head3 _ _ _ _ _ d).trans (piece m c t y a d 3 3 384 384 rfl rfl (by decide) (by decide) h0 h1 h2 h3))
  case piece37 =>
    exact (cut39 _ _ _ a d).trans ((head3 _ _ _ _ _ d).trans (piece m c t y a d 2 3 256 384 rfl rfl (by decide) (by decide) h0 h1 h2 h3))
  case piece38 =>
    exact (cut38 _ _ _ a d).trans ((head3 _ _ _ _ _ d).trans (piece m c t y a d 1 3 128 384 rfl rfl (by decide) (by decide) h0 h1 h2 h3))
  case piece39 =>
    exact (cut37 _ _ _ a d).trans ((head3 _ _ _ _ _ d).trans (piece m c t y a d 0 3 0 384 rfl rfl (by decide) (by decide) h0 h1 h2 h3))
  case piece40 =>
    exact (cut35 _ a d).trans ((head2 _ _ _ _ _ d).trans (piece m c t y a d 7 2 896 256 rfl rfl (by decide) (by decide) h0 h1 h2 h3))
  case piece41 =>
    exact (cut34 _ a d).trans ((head2 _ _ _ _ _ d).trans (piece m c t y a d 6 2 768 256 rfl rfl (by decide) (by decide) h0 h1 h2 h3))
  case piece42 =>
    exact (cut33 _ _ _ a d).trans ((head2 _ _ _ _ _ d).trans (piece m c t y a d 5 2 640 256 rfl rfl (by decide) (by decide) h0 h1 h2 h3))
  case piece43 =>
    exact (cut31 _ _ _ a d).trans ((head2 _ _ _ _ _ d).trans (piece m c t y a d 4 2 512 256 rfl rfl (by decide) (by decide) h0 h1 h2 h3))
  case piece44 =>
    exact (cut30 _ _ _ a d).trans ((head2 _ _ _ _ _ d).trans (piece m c t y a d 3 2 384 256 rfl rfl (by decide) (by decide) h0 h1 h2 h3))
  case piece45 =>
    exact (cut29 _ _ _ a d).trans ((head2 _ _ _ _ _ d).trans (piece m c t y a d 2 2 256 256 rfl rfl (by decide) (by decide) h0 h1 h2 h3))
  case piece46 =>
    exact (cut28 _ _ _ a d).trans ((head2 _ _ _ _ _ d).trans (piece m c t y a d 1 2 128 256 rfl rfl (by decide) (by decide) h0 h1 h2 h3))
  case piece47 =>
    exact (cut27 _ _ _ a d).trans ((head2 _ _ _ _ _ d).trans (piece m c t y a d 0 2 0 256 rfl rfl (by decide) (by decide) h0 h1 h2 h3))
  case piece48 =>
    exact (cut25 _ a d).trans ((head1 _ _ _ _ _ d).trans (piece m c t y a d 7 1 896 128 rfl rfl (by decide) (by decide) h0 h1 h2 h3))
  case piece49 =>
    exact (cut23 _ a d).trans ((head1 _ _ _ _ _ d).trans (piece m c t y a d 6 1 768 128 rfl rfl (by decide) (by decide) h0 h1 h2 h3))
  case piece50 =>
    exact (cut22 _ a d).trans ((head1 _ _ _ _ _ d).trans (piece m c t y a d 5 1 640 128 rfl rfl (by decide) (by decide) h0 h1 h2 h3))
  case piece51 =>
    exact (cut21 _ a d).trans ((head1 _ _ _ _ _ d).trans (piece m c t y a d 4 1 512 128 rfl rfl (by decide) (by decide) h0 h1 h2 h3))
  case piece52 =>
    exact (cut20 _ a d).trans ((head1 _ _ _ _ _ d).trans (piece m c t y a d 3 1 384 128 rfl rfl (by decide) (by decide) h0 h1 h2 h3))
  case piece53 =>
    exact (cut19 _ a d).trans ((head1 _ _ _ _ _ d).trans (piece m c t y a d 2 1 256 128 rfl rfl (by decide) (by decide) h0 h1 h2 h3))
  case piece54 =>
    exact (cut18 _ a d).trans ((head1 _ _ _ _ _ d).trans (piece m c t y a d 1 1 128 128 rfl rfl (by decide) (by decide) h0 h1 h2 h3))
  case piece55 =>
    exact (cut17 _ _ _ a d).trans ((head1 _ _ _ _ _ d).trans (piece m c t y a d 0 1 0 128 rfl rfl (by decide) (by decide) h0 h1 h2 h3))
  case piece56 =>
    exact (cut14 _ a d).trans ((head0 _ _ _ _ _ d).trans (piece m c t y a d 7 0 896 0 rfl rfl (by decide) (by decide) h0 h1 h2 h3))
  case piece57 =>
    exact (cut13 _ a d).trans ((head0 _ _ _ _ _ d).trans (piece m c t y a d 6 0 768 0 rfl rfl (by decide) (by decide) h0 h1 h2 h3))
  case piece58 =>
    exact (cut12 _ a d).trans ((head0 _ _ _ _ _ d).trans (piece m c t y a d 5 0 640 0 rfl rfl (by decide) (by decide) h0 h1 h2 h3))
  case piece59 =>
    exact (cut11 _ a d).trans ((head0 _ _ _ _ _ d).trans (piece m c t y a d 4 0 512 0 rfl rfl (by decide) (by decide) h0 h1 h2 h3))
  case piece60 =>
    exact (cut10 _ a d).trans ((head0 _ _ _ _ _ d).trans (piece m c t y a d 3 0 384 0 rfl rfl (by decide) (by decide) h0 h1 h2 h3))
  case piece61 =>
    exact (cut9 _ _ _ _ a d).trans ((head0 _ _ _ _ _ d).trans (piece m c t y a d 2 0 256 0 rfl rfl (by decide) (by decide) h0 h1 h2 h3))
  case piece62 =>
    exact (cut8 _ _ _ _ a d).trans ((head0 _ _ _ _ _ d).trans (piece m c t y a d 1 0 128 0 rfl rfl (by decide) (by decide) h0 h1 h2 h3))
  case piece63 =>
    exact (cut7 _ _ _ _ a d).trans ((head0 _ _ _ _ _ d).trans (piece m c t y a d 0 0 0 0 rfl rfl (by decide) (by decide) h0 h1 h2 h3))

/-- The cast weights end as the reference casts them. -/
theorem final_side (c : Dev nD) : (dats m 0 c).arrAt 6 cfg0.N = sideRes m c := by
  refine (dats m 0 c).arrAt_eq_of_covers 6 _ (by decide +kernel) fun t hf y => ?_
  blk_simp
  rw [after0_6]
  unfold outsAt0
  frame_out
  pointwise [k0_pay2, val_main_v40]
  blk_point [iblk, V_main_arg4, idx t]

end Cert.HeadsValue

/-! ## The claims -/

namespace Cert.HeadsClaims

theorem frame_k : Cert.quiescent_Kernel9 := fun m ρ _ => Cert.Kernel9.Gen.frame m ρ
theorem frame_ki : Cert.quiescent_Kernel9Ideal := fun m ρ _ => Cert.Kernel9Ideal.Gen.frame m ρ
theorem frame_ri : Cert.quiescent_Reference9Ideal := fun m ρ _ =>
  (θ_run Cert.Reference9Ideal.defs _ _).mono (fun r h => ⟨fun c => (h c).2.2,
      Idealize.ShloMosaic.sem_eq_zero_of_no_sems (by decide) r.2⟩)
    (Cert.Reference9Ideal.Value.run (F := Ideal) m ρ)

theorem preserves : Cert.preserves_Kernel9_Kernel9Ideal := trivial

theorem algebraic : Cert.algebraic_Kernel9Ideal_Reference9Ideal := by
  intro m ρ m' ρ' _ hagree
  refine ⟨Cert.HeadsValue.res m, Cert.HeadsValue.sideRes m, ?_, ?_⟩
  · exact (θ_run Cert.Kernel9Ideal.defs _ _).mono
      (fun _ h c => ⟨(h c).1.trans (Cert.HeadsValue.final_res m c), (h c).2.1.trans (Cert.HeadsValue.final_side m c), (h c).2.2⟩)
      (Cert.Kernel9Ideal.Value.run_blocks (F := Ideal) m ρ)
  · refine (θ_run Cert.Reference9Ideal.defs _ _).mono (fun _ h c => ⟨(h c).1.trans ?_, (h c).2.1.trans ?_, (h c).2.2⟩)
      (Cert.Reference9Ideal.Value.run (F := Ideal) m' ρ')
    · refine (Cert.Reference9Ideal.Read.val_main_v39_eq _ _).trans ?_
      unfold Cert.HeadsValue.res
      rw [(hagree c).1, (hagree c).2.1, (hagree c).2.2.1, (hagree c).2.2.2.1]
    · refine (Cert.Reference9Ideal.Read.val_main_v40_eq _).trans ?_
      unfold Cert.HeadsValue.sideRes
      rw [(hagree c).2.2.2.2]

end Cert.HeadsClaims

end
-- ==== Proof.Norm.lean ====
/-
  The norm before the feed-forward layer (`Kernel10`): the result of the idealized kernel is the reference's.
-/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit.Point
public import Idealize.ShloMosaic.Lib.Quiescent

@[expose] public section

noncomputable section

open Idealize.ShloMosaic Idealize.ShloMosaic.TcCoe Idealize.SL.Sem
open Idealize.ShloMosaic.Pipeline (Dat)

namespace Cert.NormValue

open Cert.Kernel10Ideal Cert.Kernel10Ideal.Gen
open Cert.Reference10Ideal.Read

variable (m : (ℓ : Loc nD τ sig) → Buf (Elt Ideal) ℓ)

/-- The reference's result at the kernel's arguments. -/
abbrev res (c : Dev nD) : (⟨S16384x4096, .bf16⟩ : BufTy).Contents (Elt Ideal) :=
  val_main_v13 (F := Ideal) (m ((c : Thread nD τ).loc main_arg0)) (m ((c : Thread nD τ).loc main_arg1))

/-- Where the windows stand at a point. -/
theorem idx : ∀ t : Fin cfg0.N, win0_0.index t = ![t.val, 0] ∧ win0_1.index t = ![0, 0] ∧ win0_2.index t = ![t.val, 0] :=
  (by decide +kernel : ∀ t : Fin grid0.N,
    win0_0.index t = ![t.val, 0] ∧ win0_1.index t = ![0, 0] ∧ win0_2.index t = ![t.val, 0])

/-- A block's row in the array. -/
def row (t : Fin cfg0.N) (a : Fin 512) : Fin 16384 :=
  ⟨t.val * 512 + a.val, by have := t.isLt; have h : cfg0.N = 32 := rfl; omega⟩

theorem gain (c : Dev nD) (k : Fin 4096) : V m c main_v0 (ix2 0 k) = m ((c : Thread nD τ).loc main_arg1) (ix1 k) := by
  entry_read; pointwise

theorem x_block (c : Dev nD) (t : Fin cfg0.N) (a : Fin 512) (k : Fin 4096) :
    iblk m c 0 t (ix2 a k) = m ((c : Thread nD τ).loc main_arg0) (ix2 (row t a) k) := by
  unfold iblk row; blk_ext [V_main_arg0, idx t]

theorem g_block (c : Dev nD) (t : Fin cfg0.N) (k : Fin 4096) :
    iblk m c 1 t (ix2 0 k) = m ((c : Thread nD τ).loc main_arg1) (ix1 k) := by
  refine Eq.trans ?_ (gain m c k)
  unfold iblk; blk_ext [idx t]

/-- A row divided by its root mean square, times the gain. -/
def nrm (x : Fin 4096 → EReal) (g : EReal) (k : Fin 4096) : EReal :=
  x k * Ideal.rsqrt (Ideal.div (∑ i, x i * x i) (Ideal.ofBits FTy.f32 1166016512#32) + Ideal.ofBits FTy.f32 897988541#32) * g

theorem pay_apply (v0 : Vec Ideal S512x4096 .f32) (v11 : Vec Ideal S1x4096 .f32) (a : Fin 512) (k : Fin 4096) :
    k0_pay1 v0 v11 (ix2 a k) = nrm (fun i => v0 (ix2 a i)) (v11 (ix2 0 k)) k := by
  pointwise [k0_pay1, nrm]

theorem ref_apply (x0 : (⟨S16384x4096, .f32⟩ : BufTy).Contents (Elt Ideal)) (x1 : (⟨S4096, .f32⟩ : BufTy).Contents (Elt Ideal))
    (r : Fin 16384) (k : Fin 4096) :
    val_main_v13 (F := Ideal) x0 x1 (ix2 r k) = nrm (fun i => x0 (ix2 r i)) (x1 (ix1 k)) k := by
  pointwise [val_main_v0, val_main_v1, val_main_v2, val_main_v3, val_main_v4, val_main_v5, val_main_v6, val_main_v7,
    val_main_v8, val_main_v9, val_main_v10, val_main_v11, val_main_v12, val_main_v13, val_main_cst, val_main_cst_0, val_main_cst_1, nrm]

theorem final_res (c : Dev nD) : (dats m 0 c).arrAt 2 cfg0.N = res m c := by
  refine (dats m 0 c).arrAt_eq_of_covers 2 _ (by decide +kernel) fun t hf y => ?_
  blk_simp
  rw [after0_2]; frame_out
  obtain ⟨a, d, rfl⟩ : ∃ (a : Fin 512) (d : Fin 4096), y = ix2 a d := ⟨y 0, y 1, eq_ix2 y⟩
  have hr : (win0_2.blk t).view.emb (ix2 a d) = ix2 (row t a) d := by unfold row; blk_ext [idx t]
  refine (pay_apply _ _ a d).trans (Eq.trans ?_ (congrArg (res m c) hr).symm)
  refine Eq.trans ?_ (ref_apply _ _ (row t a) d).symm
  exact congrArg₂ (fun x g => nrm x g d) (funext fun i => x_block m c t a i) (g_block m c t d)

end Cert.NormValue

/-! ## The claims -/

namespace Cert.NormClaims

theorem frame_k : Cert.quiescent_Kernel10 := fun m ρ _ => Cert.Kernel10.Gen.frame m ρ
theorem frame_ki : Cert.quiescent_Kernel10Ideal := fun m ρ _ => Cert.Kernel10Ideal.Gen.frame m ρ
theorem frame_ri : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

theorem preserves : Cert.preserves_Kernel10_Kernel10Ideal := trivial

theorem algebraic : Cert.algebraic_Kernel10Ideal_Reference10Ideal := by
  intro m ρ m' ρ' _ hagree
  refine ⟨Cert.NormValue.res m, ?_, ?_⟩
  · exact (θ_run Cert.Kernel10Ideal.defs _ _).mono
      (fun _ h c => ⟨(h c).1.trans (Cert.NormValue.final_res m c), (h c).2⟩)
      (Cert.Kernel10Ideal.Value.run_blocks (F := Ideal) m ρ)
  · refine (θ_run Cert.Reference10Ideal.defs _ _).mono (fun _ h c => ⟨(h c).1.trans ?_, (h c).2⟩)
      (Cert.Reference10Ideal.Value.run (F := Ideal) m' ρ')
    · refine (Cert.Reference10Ideal.Read.val_main_v13_eq _ _).trans ?_
      unfold Cert.NormValue.res
      rw [(hagree c).1, (hagree c).2]

end Cert.NormClaims

end
-- ==== Proof.Tables.lean ====
/-
  The rotary tables (`Kernel11`): the cosines and the signed sines of the idealized kernel are the reference's.
-/
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import Idealize.ShloMosaic.Lib.Pipeline.ValueKit.Point
public import Idealize.ShloMosaic.Lib.Quiescent

@[expose] public section

noncomputable section

open Idealize.ShloMosaic Idealize.ShloMosaic.TcCoe Idealize.SL.Sem
open Idealize.ShloMosaic.Pipeline (Dat)

namespace Cert.TablesValue

open Cert.Kernel11Ideal Cert.Kernel11Ideal.Gen
open Cert.Reference11Ideal.Read

variable (m : (ℓ : Loc nD τ sig) → Buf (Elt Ideal) ℓ)

/-- The reference's two results at the kernel's argument. -/
abbrev cosRes (c : Dev nD) : (⟨S16384x128, .f32⟩ : BufTy).Contents (Elt Ideal) :=
  val_main_v18 (F := Ideal) (m ((c : Thread nD τ).loc main_arg0))
abbrev sinRes (c : Dev nD) : (⟨S16384x128, .f32⟩ : BufTy).Contents (Elt Ideal) :=
  val_main_v20 (F := Ideal) (m ((c : Thread nD τ).loc main_arg0))

/-- The run, its two results' arrays named and its argument as launched. -/
theorem run_blocks (ρ : Dev nD → PrngReg) : θ_run defs (onTc (τ := τ) (main (F := Ideal))) ⟨m, fun _ => 0, ρ⟩ fun r => ∀ c : Dev nD,
      r.2.mem ((c : Thread nD τ).loc main_v18_0) = (dats m 0 c).arrAt 3 cfg0.N
      ∧ r.2.mem ((c : Thread nD τ).loc main_v18_1) = (dats m 0 c).arrAt 4 cfg0.N
      ∧ r.2.mem ((c : Thread nD τ).loc main_arg0) = m ((c : Thread nD τ).loc main_arg0) :=
  (θ_run defs _ _).mono (fun r h c => ⟨(h c).1 3, (h c).1 4,
      ((h c).2 main_arg0 (Pipeline.mem_restRefs_of main_arg0 (by decide) (by decide))).trans (V_main_arg0 m c)⟩)
    (run_main m ρ)

/-- Where the windows stand at a point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0])

/-- A block's row in the array. -/
def row (t : Fin cfg0.N) (a : Fin 2048) : Fin 16384 :=
  ⟨t.val * 2048 + a.val, by have := t.isLt; have h : cfg0.N = 8 := rfl; omega⟩

/-- The frequency of a lane, and a row's position. -/
def freq (k : ℕ) : EReal :=
  Ideal.pow (Ideal.ofBits FTy.f32 1176256512#32)
    (Ideal.div (-(Ideal.ofBits FTy.f32 1073741824#32 * FloatOps.sitofp (F := Ideal) FTy.f32 (BitVec.ofNat 32 k))) (Ideal.ofBits FTy.f32 1124073472#32))
def pos (x0 : (⟨S2x8192, .i32⟩ : BufTy).Contents (Elt Ideal)) (r : Fin 16384) : EReal :=
  FloatOps.sitofp (F := Ideal) FTy.f32 (x0 (ix2 ⟨r.val / 8192, by omega⟩ ⟨r.val % 8192, by omega⟩))

/-- The lane's frequency, folded at the half. -/
def lane (j : Fin 128) : EReal := if j.val < 64 then freq j.val else freq (j.val - 64)

theorem freqs (c : Dev nD) (k : Fin 128) : V m c main_v11 (ix2 0 k) = lane k := by
  entry_read; pointwise [lane, freq]
  rfl

theorem signs (c : Dev nD) (k : Fin 128) : V m c main_v16 (ix2 0 k) = if k.val < 64 then (-1 : EReal) else 1 := by
  entry_read; pointwise
  rfl

theorem poss (c : Dev nD) (r : Fin 16384) : V m c main_v17 (ix2 r 0)
    = m ((c : Thread nD τ).loc main_arg0) (ix2 ⟨r.val / 8192, by omega⟩ ⟨r.val % 8192, by omega⟩) := by
  entry_read; pointwise

theorem cos_ref (x0 : (⟨S2x8192, .i32⟩ : BufTy).Contents (Elt Ideal)) (r : Fin 16384) (j : Fin 128) :
    val_main_v18 (F := Ideal) x0 (ix2 r j)
      = if j.val < 64 then Ideal.cos (pos x0 r * freq j.val) else Ideal.cos (pos x0 r * freq (j.val - 64)) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_cst, val_main_cst_0, val_main_cst_1, val_main_cst_2, pos, freq]
  rfl

theorem sin_ref (x0 : (⟨S2x8192, .i32⟩ : BufTy).Contents (Elt Ideal)) (r : Fin 16384) (j : Fin 128) :
    val_main_v20 (F := Ideal) x0 (ix2 r j)
      = if j.val < 64 then -Ideal.sin (pos x0 r * freq j.val) else Ideal.sin (pos x0 r * freq (j.val - 64)) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_cst, val_main_cst_0, val_main_cst_1, val_main_cst_2, pos, freq]
  rfl

theorem cos_pay (v0 : Vec Ideal S2048x1 .i32) (v3 : Vec Ideal S1x128 .f32) (a : Fin 2048) (j : Fin 128) :
    k0_pay2 (F := Ideal) v0 v3 (ix2 a j) = Ideal.cos (FloatOps.sitofp (F := Ideal) FTy.f32 (v0 (ix2 a 0)) * v3 (ix2 0 j)) := by
  pointwise [k0_pay1, k0_pay2]

theorem sin_pay (v0 : Vec Ideal S2048x1 .i32) (v3 v11 : Vec Ideal S1x128 .f32) (a : Fin 2048) (j : Fin 128) :
    k0_pay3 (F := Ideal) v0 v3 v11 (ix2 a j)
      = Ideal.sin (FloatOps.sitofp (F := Ideal) FTy.f32 (v0 (ix2 a 0)) * v3 (ix2 0 j)) * v11 (ix2 0 j) := by
  pointwise [k0_pay1, k0_pay3]

theorem pos_block (c : Dev nD) (t : Fin cfg0.N) (a : Fin 2048) :
    iblk m c 0 t (ix2 a 0) = m ((c : Thread nD τ).loc main_arg0) (ix2 ⟨(row t a).val / 8192, by omega⟩ ⟨(row t a).val % 8192, by omega⟩) := by
  refine Eq.trans ?_ (poss m c (row t a))
  unfold iblk row; blk_ext [idx t]

theorem freq_block (c : Dev nD) (t : Fin cfg0.N) (k : Fin 128) : iblk m c 1 t (ix2 0 k) = lane k := by
  refine Eq.trans ?_ (freqs m c k)
  unfold iblk; blk_ext [idx t]

theorem sign_block (c : Dev nD) (t : Fin cfg0.N) (k : Fin 128) : iblk m c 2 t (ix2 0 k) = if k.val < 64 then (-1 : EReal) else 1 := by
  refine Eq.trans ?_ (signs m c k)
  unfold iblk; blk_ext [idx t]

/-- The angle the body makes. -/
theorem angle (c : Dev nD) (t : Fin cfg0.N) (a : Fin 2048) (j : Fin 128) :
    FloatOps.sitofp (F := Ideal) FTy.f32 (iblk m c 0 t (ix2 a 0)) * iblk m c 1 t (ix2 0 j)
      = pos (m ((c : Thread nD τ).loc main_arg0)) (row t a) * lane j :=
  congrArg₂ (fun (p : BitVec 32) (q : EReal) => FloatOps.sitofp (F := Ideal) FTy.f32 p * q) (pos_block m c t a) (freq_block m c t j)

/-- The first result ends at the cosines. -/
theorem final_cos (c : Dev nD) : (dats m 0 c).arrAt 3 cfg0.N = cosRes m c := by
  refine (dats m 0 c).arrAt_eq_of_covers 3 _ (by decide +kernel) fun t hf y => ?_
  blk_simp
  rw [after0_3]; frame_out
  obtain ⟨a, j, rfl⟩ : ∃ (a : Fin 2048) (j : Fin 128), y = ix2 a j := ⟨y 0, y 1, eq_ix2 y⟩
  have hr : (win0_3.blk t).view.emb (ix2 a j) = ix2 (row t a) j := by unfold row; blk_ext [idx t]
  refine (cos_pay _ _ a j).trans (Eq.trans ?_ (congrArg (cosRes m c) hr).symm)
  refine Eq.trans ?_ (cos_ref _ (row t a) j).symm
  refine (congrArg Ideal.cos (angle m c t a j)).trans ?_
  unfold lane
  by_cases h : j.val < 64
  · rw [if_pos h, if_pos h]
  · rw [if_neg h, if_neg h]

/-- The second result ends at the signed sines. -/
theorem final_sin (c : Dev nD) : (dats m 0 c).arrAt 4 cfg0.N = sinRes m c := by
  refine (dats m 0 c).arrAt_eq_of_covers 4 _ (by decide +kernel) fun t hf y => ?_
  blk_simp
  rw [after0_4]; frame_out
  obtain ⟨a, j, rfl⟩ : ∃ (a : Fin 2048) (j : Fin 128), y = ix2 a j := ⟨y 0, y 1, eq_ix2 y⟩
  have hr : (win0_4.blk t).view.emb (ix2 a j) = ix2 (row t a) j := by unfold row; blk_ext [idx t]
  refine (sin_pay _ _ _ a j).trans (Eq.trans ?_ (congrArg (sinRes m c) hr).symm)
  refine Eq.trans ?_ (sin_ref _ (row t a) j).symm
  refine (congrArg₂ (fun p q : EReal => Ideal.sin p * q) (angle m c t a j) (sign_block m c t j)).trans ?_
  unfold lane
  by_cases h : j.val < 64
  · simp only [if_pos h, mul_neg, mul_one]
  · simp only [if_neg h, mul_one]

end Cert.TablesValue

/-! ## The claims -/

namespace Cert.TablesClaims

theorem frame_k : Cert.quiescent_Kernel11 := fun m ρ _ => Cert.Kernel11.Gen.frame m ρ
theorem frame_ki : Cert.quiescent_Kernel11Ideal := fun m ρ _ => Cert.Kernel11Ideal.Gen.frame m ρ
theorem frame_ri : Cert.quiescent_Reference11Ideal := fun m ρ _ =>
  (θ_run Cert.Reference11Ideal.defs _ _).mono (fun r h => ⟨fun c => (h c).2.2,
      Idealize.ShloMosaic.sem_eq_zero_of_no_sems (by decide) r.2⟩)
    (Cert.Reference11Ideal.Value.run (F := Ideal) m ρ)

theorem preserves : Cert.preserves_Kernel11_Kernel11Ideal := trivial

theorem algebraic : Cert.algebraic_Kernel11Ideal_Reference11Ideal := by
  intro m ρ m' ρ' _ hagree
  refine ⟨Cert.TablesValue.cosRes m, Cert.TablesValue.sinRes m, ?_, ?_⟩
  · exact (θ_run Cert.Kernel11Ideal.defs _ _).mono
      (fun _ h c => ⟨(h c).1.trans (Cert.TablesValue.final_cos m c), (h c).2.1.trans (Cert.TablesValue.final_sin m c), (h c).2.2⟩)
      (Cert.TablesValue.run_blocks m ρ)
  · refine (θ_run Cert.Reference11Ideal.defs _ _).mono (fun _ h c => ⟨(h c).1.trans ?_, (h c).2.1.trans ?_, (h c).2.2⟩)
      (Cert.Reference11Ideal.Value.run (F := Ideal) m' ρ')
    · refine (Cert.Reference11Ideal.Read.val_main_v18_eq _).trans ?_
      unfold Cert.TablesValue.cosRes
      rw [(hagree c)]
    · refine (Cert.Reference11Ideal.Read.val_main_v20_eq _).trans ?_
      unfold Cert.TablesValue.sinRes
      rw [(hagree c)]

end Cert.TablesClaims

end
-- ==== Proof.Prep.lean ====
/-
  The norm before the mixers with the low-rank paths (`Kernel12`): the five results of the idealized kernel are the reference's.
-/
module

public import proofs.«01_k».proof.Defs
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit.Tiles
public import Idealize.ShloMosaic.Lib.Pipeline.ValueKit.Point
public import Idealize.ShloMosaic.Lib.Quiescent

@[expose] public section

noncomputable section

open Idealize.ShloMosaic Idealize.ShloMosaic.TcCoe Idealize.SL.Sem
open Idealize.ShloMosaic.Pipeline (Dat)

namespace Cert.PrepValue

open Cert.Kernel12Ideal Cert.Kernel12Ideal.Gen
open Cert.Reference12Ideal.Read

variable (m : (ℓ : Loc nD τ sig) → Buf (Elt Ideal) ℓ)

/-- The reference's five results at the kernel's arguments. -/
abbrev normRes (c : Dev nD) : (⟨S16384x4096, .bf16⟩ : BufTy).Contents (Elt Ideal) :=
  val_main_v70 (F := Ideal) (m ((c : Thread nD τ).loc main_arg0)) (m ((c : Thread nD τ).loc main_arg1))
abbrev decayRes (c : Dev nD) : (⟨S16384x2048, .f32⟩ : BufTy).Contents (Elt Ideal) :=
  val_main_v38 (F := Ideal) (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6))
abbrev rateRes (c : Dev nD) : (⟨S16384x2048, .f32⟩ : BufTy).Contents (Elt Ideal) :=
  val_main_v55 (F := Ideal) (m ((c : Thread nD τ).loc main_arg0)) (m ((c : Thread nD τ).loc main_arg1)) (m ((c : Thread nD τ).loc main_arg2))
    (m ((c : Thread nD τ).loc main_arg7)) (m ((c : Thread nD τ).loc main_arg8)) (m ((c : Thread nD τ).loc main_arg9))
abbrev gateRes (c : Dev nD) : (⟨S16384x2048, .f32⟩ : BufTy).Contents (Elt Ideal) :=
  val_main_v69 (F := Ideal) (m ((c : Thread nD τ).loc main_arg0)) (m ((c : Thread nD τ).loc main_arg1)) (m ((c : Thread nD τ).loc main_arg2))
    (m ((c : Thread nD τ).loc main_arg10)) (m ((c : Thread nD τ).loc main_arg11))
abbrev weighRes (c : Dev nD) : (⟨S16384x128, .f32⟩ : BufTy).Contents (Elt Ideal) :=
  val_main_v74 (F := Ideal) (m ((c : Thread nD τ).loc main_arg0)) (m ((c : Thread nD τ).loc main_arg1)) (m ((c : Thread nD τ).loc main_arg3))

/-! ## Plain functions -/

/-- A row divided by its root mean square, times the gain. -/
def nrm (x : Fin 4096 → EReal) (g : EReal) (k : Fin 4096) : EReal :=
  x k * Ideal.rsqrt (Ideal.div (∑ i, x i * x i) (Ideal.ofBits FTy.f32 1166016512#32) + Ideal.ofBits FTy.f32 897988541#32) * g

/-- The logistic function as the reference writes it. -/
def sg (x : EReal) : EReal := Ideal.div 1 (1 + Ideal.exp (-x))

theorem sg_sub (x : EReal) : Ideal.div 1 (1 + Ideal.exp (0 - x)) = sg x := by
  unfold sg; rw [sub_eq_add_neg, zero_add]

/-- The exponential of minus a softplus is the logistic function. -/
theorem soft (x : EReal) : Ideal.exp (-Ideal.log (1 + Ideal.exp (-x))) = sg x := by
  show _ = Ideal.logistic x
  induction x with
  | bot =>
    rw [EReal.neg_bot, Ideal.exp_top, EReal.add_top_of_ne_bot (show (1 : EReal) ≠ ⊥ from EReal.coe_ne_bot 1), Ideal.log_top, EReal.neg_top,
      Ideal.exp_bot, Ideal.logistic_bot]
  | coe r =>
    have hp : (0 : ℝ) < 1 + Real.exp (-r) := by positivity
    have h : (1 : EReal) + Ideal.exp (-(r : EReal)) = ((1 + Real.exp (-r) : ℝ) : EReal) := by
      rw [← EReal.coe_neg, Ideal.exp_coe, ← EReal.coe_one, ← EReal.coe_add]
    rw [h, Ideal.log_coe, if_neg (not_le.mpr hp), ← EReal.coe_neg, Ideal.exp_coe, Ideal.logistic_coe, Real.exp_neg,
      Real.exp_log hp]
  | top =>
    rw [EReal.neg_top, Ideal.exp_bot, add_zero, ← EReal.coe_one, Ideal.log_coe, if_neg (by norm_num), Real.log_one,
      EReal.coe_zero, neg_zero, ← EReal.coe_zero, Ideal.exp_coe, Real.exp_zero, Ideal.logistic_top, EReal.coe_one]

theorem zero_cast : FloatOps.sitofp (F := Ideal) FTy.f32 0#32 = (0 : EReal) := by
  simp [FloatOps.sitofp]

/-- A sum of 128 whose last 32 terms are zero is the sum of the first 96. -/
theorem sum_pad (f : Fin 128 → EReal) (g : Fin 96 → EReal) (h : ∀ x (hx : x.val < 96), f x = g ⟨x.val, hx⟩)
    (h0 : ∀ x : Fin 128, ¬ x.val < 96 → f x = 0) : ∑ x, f x = ∑ x, g x := by
  have e : ∑ x, f x = ∑ i : Fin 96, f (Fin.castAdd 32 i) + ∑ i : Fin 32, f (Fin.natAdd 96 i) := Fin.sum_univ_add (a := 96) (b := 32) f
  rw [e, Finset.sum_eq_zero (s := Finset.univ) (f := fun i : Fin 32 => f (Fin.natAdd 96 i)) fun i _ => h0 _ (by simp), add_zero]
  exact Finset.sum_congr rfl fun i _ => h _ i.isLt

/-- A low-rank path through 128 columns of which 32 are padding. -/
theorem low (f : EReal → EReal) (p q : Fin 4096 → EReal) (hp : p = q) (W : Fin 4096 → Fin 128 → EReal) (W' : Fin 4096 → Fin 96 → EReal)
    (U : Fin 128 → EReal) (U' : Fin 96 → EReal) (hW : ∀ i x (hx : x.val < 96), W i x = W' i ⟨x.val, hx⟩)
    (hU : ∀ x (hx : x.val < 96), U x = U' ⟨x.val, hx⟩) (hU0 : ∀ x : Fin 128, ¬ x.val < 96 → U x = 0) :
    ∑ x, f (∑ i, p i * W i x) * U x = ∑ x, f (∑ i, q i * W' i x) * U' x := by
  subst hp
  refine sum_pad _ _ (fun x hx => ?_) (fun x hx => ?_)
  · rw [hU x hx]
    refine congrArg (fun z => f z * U' ⟨x.val, hx⟩) ?_
    exact Finset.sum_congr rfl fun i _ => by rw [hW i x hx]
  · rw [hU0 x hx, mul_zero]

/-- The gate's path. -/
theorem gate (p q : Fin 4096 → EReal) (hp : p = q) (W W' : Fin 4096 → Fin 256 → EReal) (U U' : Fin 256 → EReal) (hW : ∀ i x, W i x = W' i x)
    (hU : ∀ x, U x = U' x) :
    ∑ x, Ideal.div 1 (1 + Ideal.exp (0 - ∑ i, p i * W i x)) * U x = ∑ x, sg (∑ i, q i * W' i x) * U' x := by
  subst hp
  obtain rfl : W = W' := funext fun i => funext fun x => hW i x
  obtain rfl : U = U' := funext hU
  exact Finset.sum_congr rfl fun x _ => congrArg (· * U x) (sg_sub _)

/-! ## The reference, by entries -/

section Ref

variable (x0 : (⟨S16384x4096, .f32⟩ : BufTy).Contents (Elt Ideal)) (x1 : (⟨S4096, .f32⟩ : BufTy).Contents (Elt Ideal))
  (x2 : (⟨S3x4096, .f32⟩ : BufTy).Contents (Elt Ideal)) (x3 : (⟨S4096x11408, .f32⟩ : BufTy).Contents (Elt Ideal))
  (x4 : (⟨S2048, .f32⟩ : BufTy).Contents (Elt Ideal)) (x5 : (⟨S4096x96, .f32⟩ : BufTy).Contents (Elt Ideal))
  (x6 : (⟨S96x2048, .f32⟩ : BufTy).Contents (Elt Ideal)) (x10 : (⟨S4096x256, .f32⟩ : BufTy).Contents (Elt Ideal))
  (x11 : (⟨S256x2048, .f32⟩ : BufTy).Contents (Elt Ideal)) (r : Fin 16384) (k : Fin 4096) (j : Fin 2048) (u : Fin 128)

theorem ref_norm : val_main_v12 (F := Ideal) x0 x1 (ix2 r k) = nrm (fun i => x0 (ix2 r i)) (x1 (ix1 k)) k := by
  pointwise [val_main_v0, val_main_v1, val_main_v2, val_main_v3, val_main_v4, val_main_v5, val_main_v6, val_main_v7, val_main_v8, val_main_v9, val_main_v10, val_main_v11, val_main_v12, val_main_cst, val_main_cst_0, val_main_cst_1, val_main_cst_2, val_main_cst_3, val_main_cst_4, val_main_cst_5, val_main_cst_6, val_main_cst_7, val_main_cst_8, nrm]

theorem ref_bf : val_main_v70 (F := Ideal) x0 x1 (ix2 r k) = val_main_v12 (F := Ideal) x0 x1 (ix2 r k) := by
  pointwise [val_main_v70]

theorem ref_prev : val_main_v16 (F := Ideal) x0 x1 (ix2 r k)
    = if h : r.val / 8192 < 2 ∧ 1 ≤ r.val % 8192 ∧ r.val % 8192 - 1 < 8192 then
        val_main_v12 (F := Ideal) x0 x1 (ix2 ⟨r.val / 8192 * 8192 + (r.val % 8192 - 1), by omega⟩ k)
      else FloatOps.sitofp (F := Ideal) FTy.f32 0#32 := by
  pointwise [val_main_v13, val_main_v14, val_main_v15, val_main_v16, val_main_c, val_main_call0_v0]

theorem ref_diff : val_main_v17 (F := Ideal) x0 x1 (ix2 r k)
    = val_main_v16 (F := Ideal) x0 x1 (ix2 r k) - val_main_v12 (F := Ideal) x0 x1 (ix2 r k) := by
  pointwise [val_main_v17]

/-- The first row of a sequence has a row of zeros before it. -/
theorem diff_first (h : r.val % 8192 = 0) :
    val_main_v17 (F := Ideal) x0 x1 (ix2 r k) = 0 - val_main_v12 (F := Ideal) x0 x1 (ix2 r k) := by
  rw [ref_diff, ref_prev, dif_neg (by omega), zero_cast]

theorem diff_rest (h : r.val % 8192 ≠ 0) (r' : Fin 16384) (hr : r'.val + 1 = r.val) :
    val_main_v17 (F := Ideal) x0 x1 (ix2 r k)
      = val_main_v12 (F := Ideal) x0 x1 (ix2 r' k) - val_main_v12 (F := Ideal) x0 x1 (ix2 r k) := by
  rw [ref_diff, ref_prev, dif_pos (by omega)]
  have e : (⟨r.val / 8192 * 8192 + (r.val % 8192 - 1), by omega⟩ : Fin 16384) = r' :=
    Fin.ext (by show r.val / 8192 * 8192 + (r.val % 8192 - 1) = r'.val; omega)
  rw [e]

theorem ref_decay : val_main_v38 (F := Ideal) x0 x1 x2 x4 x5 x6 (ix2 r j)
    = Ideal.ofBits FTy.f32 0xBF1B4598#32 * sg (x4 (ix1 j) + ∑ x : Fin 96,
        Ideal.tanh (∑ i : Fin 4096, (val_main_v12 (F := Ideal) x0 x1 (ix2 r i) + val_main_v17 (F := Ideal) x0 x1 (ix2 r i) * x2 (ix2 0 i)) * x5 (ix2 i x)) * x6 (ix2 x j)) := by
  rw [← soft]
  pointwise [val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst, val_main_cst_0, val_main_cst_1, val_main_cst_2, val_main_cst_3, val_main_cst_4, val_main_cst_5, val_main_cst_6, val_main_cst_7, val_main_cst_8]

theorem ref_rate : val_main_v55 (F := Ideal) x0 x1 x2 x4 x5 x6 (ix2 r j)
    = sg (x4 (ix1 j) + ∑ x : Fin 96,
        (∑ i : Fin 4096, (val_main_v12 (F := Ideal) x0 x1 (ix2 r i) + val_main_v17 (F := Ideal) x0 x1 (ix2 r i) * x2 (ix2 1 i)) * x5 (ix2 i x)) * x6 (ix2 x j)) := by
  pointwise [val_main_v39, val_main_v40, val_main_v41, val_main_v42, val_main_v43, val_main_v44, val_main_v45, val_main_v46, val_main_v47, val_main_v48, val_main_v49, val_main_v50, val_main_v51, val_main_v52, val_main_v53, val_main_v54, val_main_v55, val_main_cst, val_main_cst_0, val_main_cst_1, val_main_cst_2, val_main_cst_3, val_main_cst_4, val_main_cst_5, val_main_cst_6, val_main_cst_7, val_main_cst_8, sg]

theorem ref_gate : val_main_v69 (F := Ideal) x0 x1 x2 x10 x11 (ix2 r j)
    = ∑ x : Fin 256,
        sg (∑ i : Fin 4096, (val_main_v12 (F := Ideal) x0 x1 (ix2 r i) + val_main_v17 (F := Ideal) x0 x1 (ix2 r i) * x2 (ix2 2 i)) * x10 (ix2 i x)) * x11 (ix2 x j) := by
  pointwise [val_main_v56, val_main_v57, val_main_v58, val_main_v59, val_main_v60, val_main_v61, val_main_v62, val_main_v63, val_main_v64, val_main_v65, val_main_v66, val_main_v67, val_main_v68, val_main_v69, val_main_cst, val_main_cst_0, val_main_cst_1, val_main_cst_2, val_main_cst_3, val_main_cst_4, val_main_cst_5, val_main_cst_6, val_main_cst_7, val_main_cst_8, sg]

theorem ref_weigh : val_main_v74 (F := Ideal) x0 x1 x3 (ix2 r u)
    = (∑ i : Fin 4096, val_main_v12 (F := Ideal) x0 x1 (ix2 r i) * x3 (ix2 i ⟨5248 + u.val, by omega⟩)) * Ideal.ofBits FTy.f32 1048576000#32 := by
  pointwise [val_main_v71, val_main_v72, val_main_v73, val_main_v74, val_main_cst, val_main_cst_0, val_main_cst_1, val_main_cst_2, val_main_cst_3, val_main_cst_4, val_main_cst_5, val_main_cst_6, val_main_cst_7, val_main_cst_8]

end Ref

/-! ## The body, by entries -/

section Pays

variable (v0 v59 : Vec Ideal S1x4096 .f32) (v2 : Vec Ideal S256x4096 .f32) (v15 : Vec Ideal S8x4096 .f32)
  (v14 v50 : FVec Ideal S256x4096 .f32) (v28 : FVec Ideal S1x4096 .f32) (v53 : Vec Ideal S4096x128 .bf16)
  (v115 : Vec Ideal S4096x256 .bf16) (v126 : Vec Ideal S256x2048 .bf16) (v69 : Vec Ideal S1x2048 .f32) (v71 : Vec Ideal S128x2048 .bf16)
  (v75 : FVec Ideal S256x2048 .f32) (v39 : BitVec 32) (a : Fin 256) (k : Fin 4096) (j : Fin 2048) (u : Fin 128)

theorem pay3 : k0_pay3 v0 v2 (ix2 a k) = nrm (fun i => v2 (ix2 a i)) (v0 (ix2 0 k)) k := by
  pointwise [k0_pay2, k0_pay3, nrm]

theorem pay4 : k0_pay4 v0 v15 (ix2 0 k) = nrm (fun i => v15 (ix2 7 i)) (v0 (ix2 0 k)) k := by
  pointwise [k0_pay2, k0_pay4, nrm]

theorem pay5 : k0_pay5 v14 v28 v39 (ix2 a k)
    = Scalar.select (IntOp.cmpi CmpIPredicate.eq (BitVec.ofNat 32 a.val) 0#32)
        (Scalar.select (Scalar.cmpi CmpIPredicate.eq v39 0#32) (0 : EReal) (v28 (ix2 0 k)))
        (v14 (ix2 ⟨(a.val + 256 - 1) % 256, Nat.mod_lt _ (by decide)⟩ k)) - v14 (ix2 a k) := by
  pointwise [k0_pay5]

theorem pay6 : k0_pay6 v14 (ix2 a k) = v14 (ix2 a k) := by
  pointwise [k0_pay6]

theorem pay7 : k0_pay7 v14 v53 (ix2 a u) = (∑ i : Fin 4096, v14 (ix2 a i) * v53 (ix2 i u)) * Ideal.ofBits FTy.f32 1048576000#32 := by
  pointwise [k0_pay6, k0_pay7]

theorem pay8 : k0_pay8 v14 v28 v39 v59 v53 v69 v71 (ix2 a j)
    = v69 (ix2 0 j) + ∑ x : Fin 128,
        Ideal.tanh (∑ i : Fin 4096, (v14 (ix2 a i) + k0_pay5 v14 v28 v39 (ix2 a i) * v59 (ix2 0 i)) * v53 (ix2 i x)) * v71 (ix2 x j) := by
  pointwise [k0_pay8]

theorem pay9 : k0_pay9 v75 (ix2 a j) = Ideal.ofBits FTy.f32 0xBF1B4598#32 * Ideal.div 1 (1 + Ideal.exp (0 - v75 (ix2 a j))) := by
  pointwise [k0_pay9]

theorem pay10 : k0_pay10 v14 v50 v59 v53 v69 v71 (ix2 a j)
    = Ideal.div 1 (1 + Ideal.exp (0 - (v69 (ix2 0 j) + ∑ x : Fin 128,
        (∑ i : Fin 4096, (v14 (ix2 a i) + v50 (ix2 a i) * v59 (ix2 0 i)) * v53 (ix2 i x)) * v71 (ix2 x j)))) := by
  pointwise [k0_pay10]

theorem pay1 : k0_pay1 v14 v50 v59 v115 v126 (ix2 a j)
    = ∑ x : Fin 256,
        Ideal.div 1 (1 + Ideal.exp (0 - ∑ i : Fin 4096, (v14 (ix2 a i) + v50 (ix2 a i) * v59 (ix2 0 i)) * v115 (ix2 i x))) * v126 (ix2 x j) := by
  pointwise [k0_pay1]

end Pays

/-! ## The blocks -/

/-- Where the windows stand at a point. -/
theorem idx : ∀ t : Fin cfg0.N, win0_0.index t = ![t.val, 0] ∧ win0_1.index t = ![32 * t.val - 1, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 41] ∧ win0_13.index t = ![t.val, 0] ∧ win0_14.index t = ![t.val, 0]
    ∧ win0_15.index t = ![t.val, 0] ∧ win0_16.index t = ![t.val, 0] ∧ win0_17.index t = ![t.val, 0] :=
  (by decide +kernel : ∀ t : Fin grid0.N, win0_0.index t = ![t.val, 0] ∧ win0_1.index t = ![32 * t.val - 1, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 41] ∧ win0_13.index t = ![t.val, 0] ∧ win0_14.index t = ![t.val, 0]
    ∧ win0_15.index t = ![t.val, 0] ∧ win0_16.index t = ![t.val, 0] ∧ win0_17.index t = ![t.val, 0])

/-- A block's row in the array. -/
def row (t : Fin cfg0.N) (a : Fin 256) : Fin 16384 :=
  ⟨t.val * 256 + a.val, by have := t.isLt; have h : cfg0.N = 64 := rfl; omega⟩

/-- The row before a block's first one; the first block has no such row and reads the seventh. -/
def before (t : Fin cfg0.N) (b : Fin 8) : Fin 16384 :=
  ⟨(32 * t.val - 1) * 8 + b.val, by have := t.isLt; have h : cfg0.N = 64 := rfl; omega⟩

/-- The block's first row modulo a sequence's length, as the body makes it. -/
def first (t : Fin cfg0.N) : BitVec 32 :=
  Scalar.select
    (Scalar.andi
      (Scalar.xori
        (Scalar.cmpi CmpIPredicate.slt
          (Scalar.remsi (Scalar.muli (BitVec.ofNat 32 (grid0.coords t 0).val) 256#32) 8192#32) 0#32)
        0#1)
      (Scalar.cmpi CmpIPredicate.ne
        (Scalar.remsi (Scalar.muli (BitVec.ofNat 32 (grid0.coords t 0).val) 256#32) 8192#32) 0#32))
    (Scalar.addi (Scalar.remsi (Scalar.muli (BitVec.ofNat 32 (grid0.coords t 0).val) 256#32) 8192#32) 8192#32)
    (Scalar.remsi (Scalar.muli (BitVec.ofNat 32 (grid0.coords t 0).val) 256#32) 8192#32)

theorem first_eq : ∀ t : Fin cfg0.N, Scalar.cmpi CmpIPredicate.eq (first t) 0#32 = if t.val % 32 = 0 then 1#1 else 0#1 :=
  (by decide +kernel : ∀ t : Fin grid0.N, Scalar.cmpi CmpIPredicate.eq (first t) 0#32 = if t.val % 32 = 0 then 1#1 else 0#1)

theorem row_eq : ∀ a : Fin 256, IntOp.cmpi CmpIPredicate.eq (BitVec.ofNat 32 a.val) 0#32 = if a.val = 0 then 1#1 else 0#1 := by
  decide +kernel

theorem x_block (c : Dev nD) (t : Fin cfg0.N) (a : Fin 256) (k : Fin 4096) :
    iblk m c 0 t (ix2 a k) = m ((c : Thread nD τ).loc main_arg0) (ix2 (row t a) k) := by
  unfold iblk row; blk_ext [V_main_arg0, idx t]

theorem p_block (c : Dev nD) (t : Fin cfg0.N) (b : Fin 8) (k : Fin 4096) :
    iblk m c 1 t (ix2 b k) = m ((c : Thread nD τ).loc main_arg0) (ix2 (before t b) k) := by
  unfold iblk before; blk_ext [V_main_arg0, idx t]

theorem mu_block (c : Dev nD) (t : Fin cfg0.N) (s : Fin 3) (k : Fin 4096) :
    iblk m c 3 t (ix2 s k) = m ((c : Thread nD τ).loc main_arg2) (ix2 s k) := by
  unfold iblk; blk_ext [V_main_arg2, idx t]

theorem ld0 (X : Vec Ideal S3x4096 .f32) (k : Fin 4096) :
    View.ld X (Rect.unit ![0, 0] ![1, 4096] inb_S3x4096_S1x4096_0_0) (ix2 0 k) = X (ix2 0 k) :=
  View.ld_unit_apply_of X _ _ _ _ (ix2 0 k) fun a => match a with
    | ⟨0, _⟩ => rfl
    | ⟨1, _⟩ => (Nat.zero_add _).symm

theorem mu0 (c : Dev nD) (t : Fin cfg0.N) (k : Fin 4096) :
    View.ld (iblk m c 3 t) (Rect.unit ![0, 0] ![1, 4096] inb_S3x4096_S1x4096_0_0) (ix2 0 k) = m ((c : Thread nD τ).loc main_arg2) (ix2 0 k) :=
  (ld0 (iblk m c 3 t) k).trans (mu_block m c t 0 k)

theorem ld1 (X : Vec Ideal S3x4096 .f32) (k : Fin 4096) :
    View.ld X (Rect.unit ![1, 0] ![1, 4096] inb_S3x4096_S1x4096_1_0) (ix2 0 k) = X (ix2 1 k) :=
  View.ld_unit_apply_of X _ _ _ _ (ix2 1 k) fun a => match a with
    | ⟨0, _⟩ => rfl
    | ⟨1, _⟩ => (Nat.zero_add _).symm

theorem mu1 (c : Dev nD) (t : Fin cfg0.N) (k : Fin 4096) :
    View.ld (iblk m c 3 t) (Rect.unit ![1, 0] ![1, 4096] inb_S3x4096_S1x4096_1_0) (ix2 0 k) = m ((c : Thread nD τ).loc main_arg2) (ix2 1 k) :=
  (ld1 (iblk m c 3 t) k).trans (mu_block m c t 1 k)

theorem ld2 (X : Vec Ideal S3x4096 .f32) (k : Fin 4096) :
    View.ld X (Rect.unit ![2, 0] ![1, 4096] inb_S3x4096_S1x4096_2_0) (ix2 0 k) = X (ix2 2 k) :=
  View.ld_unit_apply_of X _ _ _ _ (ix2 2 k) fun a => match a with
    | ⟨0, _⟩ => rfl
    | ⟨1, _⟩ => (Nat.zero_add _).symm

theorem mu2 (c : Dev nD) (t : Fin cfg0.N) (k : Fin 4096) :
    View.ld (iblk m c 3 t) (Rect.unit ![2, 0] ![1, 4096] inb_S3x4096_S1x4096_2_0) (ix2 0 k) = m ((c : Thread nD τ).loc main_arg2) (ix2 2 k) :=
  (ld2 (iblk m c 3 t) k).trans (mu_block m c t 2 k)

theorem bias1 (c : Dev nD) (l : Fin 4096) : V m c main_v0 (ix2 0 l) = m ((c : Thread nD τ).loc main_arg1) (ix1 l) := by
  simp only [V, hostOps0, hostOps0_1, hostOps0_2, hostOps0_3, hostOps0_4, hostOps0_5, hostOps0_6, hostOps0_7, hostOps0_8,
    List.flatten_cons, List.flatten_nil, List.append_nil, List.cons_append, List.nil_append, StableHlo.TRef.binary,
    StableHlo.TRef.unary, StableHlo.TRef.toBuf, StableHlo.TRef.ofBuf, cast_eq]
  after_results_simp
  pointwise

theorem biasBlock1 (c : Dev nD) (t : Fin cfg0.N) (l : Fin 4096) : iblk m c 2 t (ix2 0 l) = m ((c : Thread nD τ).loc main_arg1) (ix1 l) := by
  refine Eq.trans ?_ (bias1 m c l)
  unfold iblk; blk_ext [idx t]

theorem bias4 (c : Dev nD) (l : Fin 2048) : V m c main_v5 (ix2 0 l) = m ((c : Thread nD τ).loc main_arg4) (ix1 l) := by
  simp only [V, hostOps0, hostOps0_1, hostOps0_2, hostOps0_3, hostOps0_4, hostOps0_5, hostOps0_6, hostOps0_7, hostOps0_8,
    List.flatten_cons, List.flatten_nil, List.append_nil, List.cons_append, List.nil_append, StableHlo.TRef.binary,
    StableHlo.TRef.unary, StableHlo.TRef.toBuf, StableHlo.TRef.ofBuf, cast_eq]
  after_results_simp
  pointwise

theorem biasBlock4 (c : Dev nD) (t : Fin cfg0.N) (l : Fin 2048) : iblk m c 6 t (ix2 0 l) = m ((c : Thread nD τ).loc main_arg4) (ix1 l) := by
  refine Eq.trans ?_ (bias4 m c l)
  unfold iblk; blk_ext [idx t]

theorem bias7 (c : Dev nD) (l : Fin 2048) : V m c main_v10 (ix2 0 l) = m ((c : Thread nD τ).loc main_arg7) (ix1 l) := by
  simp only [V, hostOps0, hostOps0_1, hostOps0_2, hostOps0_3, hostOps0_4, hostOps0_5, hostOps0_6, hostOps0_7, hostOps0_8,
    List.flatten_cons, List.flatten_nil, List.append_nil, List.cons_append, List.nil_append, StableHlo.TRef.binary,
    StableHlo.TRef.unary, StableHlo.TRef.toBuf, StableHlo.TRef.ofBuf, cast_eq]
  after_results_simp
  pointwise

theorem biasBlock7 (c : Dev nD) (t : Fin cfg0.N) (l : Fin 2048) : iblk m c 9 t (ix2 0 l) = m ((c : Thread nD τ).loc main_arg7) (ix1 l) := by
  refine Eq.trans ?_ (bias7 m c l)
  unfold iblk; blk_ext [idx t]

theorem col5 (c : Dev nD) (k : Fin 4096) (l : Fin 128) : V m c main_v2 (ix2 k l)
    = if h : l.val < 96 then m ((c : Thread nD τ).loc main_arg5) (ix2 k ⟨l.val, h⟩) else FloatOps.sitofp (F := Ideal) FTy.f32 0#32 := by
  simp only [V, hostOps0, hostOps0_1, hostOps0_2, hostOps0_3, hostOps0_4, hostOps0_5, hostOps0_6, hostOps0_7, hostOps0_8,
    List.flatten_cons, List.flatten_nil, List.append_nil, List.cons_append, List.nil_append, StableHlo.TRef.binary,
    StableHlo.TRef.unary, StableHlo.TRef.toBuf, StableHlo.TRef.ofBuf, cast_eq]
  after_results_simp
  pointwise

theorem colBlock5 (c : Dev nD) (t : Fin cfg0.N) (k : Fin 4096) (l : Fin 128) (h : l.val < 96) :
    iblk m c 4 t (ix2 k l) = m ((c : Thread nD τ).loc main_arg5) (ix2 k ⟨l.val, h⟩) := by
  refine Eq.trans ?_ ((col5 m c k l).trans (dif_pos h))
  unfold iblk; blk_ext [idx t]

theorem row6 (c : Dev nD) (k : Fin 128) (l : Fin 2048) : V m c main_v4 (ix2 k l)
    = if h : k.val < 96 then m ((c : Thread nD τ).loc main_arg6) (ix2 ⟨k.val, h⟩ l) else FloatOps.sitofp (F := Ideal) FTy.f32 0#32 := by
  simp only [V, hostOps0, hostOps0_1, hostOps0_2, hostOps0_3, hostOps0_4, hostOps0_5, hostOps0_6, hostOps0_7, hostOps0_8,
    List.flatten_cons, List.flatten_nil, List.append_nil, List.cons_append, List.nil_append, StableHlo.TRef.binary,
    StableHlo.TRef.unary, StableHlo.TRef.toBuf, StableHlo.TRef.ofBuf, cast_eq]
  after_results_simp
  pointwise

theorem rowBlock6 (c : Dev nD) (t : Fin cfg0.N) (k : Fin 128) (l : Fin 2048) (h : k.val < 96) :
    iblk m c 5 t (ix2 k l) = m ((c : Thread nD τ).loc main_arg6) (ix2 ⟨k.val, h⟩ l) := by
  refine Eq.trans ?_ ((row6 m c k l).trans (dif_pos h))
  unfold iblk; blk_ext [idx t]

theorem rowZero6 (c : Dev nD) (t : Fin cfg0.N) (k : Fin 128) (l : Fin 2048) (h : ¬ k.val < 96) :
    iblk m c 5 t (ix2 k l) = (0 : EReal) := by
  refine Eq.trans ?_ (((row6 m c k l).trans (dif_neg h)).trans zero_cast)
  unfold iblk; blk_ext [idx t]

theorem col8 (c : Dev nD) (k : Fin 4096) (l : Fin 128) : V m c main_v7 (ix2 k l)
    = if h : l.val < 96 then m ((c : Thread nD τ).loc main_arg8) (ix2 k ⟨l.val, h⟩) else FloatOps.sitofp (F := Ideal) FTy.f32 0#32 := by
  simp only [V, hostOps0, hostOps0_1, hostOps0_2, hostOps0_3, hostOps0_4, hostOps0_5, hostOps0_6, hostOps0_7, hostOps0_8,
    List.flatten_cons, List.flatten_nil, List.append_nil, List.cons_append, List.nil_append, StableHlo.TRef.binary,
    StableHlo.TRef.unary, StableHlo.TRef.toBuf, StableHlo.TRef.ofBuf, cast_eq]
  after_results_simp
  pointwise

theorem colBlock8 (c : Dev nD) (t : Fin cfg0.N) (k : Fin 4096) (l : Fin 128) (h : l.val < 96) :
    iblk m c 7 t (ix2 k l) = m ((c : Thread nD τ).loc main_arg8) (ix2 k ⟨l.val, h⟩) := by
  refine Eq.trans ?_ ((col8 m c k l).trans (dif_pos h))
  unfold iblk; blk_ext [idx t]

theorem row9 (c : Dev nD) (k : Fin 128) (l : Fin 2048) : V m c main_v9 (ix2 k l)
    = if h : k.val < 96 then m ((c : Thread nD τ).loc main_arg9) (ix2 ⟨k.val, h⟩ l) else FloatOps.sitofp (F := Ideal) FTy.f32 0#32 := by
  simp only [V, hostOps0, hostOps0_1, hostOps0_2, hostOps0_3, hostOps0_4, hostOps0_5, hostOps0_6, hostOps0_7, hostOps0_8,
    List.flatten_cons, List.flatten_nil, List.append_nil, List.cons_append, List.nil_append, StableHlo.TRef.binary,
    StableHlo.TRef.unary, StableHlo.TRef.toBuf, StableHlo.TRef.ofBuf, cast_eq]
  after_results_simp
  pointwise

theorem rowBlock9 (c : Dev nD) (t : Fin cfg0.N) (k : Fin 128) (l : Fin 2048) (h : k.val < 96) :
    iblk m c 8 t (ix2 k l) = m ((c : Thread nD τ).loc main_arg9) (ix2 ⟨k.val, h⟩ l) := by
  refine Eq.trans ?_ ((row9 m c k l).trans (dif_pos h))
  unfold iblk; blk_ext [idx t]

theorem rowZero9 (c : Dev nD) (t : Fin cfg0.N) (k : Fin 128) (l : Fin 2048) (h : ¬ k.val < 96) :
    iblk m c 8 t (ix2 k l) = (0 : EReal) := by
  refine Eq.trans ?_ (((row9 m c k l).trans (dif_neg h)).trans zero_cast)
  unfold iblk; blk_ext [idx t]

theorem whole10 (c : Dev nD) (i : Fin 4096) (l : Fin 256) : V m c main_v11 (ix2 i l) = m ((c : Thread nD τ).loc main_arg10) (ix2 i l) := by
  simp only [V, hostOps0, hostOps0_1, hostOps0_2, hostOps0_3, hostOps0_4, hostOps0_5, hostOps0_6, hostOps0_7, hostOps0_8,
    List.flatten_cons, List.flatten_nil, List.append_nil, List.cons_append, List.nil_append, StableHlo.TRef.binary,
    StableHlo.TRef.unary, StableHlo.TRef.toBuf, StableHlo.TRef.ofBuf, cast_eq]
  after_results_simp
  pointwise

theorem wholeBlock10 (c : Dev nD) (t : Fin cfg0.N) (i : Fin 4096) (l : Fin 256) : iblk m c 10 t (ix2 i l) = m ((c : Thread nD τ).loc main_arg10) (ix2 i l) := by
  refine Eq.trans ?_ (whole10 m c i l)
  unfold iblk; blk_ext [idx t]

theorem whole11 (c : Dev nD) (i : Fin 256) (l : Fin 2048) : V m c main_v12 (ix2 i l) = m ((c : Thread nD τ).loc main_arg11) (ix2 i l) := by
  simp only [V, hostOps0, hostOps0_1, hostOps0_2, hostOps0_3, hostOps0_4, hostOps0_5, hostOps0_6, hostOps0_7, hostOps0_8,
    List.flatten_cons, List.flatten_nil, List.append_nil, List.cons_append, List.nil_append, StableHlo.TRef.binary,
    StableHlo.TRef.unary, StableHlo.TRef.toBuf, StableHlo.TRef.ofBuf, cast_eq]
  after_results_simp
  pointwise

theorem wholeBlock11 (c : Dev nD) (t : Fin cfg0.N) (i : Fin 256) (l : Fin 2048) : iblk m c 11 t (ix2 i l) = m ((c : Thread nD τ).loc main_arg11) (ix2 i l) := by
  refine Eq.trans ?_ (whole11 m c i l)
  unfold iblk; blk_ext [idx t]

theorem whole3 (c : Dev nD) (i : Fin 4096) (l : Fin 11408) : V m c main_v13 (ix2 i l) = m ((c : Thread nD τ).loc main_arg3) (ix2 i l) := by
  simp only [V, hostOps0, hostOps0_1, hostOps0_2, hostOps0_3, hostOps0_4, hostOps0_5, hostOps0_6, hostOps0_7, hostOps0_8,
    List.flatten_cons, List.flatten_nil, List.append_nil, List.cons_append, List.nil_append, StableHlo.TRef.binary,
    StableHlo.TRef.unary, StableHlo.TRef.toBuf, StableHlo.TRef.ofBuf, cast_eq]
  after_results_simp
  pointwise

theorem wholeBlock3 (c : Dev nD) (t : Fin cfg0.N) (i : Fin 4096) (l : Fin 128) :
    X0_12 m c t (ix2 i l) = m ((c : Thread nD τ).loc main_arg3) (ix2 i ⟨5248 + l.val, by omega⟩) := by
  refine Eq.trans ?_ (whole3 m c i ⟨5248 + l.val, by omega⟩)
  unfold X0_12 Pipeline.Window.fill
  rw [dif_pos (moved0_12 t _)]
  unfold iblk; blk_ext [idx t]

/-- The block's normed rows. -/
theorem norm_block (c : Dev nD) (t : Fin cfg0.N) (a : Fin 256) (k : Fin 4096) :
    k0_pay3 (iblk m c 2 t) (iblk m c 0 t) (ix2 a k) = val_main_v12 (F := Ideal) (m ((c : Thread nD τ).loc main_arg0)) (m ((c : Thread nD τ).loc main_arg1)) (ix2 (row t a) k) := by
  refine (pay3 _ _ a k).trans (Eq.trans ?_ (ref_norm _ _ (row t a) k).symm)
  exact congrArg₂ (fun x g => nrm x g k) (funext fun i => x_block m c t a i) (biasBlock1 m c t k)

/-- The normed row before the block. -/
theorem prev_block (c : Dev nD) (t : Fin cfg0.N) (k : Fin 4096) :
    k0_pay4 (iblk m c 2 t) (iblk m c 1 t) (ix2 0 k) = val_main_v12 (F := Ideal) (m ((c : Thread nD τ).loc main_arg0)) (m ((c : Thread nD τ).loc main_arg1)) (ix2 (before t 7) k) := by
  refine (pay4 _ _ k).trans (Eq.trans ?_ (ref_norm _ _ (before t 7) k).symm)
  exact congrArg₂ (fun x g => nrm x g k) (funext fun i => p_block m c t 7 i) (biasBlock1 m c t k)

/-- The block's rows less the rows before them. -/
theorem diff_block (c : Dev nD) (t : Fin cfg0.N) (a : Fin 256) (k : Fin 4096) :
    k0_pay5 (k0_pay3 (iblk m c 2 t) (iblk m c 0 t)) (k0_pay4 (iblk m c 2 t) (iblk m c 1 t)) (first t) (ix2 a k)
      = val_main_v17 (F := Ideal) (m ((c : Thread nD τ).loc main_arg0)) (m ((c : Thread nD τ).loc main_arg1)) (ix2 (row t a) k) := by
  refine (pay5 _ _ _ a k).trans ?_
  rw [row_eq, first_eq]
  have ht : t.val < 64 := t.isLt
  have hrow : (row t a).val = t.val * 256 + a.val := rfl
  by_cases ha : a.val = 0
  · rw [if_pos ha]
    by_cases hs : t.val % 32 = 0
    · rw [if_pos hs, diff_first _ _ _ _ (by omega)]
      exact congrArg ((0 : EReal) - ·) (norm_block m c t a k)
    · rw [if_neg hs, diff_rest _ _ _ _ (by omega) (before t 7) (by show (32 * t.val - 1) * 8 + 7 + 1 = _; omega)]
      exact congrArg₂ (fun p q : EReal => p - q) (prev_block m c t k) (norm_block m c t a k)
  · rw [if_neg ha]
    have h' := a.isLt
    rw [diff_rest _ _ _ _ (by omega) (row t ⟨(a.val + 256 - 1) % 256, Nat.mod_lt _ (by decide)⟩)
      (by show t.val * 256 + (a.val + 256 - 1) % 256 + 1 = _; omega)]
    exact congrArg₂ (fun p q : EReal => p - q) (norm_block m c t _ k) (norm_block m c t a k)

theorem mix0 (c : Dev nD) (t : Fin cfg0.N) (a : Fin 256) :
    (fun i : Fin 4096 => k0_pay3 (iblk m c 2 t) (iblk m c 0 t) (ix2 a i)
        + k0_pay5 (k0_pay3 (iblk m c 2 t) (iblk m c 0 t)) (k0_pay4 (iblk m c 2 t) (iblk m c 1 t)) (first t) (ix2 a i) * View.ld (iblk m c 3 t) (Rect.unit ![0, 0] ![1, 4096] inb_S3x4096_S1x4096_0_0) (ix2 0 i))
      = fun i => val_main_v12 (F := Ideal) (m ((c : Thread nD τ).loc main_arg0)) (m ((c : Thread nD τ).loc main_arg1)) (ix2 (row t a) i)
        + val_main_v17 (F := Ideal) (m ((c : Thread nD τ).loc main_arg0)) (m ((c : Thread nD τ).loc main_arg1)) (ix2 (row t a) i) * m ((c : Thread nD τ).loc main_arg2) (ix2 0 i) :=
  funext fun i => congrArg₂ (fun p q : EReal => p + q) (norm_block m c t a i)
    (congrArg₂ (fun p q : EReal => p * q) (diff_block m c t a i) (mu0 m c t i))

theorem mix1 (c : Dev nD) (t : Fin cfg0.N) (a : Fin 256) :
    (fun i : Fin 4096 => k0_pay3 (iblk m c 2 t) (iblk m c 0 t) (ix2 a i)
        + k0_pay5 (k0_pay3 (iblk m c 2 t) (iblk m c 0 t)) (k0_pay4 (iblk m c 2 t) (iblk m c 1 t)) (first t) (ix2 a i) * View.ld (iblk m c 3 t) (Rect.unit ![1, 0] ![1, 4096] inb_S3x4096_S1x4096_1_0) (ix2 0 i))
      = fun i => val_main_v12 (F := Ideal) (m ((c : Thread nD τ).loc main_arg0)) (m ((c : Thread nD τ).loc main_arg1)) (ix2 (row t a) i)
        + val_main_v17 (F := Ideal) (m ((c : Thread nD τ).loc main_arg0)) (m ((c : Thread nD τ).loc main_arg1)) (ix2 (row t a) i) * m ((c : Thread nD τ).loc main_arg2) (ix2 1 i) :=
  funext fun i => congrArg₂ (fun p q : EReal => p + q) (norm_block m c t a i)
    (congrArg₂ (fun p q : EReal => p * q) (diff_block m c t a i) (mu1 m c t i))

theorem mix2 (c : Dev nD) (t : Fin cfg0.N) (a : Fin 256) :
    (fun i : Fin 4096 => k0_pay3 (iblk m c 2 t) (iblk m c 0 t) (ix2 a i)
        + k0_pay5 (k0_pay3 (iblk m c 2 t) (iblk m c 0 t)) (k0_pay4 (iblk m c 2 t) (iblk m c 1 t)) (first t) (ix2 a i) * View.ld (iblk m c 3 t) (Rect.unit ![2, 0] ![1, 4096] inb_S3x4096_S1x4096_2_0) (ix2 0 i))
      = fun i => val_main_v12 (F := Ideal) (m ((c : Thread nD τ).loc main_arg0)) (m ((c : Thread nD τ).loc main_arg1)) (ix2 (row t a) i)
        + val_main_v17 (F := Ideal) (m ((c : Thread nD τ).loc main_arg0)) (m ((c : Thread nD τ).loc main_arg1)) (ix2 (row t a) i) * m ((c : Thread nD τ).loc main_arg2) (ix2 2 i) :=
  funext fun i => congrArg₂ (fun p q : EReal => p + q) (norm_block m c t a i)
    (congrArg₂ (fun p q : EReal => p * q) (diff_block m c t a i) (mu2 m c t i))

/-! ## The five results -/

theorem final_norm (c : Dev nD) : (dats m 0 c).arrAt 13 cfg0.N = normRes m c := by
  refine (dats m 0 c).arrAt_eq_of_covers 13 _ (by decide +kernel) fun t hf y => ?_
  blk_simp
  rw [after0_13]; unfold outsAt0; dsimp only; frame_out
  obtain ⟨a, j, rfl⟩ : ∃ (a : Fin 256) (j : Fin 4096), y = ix2 a j := ⟨y 0, y 1, eq_ix2 y⟩
  have hr : (win0_13.blk t).view.emb (ix2 a j) = ix2 (row t a) j := by unfold row; blk_ext [idx t]
  refine (pay6 _ a j).trans (Eq.trans ?_ (congrArg (normRes m c) hr).symm)
  exact (norm_block m c t a j).trans (ref_bf _ _ (row t a) j).symm

theorem final_decay (c : Dev nD) : (dats m 0 c).arrAt 14 cfg0.N = decayRes m c := by
  refine (dats m 0 c).arrAt_eq_of_covers 14 _ (by decide +kernel) fun t hf y => ?_
  blk_simp
  rw [after0_14]; unfold outsAt0; dsimp only; frame_out
  obtain ⟨a, j, rfl⟩ : ∃ (a : Fin 256) (j : Fin 2048), y = ix2 a j := ⟨y 0, y 1, eq_ix2 y⟩
  have hr : (win0_14.blk t).view.emb (ix2 a j) = ix2 (row t a) j := by unfold row; blk_ext [idx t]
  refine (pay9 _ a j).trans (Eq.trans ?_ (congrArg (decayRes m c) hr).symm)
  refine Eq.trans ?_ (ref_decay _ _ _ _ _ _ (row t a) j).symm
  refine congrArg (fun z : EReal => Ideal.ofBits FTy.f32 0xBF1B4598#32 * z) ((sg_sub _).trans (congrArg sg ?_))
  refine (pay8 _ _ _ _ _ _ _ a j).trans ?_
  exact congrArg₂ (fun p q : EReal => p + q) (biasBlock4 m c t j)
    (low Ideal.tanh _ _ (mix0 m c t a) (fun i x => iblk m c 4 t (ix2 i x))
      (fun i x => m ((c : Thread nD τ).loc main_arg5) (ix2 i x)) (fun x => iblk m c 5 t (ix2 x j)) (fun x => m ((c : Thread nD τ).loc main_arg6) (ix2 x j))
      (fun i x hx => colBlock5 m c t i x hx) (fun x hx => rowBlock6 m c t x j hx) (fun x hx => rowZero6 m c t x j hx))

theorem final_rate (c : Dev nD) : (dats m 0 c).arrAt 15 cfg0.N = rateRes m c := by
  refine (dats m 0 c).arrAt_eq_of_covers 15 _ (by decide +kernel) fun t hf y => ?_
  blk_simp
  rw [after0_15]; unfold outsAt0; dsimp only; frame_out
  obtain ⟨a, j, rfl⟩ : ∃ (a : Fin 256) (j : Fin 2048), y = ix2 a j := ⟨y 0, y 1, eq_ix2 y⟩
  have hr : (win0_15.blk t).view.emb (ix2 a j) = ix2 (row t a) j := by unfold row; blk_ext [idx t]
  refine (pay10 _ _ _ _ _ _ a j).trans (Eq.trans ?_ (congrArg (rateRes m c) hr).symm)
  refine Eq.trans ?_ (ref_rate _ _ _ _ _ _ (row t a) j).symm
  refine (sg_sub _).trans (congrArg sg ?_)
  exact congrArg₂ (fun p q : EReal => p + q) (biasBlock7 m c t j)
    (low (fun z => z) _ _ (mix1 m c t a) (fun i x => iblk m c 7 t (ix2 i x))
      (fun i x => m ((c : Thread nD τ).loc main_arg8) (ix2 i x)) (fun x => iblk m c 8 t (ix2 x j)) (fun x => m ((c : Thread nD τ).loc main_arg9) (ix2 x j))
      (fun i x hx => colBlock8 m c t i x hx) (fun x hx => rowBlock9 m c t x j hx) (fun x hx => rowZero9 m c t x j hx))

theorem final_gate (c : Dev nD) : (dats m 0 c).arrAt 16 cfg0.N = gateRes m c := by
  refine (dats m 0 c).arrAt_eq_of_covers 16 _ (by decide +kernel) fun t hf y => ?_
  blk_simp
  rw [after0_16]; unfold outsAt0; dsimp only; frame_out
  obtain ⟨a, j, rfl⟩ : ∃ (a : Fin 256) (j : Fin 2048), y = ix2 a j := ⟨y 0, y 1, eq_ix2 y⟩
  have hr : (win0_16.blk t).view.emb (ix2 a j) = ix2 (row t a) j := by unfold row; blk_ext [idx t]
  refine (pay1 _ _ _ _ _ a j).trans (Eq.trans ?_ (congrArg (gateRes m c) hr).symm)
  refine Eq.trans ?_ (ref_gate _ _ _ _ _ (row t a) j).symm
  exact gate _ _ (mix2 m c t a) (fun i x => iblk m c 10 t (ix2 i x)) (fun i x => m ((c : Thread nD τ).loc main_arg10) (ix2 i x))
    (fun x => iblk m c 11 t (ix2 x j)) (fun x => m ((c : Thread nD τ).loc main_arg11) (ix2 x j))
    (fun i x => wholeBlock10 m c t i x) (fun x => wholeBlock11 m c t x j)

theorem final_weigh (c : Dev nD) : (dats m 0 c).arrAt 17 cfg0.N = weighRes m c := by
  refine (dats m 0 c).arrAt_eq_of_covers 17 _ (by decide +kernel) fun t hf y => ?_
  blk_simp
  rw [after0_17]; unfold outsAt0; dsimp only; frame_out
  obtain ⟨a, j, rfl⟩ : ∃ (a : Fin 256) (j : Fin 128), y = ix2 a j := ⟨y 0, y 1, eq_ix2 y⟩
  have hr : (win0_17.blk t).view.emb (ix2 a j) = ix2 (row t a) j := by unfold row; blk_ext [idx t]
  refine (pay7 _ _ a j).trans (Eq.trans ?_ (congrArg (weighRes m c) hr).symm)
  refine Eq.trans ?_ (ref_weigh _ _ _ (row t a) j).symm
  refine congrArg (fun z : EReal => z * Ideal.ofBits FTy.f32 1048576000#32) (Finset.sum_congr rfl fun i _ => ?_)
  exact congrArg₂ (fun p q : EReal => p * q) (norm_block m c t a i) (wholeBlock3 m c t i j)

end Cert.PrepValue

/-! ## The claims -/

namespace Cert.PrepClaims

theorem frame_k : Cert.quiescent_Kernel12 := fun m ρ _ => Cert.Kernel12.Gen.frame m ρ
theorem frame_ki : Cert.quiescent_Kernel12Ideal := fun m ρ _ => Cert.Kernel12Ideal.Gen.frame m ρ
theorem frame_ri : Cert.quiescent_Reference12Ideal := fun m ρ _ =>
  (θ_run Cert.Reference12Ideal.defs _ _).mono (fun r h => ⟨fun c => (h c).2.2.2.2.2,
      Idealize.ShloMosaic.sem_eq_zero_of_no_sems (by decide) r.2⟩)
    (Cert.Reference12Ideal.Value.run (F := Ideal) m ρ)

theorem preserves : Cert.preserves_Kernel12_Kernel12Ideal := trivial

theorem algebraic : Cert.algebraic_Kernel12Ideal_Reference12Ideal := by
  intro m ρ m' ρ' _ hagree
  refine ⟨Cert.PrepValue.normRes m, Cert.PrepValue.decayRes m, Cert.PrepValue.rateRes m, Cert.PrepValue.gateRes m, Cert.PrepValue.weighRes m, ?_, ?_⟩
  · exact (θ_run Cert.Kernel12Ideal.defs _ _).mono
      (fun _ h c => ⟨(h c).1.trans (Cert.PrepValue.final_norm m c), (h c).2.1.trans (Cert.PrepValue.final_decay m c), (h c).2.2.1.trans (Cert.PrepValue.final_rate m c), (h c).2.2.2.1.trans (Cert.PrepValue.final_gate m c), (h c).2.2.2.2.1.trans (Cert.PrepValue.final_weigh m c), (h c).2.2.2.2.2⟩)
      (Cert.Kernel12Ideal.Value.run_blocks (F := Ideal) m ρ)
  · refine (θ_run Cert.Reference12Ideal.defs _ _).mono (fun _ h c => ⟨(h c).1.trans ?_, (h c).2.1.trans ?_, (h c).2.2.1.trans ?_, (h c).2.2.2.1.trans ?_, (h c).2.2.2.2.1.trans ?_, (h c).2.2.2.2.2⟩)
      (Cert.Reference12Ideal.Value.run (F := Ideal) m' ρ')
    · refine (Cert.Reference12Ideal.Read.val_main_v70_eq _ _).trans ?_
      unfold Cert.PrepValue.normRes
      rw [(hagree c).1, (hagree c).2.1]
    · refine (Cert.Reference12Ideal.Read.val_main_v38_eq _ _ _ _ _ _).trans ?_
      unfold Cert.PrepValue.decayRes
      rw [(hagree c).1, (hagree c).2.1, (hagree c).2.2.1, (hagree c).2.2.2.2.1, (hagree c).2.2.2.2.2.1, (hagree c).2.2.2.2.2.2.1]
    · refine (Cert.Reference12Ideal.Read.val_main_v55_eq _ _ _ _ _ _).trans ?_
      unfold Cert.PrepValue.rateRes
      rw [(hagree c).1, (hagree c).2.1, (hagree c).2.2.1, (hagree c).2.2.2.2.2.2.2.1, (hagree c).2.2.2.2.2.2.2.2.1, (hagree c).2.2.2.2.2.2.2.2.2.1]
    · refine (Cert.Reference12Ideal.Read.val_main_v69_eq _ _ _ _ _).trans ?_
      unfold Cert.PrepValue.gateRes
      rw [(hagree c).1, (hagree c).2.1, (hagree c).2.2.1, (hagree c).2.2.2.2.2.2.2.2.2.2.1, (hagree c).2.2.2.2.2.2.2.2.2.2.2]
    · refine (Cert.Reference12Ideal.Read.val_main_v74_eq _ _ _).trans ?_
      unfold Cert.PrepValue.weighRes
      rw [(hagree c).1, (hagree c).2.1, (hagree c).2.2.2.1]

end Cert.PrepClaims

end
-- ==== Proof.lean ====
/-
  The certificate: every claim's proof in its place.
-/
module

public import proofs.«01_k».proof.Defs
public import proofs.«01_k».proof.Proof.AttentionFrame
public import proofs.«01_k».proof.Proof.Ple
public import proofs.«01_k».proof.Proof.Up
public import proofs.«01_k».proof.Proof.UpFrame
public import proofs.«01_k».proof.Proof.Down
public import proofs.«01_k».proof.Proof.Merge
public import proofs.«01_k».proof.Proof.Out
public import proofs.«01_k».proof.Proof.Proj
public import proofs.«01_k».proof.Proof.Rotary
public import proofs.«01_k».proof.Proof.Keys
public import proofs.«01_k».proof.Proof.Heads
public import proofs.«01_k».proof.Proof.Norm
public import proofs.«01_k».proof.Proof.Tables
public import proofs.«01_k».proof.Proof.Prep

@[expose] public section

noncomputable section

namespace Cert.Proof

open Idealize.ShloMosaic Idealize.SL.Sem

/-- Every claim, in the statement's order: the programs' facts, the frames, and each call's values. -/
theorem claim : Cert.Claim :=
  ⟨Cert.Kernel.Gen.facts, Cert.Kernel2.Gen.facts, Cert.Kernel2Ideal.Gen.facts,
    Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Kernel7.Gen.facts, Cert.Kernel7Ideal.Gen.facts,
    Cert.Reference7Ideal.Gen.facts, Cert.Kernel8.Gen.facts, Cert.Kernel8Ideal.Gen.facts,
    Cert.Reference8Ideal.Gen.facts, Cert.Kernel9.Gen.facts, Cert.Kernel9Ideal.Gen.facts,
    Cert.Reference9Ideal.Gen.facts, Cert.Kernel10.Gen.facts, Cert.Kernel10Ideal.Gen.facts,
    Cert.Reference10Ideal.Gen.facts, Cert.Kernel11.Gen.facts, Cert.Kernel11Ideal.Gen.facts,
    Cert.Reference11Ideal.Gen.facts, Cert.Kernel12.Gen.facts, Cert.Kernel12Ideal.Gen.facts,
    Cert.Reference12Ideal.Gen.facts,
    fun m ρ _ => Cert.Frames.attn_frame m ρ,
    Cert.PleClaims.frame_k,
    Cert.PleClaims.frame_ki,
    Cert.PleClaims.frame_ri,
    fun m ρ _ => Cert.Frames.up_frame m ρ,
    Cert.UpClaims.frame_ki,
    Cert.UpClaims.frame_ri,
    Cert.DownClaims.frame_k,
    Cert.DownClaims.frame_ki,
    Cert.DownClaims.frame_ri,
    Cert.MergeClaims.frame_k,
    Cert.MergeClaims.frame_ki,
    Cert.MergeClaims.frame_ri,
    Cert.OutClaims.frame_k,
    Cert.OutClaims.frame_ki,
    Cert.OutClaims.frame_ri,
    Cert.ProjClaims.frame_k,
    Cert.ProjClaims.frame_ki,
    Cert.ProjClaims.frame_ri,
    Cert.KeysClaims.frame_k,
    Cert.KeysClaims.frame_ki,
    Cert.KeysClaims.frame_ri,
    Cert.HeadsClaims.frame_k,
    Cert.HeadsClaims.frame_ki,
    Cert.HeadsClaims.frame_ri,
    Cert.NormClaims.frame_k,
    Cert.NormClaims.frame_ki,
    Cert.NormClaims.frame_ri,
    Cert.TablesClaims.frame_k,
    Cert.TablesClaims.frame_ki,
    Cert.TablesClaims.frame_ri,
    Cert.PrepClaims.frame_k,
    Cert.PrepClaims.frame_ki,
    Cert.PrepClaims.frame_ri,
    Cert.PleClaims.preserves,
    Cert.PleClaims.algebraic,
    Cert.UpClaims.preserves,
    Cert.UpClaims.algebraic,
    Cert.DownClaims.preserves,
    Cert.DownClaims.algebraic,
    Cert.MergeClaims.preserves,
    Cert.MergeClaims.algebraic,
    Cert.OutClaims.preserves,
    Cert.OutClaims.algebraic,
    Cert.ProjClaims.preserves,
    Cert.ProjClaims.algebraic,
    Cert.KeysClaims.preserves,
    Cert.KeysClaims.algebraic,
    Cert.HeadsClaims.preserves,
    Cert.HeadsClaims.algebraic,
    Cert.NormClaims.preserves,
    Cert.NormClaims.algebraic,
    Cert.TablesClaims.preserves,
    Cert.TablesClaims.algebraic,
    Cert.PrepClaims.preserves,
    Cert.PrepClaims.algebraic⟩

end Cert.Proof

end
